-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_layer [hPre_finite_layer : Cert.Pre_finite_layer.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_layer.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_layer [hPre_finite_layer : Cert.Pre_finite_layer.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_layer.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_gates [hPre_finite_gates : Cert.Pre_finite_gates.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_gates.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_gates [hPre_finite_gates : Cert.Pre_finite_gates.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_gates.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_backward_gates [hPre_finite_backward_gates : Cert.Pre_finite_backward_gates.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_backward_gates.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_backward_gates [hPre_finite_backward_gates : Cert.Pre_finite_backward_gates.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_backward_gates.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8_no_sign [hPre_no_sign : Cert.Pre_no_sign.Facts] (m : (ℓ : Loc Cert.Kernel8.nD Cert.Kernel8.τ Cert.Kernel8.sig) → Buf (Elt Bits) ℓ) : Prop :=
  ∀ c : Dev Cert.Kernel8.nD,
    (Cert.Pre_no_sign.fn (F := Bits) (m ((c.tc : Thread Cert.Kernel8.nD Cert.Kernel8.τ).loc Cert.Kernel8.main_arg0))) = (fun _ => 1#1)

def Pre_Reference8 (m : (ℓ : Loc Cert.Reference8.nD Cert.Reference8.τ Cert.Reference8.sig) → Buf (Elt Bits) ℓ) : Prop :=
  True

def Pre_Reference8_no_sign [hPre_no_sign : Cert.Pre_no_sign.Facts] (m : (ℓ : Loc Cert.Reference8.nD Cert.Reference8.τ Cert.Reference8.sig) → Buf (Elt Bits) ℓ) : Prop :=
  ∀ c : Dev Cert.Reference8.nD,
    (Cert.Pre_no_sign.fn (F := Bits) (m ((c.tc : Thread Cert.Reference8.nD Cert.Reference8.τ).loc Cert.Reference8.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite_layer [hKernel3Ideal : Cert.Kernel3Ideal.Facts] [hPre_finite_layer : Cert.Pre_finite_layer.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_layer m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite_layer [hReference3Ideal : Cert.Reference3Ideal.Facts] [hPre_finite_layer : Cert.Pre_finite_layer.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_layer m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_gates [hKernel6Ideal : Cert.Kernel6Ideal.Facts] [hPre_finite_gates : Cert.Pre_finite_gates.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_gates m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_gates [hReference6Ideal : Cert.Reference6Ideal.Facts] [hPre_finite_gates : Cert.Pre_finite_gates.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_gates m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_backward_gates [hKernel7Ideal : Cert.Kernel7Ideal.Facts] [hPre_finite_backward_gates : Cert.Pre_finite_backward_gates.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_backward_gates m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_backward_gates [hReference7Ideal : Cert.Reference7Ideal.Facts] [hPre_finite_backward_gates : Cert.Pre_finite_backward_gates.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_backward_gates m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8_pre_no_sign [hKernel8 : Cert.Kernel8.Facts] [hPre_no_sign : Cert.Pre_no_sign.Facts] : Prop :=
  ∀ (m : (ℓ : Loc Cert.Kernel8.nD Cert.Kernel8.τ Cert.Kernel8.sig) → Buf (Elt Bits) ℓ) (g : Dev Cert.Kernel8.nD → PrngReg), Pre_Kernel8_no_sign m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0))
      ∧ r.2.sem = fun _ => 0)

def quiescent_Reference8_pre_no_sign [hReference8 : Cert.Reference8.Facts] [hPre_no_sign : Cert.Pre_no_sign.Facts] : Prop :=
  ∀ (m : (ℓ : Loc Cert.Reference8.nD Cert.Reference8.τ Cert.Reference8.sig) → Buf (Elt Bits) ℓ) (g : Dev Cert.Reference8.nD → PrngReg), Pre_Reference8_no_sign m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_layer [hKernel3Ideal : Cert.Kernel3Ideal.Facts] [hReference3Ideal : Cert.Reference3Ideal.Facts] [hPre_finite_layer : Cert.Pre_finite_layer.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_layer m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_v71) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_gates [hKernel6Ideal : Cert.Kernel6Ideal.Facts] [hReference6Ideal : Cert.Reference6Ideal.Facts] [hPre_finite_gates : Cert.Pre_finite_gates.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_gates m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_backward_gates [hKernel7Ideal : Cert.Kernel7Ideal.Facts] [hReference7Ideal : Cert.Reference7Ideal.Facts] [hPre_finite_backward_gates : Cert.Pre_finite_backward_gates.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_backward_gates m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def bitexact_Kernel8_Reference8_pre_no_sign [hKernel8 : Cert.Kernel8.Facts] [hReference8 : Cert.Reference8.Facts] [hPre_no_sign : Cert.Pre_no_sign.Facts] : Prop :=
  ∀ (m : (ℓ : Loc Cert.Kernel8.nD Cert.Kernel8.τ Cert.Kernel8.sig) → Buf (Elt Bits) ℓ) (g : Dev Cert.Kernel8.nD → PrngReg)
    (m' : (ℓ : Loc Cert.Reference8.nD Cert.Reference8.τ Cert.Reference8.sig) → Buf (Elt Bits) ℓ) (g' : Dev Cert.Reference8.nD → PrngReg), Pre_Kernel8_no_sign m →
    (∀ c : Dev Cert.Kernel8.nD,
      m' ((c.tc : Thread Cert.Reference8.nD Cert.Reference8.τ).loc Cert.Reference8.main_arg0) = m ((c.tc : Thread Cert.Kernel8.nD Cert.Kernel8.τ).loc Cert.Kernel8.main_arg0)) →
    ∃ (v0 : (c : Dev Cert.Kernel8.nD) → Buf (Elt Bits) ((c.tc : Thread Cert.Kernel8.nD Cert.Kernel8.τ).loc Cert.Kernel8.main_v1_0)) (v1 : (c : Dev Cert.Kernel8.nD) → Buf (Elt Bits) ((c.tc : Thread Cert.Kernel8.nD Cert.Kernel8.τ).loc Cert.Kernel8.main_v1_1)),
      θ_run (Cert.Kernel8.defs (F := Bits)) (onTc (τ := Cert.Kernel8.τ) (Cert.Kernel8.main (F := Bits))) ⟨m, fun _ => 0, g⟩ (fun r => ∀ c : Dev Cert.Kernel8.nD,
          r.2.mem ((c.tc : Thread Cert.Kernel8.nD Cert.Kernel8.τ).loc Cert.Kernel8.main_v1_0) = v0 c
          ∧ r.2.mem ((c.tc : Thread Cert.Kernel8.nD Cert.Kernel8.τ).loc Cert.Kernel8.main_v1_1) = v1 c
          ∧ r.2.mem ((c.tc : Thread Cert.Kernel8.nD Cert.Kernel8.τ).loc Cert.Kernel8.main_arg0) = m ((c.tc : Thread Cert.Kernel8.nD Cert.Kernel8.τ).loc Cert.Kernel8.main_arg0))
      ∧ θ_run (Cert.Reference8.defs (F := Bits)) (onTc (τ := Cert.Reference8.τ) (Cert.Reference8.main (F := Bits))) ⟨m', fun _ => 0, g'⟩ (fun r => ∀ c : Dev Cert.Reference8.nD,
          r.2.mem ((c.tc : Thread Cert.Reference8.nD Cert.Reference8.τ).loc Cert.Reference8.main_v11) = v0 c
          ∧ r.2.mem ((c.tc : Thread Cert.Reference8.nD Cert.Reference8.τ).loc Cert.Reference8.main_v13) = v1 c
          ∧ r.2.mem ((c.tc : Thread Cert.Reference8.nD Cert.Reference8.τ).loc Cert.Reference8.main_arg0) = m' ((c.tc : Thread Cert.Reference8.nD Cert.Reference8.τ).loc Cert.Reference8.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hReference8 : Cert.Reference8.Facts) (hPre_finite_queries_and_keys : Cert.Pre_finite_queries_and_keys.Facts) (hPre_finite_layer : Cert.Pre_finite_layer.Facts) (hPre_finite_gates : Cert.Pre_finite_gates.Facts) (hPre_finite_backward_gates : Cert.Pre_finite_backward_gates.Facts) (hPre_no_sign : Cert.Pre_no_sign.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_layer (hKernel3Ideal := hKernel3Ideal) (hPre_finite_layer := hPre_finite_layer)
    ∧ quiescent_Reference3Ideal (hReference3Ideal := hReference3Ideal)
    ∧ quiescent_Reference3Ideal_pre_finite_layer (hReference3Ideal := hReference3Ideal) (hPre_finite_layer := hPre_finite_layer)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_gates (hKernel6Ideal := hKernel6Ideal) (hPre_finite_gates := hPre_finite_gates)
    ∧ quiescent_Reference6Ideal (hReference6Ideal := hReference6Ideal)
    ∧ quiescent_Reference6Ideal_pre_finite_gates (hReference6Ideal := hReference6Ideal) (hPre_finite_gates := hPre_finite_gates)
    ∧ quiescent_Kernel7 (hKernel7 := hKernel7)
    ∧ quiescent_Kernel7Ideal (hKernel7Ideal := hKernel7Ideal)
    ∧ quiescent_Kernel7Ideal_pre_finite_backward_gates (hKernel7Ideal := hKernel7Ideal) (hPre_finite_backward_gates := hPre_finite_backward_gates)
    ∧ quiescent_Reference7Ideal (hReference7Ideal := hReference7Ideal)
    ∧ quiescent_Reference7Ideal_pre_finite_backward_gates (hReference7Ideal := hReference7Ideal) (hPre_finite_backward_gates := hPre_finite_backward_gates)
    ∧ quiescent_Kernel8 (hKernel8 := hKernel8)
    ∧ quiescent_Kernel8_pre_no_sign (hKernel8 := hKernel8) (hPre_no_sign := hPre_no_sign)
    ∧ quiescent_Reference8 (hReference8 := hReference8)
    ∧ quiescent_Reference8_pre_no_sign (hReference8 := hReference8) (hPre_no_sign := hPre_no_sign)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_layer (hKernel3Ideal := hKernel3Ideal) (hReference3Ideal := hReference3Ideal) (hPre_finite_layer := hPre_finite_layer)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_gates (hKernel6Ideal := hKernel6Ideal) (hReference6Ideal := hReference6Ideal) (hPre_finite_gates := hPre_finite_gates)
    ∧ preserves_Kernel7_Kernel7Ideal
    ∧ algebraic_Kernel7Ideal_Reference7Ideal_pre_finite_backward_gates (hKernel7Ideal := hKernel7Ideal) (hReference7Ideal := hReference7Ideal) (hPre_finite_backward_gates := hPre_finite_backward_gates)
    ∧ bitexact_Kernel8_Reference8_pre_no_sign (hKernel8 := hKernel8) (hReference8 := hReference8) (hPre_no_sign := hPre_no_sign)
-- ==== Pre_finite_backward_gates.lean ====
abbrev S32768x4608 : Shape := ⟨2, ![32768, 4608]⟩
abbrev S128x1024 : Shape := ⟨2, ![128, 1024]⟩
abbrev S1x1024 : Shape := ⟨2, ![1, 1024]⟩
abbrev S32768x1024 : Shape := ⟨2, ![32768, 1024]⟩
abbrev S256 : Shape := ⟨1, ![256]⟩
abbrev S_ : Shape := ⟨0, ![]⟩

class Facts : Prop where
  bcast_S_S32768x4608 : S_.BroadcastsInDim S32768x4608 (![] : Fin 0 → Fin S32768x4608.rank)
  reducesTo_S32768x4608_S_d0_1 : S32768x4608.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S32768x4608 .f32) (main_arg1 : FVec F S128x1024 .f32) (main_arg2 : FVec F S1x1024 .f32) (main_arg3 : FVec F S32768x1024 .f32) (main_arg4 : FVec F S256 .f32) : IVec S_ 1 :=
  let main_v0 : FVec F S32768x4608 .f32 := Host.absf main_arg0
  let main_cst : FVec F S_ .f32 := constant S_ .f32 0x7F800000#32
  let main_v1 : FVec F S32768x4608 .f32 := broadcastInDim S32768x4608 ![] bcast_S_S32768x4608 main_cst
  let main_v2 : IVec S32768x4608 1 := cmpf .olt main_v0 main_v1
  let main_c : IVec S_ 1 := constantI S_ 1 1#1
  let main_v3 : IVec S_ 1 := (fun x v => Host.reduce IntOp.andi x v reducesTo_S32768x4608_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite_gates.lean ====
abbrev S32768x4608 : Shape := ⟨2, ![32768, 4608]⟩
abbrev S128x1024 : Shape := ⟨2, ![128, 1024]⟩
abbrev S1x1024 : Shape := ⟨2, ![1, 1024]⟩
abbrev S_ : Shape := ⟨0, ![]⟩

class Facts : Prop where
  bcast_S_S32768x4608 : S_.BroadcastsInDim S32768x4608 (![] : Fin 0 → Fin S32768x4608.rank)
  reducesTo_S32768x4608_S_d0_1 : S32768x4608.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S32768x4608 .f32) (main_arg1 : FVec F S128x1024 .f32) (main_arg2 : FVec F S1x1024 .f32) : IVec S_ 1 :=
  let main_v0 : FVec F S32768x4608 .f32 := Host.absf main_arg0
  let main_cst : FVec F S_ .f32 := constant S_ .f32 0x7F800000#32
  let main_v1 : FVec F S32768x4608 .f32 := broadcastInDim S32768x4608 ![] bcast_S_S32768x4608 main_cst
  let main_v2 : IVec S32768x4608 1 := cmpf .olt main_v0 main_v1
  let main_c : IVec S_ 1 := constantI S_ 1 1#1
  let main_v3 : IVec S_ 1 := (fun x v => Host.reduce IntOp.andi x v reducesTo_S32768x4608_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite_layer.lean ====
abbrev S32768x1024 : Shape := ⟨2, ![32768, 1024]⟩
abbrev S32768x2048 : Shape := ⟨2, ![32768, 2048]⟩
abbrev S1024x2048 : Shape := ⟨2, ![1024, 2048]⟩
abbrev S2048 : Shape := ⟨1, ![2048]⟩
abbrev S2048x256 : Shape := ⟨2, ![2048, 256]⟩
abbrev S16 : Shape := ⟨1, ![16]⟩
abbrev S4x32768x256 : Shape := ⟨3, ![4, 32768, 256]⟩
abbrev S256x2048 : Shape := ⟨2, ![256, 2048]⟩
abbrev S2048x2048 : Shape := ⟨2, ![2048, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg6 : FVec F S2048 .f32) (main_v33 : IVec S_ 1) (main_v34 : FVec F S2048 .f32) (main_cst_10 : FVec F S_ .f32) : IVec S_ 1 :=
  let main_v35 : FVec F S2048 .f32 := broadcastInDim S2048 ![] bcast_S_S2048 main_cst_10
  let main_v36 : IVec S2048 1 := cmpf .olt main_v34 main_v35
  let main_c_11 : IVec S_ 1 := constantI S_ 1 1#1
  let main_v37 : IVec S_ 1 := (fun x v => Host.reduce IntOp.andi x v reducesTo_S2048_S_d0 h_S_) main_v36 main_c_11
  let main_v38 : IVec S_ 1 := andi main_v33 main_v37
  let main_v39 : FVec F S2048 .f32 := Host.absf main_arg6
  let main_cst_12 : FVec F S_ .f32 := constant S_ .f32 0x7F800000#32
  let main_v40 : FVec F S2048 .f32 := broadcastInDim S2048 ![] bcast_S_S2048 main_cst_12
  let main_v41 : IVec S2048 1 := cmpf .olt main_v39 main_v40
  let main_c_13 : IVec S_ 1 := constantI S_ 1 1#1
  let main_v42 : IVec S_ 1 := (fun x v => Host.reduce IntOp.andi x v reducesTo_S2048_S_d0 h_S_) main_v41 main_c_13
  let main_v43 : IVec S_ 1 := andi main_v38 main_v42
  main_v43

def fn_part1 {F : FTy → Type} [FloatOps F] (main_arg4 : FVec F S1024x2048 .bf16) (main_arg5 : FVec F S2048 .f32) (main_arg6 : FVec F S2048 .f32) (main_arg7 : FVec F S2048x256 .bf16) (main_v15 : IVec S_ 1) (main_v17 : FVec F S1024x2048 .f32) : IVec S_ 1 :=
  let main_cst_4 : FVec F S_ .f32 := constant S_ .f32 0x7F800000#32
  let main_v18 : FVec F S1024x2048 .f32 := broadcastInDim S1024x2048 ![] bcast_S_S1024x2048 main_cst_4
  let main_v19 : IVec S1024x2048 1 := cmpf .olt main_v17 main_v18
  let main_c_5 : IVec S_ 1 := constantI S_ 1 1#1
  let main_v20 : IVec S_ 1 := (fun x v => Host.reduce IntOp.andi x v reducesTo_S1024x2048_S_d0_1 h_S_) main_v19 main_c_5
  let main_v21 : IVec S_ 1 := andi main_v15 main_v20
  let main_v22 : FVec F S1024x2048 .f32 := (extf .f32 · bitsLt_bf16_f32) main_arg4
  let main_v23 : FVec F S1024x2048 .f32 := Host.absf main_v22
  let main_cst_6 : FVec F S_ .f32 := constant S_ .f32 0x7F800000#32
  let main_v24 : FVec F S1024x2048 .f32 := broadcastInDim S1024x2048 ![] bcast_S_S1024x2048 main_cst_6
  let main_v25 : IVec S1024x2048 1 := cmpf .olt main_v23 main_v24
  let main_c_7 : IVec S_ 1 := constantI S_ 1 1#1
  let main_v26 : IVec S_ 1 := (fun x v => Host.reduce IntOp.andi x v reducesTo_S1024x2048_S_d0_1 h_S_) main_v25 main_c_7
  let main_v27 : IVec S_ 1 := andi main_v21 main_v26
  let main_v28 : FVec F S2048x256 .f32 := (extf .f32 · bitsLt_bf16_f32) main_arg7
  let main_v29 : FVec F S2048x256 .f32 := Host.absf main_v28
  let main_cst_8 : FVec F S_ .f32 := constant S_ .f32 0x7F800000#32
  let main_v30 : FVec F S2048x256 .f32 := broadcastInDim S2048x256 ![] bcast_S_S2048x256 main_cst_8
  let main_v31 : IVec S2048x256 1 := cmpf .olt main_v29 main_v30
  let main_c_9 : IVec S_ 1 := constantI S_ 1 1#1
  let main_v32 : IVec S_ 1 := (fun x v => Host.reduce IntOp.andi x v reducesTo_S2048x256_S_d0_1 h_S_) main_v31 main_c_9
  let main_v33 : IVec S_ 1 := andi main_v27 main_v32
  let main_v34 : FVec F S2048 .f32 := Host.absf main_arg5
  let main_cst_10 : FVec F S_ .f32 := constant S_ .f32 0x7F800000#32
  fn_part2 (F := F) main_arg6 main_v33 main_v34 main_cst_10

def fn {F : FTy → Type} [FloatOps F] (main_arg0 : FVec F S32768x1024 .bf16) (main_arg1 : FVec F S32768x1024 .bf16) (main_arg2 : FVec F S32768x2048 .f32) (main_arg3 : FVec F S1024x2048 .bf16) (main_arg4 : FVec F S1024x2048 .bf16) (main_arg5 : FVec F S2048 .f32) (main_arg6 : FVec F S2048 .f32) (main_arg7 : FVec F S2048x256 .bf16) (main_arg8 : FVec F S16 .f32) (main_arg9 : FVec F S4x32768x256 .f32) (main_arg10 : FVec F S256x2048 .bf16) (main_arg11 : FVec F S2048x2048 .bf16) : IVec S_ 1 :=
  let main_v0 : FVec F S32768x2048 .f32 := Host.absf main_arg2
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x1024 .f32 := (extf .f32 · bitsLt_bf16_f32) main_arg0
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_c_1 : IVec S_ 1 := constantI S_ 1 1#1
  let main_v8 : IVec S_ 1 := (fun x v => Host.reduce IntOp.andi x v reducesTo_S32768x1024_S_d0_1 h_S_) main_v7 main_c_1
  let main_v9 : IVec S_ 1 := andi main_v3 main_v8
  let main_v10 : FVec F S32768x1024 .f32 := (extf .f32 · bitsLt_bf16_f32) main_arg1
  let main_v11 : FVec F S32768x1024 .f32 := Host.absf main_v10
  let main_cst_2 : FVec F S_ .f32 := constant S_ .f32 0x7F800000#32
  let main_v12 : FVec F S32768x1024 .f32 := broadcastInDim S32768x1024 ![] bcast_S_S32768x1024 main_cst_2
  let main_v13 : IVec S32768x1024 1 := cmpf .olt main_v11 main_v12
  let main_c_3 : IVec S_ 1 := constantI S_ 1 1#1
  let main_v14 : IVec S_ 1 := (fun x v => Host.reduce IntOp.andi x v reducesTo_S32768x1024_S_d0_1 h_S_) main_v13 main_c_3
  let main_v15 : IVec S_ 1 := andi main_v9 main_v14
  let main_v16 : FVec F S1024x2048 .f32 := (extf .f32 · bitsLt_bf16_f32) main_arg3
  let main_v17 : FVec F S1024x2048 .f32 := Host.absf main_v16
  fn_part1 (F := F) main_arg4 main_arg5 main_arg6 main_arg7 main_v15 main_v17
-- ==== Pre_finite_queries_and_keys.lean ====
abbrev S32768x2048 : Shape := ⟨2, ![32768, 2048]⟩
abbrev S32768x1024 : Shape := ⟨2, ![32768, 1024]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .bf16) (main_arg1 : FVec F S32768x2048 .bf16) (main_arg2 : FVec F S32768x1024 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x2048 .f32 := (extf .f32 · bitsLt_bf16_f32) main_arg1
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_c_1 : IVec S_ 1 := constantI S_ 1 1#1
  let main_v9 : IVec S_ 1 := (fun x v => Host.reduce IntOp.andi x v reducesTo_S32768x2048_S_d0_1 h_S_) main_v8 main_c_1
  let main_v10 : IVec S_ 1 := andi main_v4 main_v9
  main_v10
-- ==== Pre_no_sign.lean ====
abbrev S16x32768 : Shape := ⟨2, ![16, 32768]⟩
abbrev S_ : Shape := ⟨0, ![]⟩

class Facts : Prop where
  bcast_S_S16x32768 : S_.BroadcastsInDim S16x32768 (![] : Fin 0 → Fin S16x32768.rank)
  reducesTo_S16x32768_S_d0_1 : S16x32768.ReducesTo [0, 1] S_
  h_S_ : 0 < S_.numel

variable [Facts]

def fn {F : FTy → Type} [BitOps F] (main_arg0 : FVec F S16x32768 .f32) : IVec S_ 1 :=
  let main_v0 : IVec S16x32768 32 := bitcastToInt main_arg0
  let main_c : IVec S_ 32 := constantI S_ 32 0#32
  let main_v1 : IVec S16x32768 32 := broadcastInDim S16x32768 ![] bcast_S_S16x32768 main_c
  let main_v2 : IVec S16x32768 1 := cmpi .sge main_v0 main_v1
  let main_c_0 : IVec S_ 1 := constantI S_ 1 1#1
  let main_v3 : IVec S_ 1 := (fun x v => Host.reduce IntOp.andi x v reducesTo_S16x32768_S_d0_1 h_S_) main_v2 main_c_0
  main_v3
-- ==== Kernel.lean ====
abbrev S32768x2048 : Shape := ⟨2, ![32768, 2048]⟩
abbrev S32768x1024 : Shape := ⟨2, ![32768, 1024]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1024x1 : Shape := ⟨2, ![1024, 1]⟩
abbrev S1024x8192 : Shape := ⟨2, ![1024, 8192]⟩
abbrev S1024 : Shape := ⟨1, ![1024]⟩

abbrev nBuf : Space → Nat
  | .hbm => 4
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S32768x1024, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 16, 2], ![false, false, false, false]⟩

def k0_cond2 (i : grid0.Coords) : BitVec 1 :=
  let arg3 : BitVec 32 := BitVec.ofNat 32 (i 3).val
  let c1_i32 : BitVec 32 := 1#32
  let v36 : BitVec 1 := Scalar.cmpi .eq arg3 c1_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S32768x2048 : Shape := ⟨2, ![32768, 2048]⟩
abbrev S32768x1024 : Shape := ⟨2, ![32768, 1024]⟩
abbrev S2x16384x8x256 : Shape := ⟨4, ![2, 16384, 8, 256]⟩
abbrev S2x16384x8x128 : Shape := ⟨4, ![2, 16384, 8, 128]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩

abbrev nBuf : Space → Nat
  | .hbm => 27
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S32768x2048, .f32⟩
  | .hbm, ⟨4, _⟩ => ⟨S2x16384x8x256, .f32⟩
  | .hbm, ⟨5, _⟩ => ⟨S32768x2048, .f32⟩
  | .hbm, ⟨6, _⟩ => ⟨S2x16384x8x256, .f32⟩
  | .hbm, ⟨7, _⟩ => ⟨S32768x1024, .f32⟩
  | .hbm, ⟨8, _⟩ => ⟨S2x16384x8x128, .f32⟩
  | .hbm, ⟨9, _⟩ => ⟨S2x8x16384x16384, .f32⟩
  | .hbm, ⟨10, _⟩ => ⟨S_, .f32⟩
  | .hbm, ⟨11, _⟩ => ⟨S2x8x16384x16384, .f32⟩
  | .hbm, ⟨12, _⟩ => ⟨S_, .f32⟩
  | .hbm, ⟨13, _⟩ => ⟨S2x8x16384, .f32⟩
  | .hbm, ⟨14, _⟩ => ⟨S2x8x16384x1, .f32⟩
  | .hbm, ⟨15, _⟩ => ⟨S2x8x16384x16384, .f32⟩
  | .hbm, ⟨16, _⟩ => ⟨S2x8x16384x16384, .f32⟩
  | .hbm, ⟨17, _⟩ => ⟨S2x8x16384x16384, .f32⟩
  | .hbm, ⟨18, _⟩ => ⟨S_, .f32⟩
  | .hbm, ⟨19, _⟩ => ⟨S2x8x16384, .f32⟩
  | .hbm, ⟨20, _⟩ => ⟨S2x8x16384x1, .f32⟩
  | .hbm, ⟨21, _⟩ => ⟨S2x8x16384x16384, .f32⟩
  | .hbm, ⟨22, _⟩ => ⟨S2x8x16384x16384, .f32⟩
  | .hbm, ⟨23, _⟩ => ⟨S2x8x128x16384, .f32⟩
  | .hbm, ⟨24, _⟩ => ⟨S2x16384x8x128, .f32⟩
  | .hbm, ⟨25, _⟩ => ⟨S32768x1024, .f32⟩
  | .hbm, ⟨26, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel2.lean ====
abbrev S32768x2048 : Shape := ⟨2, ![32768, 2048]⟩
abbrev S2048x4608 : Shape := ⟨2, ![2048, 4608]⟩
abbrev S32768x4608 : Shape := ⟨2, ![32768, 4608]⟩
abbrev S512x2048 : Shape := ⟨2, ![512, 2048]⟩
abbrev S512x4608 : Shape := ⟨2, ![512, 4608]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x4608, .bf16⟩
  | .hbm, ⟨2, _⟩ => ⟨S32768x4608, .f32⟩
  | .local _ .vmem, ⟨0, _⟩ => ⟨S512x2048, .bf16⟩
  | .local _ .vmem, ⟨1, _⟩ => ⟨S512x2048, .bf16⟩
  | .local _ .vmem, ⟨2, _⟩ => ⟨S2048x4608, .bf16⟩
  | .local _ .vmem, ⟨3, _⟩ => ⟨S512x4608, .f32⟩
  | .local _ .vmem, ⟨4, _⟩ => ⟨S512x4608, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S32768x2048 : Shape := ⟨2, ![32768, 2048]⟩
abbrev S2048x4608 : Shape := ⟨2, ![2048, 4608]⟩
abbrev S32768x4608 : Shape := ⟨2, ![32768, 4608]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4608, .bf16⟩
  | .hbm, ⟨2, _⟩ => ⟨S32768x2048, .f32⟩
  | .hbm, ⟨3, _⟩ => ⟨S2048x4608, .f32⟩
  | .hbm, ⟨4, _⟩ => ⟨S32768x4608, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S1024x2048 : Shape := ⟨2, ![1024, 2048]⟩
abbrev S2048 : Shape := ⟨1, ![2048]⟩
abbrev S2048x256 : Shape := ⟨2, ![2048, 256]⟩
abbrev S16 : Shape := ⟨1, ![16]⟩
abbrev S4x32768x256 : Shape := ⟨3, ![4, 32768, 256]⟩
abbrev S256x2048 : Shape := ⟨2, ![256, 2048]⟩
abbrev S2048x2048 : Shape := ⟨2, ![2048, 2048]⟩
abbrev S1x2048 : Shape := ⟨2, ![1, 2048]⟩
abbrev S1x16 : Shape := ⟨2, ![1, 16]⟩
abbrev S32768x16 : Shape := ⟨2, ![32768, 16]⟩
abbrev S256x1024 : Shape := ⟨2, ![256, 1024]⟩
abbrev S1x256x256 : Shape := ⟨3, ![1, 256, 256]⟩
abbrev S256x16 : Shape := ⟨2, ![256, 16]⟩
abbrev S256 : Shape := ⟨1, ![256]⟩
abbrev S256x1 : Shape := ⟨2, ![256, 1]⟩
abbrev S256x256 : Shape := ⟨2, ![256, 256]⟩
abbrev S2048x128 : Shape := ⟨2, ![2048, 128]⟩
abbrev S256x128 : Shape := ⟨2, ![256, 128]⟩

abbrev nBuf : Space → Nat
  | .hbm => 18
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S1024x2048, .bf16⟩
  | .hbm, ⟨4, _⟩ => ⟨S1024x2048, .bf16⟩
  | .hbm, ⟨5, _⟩ => ⟨S2048, .f32⟩
  | .hbm, ⟨6, _⟩ => ⟨S2048, .f32⟩
  | .hbm, ⟨7, _⟩ => ⟨S2048x256, .bf16⟩
  | .hbm, ⟨8, _⟩ => ⟨S16, .f32⟩
  | .hbm, ⟨9, _⟩ => ⟨S4x32768x256, .f32⟩
  | .hbm, ⟨10, _⟩ => ⟨S256x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S1x16, .f32⟩
  | .hbm, ⟨15, _⟩ => ⟨S32768x2048, .f32⟩
  | .hbm, ⟨16, _⟩ => ⟨S32768x2048, .f32⟩
  | .hbm, ⟨17, _⟩ => ⟨S32768x16, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S2048x256, .bf16⟩
  | .local _ .vmem, ⟨11, _⟩ => ⟨S1x16, .f32⟩
  | .local _ .vmem, ⟨12, _⟩ => ⟨S1x256x256, .f32⟩
  | .local _ .vmem, ⟨13, _⟩ => ⟨S1x256x256, .f32⟩
  | .local _ .vmem, ⟨14, _⟩ => ⟨S256x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x16, .f32⟩
  | .local _ .vmem, ⟨21, _⟩ => ⟨S256x16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S32768x2048 : Shape := ⟨2, ![32768, 2048]⟩
abbrev S1024x2048 : Shape := ⟨2, ![1024, 2048]⟩
abbrev S2048 : Shape := ⟨1, ![2048]⟩
abbrev S2048x256 : Shape := ⟨2, ![2048, 256]⟩
abbrev S16 : Shape := ⟨1, ![16]⟩
abbrev S4x32768x256 : Shape := ⟨3, ![4, 32768, 256]⟩
abbrev S256x2048 : Shape := ⟨2, ![256, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x16 : Shape := ⟨2, ![2048, 16]⟩
abbrev S32768x16 : Shape := ⟨2, ![32768, 16]⟩
abbrev S1x16 : Shape := ⟨2, ![1, 16]⟩
abbrev S1x32768x256 : Shape := ⟨3, ![1, 32768, 256]⟩
abbrev S32768x256 : Shape := ⟨2, ![32768, 256]⟩

abbrev nBuf : Space → Nat
  | .hbm => 89
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S1024x2048, .bf16⟩
  | .hbm, ⟨4, _⟩ => ⟨S1024x2048, .bf16⟩
  | .hbm, ⟨5, _⟩ => ⟨S2048, .f32⟩
  | .hbm, ⟨6, _⟩ => ⟨S2048, .f32⟩
  | .hbm, ⟨7, _⟩ => ⟨S2048x256, .bf16⟩
  | .hbm, ⟨8, _⟩ => ⟨S16, .f32⟩
  | .hbm, ⟨9, _⟩ => ⟨S4x32768x256, .f32⟩
  | .hbm, ⟨10, _⟩ => ⟨S256x2048, .bf16⟩
  | .hbm, ⟨11, _⟩ => ⟨S2048x2048, .bf16⟩
  | .hbm, ⟨12, _⟩ => ⟨S32768x2048, .bf16⟩
  | .hbm, ⟨13, _⟩ => ⟨S32768x2048, .f32⟩
  | .hbm, ⟨14, _⟩ => ⟨S2048x2048, .bf16⟩
  | .hbm, ⟨15, _⟩ => ⟨S2048x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S32768x2048, .f32⟩
  | .hbm, ⟨46, _⟩ => ⟨S32768x2048, .f32⟩
  | .hbm, ⟨47, _⟩ => ⟨S1x2048, .f32⟩
  | .hbm, ⟨48, _⟩ => ⟨S32768x2048, .f32⟩
  | .hbm, ⟨49, _⟩ => ⟨S32768x2048, .f32⟩
  | .hbm, ⟨50, _⟩ => ⟨S2048x16, .bf16⟩
  | .hbm, ⟨51, _⟩ => ⟨S2048x16, .f32⟩
  | .hbm, ⟨52, _⟩ => ⟨S2048x16, .bf16⟩
  | .hbm, ⟨53, _⟩ => ⟨S2048x16, .f32⟩
  | .hbm, ⟨54, _⟩ => ⟨S2048x16, .f32⟩
  | .hbm, ⟨55, _⟩ => ⟨S32768x16, .f32⟩
  | .hbm, ⟨56, _⟩ => ⟨S1x16, .f32⟩
  | .hbm, ⟨57, _⟩ => ⟨S32768x16, .f32⟩
  | .hbm, ⟨58, _⟩ => ⟨S32768x16, .f32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S32768x16, .f32⟩
  | .hbm, ⟨63, _⟩ => ⟨S32768x16, .f32⟩
  | .hbm, ⟨64, _⟩ => ⟨S32768x16, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x16, .f32⟩
  | .hbm, ⟨69, _⟩ => ⟨S32768x16, .f32⟩
  | .hbm, ⟨70, _⟩ => ⟨S1x32768x256, .f32⟩
  | .hbm, ⟨71, _⟩ => ⟨S32768x256, .f32⟩
  | .hbm, ⟨72, _⟩ => ⟨S256x2048, .f32⟩
  | .hbm, ⟨73, _⟩ => ⟨S32768x2048, .f32⟩
  | .hbm, ⟨74, _⟩ => ⟨S2048x2048, .f32⟩
  | .hbm, ⟨75, _⟩ => ⟨S32768x2048, .f32⟩
  | .hbm, ⟨76, _⟩ => ⟨S32768x2048, .f32⟩
  | .hbm, ⟨77, _⟩ => ⟨S32768x2048, .f32⟩
  | .hbm, ⟨78, _⟩ => ⟨S_, .f32⟩
  | .hbm, ⟨79, _⟩ => ⟨S32768x2048, .f32⟩
  | .hbm, ⟨80, _⟩ => ⟨S32768x2048, .f32⟩
  | .hbm, ⟨81, _⟩ => ⟨S_, .f32⟩
  | .hbm, ⟨82, _⟩ => ⟨S32768x2048, .f32⟩
  | .hbm, ⟨83, _⟩ => ⟨S32768x2048, .f32⟩
  | .hbm, ⟨84, _⟩ => ⟨S32768x2048, .f32⟩
  | .hbm, ⟨85, _⟩ => ⟨S_, .f32⟩
  | .hbm, ⟨86, _⟩ => ⟨S32768x2048, .f32⟩
  | .hbm, ⟨87, _⟩ => ⟨S32768x2048, .f32⟩
  | .hbm, ⟨88, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel4.lean ====
abbrev S32768x4608 : Shape := ⟨2, ![32768, 4608]⟩
abbrev S16384x128 : Shape := ⟨2, ![16384, 128]⟩
abbrev S768 : Shape := ⟨1, ![768]⟩
abbrev S512 : Shape := ⟨1, ![512]⟩
abbrev S768x3072 : Shape := ⟨2, ![768, 3072]⟩
abbrev S512x2048 : Shape := ⟨2, ![512, 2048]⟩
abbrev S1x768 : Shape := ⟨2, ![1, 768]⟩
abbrev S1x512 : Shape := ⟨2, ![1, 512]⟩
abbrev S32768x2048 : Shape := ⟨2, ![32768, 2048]⟩
abbrev S32768x1024 : Shape := ⟨2, ![32768, 1024]⟩
abbrev S512x768 : Shape := ⟨2, ![512, 768]⟩
abbrev S512x128 : Shape := ⟨2, ![512, 128]⟩
abbrev S512x512 : Shape := ⟨2, ![512, 512]⟩
abbrev S512x1024 : Shape := ⟨2, ![512, 1024]⟩
abbrev S512x1 : Shape := ⟨2, ![512, 1]⟩
abbrev S512x3072 : Shape := ⟨2, ![512, 3072]⟩
abbrev S512x384 : Shape := ⟨2, ![512, 384]⟩
abbrev S512x256 : Shape := ⟨2, ![512, 256]⟩

abbrev nBuf : Space → Nat
  | .hbm => 12
  | .vmem => 22
  | .smem => 0
  | _ => 0

abbrev bufTy : (tb : Table) → Fin (tcTables nBuf tb) → BufTy
  | .hbm, ⟨0, _⟩ => ⟨S32768x4608, .f32⟩
  | .hbm, ⟨1, _⟩ => ⟨S16384x128, .f32⟩
  | .hbm, ⟨2, _⟩ => ⟨S16384x128, .f32⟩
  | .hbm, ⟨3, _⟩ => ⟨S768, .f32⟩
  | .hbm, ⟨4, _⟩ => ⟨S512, .f32⟩
  | .hbm, ⟨5, _⟩ => ⟨S768x3072, .bf16⟩
  | .hbm, ⟨6, _⟩ => ⟨S512x2048, .bf16⟩
  | .hbm, ⟨7, _⟩ => ⟨S1x768, .f32⟩
  | .hbm, ⟨8, _⟩ => ⟨S1x512, .f32⟩
  | .hbm, ⟨9, _⟩ => ⟨S32768x2048, .bf16⟩
  | .hbm, ⟨10, _⟩ => ⟨S32768x2048, .bf16⟩
  | .hbm, ⟨11, _⟩ => ⟨S32768x1024, .bf16⟩
  | .local _ .vmem, ⟨0, _⟩ => ⟨S512x768, .f32⟩
  | .local _ .vmem, ⟨1, _⟩ => ⟨S512x768, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x768, .f32⟩
  | .local _ .vmem, ⟨13, _⟩ => ⟨S1x512, .f32⟩
  | .local _ .vmem, ⟨14, _⟩ => ⟨S768x3072, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S32768x4608 : Shape := ⟨2, ![32768, 4608]⟩
abbrev S16384x128 : Shape := ⟨2, ![16384, 128]⟩
abbrev S768 : Shape := ⟨1, ![768]⟩
abbrev S512 : Shape := ⟨1, ![512]⟩
abbrev S768x3072 : Shape := ⟨2, ![768, 3072]⟩
abbrev S512x2048 : Shape := ⟨2, ![512, 2048]⟩
abbrev S32768x768 : Shape := ⟨2, ![32768, 768]⟩
abbrev S32768x512 : Shape := ⟨2, ![32768, 512]⟩
abbrev S32768x128 : Shape := ⟨2, ![32768, 128]⟩
abbrev S2x16384x128 : Shape := ⟨3, ![2, 16384, 128]⟩
abbrev S_ : Shape := ⟨0, ![]⟩
abbrev S32768 : Shape := ⟨1, ![32768]⟩
abbrev S32768x1 : Shape := ⟨2, ![32768, 1]⟩
abbrev S1x768 : Shape := ⟨2, ![1, 768]⟩
abbrev S32768x3072 : Shape := ⟨2, ![32768, 3072]⟩
abbrev S2x16384x8x3x128 : Shape := ⟨5, ![2, 16384, 8, 3, 128]⟩
abbrev S1x512 : Shape := ⟨2, ![1, 512]⟩
abbrev S32768x2048 : Shape := ⟨2, ![32768, 2048]⟩
abbrev S2x16384x8x2x128 : Shape := ⟨5, ![2, 16384, 8, 2, 128]⟩
abbrev S1x16384x1x128 : Shape := ⟨4, ![1, 16384, 1, 128]⟩
abbrev S2x16384x8x1x128 : Shape := ⟨5, ![2, 16384, 8, 1, 128]⟩
abbrev S2x16384x8x128 : Shape := ⟨4, ![2, 16384, 8, 128]⟩
abbrev S1x16384x128 : Shape := ⟨3, ![1, 16384, 128]⟩
abbrev S2x16384x8x256 : Shape := ⟨4, ![2, 16384, 8, 256]⟩
abbrev S2x16384x1x128 : Shape := ⟨4, ![2, 16384, 1, 128]⟩
abbrev S32768x1024 : Shape := ⟨2, ![32768, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32768x4608, .f32⟩
  | .hbm, ⟨1, _⟩ => ⟨S16384x128, .f32⟩
  | .hbm, ⟨2, _⟩ => ⟨S16384x128, .f32⟩
  | .hbm, ⟨3, _⟩ => ⟨S768, .f32⟩
  | .hbm, ⟨4, _⟩ => ⟨S512, .f32⟩
  | .hbm, ⟨5, _⟩ => ⟨S768x3072, .bf16⟩
  | .hbm, ⟨6, _⟩ => ⟨S512x2048, .bf16⟩
  | .hbm, ⟨7, _⟩ => ⟨S32768x768, .f32⟩
  | .hbm, ⟨8, _⟩ => ⟨S32768x512, .f32⟩
  | .hbm, ⟨9, _⟩ => ⟨S32768x128, .f32⟩
  | .hbm, ⟨10, _⟩ => ⟨S2x16384x128, .f32⟩
  | .hbm, ⟨11, _⟩ => ⟨S32768x128, .f32⟩
  | .hbm, ⟨12, _⟩ => ⟨S2x16384x128, .f32⟩
  | .hbm, ⟨13, _⟩ => ⟨S32768x768, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x768, .f32⟩
  | .hbm, ⟨25, _⟩ => ⟨S32768x768, .f32⟩
  | .hbm, ⟨26, _⟩ => ⟨S1x768, .f32⟩
  | .hbm, ⟨27, _⟩ => ⟨S32768x768, .f32⟩
  | .hbm, ⟨28, _⟩ => ⟨S32768x768, .f32⟩
  | .hbm, ⟨29, _⟩ => ⟨S768x3072, .f32⟩
  | .hbm, ⟨30, _⟩ => ⟨S32768x3072, .f32⟩
  | .hbm, ⟨31, _⟩ => ⟨S2x16384x8x3x128, .f32⟩
  | .hbm, ⟨32, _⟩ => ⟨S32768x512, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x512, .f32⟩
  | .hbm, ⟨44, _⟩ => ⟨S32768x512, .f32⟩
  | .hbm, ⟨45, _⟩ => ⟨S1x512, .f32⟩
  | .hbm, ⟨46, _⟩ => ⟨S32768x512, .f32⟩
  | .hbm, ⟨47, _⟩ => ⟨S32768x512, .f32⟩
  | .hbm, ⟨48, _⟩ => ⟨S512x2048, .f32⟩
  | .hbm, ⟨49, _⟩ => ⟨S32768x2048, .f32⟩
  | .hbm, ⟨50, _⟩ => ⟨S2x16384x8x2x128, .f32⟩
  | .hbm, ⟨51, _⟩ => ⟨S1x16384x1x128, .f32⟩
  | .hbm, ⟨52, _⟩ => ⟨S1x16384x1x128, .f32⟩
  | .hbm, ⟨53, _⟩ => ⟨S2x16384x8x1x128, .f32⟩
  | .hbm, ⟨54, _⟩ => ⟨S2x16384x8x128, .f32⟩
  | .hbm, ⟨55, _⟩ => ⟨S2x16384x8x128, .f32⟩
  | .hbm, ⟨56, _⟩ => ⟨S2x16384x8x128, .f32⟩
  | .hbm, ⟨57, _⟩ => ⟨S2x16384x8x1x128, .f32⟩
  | .hbm, ⟨58, _⟩ => ⟨S2x16384x8x128, .f32⟩
  | .hbm, ⟨59, _⟩ => ⟨S2x16384x8x128, .f32⟩
  | .hbm, ⟨60, _⟩ => ⟨S2x16384x8x128, .f32⟩
  | .hbm, ⟨61, _⟩ => ⟨S2x16384x8x128, .f32⟩
  | .hbm, ⟨62, _⟩ => ⟨S1x16384x128, .f32⟩
  | .hbm, ⟨63, _⟩ => ⟨S2x16384x128, .f32⟩
  | .hbm, ⟨64, _⟩ => ⟨S2x16384x128, .f32⟩
  | .hbm, ⟨65, _⟩ => ⟨S1x16384x128, .f32⟩
  | .hbm, ⟨66, _⟩ => ⟨S2x16384x128, .f32⟩
  | .hbm, ⟨67, _⟩ => ⟨S2x16384x128, .f32⟩
  | .hbm, ⟨68, _⟩ => ⟨S2x16384x128, .f32⟩
  | .hbm, ⟨69, _⟩ => ⟨S2x16384x8x1x128, .f32⟩
  | .hbm, ⟨70, _⟩ => ⟨S2x16384x8x128, .f32⟩
  | .hbm, ⟨71, _⟩ => ⟨S_, .f32⟩
  | .hbm, ⟨72, _⟩ => ⟨S2x16384x8x128, .f32⟩
  | .hbm, ⟨73, _⟩ => ⟨S2x16384x8x128, .f32⟩
  | .hbm, ⟨74, _⟩ => ⟨S_, .f32⟩
  | .hbm, ⟨75, _⟩ => ⟨S2x16384x8x128, .f32⟩
  | .hbm, ⟨76, _⟩ => ⟨S2x16384x8x128, .f32⟩
  | .hbm, ⟨77, _⟩ => ⟨S2x16384x8x256, .f32⟩
  | .hbm, ⟨78, _⟩ => ⟨S2x16384x8x1x128, .f32⟩
  | .hbm, ⟨79, _⟩ => ⟨S2x16384x8x128, .f32⟩
  | .hbm, ⟨80, _⟩ => ⟨S2x16384x1x128, .f32⟩
  | .hbm, ⟨81, _⟩ => ⟨S2x16384x8x128, .f32⟩
  | .hbm, ⟨82, _⟩ => ⟨S2x16384x8x256, .f32⟩
  | .hbm, ⟨83, _⟩ => ⟨S32768x2048, .f32⟩
  | .hbm, ⟨84, _⟩ => ⟨S32768x2048, .bf16⟩
  | .hbm, ⟨85, _⟩ => ⟨S32768x2048, .f32⟩
  | .hbm, ⟨86, _⟩ => ⟨S32768x2048, .bf16⟩
  | .hbm, ⟨87, _⟩ => ⟨S2x16384x8x1x128, .f32⟩
  | .hbm, ⟨88, _⟩ => ⟨S2x16384x8x128, .f32⟩
  | .hbm, ⟨89, _⟩ => ⟨S32768x1024, .f32⟩
  | .hbm, ⟨90, _⟩ => ⟨S32768x1024, .bf16⟩
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]
-- ==== Kernel5.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S32768x2048, .f32⟩
  | .hbm, ⟨6, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S32768x2048, .f32⟩
  | .hbm, ⟨29, _⟩ => ⟨S1x2048, .f32⟩
  | .hbm, ⟨30, _⟩ => ⟨S32768x2048, .f32⟩
  | .hbm, ⟨31, _⟩ => ⟨S32768x2048, .f32⟩
  | .hbm, ⟨32, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel6.lean ====
abbrev S32768x4608 : Shape := ⟨2, ![32768, 4608]⟩
abbrev S128x1024 : Shape := ⟨2, ![128, 1024]⟩
abbrev S1x1024 : Shape := ⟨2, ![1, 1024]⟩
abbrev S32768x1024 : Shape := ⟨2, ![32768, 1024]⟩
abbrev S256x512 : Shape := ⟨2, ![256, 512]⟩
abbrev S256x1024 : Shape := ⟨2, ![256, 1024]⟩
abbrev S256x128 : Shape := ⟨2, ![256, 128]⟩
abbrev S128x512 : Shape := ⟨2, ![128, 512]⟩
abbrev S1x512 : Shape := ⟨2, ![1, 512]⟩
abbrev S4x256x128 : Shape := ⟨3, ![4, 256, 128]⟩
abbrev S1x256x128 : Shape := ⟨3, ![1, 256, 128]⟩
abbrev S256x256 : Shape := ⟨2, ![256, 256]⟩
abbrev S256x1536 : Shape := ⟨2, ![256, 1536]⟩
abbrev S64x512 : Shape := ⟨2, ![64, 512]⟩
abbrev S64x256 : Shape := ⟨2, ![64, 256]⟩
abbrev S64x128 : Shape := ⟨2, ![64, 128]⟩
abbrev S1x128 : Shape := ⟨2, ![1, 128]⟩

abbrev nBuf : Space → Nat
  | .hbm => 4
  | .vmem => 13
  | .smem => 0
  | _ => 0

abbrev bufTy : (tb : Table) → Fin (tcTables nBuf tb) → BufTy
  | .hbm, ⟨0, _⟩ => ⟨S32768x4608, .f32⟩
  | .hbm, ⟨1, _⟩ => ⟨S128x1024, .f32⟩
  | .hbm, ⟨2, _⟩ => ⟨S1x1024, .f32⟩
  | .hbm, ⟨3, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S128x512, .f32⟩
  | .local _ .vmem, ⟨9, _⟩ => ⟨S1x512, .f32⟩
  | .local _ .vmem, ⟨10, _⟩ => ⟨S256x1024, .f32⟩
  | .local _ .vmem, ⟨11, _⟩ => ⟨S256x1024, .f32⟩
  | .local _ .vmem, ⟨12, _⟩ => ⟨S4x256x128, .f32⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c30_i32 : BitVec 32 := 30#32
  let c0_i32 : BitVec 32 := 0#32
  ![v1.toNat, c30_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S32768x4608 : Shape := ⟨2, ![32768, 4608]⟩
abbrev S128x1024 : Shape := ⟨2, ![128, 1024]⟩
abbrev S1x1024 : Shape := ⟨2, ![1, 1024]⟩
abbrev S32768x512 : Shape := ⟨2, ![32768, 512]⟩
abbrev S2x16384x4x128 : Shape := ⟨4, ![2, 16384, 4, 128]⟩
abbrev S_ : Shape := ⟨0, ![]⟩
abbrev S32768x1024 : Shape := ⟨2, ![32768, 1024]⟩
abbrev S2x16384x4x256 : Shape := ⟨4, ![2, 16384, 4, 256]⟩
abbrev S32768x128 : Shape := ⟨2, ![32768, 128]⟩
abbrev S128x512 : Shape := ⟨2, ![128, 512]⟩
abbrev S1x512 : Shape := ⟨2, ![1, 512]⟩
abbrev S2x16384x1x4x128 : Shape := ⟨5, ![2, 16384, 1, 4, 128]⟩
abbrev S2x1x16384x4x128 : Shape := ⟨5, ![2, 1, 16384, 4, 128]⟩
abbrev S2x16384x16384x4x128 : Shape := ⟨5, ![2, 16384, 16384, 4, 128]⟩
abbrev S2x16384x16384x4 : Shape := ⟨4, ![2, 16384, 16384, 4]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x16384x16384x1 : Shape := ⟨4, ![1, 16384, 16384, 1]⟩
abbrev S2x4x256x16384 : Shape := ⟨4, ![2, 4, 256, 16384]⟩

abbrev nBuf : Space → Nat
  | .hbm => 71
  | .vmem => 0
  | .smem => 0
  | _ => 0

abbrev bufTy : (tb : Table) → Fin (tcTables nBuf tb) → BufTy
  | .hbm, ⟨0, _⟩ => ⟨S32768x4608, .f32⟩
  | .hbm, ⟨1, _⟩ => ⟨S128x1024, .f32⟩
  | .hbm, ⟨2, _⟩ => ⟨S1x1024, .f32⟩
  | .hbm, ⟨3, _⟩ => ⟨S32768x512, .f32⟩
  | .hbm, ⟨4, _⟩ => ⟨S2x16384x4x128, .f32⟩
  | .hbm, ⟨5, _⟩ => ⟨S_, .f32⟩
  | .hbm, ⟨6, _⟩ => ⟨S2x16384x4x128, .f32⟩
  | .hbm, ⟨7, _⟩ => ⟨S2x16384x4x128, .f32⟩
  | .hbm, ⟨8, _⟩ => ⟨S32768x512, .f32⟩
  | .hbm, ⟨9, _⟩ => ⟨S2x16384x4x128, .f32⟩
  | .hbm, ⟨10, _⟩ => ⟨S32768x1024, .f32⟩
  | .hbm, ⟨11, _⟩ => ⟨S2x16384x4x256, .f32⟩
  | .hbm, ⟨12, _⟩ => ⟨S32768x128, .f32⟩
  | .hbm, ⟨13, _⟩ => ⟨S128x512, .f32⟩
  | .hbm, ⟨14, _⟩ => ⟨S32768x512, .f32⟩
  | .hbm, ⟨15, _⟩ => ⟨S1x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .i1⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S2x16384x4x128, .f32⟩
  | .hbm, ⟨38, _⟩ => ⟨S_, .f32⟩
  | .hbm, ⟨39, _⟩ => ⟨S_, .f32⟩
  | .hbm, ⟨40, _⟩ => ⟨S2x16384x4x128, .f32⟩
  | .hbm, ⟨41, _⟩ => ⟨S2x16384x1x4x128, .f32⟩
  | .hbm, ⟨42, _⟩ => ⟨S2x1x16384x4x128, .f32⟩
  | .hbm, ⟨43, _⟩ => ⟨S2x16384x16384x4x128, .f32⟩
  | .hbm, ⟨44, _⟩ => ⟨S2x16384x16384x4x128, .f32⟩
  | .hbm, ⟨45, _⟩ => ⟨S2x16384x16384x4x128, .f32⟩
  | .hbm, ⟨46, _⟩ => ⟨S2x16384x16384x4x128, .f32⟩
  | .hbm, ⟨47, _⟩ => ⟨S2x16384x1x4x128, .f32⟩
  | .hbm, ⟨48, _⟩ => ⟨S2x16384x16384x4x128, .f32⟩
  | .hbm, ⟨49, _⟩ => ⟨S2x16384x16384x4x128, .f32⟩
  | .hbm, ⟨50, _⟩ => ⟨S2x1x16384x4x128, .f32⟩
  | .hbm, ⟨51, _⟩ => ⟨S2x16384x16384x4x128, .f32⟩
  | .hbm, ⟨52, _⟩ => ⟨S2x16384x16384x4x128, .f32⟩
  | .hbm, ⟨53, _⟩ => ⟨S_, .f32⟩
  | .hbm, ⟨54, _⟩ => ⟨S2x16384x16384x4, .f32⟩
  | .hbm, ⟨55, _⟩ => ⟨S16384, .i32⟩
  | .hbm, ⟨56, _⟩ => ⟨S16384x1, .i32⟩
  | .hbm, ⟨57, _⟩ => ⟨S16384, .i32⟩
  | .hbm, ⟨58, _⟩ => ⟨S1x16384, .i32⟩
  | .hbm, ⟨59, _⟩ => ⟨S16384x16384, .i32⟩
  | .hbm, ⟨60, _⟩ => ⟨S16384x16384, .i32⟩
  | .hbm, ⟨61, _⟩ => ⟨S16384x16384, .i1⟩
  | .hbm, ⟨62, _⟩ => ⟨S1x16384x16384x1, .i1⟩
  | .hbm, ⟨63, _⟩ => ⟨S_, .f32⟩
  | .hbm, ⟨64, _⟩ => ⟨S_, .f32⟩
  | .hbm, ⟨65, _⟩ => ⟨S2x16384x16384x4, .i1⟩
  | .hbm, ⟨66, _⟩ => ⟨S2x16384x16384x4, .f32⟩
  | .hbm, ⟨67, _⟩ => ⟨S2x16384x16384x4, .f32⟩
  | .hbm, ⟨68, _⟩ => ⟨S2x4x256x16384, .f32⟩
  | .hbm, ⟨69, _⟩ => ⟨S2x16384x4x256, .f32⟩
  | .hbm, ⟨70, _⟩ => ⟨S32768x1024, .f32⟩
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_call0_cst : Ref sig .tc := ⟨.hbm, 38, rfl⟩
abbrev main_call1_call0_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== Kernel7.lean ====
abbrev S32768x4608 : Shape := ⟨2, ![32768, 4608]⟩
abbrev S128x1024 : Shape := ⟨2, ![128, 1024]⟩
abbrev S1x1024 : Shape := ⟨2, ![1, 1024]⟩
abbrev S32768x1024 : Shape := ⟨2, ![32768, 1024]⟩
abbrev S256 : Shape := ⟨1, ![256]⟩
abbrev S1x256 : Shape := ⟨2, ![1, 256]⟩
abbrev S256x512 : Shape := ⟨2, ![256, 512]⟩
abbrev S256x1024 : Shape := ⟨2, ![256, 1024]⟩
abbrev S256x128 : Shape := ⟨2, ![256, 128]⟩
abbrev S128x512 : Shape := ⟨2, ![128, 512]⟩
abbrev S1x512 : Shape := ⟨2, ![1, 512]⟩
abbrev S4x256x128 : Shape := ⟨3, ![4, 256, 128]⟩
abbrev S1x256x128 : Shape := ⟨3, ![1, 256, 128]⟩
abbrev S256x256 : Shape := ⟨2, ![256, 256]⟩
abbrev S256x1536 : Shape := ⟨2, ![256, 1536]⟩
abbrev S64x512 : Shape := ⟨2, ![64, 512]⟩
abbrev S64x256 : Shape := ⟨2, ![64, 256]⟩
abbrev S64x128 : Shape := ⟨2, ![64, 128]⟩
abbrev S1x128 : Shape := ⟨2, ![1, 128]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S32768x4608, .f32⟩
  | .hbm, ⟨1, _⟩ => ⟨S128x1024, .f32⟩
  | .hbm, ⟨2, _⟩ => ⟨S1x1024, .f32⟩
  | .hbm, ⟨3, _⟩ => ⟨S32768x1024, .f32⟩
  | .hbm, ⟨4, _⟩ => ⟨S256, .f32⟩
  | .hbm, ⟨5, _⟩ => ⟨S1x256, .f32⟩
  | .hbm, ⟨6, _⟩ => ⟨S32768x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S128x512, .f32⟩
  | .local _ .vmem, ⟨9, _⟩ => ⟨S1x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S4x256x128, .f32⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c30_i32 : BitVec 32 := 30#32
  let c0_i32 : BitVec 32 := 0#32
  ![v3.toNat, c30_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c2_i32 : BitVec 32 := 2#32
  let c0_i32 : BitVec 32 := 0#32
  ![v3.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c64_i32_0 : BitVec 32 := 64#32
  let v1 : BitVec 32 := Scalar.addi v0 c64_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S32768x4608 : Shape := ⟨2, ![32768, 4608]⟩
abbrev S128x1024 : Shape := ⟨2, ![128, 1024]⟩
abbrev S1x1024 : Shape := ⟨2, ![1, 1024]⟩
abbrev S32768x1024 : Shape := ⟨2, ![32768, 1024]⟩
abbrev S256 : Shape := ⟨1, ![256]⟩
abbrev S32768x512 : Shape := ⟨2, ![32768, 512]⟩
abbrev S2x16384x4x128 : Shape := ⟨4, ![2, 16384, 4, 128]⟩
abbrev S_ : Shape := ⟨0, ![]⟩
abbrev S2x16384x4x256 : Shape := ⟨4, ![2, 16384, 4, 256]⟩
abbrev S32768x128 : Shape := ⟨2, ![32768, 128]⟩
abbrev S128x512 : Shape := ⟨2, ![128, 512]⟩
abbrev S1x512 : Shape := ⟨2, ![1, 512]⟩
abbrev S2x1x16384x4x128 : Shape := ⟨5, ![2, 1, 16384, 4, 128]⟩
abbrev S2x16384x1x4x128 : Shape := ⟨5, ![2, 16384, 1, 4, 128]⟩
abbrev S2x16384x16384x4x128 : Shape := ⟨5, ![2, 16384, 16384, 4, 128]⟩
abbrev S2x16384x16384x4 : Shape := ⟨4, ![2, 16384, 16384, 4]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x16384x16384x1 : Shape := ⟨4, ![1, 16384, 16384, 1]⟩
abbrev S2x4x256x16384 : Shape := ⟨4, ![2, 4, 256, 16384]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩

abbrev nBuf : Space → Nat
  | .hbm => 104
  | .vmem => 0
  | .smem => 0
  | _ => 0

abbrev bufTy : (tb : Table) → Fin (tcTables nBuf tb) → BufTy
  | .hbm, ⟨0, _⟩ => ⟨S32768x4608, .f32⟩
  | .hbm, ⟨1, _⟩ => ⟨S128x1024, .f32⟩
  | .hbm, ⟨2, _⟩ => ⟨S1x1024, .f32⟩
  | .hbm, ⟨3, _⟩ => ⟨S32768x1024, .f32⟩
  | .hbm, ⟨4, _⟩ => ⟨S256, .f32⟩
  | .hbm, ⟨5, _⟩ => ⟨S32768x512, .f32⟩
  | .hbm, ⟨6, _⟩ => ⟨S2x16384x4x128, .f32⟩
  | .hbm, ⟨7, _⟩ => ⟨S_, .f32⟩
  | .hbm, ⟨8, _⟩ => ⟨S2x16384x4x128, .f32⟩
  | .hbm, ⟨9, _⟩ => ⟨S2x16384x4x128, .f32⟩
  | .hbm, ⟨10, _⟩ => ⟨S32768x512, .f32⟩
  | .hbm, ⟨11, _⟩ => ⟨S2x16384x4x128, .f32⟩
  | .hbm, ⟨12, _⟩ => ⟨S32768x1024, .f32⟩
  | .hbm, ⟨13, _⟩ => ⟨S2x16384x4x256, .f32⟩
  | .hbm, ⟨14, _⟩ => ⟨S32768x128, .f32⟩
  | .hbm, ⟨15, _⟩ => ⟨S128x512, .f32⟩
  | .hbm, ⟨16, _⟩ => ⟨S32768x512, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .i1⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S2x16384x4x128, .f32⟩
  | .hbm, ⟨40, _⟩ => ⟨S_, .f32⟩
  | .hbm, ⟨41, _⟩ => ⟨S_, .f32⟩
  | .hbm, ⟨42, _⟩ => ⟨S2x16384x4x128, .f32⟩
  | .hbm, ⟨43, _⟩ => ⟨S2x16384x4x128, .f32⟩
  | .hbm, ⟨44, _⟩ => ⟨S2x1x16384x4x128, .f32⟩
  | .hbm, ⟨45, _⟩ => ⟨S2x16384x1x4x128, .f32⟩
  | .hbm, ⟨46, _⟩ => ⟨S2x16384x16384x4x128, .f32⟩
  | .hbm, ⟨47, _⟩ => ⟨S2x16384x16384x4x128, .f32⟩
  | .hbm, ⟨48, _⟩ => ⟨S2x16384x16384x4x128, .f32⟩
  | .hbm, ⟨49, _⟩ => ⟨S2x16384x16384x4x128, .f32⟩
  | .hbm, ⟨50, _⟩ => ⟨S2x16384x1x4x128, .f32⟩
  | .hbm, ⟨51, _⟩ => ⟨S2x16384x16384x4x128, .f32⟩
  | .hbm, ⟨52, _⟩ => ⟨S2x16384x16384x4x128, .f32⟩
  | .hbm, ⟨53, _⟩ => ⟨S2x1x16384x4x128, .f32⟩
  | .hbm, ⟨54, _⟩ => ⟨S2x16384x16384x4x128, .f32⟩
  | .hbm, ⟨55, _⟩ => ⟨S2x16384x16384x4x128, .f32⟩
  | .hbm, ⟨56, _⟩ => ⟨S_, .f32⟩
  | .hbm, ⟨57, _⟩ => ⟨S2x16384x16384x4, .f32⟩
  | .hbm, ⟨58, _⟩ => ⟨S16384, .i32⟩
  | .hbm, ⟨59, _⟩ => ⟨S16384x1, .i32⟩
  | .hbm, ⟨60, _⟩ => ⟨S16384, .i32⟩
  | .hbm, ⟨61, _⟩ => ⟨S1x16384, .i32⟩
  | .hbm, ⟨62, _⟩ => ⟨S16384x16384, .i32⟩
  | .hbm, ⟨63, _⟩ => ⟨S16384x16384, .i32⟩
  | .hbm, ⟨64, _⟩ => ⟨S16384x16384, .i1⟩
  | .hbm, ⟨65, _⟩ => ⟨S1x16384x16384x1, .i1⟩
  | .hbm, ⟨66, _⟩ => ⟨S_, .f32⟩
  | .hbm, ⟨67, _⟩ => ⟨S_, .f32⟩
  | .hbm, ⟨68, _⟩ => ⟨S2x16384x16384x4, .i1⟩
  | .hbm, ⟨69, _⟩ => ⟨S2x16384x16384x4, .f32⟩
  | .hbm, ⟨70, _⟩ => ⟨S2x16384x16384x4, .f32⟩
  | .hbm, ⟨71, _⟩ => ⟨S2x4x256x16384, .f32⟩
  | .hbm, ⟨72, _⟩ => ⟨S2x16384x4x256, .f32⟩
  | .hbm, ⟨73, _⟩ => ⟨S2x16384x4x256, .f32⟩
  | .hbm, ⟨74, _⟩ => ⟨S2x16384x4x256, .f32⟩
  | .hbm, ⟨75, _⟩ => ⟨S2x16384x4x256, .f32⟩
  | .hbm, ⟨76, _⟩ => ⟨S_, .f32⟩
  | .hbm, ⟨77, _⟩ => ⟨S2x16384x4, .f32⟩
  | .hbm, ⟨78, _⟩ => ⟨S2x16384x4x1, .f32⟩
  | .hbm, ⟨79, _⟩ => ⟨S_, .f32⟩
  | .hbm, ⟨80, _⟩ => ⟨S2x16384x4x1, .f32⟩
  | .hbm, ⟨81, _⟩ => ⟨S2x16384x4x1, .f32⟩
  | .hbm, ⟨82, _⟩ => ⟨S_, .f32⟩
  | .hbm, ⟨83, _⟩ => ⟨S2x16384x4x1, .f32⟩
  | .hbm, ⟨84, _⟩ => ⟨S2x16384x4x1, .f32⟩
  | .hbm, ⟨85, _⟩ => ⟨S2x16384x4x1, .f32⟩
  | .hbm, ⟨86, _⟩ => ⟨S2x16384x4x256, .f32⟩
  | .hbm, ⟨87, _⟩ => ⟨S2x16384x4x256, .f32⟩
  | .hbm, ⟨88, _⟩ => ⟨S1x1x1x256, .f32⟩
  | .hbm, ⟨89, _⟩ => ⟨S2x16384x4x256, .f32⟩
  | .hbm, ⟨90, _⟩ => ⟨S2x16384x4x256, .f32⟩
  | .hbm, ⟨91, _⟩ => ⟨S32768x1024, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S_, .f32⟩
  | .hbm, ⟨96, _⟩ => ⟨S32768x1024, .f32⟩
  | .hbm, ⟨97, _⟩ => ⟨S32768x1024, .f32⟩
  | .hbm, ⟨98, _⟩ => ⟨S_, .f32⟩
  | .hbm, ⟨99, _⟩ => ⟨S32768x1024, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S32768x1024, .bf16⟩
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call1_call0_cst : Ref sig .tc := ⟨.hbm, 40, rfl⟩
abbrev main_call1_call0_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_2 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_3 : Ref sig .tc := ⟨.hbm, 76, rfl⟩
abbrev main_v47 : Ref sig .tc := ⟨.hbm, 77, rfl⟩
abbrev main_v48 : Ref sig .tc := ⟨.hbm, 78, rfl⟩
abbrev main_cst_4 : Ref sig .tc := ⟨.hbm, 79, rfl⟩
abbrev main_v49 : Ref sig .tc := ⟨.hbm, 80, rfl⟩
abbrev main_v50 : Ref sig .tc := ⟨.hbm, 81, rfl⟩
abbrev main_cst_5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩

abbrev nD : Nat := 1
abbrev τ : Topo := Topo.v7x

variable {F : FTy → Type} [FloatOps F]
-- ==== Kernel8.lean ====
abbrev S16x32768 : Shape := ⟨2, ![16, 32768]⟩
abbrev S16x256x128 : Shape := ⟨3, ![16, 256, 128]⟩
abbrev S16x1x128 : Shape := ⟨3, ![16, 1, 128]⟩
abbrev S16x1x1 : Shape := ⟨3, ![16, 1, 1]⟩
abbrev S16x128 : Shape := ⟨2, ![16, 128]⟩
abbrev S16x1 : Shape := ⟨2, ![16, 1]⟩

abbrev nBuf : Space → Nat
  | .hbm => 4
  | .vmem => 3
  | .smem => 0
  | _ => 0

abbrev bufTy : (tb : Table) → Fin (tcTables nBuf tb) → BufTy
  | .hbm, ⟨0, _⟩ => ⟨S16x32768, .f32⟩
  | .hbm, ⟨1, _⟩ => ⟨S16x256x128, .f32⟩
  | .hbm, ⟨2, _⟩ => ⟨S16x1x128, .i32⟩
  | .hbm, ⟨3, _⟩ => ⟨S16x1x128, .i32⟩
  | .local _ .vmem, ⟨0, _⟩ => ⟨S16x256x128, .f32⟩
  | .local _ .vmem, ⟨1, _⟩ => ⟨S16x1x128, .i32⟩
  | .local _ .vmem, ⟨2, _⟩ => ⟨S16x1x128, .i32⟩
  | _, _ => ⟨S16x32768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

@[reducible] def k0_t1_loop : Scf.Loop 32 :=
  let c0_i32_2 : BitVec 32 := 0#32
  let c31_i32 : BitVec 32 := 31#32
  let v4 : BitVec 32 := Scalar.addi c0_i32_2 c31_i32
  let c1_i32 : BitVec 32 := 1#32
  ⟨c0_i32_2, v4, c1_i32⟩
abbrev stage0_0 : Fin 1 → Memref sig .tc .vmem S16x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference8.lean ====
abbrev S16x32768 : Shape := ⟨2, ![16, 32768]⟩
abbrev S16x4096 : Shape := ⟨2, ![16, 4096]⟩
abbrev S16x1 : Shape := ⟨2, ![16, 1]⟩
abbrev S_ : Shape := ⟨0, ![]⟩
abbrev S16 : Shape := ⟨1, ![16]⟩
abbrev S16x1x1 : Shape := ⟨3, ![16, 1, 1]⟩
abbrev S16x1x128 : Shape := ⟨3, ![16, 1, 128]⟩

abbrev nBuf : Space → Nat
  | .hbm => 19
  | .vmem => 0
  | .smem => 0
  | _ => 0

abbrev bufTy : (tb : Table) → Fin (tcTables nBuf tb) → BufTy
  | .hbm, ⟨0, _⟩ => ⟨S16x32768, .f32⟩
  | .hbm, ⟨1, _⟩ => ⟨S16x4096, .f32⟩
  | .hbm, ⟨2, _⟩ => ⟨S16x4096, .i32⟩
  | .hbm, ⟨3, _⟩ => ⟨S16x1, .f32⟩
  | .hbm, ⟨4, _⟩ => ⟨S16x1, .i32⟩
  | .hbm, ⟨5, _⟩ => ⟨S16x32768, .i32⟩
  | .hbm, ⟨6, _⟩ => ⟨S16x32768, .i32⟩
  | .hbm, ⟨7, _⟩ => ⟨S16x32768, .i1⟩
  | .hbm, ⟨8, _⟩ => ⟨S16x32768, .i32⟩
  | .hbm, ⟨9, _⟩ => ⟨S_, .i32⟩
  | .hbm, ⟨10, _⟩ => ⟨S16, .i32⟩
  | .hbm, ⟨11, _⟩ => ⟨S16x1, .i32⟩
  | .hbm, ⟨12, _⟩ => ⟨S_, .i32⟩
  | .hbm, ⟨13, _⟩ => ⟨S16x1, .i32⟩
  | .hbm, ⟨14, _⟩ => ⟨S16x1, .i32⟩
  | .hbm, ⟨15, _⟩ => ⟨S16x1x1, .i32⟩
  | .hbm, ⟨16, _⟩ => ⟨S16x1x128, .i32⟩
  | .hbm, ⟨17, _⟩ => ⟨S16x1x1, .i32⟩
  | .hbm, ⟨18, _⟩ => ⟨S16x1x128, .i32⟩
  | _, _ => ⟨S16x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [BitOps F]
-- ==== Proof.Flash.Math.lean ====
/-
  The arithmetic of a softmax taken in two halves of the keys, over the extended reals: the scores are real numbers,
  the values may be infinite.
-/
module

public import Idealize.ShloMosaic.PureOps.Ideal
public import Mathlib.Data.EReal.Operations
public import Mathlib.Data.Finset.Fold
public import Mathlib.Algebra.BigOperators.Fin
public import Mathlib.Analysis.SpecialFunctions.Pow.Real

@[expose] public section

noncomputable section

open Idealize.ShloMosaic

namespace Cert.Attention

variable {n : ℕ}

/-- The maximum of a running maximum and a row of scores. -/
def rowMax (m : EReal) (s : Fin n → EReal) : EReal := max m (Finset.univ.fold max ⊥ s)

/-- The running denominator after a row of scores: the old one rescaled to the new maximum, and the row's exponentials. -/
def rowDen (m l : EReal) (s : Fin n → EReal) : EReal :=
  Ideal.exp2 (m - rowMax m s) * l + ∑ k, Ideal.exp2 (s k - rowMax m s)

/-- The running numerator after a row of scores: the old one rescaled to the new maximum, and the row's weighted values. -/
def rowNum (m a : EReal) (s v : Fin n → EReal) : EReal :=
  Ideal.exp2 (m - rowMax m s) * a + ∑ k, Ideal.exp2 (s k - rowMax m s) * v k

/-- A factor that is a nonnegative real distributes over a finite sum of extended reals. -/
theorem mul_sum_of_nonneg {ι : Type*} (t : Finset ι) (f : ι → EReal) {c : ℝ} (hc : 0 ≤ c) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- A finite sum of reals is the same sum taken in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem fold_max_eq_sup {ι : Type*} (t : Finset ι) (f : ι → EReal) : t.fold max ⊥ f = t.sup f := rfl

/-- The maximum of a nonempty row of reals is a real. -/
theorem fold_max_real (hn : 0 < n) (s : Fin n → ℝ) :
    ∃ r : ℝ, Finset.univ.fold max ⊥ (fun k => (s k : EReal)) = (r : EReal) := by
  haveI : Nonempty (Fin n) := ⟨⟨0, hn⟩⟩
  obtain ⟨k, -, hk⟩ := Finset.exists_mem_eq_sup (Finset.univ : Finset (Fin n)) Finset.univ_nonempty (fun k => (s k : EReal))
  exact ⟨s k, hk⟩

/-- The maximum over all keys is the maximum of the two halves' maxima. -/
theorem fold_max_halves (s : Fin (n + n) → EReal) :
    Finset.univ.fold max ⊥ s
      = max (Finset.univ.fold max ⊥ fun k => s (Fin.castAdd n k)) (Finset.univ.fold max ⊥ fun k => s (Fin.natAdd n k)) := by
  simp only [fold_max_eq_sup]
  apply le_antisymm
  · refine Finset.sup_le fun k _ => ?_
    refine Fin.addCases (fun i => ?_) (fun i => ?_) k
    · exact le_max_of_le_left (Finset.le_sup (f := fun k => s (Fin.castAdd n k)) (Finset.mem_univ i))
    · exact le_max_of_le_right (Finset.le_sup (f := fun k => s (Fin.natAdd n k)) (Finset.mem_univ i))
  · exact max_le (Finset.sup_le fun i _ => Finset.le_sup (f := s) (Finset.mem_univ (Fin.castAdd n i)))
      (Finset.sup_le fun i _ => Finset.le_sup (f := s) (Finset.mem_univ (Fin.natAdd n i)))

theorem coe_max (a b : ℝ) : ((max a b : ℝ) : EReal) = max (a : EReal) (b : EReal) :=
  Monotone.map_max (fun _ _ h => EReal.coe_le_coe_iff.mpr h)

theorem exp2_sub (a b : ℝ) : Ideal.exp2 ((a : EReal) - (b : EReal)) = ((2 : ℝ) ^ (a - b) : ℝ) := by
  rw [← EReal.coe_sub, Ideal.exp2_coe]; rfl

/-- THE TWO HALVES MAKE THE WHOLE: the numerator over the denominator, each carried through the two halves of the keys
    from minus infinity and zero, is the sum of the values weighted by the softmax to base 2 of all the scores. -/
theorem softmax_two_halves (hn : 0 < n) (s : Fin (n + n) → ℝ) (v : Fin (n + n) → EReal)
    (s₁ s₂ v₁ v₂ : Fin n → EReal) (hs₁ : s₁ = fun k => (s (Fin.castAdd n k) : EReal))
    (hs₂ : s₂ = fun k => (s (Fin.natAdd n k) : EReal)) (hv₁ : v₁ = fun k => v (Fin.castAdd n k))
    (hv₂ : v₂ = fun k => v (Fin.natAdd n k)) :
    Ideal.div (rowNum (rowMax ⊥ s₁) (rowNum ⊥ 0 s₁ v₁) s₂ v₂) (rowDen (rowMax ⊥ s₁) (rowDen ⊥ 0 s₁) s₂)
      = ∑ k, v k * Ideal.div (Ideal.exp2 ((s k : EReal) - Finset.univ.fold max ⊥ fun k => (s k : EReal)))
          (∑ k, Ideal.exp2 ((s k : EReal) - Finset.univ.fold max ⊥ fun k => (s k : EReal))) := by
  obtain ⟨r₁, h₁⟩ := fold_max_real hn fun k => s (Fin.castAdd n k)
  obtain ⟨r₂, h₂⟩ := fold_max_real hn fun k => s (Fin.natAdd n k)
  rw [fold_max_halves fun k => (s k : EReal), h₁, h₂]
  have e₁ : rowMax ⊥ s₁ = (r₁ : EReal) := by rw [rowMax, hs₁, h₁]; simp
  have e₂ : rowMax (r₁ : EReal) s₂ = ((max r₁ r₂ : ℝ) : EReal) := by rw [rowMax, hs₂, h₂]; exact (coe_max r₁ r₂).symm
  rw [← coe_max]
  generalize max r₁ r₂ = M at e₂ ⊢
  have d₁ : rowDen ⊥ 0 s₁ = ∑ k, (((2 : ℝ) ^ (s (Fin.castAdd n k) - r₁) : ℝ) : EReal) := by
    rw [rowDen, e₁, mul_zero, zero_add, hs₁]; simp only [exp2_sub]
  have n₁ : rowNum ⊥ 0 s₁ v₁ = ∑ k, (((2 : ℝ) ^ (s (Fin.castAdd n k) - r₁) : ℝ) : EReal) * v (Fin.castAdd n k) := by
    rw [rowNum, e₁, mul_zero, zero_add, hs₁, hv₁]; simp only [exp2_sub]
  have pw : ∀ x : ℝ, ((2 : ℝ) ^ (r₁ - M)) * (2 : ℝ) ^ (x - r₁) = (2 : ℝ) ^ (x - M) := fun x => by
    rw [← Real.rpow_add two_pos]; congr 1; ring
  have pos : ∀ x : ℝ, 0 ≤ (2 : ℝ) ^ x := fun x => (Real.rpow_pos_of_pos two_pos x).le
  have den : rowDen (rowMax ⊥ s₁) (rowDen ⊥ 0 s₁) s₂ = ((∑ k, (2 : ℝ) ^ (s k - M) : ℝ) : EReal) := by
    rw [rowDen, d₁, e₁, e₂, exp2_sub, mul_sum_of_nonneg _ _ (pos _), hs₂]
    simp only [exp2_sub, ← EReal.coe_mul, pw]
    rw [Fin.sum_univ_add, EReal.coe_add, coe_sum, coe_sum]
  have num : rowNum (rowMax ⊥ s₁) (rowNum ⊥ 0 s₁ v₁) s₂ v₂ = ∑ k, (((2 : ℝ) ^ (s k - M) : ℝ) : EReal) * v k := by
    rw [rowNum, n₁, e₁, e₂, exp2_sub, mul_sum_of_nonneg _ _ (pos _), hs₂, hv₂]
    simp only [exp2_sub, ← mul_assoc, ← EReal.coe_mul, pw]
    rw [Fin.sum_univ_add]
  have tot : 0 < ∑ k, (2 : ℝ) ^ (s k - M) :=
    Finset.sum_pos (fun k _ => Real.rpow_pos_of_pos two_pos _) ⟨⟨0, by omega⟩, Finset.mem_univ _⟩
  rw [den, num]
  simp only [exp2_sub]
  rw [← coe_sum, Ideal.div_coe tot.ne', mul_comm, mul_sum_of_nonneg _ _ (by positivity)]
  refine Finset.sum_congr rfl fun k _ => ?_
  rw [Ideal.div_coe tot.ne']
  ac_rfl

end Cert.Attention
-- ==== Proof.Flash.Spec.lean ====
/-
  Softmax attention to base 2 of packed queries, keys and values, at one element of the result: two sequences of 16384
  positions one after the other in the rows, eight heads one after the other in the columns.
-/
module

public import proofs.«01_k».proof.Proof.Flash.Math
public import Idealize.ShloMosaic.Lib.Pointwise

@[expose] public section

noncomputable section

open Idealize.ShloMosaic

namespace Cert.Attention

/-- Row `j` of the sequence that row `row` belongs to. -/
abbrev keyRow (row : Fin 32768) (j : Fin 16384) : Fin 32768 := ⟨row.val / 16384 * 16384 + j.val, by omega⟩

/-- Column `d` of head `h`, of a width of 256 columns a head. -/
abbrev wideCol (h : Fin 8) (d : Fin 256) : Fin 2048 := ⟨h.val * 256 + d.val, by omega⟩

/-- The score of query row `row` against key `j` of its sequence in head `h`. -/
def rowScore (Q K : (⟨2, ![32768, 2048]⟩ : Shape).Idx → EReal) (row : Fin 32768) (h : Fin 8) (j : Fin 16384) : EReal :=
  ∑ d : Fin 256, Q (ix2 row (wideCol h d)) * K (ix2 (keyRow row j) (wideCol h d))

/-- The greatest of the scores of a query row. -/
def rowTop (Q K : (⟨2, ![32768, 2048]⟩ : Shape).Idx → EReal) (row : Fin 32768) (h : Fin 8) : EReal :=
  Finset.univ.fold max ⊥ fun j => rowScore Q K row h j

/-- The attention output at row `row` and column `col`: the values of the column, weighted by the softmax of the scores. -/
def attn (Q K : (⟨2, ![32768, 2048]⟩ : Shape).Idx → EReal) (V : (⟨2, ![32768, 1024]⟩ : Shape).Idx → EReal)
    (row : Fin 32768) (col : Fin 1024) : EReal :=
  ∑ j : Fin 16384, V (ix2 (keyRow row j) col)
    * Ideal.div (Ideal.exp2 (rowScore Q K row ⟨col.val / 128, by omega⟩ j - rowTop Q K row ⟨col.val / 128, by omega⟩))
        (∑ j : Fin 16384, Ideal.exp2 (rowScore Q K row ⟨col.val / 128, by omega⟩ j - rowTop Q K row ⟨col.val / 128, by omega⟩))

/-- Real queries and keys have real scores. -/
theorem rowScore_real {Q K : (⟨2, ![32768, 2048]⟩ : Shape).Idx → EReal} (hQ : ∀ i, ∃ r : ℝ, Q i = r) (hK : ∀ i, ∃ r : ℝ, K i = r)
    (row : Fin 32768) (h : Fin 8) : ∃ s : Fin 16384 → ℝ, ∀ j, rowScore Q K row h j = (s j : EReal) := by
  choose fq hq using hQ
  choose fk hk using hK
  refine ⟨fun j => ∑ d : Fin 256, fq (ix2 row (wideCol h d)) * fk (ix2 (keyRow row j) (wideCol h d)), fun j => ?_⟩
  rw [rowScore, coe_sum]
  exact Finset.sum_congr rfl fun d _ => by rw [hq, hk, EReal.coe_mul]

/-- The attention output of real queries and keys is the two halves' numerator over the two halves' denominator. -/
theorem attn_eq_halves {Q K : (⟨2, ![32768, 2048]⟩ : Shape).Idx → EReal} (V : (⟨2, ![32768, 1024]⟩ : Shape).Idx → EReal)
    (hQ : ∀ i, ∃ r : ℝ, Q i = r) (hK : ∀ i, ∃ r : ℝ, K i = r) (row : Fin 32768) (col : Fin 1024)
    (s₁ s₂ v₁ v₂ : Fin 8192 → EReal)
    (hs₁ : ∀ j : Fin 8192, s₁ j = rowScore Q K row ⟨col.val / 128, by omega⟩ ⟨j.val, by omega⟩)
    (hs₂ : ∀ j : Fin 8192, s₂ j = rowScore Q K row ⟨col.val / 128, by omega⟩ ⟨8192 + j.val, by omega⟩)
    (hv₁ : ∀ j : Fin 8192, v₁ j = V (ix2 (keyRow row ⟨j.val, by omega⟩) col))
    (hv₂ : ∀ j : Fin 8192, v₂ j = V (ix2 (keyRow row ⟨8192 + j.val, by omega⟩) col)) :
    Ideal.div (rowNum (rowMax ⊥ s₁) (rowNum ⊥ 0 s₁ v₁) s₂ v₂) (rowDen (rowMax ⊥ s₁) (rowDen ⊥ 0 s₁) s₂)
      = attn Q K V row col := by
  obtain ⟨s, hs⟩ := rowScore_real hQ hK row ⟨col.val / 128, by omega⟩
  refine (softmax_two_halves (n := 8192) (by omega) s (fun j => V (ix2 (keyRow row j) col)) s₁ s₂ v₁ v₂
    (funext fun j => (hs₁ j).trans (hs _)) (funext fun j => (hs₂ j).trans (hs _))
    (funext fun j => hv₁ j) (funext fun j => hv₂ j)).trans ?_
  rw [attn, rowTop]
  simp only [hs]

end Cert.Attention
-- ==== Proof.Flash.Block.lean ====
/-
  The attention kernel's block computations read at an index, over the extended reals.
-/
module

public import proofs.«01_k».proof.Proof.Flash.Math
public import proofs.«01_k».proof.Proof.Gen.KernelIdeal.Skeleton
public import Idealize.ShloMosaic.Lib.Pointwise

@[expose] public section

noncomputable section

open Idealize.ShloMosaic

namespace Cert.KernelIdeal.Flash

open Cert.KernelIdeal Cert.KernelIdeal.Gen Cert.Attention

variable (q : Vec Ideal S1024x256 .bf16) (k : Vec Ideal S8192x256 .bf16) (v : Vec Ideal S8192x128 .bf16)

/-- The score of query row `r` of a block against key row `j` of a block. -/
def score (r : Fin 1024) (j : Fin 8192) : EReal := ∑ d : Fin 256, q (ix2 r d) * k (ix2 j d)

theorem scores_apply (r : Fin 1024) (j : Fin 8192) : k0_pay7 (F := Ideal) q k (ix2 r j) = score q k r j := by
  unfold k0_pay7 score
  pointwise

/-- The row maximum of a block of scores. -/
theorem rowMaximum_apply (src : FVec Ideal S1024x8192 .f32) (j : S1024.Idx) :
    multiReduction .maximumf [1] S1024 src 0xFF800000#32 reduces_S1024x8192_S1024 (.inl rfl) rfl j
      = Finset.univ.fold max ⊥ fun i : Fin 8192 => src (ix2 (j 0) i) := by
  refine (Ideal.multiReduction_maximumf_single (a := 1) src 0xFF800000#32 reduces_S1024x8192_S1024 (.inl rfl) rfl j).trans ?_
  rw [show (FloatOps.ofBits (F := Ideal) .f32 0xFF800000#32) = (⊥ : EReal) from by simp [FloatOps.ofBits, Ideal.ofBits, Ideal.ieee]]
  have hl : ∀ i : Fin 8192, reduces_S1024x8192_S1024.lift j i = ix2 (j 0) i := fun i => by
    funext a
    match a with
    | ⟨0, _⟩ => rfl
    | ⟨1, _⟩ => rfl
  exact Finset.fold_congr fun i _ => congrArg src (hl i)

theorem max_apply (m : Vec Ideal S1024x1 .f32) (r : Fin 1024) :
    k0_pay8 (F := Ideal) q k m (ix2 r 0) = rowMax (m (ix2 r 0)) (score q k r) := by
  unfold k0_pay8 rowMax
  dsimp only
  have h := rowMaximum_apply (k0_pay7 (F := Ideal) q k)
  generalize multiReduction .maximumf [1] S1024 (k0_pay7 (F := Ideal) q k) 0xFF800000#32 reduces_S1024x8192_S1024 (.inl rfl) rfl = y at h ⊢
  pointwise
  simp only [h]
  rw [show (fun i => k0_pay7 (F := Ideal) q k (ix2 (ix1 r 0) i)) = score q k r from funext fun i => scores_apply q k r i]

theorem rescale_apply (m : Vec Ideal S1024x1 .f32) (r : Fin 1024) :
    k0_pay9 (F := Ideal) q k m (ix2 r 0) = Ideal.exp2 (m (ix2 r 0) - rowMax (m (ix2 r 0)) (score q k r)) := by
  unfold k0_pay9
  pointwise
  simp only [max_apply]
  rfl

theorem weight_apply (m : Vec Ideal S1024x1 .f32) (r : Fin 1024) (j : Fin 8192) :
    k0_pay10 (F := Ideal) q k m (ix2 r j) = Ideal.exp2 (score q k r j - rowMax (m (ix2 r 0)) (score q k r)) := by
  unfold k0_pay10
  pointwise
  simp only [max_apply, scores_apply]
  rfl

theorem den_apply (m l : Vec Ideal S1024x1 .f32) (r : Fin 1024) :
    k0_pay11 (F := Ideal) q k m l (ix2 r 0) = rowDen (m (ix2 r 0)) (l (ix2 r 0)) (score q k r) := by
  unfold k0_pay11 rowDen
  pointwise
  simp only [rescale_apply, weight_apply]

theorem num_apply (m : Vec Ideal S1024x1 .f32) (a : Vec Ideal S1024x128 .f32) (r : Fin 1024) (d : Fin 128) :
    k0_pay12 (F := Ideal) q k m a v (ix2 r d) = rowNum (m (ix2 r 0)) (a (ix2 r d)) (score q k r) (fun j => v (ix2 j d)) := by
  unfold k0_pay12 rowNum
  pointwise
  simp only [rescale_apply, weight_apply]

theorem quotient_apply (a : Vec Ideal S1024x128 .f32) (l : Vec Ideal S1024x1 .f32) (r : Fin 1024) (d : Fin 128) :
    k0_pay3 (F := Ideal) a l (ix2 r d) = Ideal.div (a (ix2 r d)) (l (ix2 r 0)) := by
  unfold k0_pay3
  pointwise

end Cert.KernelIdeal.Flash
-- ==== Proof.Flash.Pieces.lean ====
/-
  What one grid step of the attention kernel leaves in its buffers, as the body's own expressions of the blocks it
  reads: the running maximum, the running denominator and the running numerator after the first key half, and the
  output block after the second.
-/
module

public import proofs.«01_k».proof.Proof.Gen.KernelIdeal.Value
public import Idealize.ShloMosaic.Lib.Tactic

@[expose] public section

noncomputable section

open Idealize.ShloMosaic Idealize.ShloMosaic.TcCoe Idealize.SL.Sem

namespace Cert.KernelIdeal.Flash

open Cert.KernelIdeal Cert.KernelIdeal.Gen

variable {F : FTy → Type} [FloatOps F]

theorem hz : (![0, 0] : Fin 2 → Nat) = fun _ => 0 := funext fun a => by fin_cases a <;> rfl

section
variable (c : Dev nD) (i : grid0.Coords)
  (a4 : Memref sig .tc .vmem S1024x256 .bf16) (h4 : a4.IsWhole) (a5 : Memref sig .tc .vmem S8192x256 .bf16) (h5 : a5.IsWhole)
  (a6 : Memref sig .tc .vmem S8192x128 .bf16) (h6 : a6.IsWhole) (a7 : Memref sig .tc .vmem S1024x128 .bf16) (h7 : a7.IsWhole)
  (a8 : Memref sig .tc .vmem S1024x1 .f32) (h8 : a8.IsWhole) (a9 : Memref sig .tc .vmem S1024x1 .f32) (h9 : a9.IsWhole)
  (a10 : Memref sig .tc .vmem S1024x128 .f32) (h10 : a10.IsWhole)
  (q : Vec F S1024x256 .bf16) (k : Vec F S8192x256 .bf16) (v : Vec F S8192x128 .bf16)

/-- After the first key half the maximum buffer holds the maximum of minus infinity and the half's scores. -/
theorem max_first (hc0 : cond0_0 i) (hc1 : ¬cond0_1 i) :
    sout0_A_0 c i a4 h4 a5 h5 a6 h6 a7 h7 a8 h8 a9 h9 a10 h10 hc0 hc1 q k v = k0_pay8 q k (k0_pay4 (F := F)) := by
  unfold sout0_A_0
  rw [View.read_writes_eq_canon _ _ _ (scover0_A_0 c i a4 h4 a5 h5 a6 h6 a7 h7 a8 h8 a9 h9 a10 h10 hc0 hc1 q k v)]
  unfold kernelRun0_A
  dsimp only
  sl_unfold_words
  rw [View.canon_cons_unit_zero (S := S1024x1) hz, View.readCov_unit_zero (S := S1024x1) _ hz]
  unfold k0_pay2
  simp only [View.readAt_eq_ld, h4.read_unread, h5.read_unread, View.ld_unit_zero (S := S1024x256) hz,
    View.ld_unit_zero (S := S8192x256) hz, shapeCast_self]

/-- After the first key half the denominator buffer holds the half's sum of exponentials over the rescaled zero. -/
theorem den_first (hc0 : cond0_0 i) (hc1 : ¬cond0_1 i) :
    sout0_A_1 c i a4 h4 a5 h5 a6 h6 a7 h7 a8 h8 a9 h9 a10 h10 hc0 hc1 q k v
      = k0_pay11 q k (k0_pay4 (F := F)) (k0_pay5 (F := F)) := by
  unfold sout0_A_1
  rw [View.read_writes_eq_canon _ _ _ (scover0_A_1 c i a4 h4 a5 h5 a6 h6 a7 h7 a8 h8 a9 h9 a10 h10 hc0 hc1 q k v)]
  unfold kernelRun0_A
  dsimp only
  sl_unfold_words
  rw [View.canon_cons_unit_zero (S := S1024x1) hz]
  simp only [View.readCov_unit_zero (S := S1024x1) _ hz, View.readAt_eq_ld, h4.read_unread, h5.read_unread,
    View.ld_unit_zero (S := S1024x256) hz, View.ld_unit_zero (S := S8192x256) hz, shapeCast_self]

/-- After the first key half the numerator buffer holds the half's weighted values over the rescaled zero. -/
theorem num_first (hc0 : cond0_0 i) (hc1 : ¬cond0_1 i) :
    sout0_A_2 c i a4 h4 a5 h5 a6 h6 a7 h7 a8 h8 a9 h9 a10 h10 hc0 hc1 q k v
      = k0_pay12 q k (k0_pay4 (F := F)) (k0_pay6 (F := F)) v := by
  unfold sout0_A_2
  rw [View.read_writes_eq_canon _ _ _ (scover0_A_2 c i a4 h4 a5 h5 a6 h6 a7 h7 a8 h8 a9 h9 a10 h10 hc0 hc1 q k v)]
  unfold kernelRun0_A
  dsimp only
  sl_unfold_words
  rw [View.canon_cons_unit_zero (S := S1024x128) hz]
  unfold k0_pay1
  simp only [View.readCov_unit_zero (S := S1024x1) _ hz, View.readCov_unit_zero (S := S1024x128) _ hz,
    View.readAt_eq_ld, h4.read_unread, h5.read_unread, h6.read_unread,
    View.ld_unit_zero (S := S1024x256) hz, View.ld_unit_zero (S := S8192x256) hz, View.ld_unit_zero (S := S8192x128) hz,
    shapeCast_self]

/-- After the second key half the output block is the numerator over the denominator, both carried over from what
    the first half left (`mx`, `den`, `num`). -/
theorem out_second (hc0 : ¬cond0_0 i) (hc1 : cond0_1 i)
    (mx den : Vec F S1024x1 .f32) (num : Vec F S1024x128 .f32) :
    out0_B_3 c i a4 h4 a5 h5 a6 h6 a7 h7 a8 h8 a9 h9 a10 h10 hc0 hc1 q k v mx den num
      = k0_pay3 (k0_pay12 q k mx num v) (k0_pay11 q k mx den) := by
  unfold out0_B_3
  rw [View.read_writes_eq_canon _ _ _ (cover0_B_3 c i a4 h4 a5 h5 a6 h6 a7 h7 a8 h8 a9 h9 a10 h10 hc0 hc1 q k v mx den num)]
  unfold kernelRun0_B
  dsimp only
  sl_unfold_words
  rw [View.canon_unit_zero (S := S1024x128) hz]
  unfold k0_pay1
  simp only [View.readCov_unit_zero (S := S1024x1) _ hz, View.readCov_unit_zero (S := S1024x128) _ hz,
    View.readAt_eq_ld, h4.read_unread, h5.read_unread, h6.read_unread, h8.read_unread, h9.read_unread, h10.read_unread,
    View.ld_unit_zero (S := S1024x256) hz, View.ld_unit_zero (S := S8192x256) hz, View.ld_unit_zero (S := S8192x128) hz,
    View.ld_unit_zero (S := S1024x1) hz, View.ld_unit_zero (S := S1024x128) hz, shapeCast_self]

end

end Cert.KernelIdeal.Flash
-- ==== Proof.Flash.Array.lean ====
/-
  The attention kernel's result array: at every element the softmax attention of the queries, keys and values.
-/
module

public import proofs.«01_k».proof.Proof.Flash.Spec
public import proofs.«01_k».proof.Proof.Flash.Block
public import proofs.«01_k».proof.Proof.Flash.Pieces
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Attention

variable (m : (ℓ : Loc nD τ sig) → Buf (Elt Ideal) ℓ) (c : Dev nD)

/-- The queries, the keys and the values that a device's launch is given. -/
abbrev argQ : S32768x2048.Idx → EReal := m ((c : Thread nD τ).loc main_arg0)
abbrev argK : S32768x2048.Idx → EReal := m ((c : Thread nD τ).loc main_arg1)
abbrev argV : S32768x1024.Idx → EReal := m ((c : Thread nD τ).loc main_arg2)

/-- Which blocks a grid point stages: point `((b·8 + h)·16 + i)·2 + j` takes query tile `i`, key half `j` and head `h` of
    sequence `b`. -/
theorem blockIndex : ∀ t : Fin cfg0.N,
    win0_0.index t (0 : Fin 2) = t.val / 256 * 16 + t.val / 2 % 16 ∧ win0_0.index t (1 : Fin 2) = t.val / 32 % 8
    ∧ win0_1.index t (0 : Fin 2) = t.val / 256 * 2 + t.val % 2 ∧ win0_1.index t (1 : Fin 2) = t.val / 32 % 8
    ∧ win0_2.index t (0 : Fin 2) = t.val / 256 * 2 + t.val % 2 ∧ win0_2.index t (1 : Fin 2) = t.val / 32 % 8
    ∧ win0_3.index t (0 : Fin 2) = t.val / 256 * 16 + t.val / 2 % 16 ∧ win0_3.index t (1 : Fin 2) = t.val / 32 % 8 :=
  (by decide +kernel : ∀ t : Fin grid0.N, _)

theorem lt_points (t : Fin cfg0.N) : t.val < 512 := lt_of_lt_of_eq t.isLt (show cfg0.N = 512 from N_0)

/-- The array row of row `r` of the query tile of point `t`. -/
abbrev rowAt (t : Fin cfg0.N) (r : Fin 1024) : Fin 32768 :=
  ⟨(t.val / 256 * 16 + t.val / 2 % 16) * 1024 + r.val, by have := lt_points t; omega⟩

/-- The array column of column `d` of the head of point `t`. -/
abbrev colAt (t : Fin cfg0.N) (d : Fin 128) : Fin 1024 := ⟨t.val / 32 % 8 * 128 + d.val, by omega⟩

theorem queries_apply (t : Fin cfg0.N) (r : Fin 1024) (d : Fin 256) :
    iblk m c 0 t (ix2 r d) = argQ m c (ix2 (rowAt t r) (wideCol ⟨t.val / 32 % 8, by omega⟩ d)) := by
  obtain ⟨e0, e1, -⟩ := blockIndex t
  show V m c main_arg0 (((cfg0.win 0).blk t).view.emb (ix2 r d)) = _
  rw [V_main_arg0]
  congr 1
  funext a; apply Fin.ext
  match a with
  | ⟨0, _⟩ => show win0_0.index t (0 : Fin 2) * 1024 + 1 * r.val = (t.val / 256 * 16 + t.val / 2 % 16) * 1024 + r.val; rw [e0]; omega
  | ⟨1, _⟩ => show win0_0.index t (1 : Fin 2) * 256 + 1 * d.val = t.val / 32 % 8 * 256 + d.val; rw [e1]; omega

theorem keys_apply (t : Fin cfg0.N) (r : Fin 1024) (j : Fin 8192) (d : Fin 256) :
    iblk m c 1 t (ix2 j d) = argK m c (ix2 (keyRow (rowAt t r) ⟨t.val % 2 * 8192 + j.val, by omega⟩)
      (wideCol ⟨t.val / 32 % 8, by omega⟩ d)) := by
  obtain ⟨-, -, e0, e1, -⟩ := blockIndex t
  show V m c main_arg1 (((cfg0.win 1).blk t).view.emb (ix2 j d)) = _
  rw [V_main_arg1]
  congr 1
  funext a; apply Fin.ext
  have := lt_points t
  match a with
  | ⟨0, _⟩ =>
    show win0_1.index t (0 : Fin 2) * 8192 + 1 * j.val
      = ((t.val / 256 * 16 + t.val / 2 % 16) * 1024 + r.val) / 16384 * 16384 + (t.val % 2 * 8192 + j.val)
    rw [e0]; omega
  | ⟨1, _⟩ => show win0_1.index t (1 : Fin 2) * 256 + 1 * d.val = t.val / 32 % 8 * 256 + d.val; rw [e1]; omega

theorem values_apply (t : Fin cfg0.N) (r : Fin 1024) (j : Fin 8192) (d : Fin 128) :
    iblk m c 2 t (ix2 j d) = argV m c (ix2 (keyRow (rowAt t r) ⟨t.val % 2 * 8192 + j.val, by omega⟩) (colAt t d)) := by
  obtain ⟨-, -, -, -, e0, e1, -⟩ := blockIndex t
  show V m c main_arg2 (((cfg0.win 2).blk t).view.emb (ix2 j d)) = _
  rw [V_main_arg2]
  congr 1
  funext a; apply Fin.ext
  have := lt_points t
  match a with
  | ⟨0, _⟩ =>
    show win0_2.index t (0 : Fin 2) * 8192 + 1 * j.val
      = ((t.val / 256 * 16 + t.val / 2 % 16) * 1024 + r.val) / 16384 * 16384 + (t.val % 2 * 8192 + j.val)
    rw [e0]; omega
  | ⟨1, _⟩ => show win0_2.index t (1 : Fin 2) * 128 + 1 * d.val = t.val / 32 % 8 * 128 + d.val; rw [e1]; omega

/-- A point's block scores are scores of the whole arrays. -/
theorem score_apply (t : Fin cfg0.N) (r : Fin 1024) (j : Fin 8192) :
    score (iblk m c 0 t) (iblk m c 1 t) r j
      = rowScore (argQ m c) (argK m c) (rowAt t r) ⟨t.val / 32 % 8, by omega⟩ ⟨t.val % 2 * 8192 + j.val, by omega⟩ := by
  unfold score rowScore
  exact Finset.sum_congr rfl fun d _ => congrArg₂ (· * ·) (queries_apply m c t r d) (keys_apply m c t r j d)

theorem minusInf_apply (i : S1024x1.Idx) : k0_pay4 (F := Ideal) i = (⊥ : EReal) := by
  unfold k0_pay4
  rw [shapeCast_self]
  show (FloatOps.ofBits (F := Ideal) .f32 0xFF800000#32) = (⊥ : EReal)
  simp [FloatOps.ofBits, Ideal.ofBits, Ideal.ieee]

theorem zeroCol_apply (i : S1024x1.Idx) : k0_pay5 (F := Ideal) i = (0 : EReal) := by
  unfold k0_pay5
  rw [shapeCast_self]
  show (FloatOps.ofBits (F := Ideal) .f32 0x00000000#32) = (0 : EReal)
  simp [FloatOps.ofBits, Ideal.ofBits, Ideal.ieee]

theorem zeroBlock_apply (i : S1024x128.Idx) : k0_pay6 (F := Ideal) i = (0 : EReal) := by
  unfold k0_pay6
  rw [shapeCast_self]
  show (FloatOps.ofBits (F := Ideal) .f32 0x00000000#32) = (0 : EReal)
  simp [FloatOps.ofBits, Ideal.ofBits, Ideal.ieee]

variable (hQ : ∀ i, ∃ r : ℝ, argQ m c i = r) (hK : ∀ i, ∃ r : ℝ, argK m c i = r)

include hQ hK in
/-- What a point with the second key half leaves in the output block is the attention output of the block's rows. -/
theorem block_value (t : Fin cfg0.N) (ht : t.val % 2 = 1) (r : Fin 1024) (d : Fin 128) :
    (outsAt0 m c t.val t.isLt).1 (ix2 r d) = attn (argQ m c) (argK m c) (argV m c) (rowAt t r) (colAt t d) := by
  have hlt := lt_points t
  rw [outsAt0_B m c t (by omega) ht]
  dsimp only
  obtain ⟨p, hp⟩ : ∃ p : Fin cfg0.N, p.val = t.val - 1 := ⟨⟨t.val - 1, by have := t.isLt; omega⟩, rfl⟩
  have hprev := outsAt0_A m c p (by omega) (by omega)
  have hpt : outsAt0 m c (t.val - 1) (Nat.lt_of_le_of_lt (Nat.sub_le _ _) t.isLt) = outsAt0 m c p.val p.isLt := by
    congr 1; exact hp.symm
  rw [hpt, hprev]
  dsimp only
  rw [out_second, max_first, den_first, num_first, quotient_apply, num_apply, den_apply, max_apply, den_apply, num_apply,
    minusInf_apply, zeroCol_apply, zeroBlock_apply]
  have hrow : rowAt p r = rowAt t r := Fin.ext (by show (p.val / 256 * 16 + p.val / 2 % 16) * 1024 + r.val = (t.val / 256 * 16 + t.val / 2 % 16) * 1024 + r.val; omega)
  have hcol : colAt p d = colAt t d := Fin.ext (by show p.val / 32 % 8 * 128 + d.val = t.val / 32 % 8 * 128 + d.val; omega)
  have hh : (⟨(colAt t d).val / 128, by omega⟩ : Fin 8) = ⟨t.val / 32 % 8, by omega⟩ := Fin.ext (by
    show (t.val / 32 % 8 * 128 + d.val) / 128 = t.val / 32 % 8; omega)
  have hh' : (⟨p.val / 32 % 8, by omega⟩ : Fin 8) = ⟨t.val / 32 % 8, by omega⟩ := Fin.ext (by
    show p.val / 32 % 8 = t.val / 32 % 8; omega)
  refine attn_eq_halves (argV m c) hQ hK (rowAt t r) (colAt t d) _ _ _ _ (fun j => ?_) (fun j => ?_) (fun j => ?_) (fun j => ?_)
  · rw [score_apply, hrow, hh, hh']; congr 1; exact Fin.ext (by show p.val % 2 * 8192 + j.val = j.val; omega)
  · rw [score_apply, hh]; congr 1; exact Fin.ext (by show t.val % 2 * 8192 + j.val = 8192 + j.val; omega)
  · rw [values_apply m c p r j d, hrow, hcol]; congr 3; exact Fin.ext (by show p.val % 2 * 8192 + j.val = j.val; omega)
  · rw [values_apply m c t r j d]; congr 3; exact Fin.ext (by show t.val % 2 * 8192 + j.val = 8192 + j.val; omega)

/-- The attention output as an array. -/
def attnArray : Buf (Elt Ideal) ((c : Thread nD τ).loc main_v0) :=
  fun i : S32768x1024.Idx => attn (argQ m c) (argK m c) (argV m c) (i 0) (i 1)

include hQ hK in
/-- THE RESULT ARRAY after the run is the attention output of the arguments. -/
theorem result_eq : (dats m 0 c).arrAt 3 cfg0.N = attnArray m c := by
  refine (dats m 0 c).arrAt_eq_of_cover 3 (attnArray m c) (fun t hf => ?_) (fun i => ?_)
  · have ht := (flush0_3 t).mp hf
    rw [Value.flushed3]
    obtain ⟨-, -, -, -, -, -, e0, e1⟩ := blockIndex t
    funext y
    have hy : y = ix2 (n0 := 1024) (n1 := 128) (y 0) (y 1) := eq_ix2 (n0 := 1024) (n1 := 128) y
    have he : ((cfg0.win 3).blk t).view.emb y = ix2 (n0 := 32768) (n1 := 1024) (rowAt t (y 0)) (colAt t (y 1)) := by
      funext a; apply Fin.ext
      match a with
      | ⟨0, _⟩ => show win0_3.index t (0 : Fin 2) * 1024 + 1 * (y 0).val = (t.val / 256 * 16 + t.val / 2 % 16) * 1024 + (y 0).val; rw [e0]; omega
      | ⟨1, _⟩ => show win0_3.index t (1 : Fin 2) * 128 + 1 * (y 1).val = t.val / 32 % 8 * 128 + (y 1).val; rw [e1]; omega
    have hb := block_value m c hQ hK t ht (y 0) (y 1)
    have hcut : ∀ f : S1024x128.Idx → Elt Idealize.ShloMosaic.Ideal .bf16, (cfg0.win 3).cut (grid0.coords t) f y = f y := fun _ => rfl
    have hread : ∀ f : S32768x1024.Idx → Elt Idealize.ShloMosaic.Ideal .bf16,
        View.read (Elt Idealize.ShloMosaic.Ideal) ((cfg0.win 3).blk t).view f y = f (((cfg0.win 3).blk t).view.emb y) := fun _ => rfl
    refine (hcut _).trans (((congrArg _ hy).trans hb).trans (Eq.symm ((hread (attnArray m c)).trans ?_)))
    rw [he]
    rfl
  · have h0 : (i 0 : Nat) < 32768 := (i 0).isLt
    have h1 : (i 1 : Nat) < 1024 := (i 1).isLt
    have hN : cfg0.N = 512 := N_0
    let t : Fin cfg0.N := ⟨(((i 0 : Nat) / 16384 * 8 + (i 1 : Nat) / 128) * 16 + (i 0 : Nat) / 1024 % 16) * 2 + 1, by omega⟩
    have ht : t.val = (((i 0 : Nat) / 16384 * 8 + (i 1 : Nat) / 128) * 16 + (i 0 : Nat) / 1024 % 16) * 2 + 1 := rfl
    obtain ⟨-, -, -, -, -, -, e0, e1⟩ := blockIndex t
    refine ⟨t, (flush0_3 t).mpr (by omega), ?_⟩
    show i ∈ ((View.whole main_v0).slice (win0_3.rect t)).set
    rw [View.set_slice_whole, Rect.mem_set_unit]
    intro a
    match a with
    | ⟨0, _⟩ =>
      show win0_3.index t (0 : Fin 2) * 1024 ≤ (i 0 : Nat) ∧ (i 0 : Nat) < win0_3.index t (0 : Fin 2) * 1024 + 1024
      rw [e0]; omega
    | ⟨1, _⟩ =>
      show win0_3.index t (1 : Fin 2) * 128 ≤ (i 1 : Nat) ∧ (i 1 : Nat) < win0_3.index t (1 : Fin 2) * 128 + 128
      rw [e1]; omega

end Cert.KernelIdeal.Flash
-- ==== Proof.Flash.Ref.lean ====
/-
  The reference's result array: at every element the softmax attention of the queries, keys and values.
-/
module

public import proofs.«01_k».proof.Proof.Flash.Spec
public import proofs.«01_k».proof.Proof.Gen.ReferenceIdeal.Read
public import proofs.«01_k».proof.Proof.Gen.ReferenceIdeal.Run

@[expose] public section

noncomputable section

open Idealize.ShloMosaic

namespace Cert.ReferenceIdeal.Attn

open Cert.ReferenceIdeal Cert.ReferenceIdeal.Gen Cert.ReferenceIdeal.Read Cert.Attention

variable (Q K : (⟨S32768x2048, .bf16⟩ : BufTy).Contents (Elt Ideal)) (V : (⟨S32768x1024, .bf16⟩ : BufTy).Contents (Elt Ideal))

/-- The array row of position `x` of sequence `b`. -/
abbrev seqRow (b : Fin 2) (x : Fin 16384) : Fin 32768 := ⟨b.val * 16384 + x.val, by omega⟩

theorem q_apply (b : Fin 2) (x : Fin 16384) (h : Fin 8) (d : Fin 256) :
    val_main_v1 (F := Ideal) Q (ix4 b x h d) = Q (ix2 (seqRow b x) (wideCol h d)) := by
  rw [val_main_v1_apply, val_main_v0_apply]
  show Q _ = _
  congr 1
  funext a; apply Fin.ext
  match a with
  | ⟨0, _⟩ => show (((b.val * 16384 + x.val) * 8 + h.val) * 256 + d.val) / 2048 = b.val * 16384 + x.val; omega
  | ⟨1, _⟩ => show (((b.val * 16384 + x.val) * 8 + h.val) * 256 + d.val) % 2048 = h.val * 256 + d.val; omega

theorem k_apply (b : Fin 2) (x : Fin 16384) (h : Fin 8) (d : Fin 256) :
    val_main_v3 (F := Ideal) K (ix4 b x h d) = K (ix2 (seqRow b x) (wideCol h d)) := by
  rw [val_main_v3_apply, val_main_v2_apply]
  show K _ = _
  congr 1
  funext a; apply Fin.ext
  match a with
  | ⟨0, _⟩ => show (((b.val * 16384 + x.val) * 8 + h.val) * 256 + d.val) / 2048 = b.val * 16384 + x.val; omega
  | ⟨1, _⟩ => show (((b.val * 16384 + x.val) * 8 + h.val) * 256 + d.val) % 2048 = h.val * 256 + d.val; omega

theorem v_apply (b : Fin 2) (x : Fin 16384) (h : Fin 8) (d : Fin 128) :
    val_main_v5 (F := Ideal) V (ix4 b x h d) = V (ix2 (seqRow b x) ⟨h.val * 128 + d.val, by omega⟩) := by
  rw [val_main_v5_apply, val_main_v4_apply]
  show V _ = _
  congr 1
  funext a; apply Fin.ext
  match a with
  | ⟨0, _⟩ => show (((b.val * 16384 + x.val) * 8 + h.val) * 128 + d.val) / 1024 = b.val * 16384 + x.val; omega
  | ⟨1, _⟩ => show (((b.val * 16384 + x.val) * 8 + h.val) * 128 + d.val) % 1024 = h.val * 128 + d.val; omega

theorem keyRow_seqRow (b : Fin 2) (x j : Fin 16384) : keyRow (seqRow b x) j = seqRow b j :=
  Fin.ext (by show (b.val * 16384 + x.val) / 16384 * 16384 + j.val = b.val * 16384 + j.val; omega)

/-- The reference's scores. -/
theorem score_apply (b : Fin 2) (h : Fin 8) (x j : Fin 16384) :
    val_main_v6 (F := Ideal) Q K (ix4 b h x j) = rowScore Q K (seqRow b x) h j := by
  rw [val_main_v6_apply, rowScore]
  refine Finset.sum_congr rfl fun d _ => ?_
  rw [keyRow_seqRow]
  exact congrArg₂ (· * ·) ((congrArg _ (eq_ix4 _)).trans (q_apply Q b x h d)) ((congrArg _ (eq_ix4 _)).trans (k_apply K b j h d))

/-- The maximum along the keys of an array of scores. -/
theorem reduceMax_apply (y : FVec Ideal S2x8x16384x16384 .f32) (i : S2x8x16384.Idx) :
    Host.reduce FloatOps.maximumf y (val_main_cst_0 (F := Ideal)) reducesTo_S2x8x16384x16384_S2x8x16384_d3 h_S_ i
      = Finset.univ.fold max ⊥ fun j : Fin 16384 => y (ix4 (i 0) (i 1) (i 2) j) := by
  have hr : S2x8x16384x16384.Reduces [3] S2x8x16384 := by decide
  refine (Host.reduce_eq_fold_single (a := 3) FloatOps.maximumf y (val_main_cst_0 (F := Ideal))
    reducesTo_S2x8x16384x16384_S2x8x16384_d3 hr h_S_ i).trans ?_
  rw [val_main_cst_0_apply,
    show (FloatOps.ofBits (F := Ideal) .f32 0xFF800000#32) = (⊥ : EReal) from by simp [FloatOps.ofBits, Ideal.ofBits, Ideal.ieee]]
  have hl : ∀ j : Fin 16384, hr.lift i j = ix4 (i 0) (i 1) (i 2) j := fun j => by
    funext a
    match a with
    | ⟨0, _⟩ => rfl
    | ⟨1, _⟩ => rfl
    | ⟨2, _⟩ => rfl
    | ⟨3, _⟩ => rfl
  exact Finset.fold_congr fun j _ => congrArg y (hl j)

theorem top_apply (b : Fin 2) (h : Fin 8) (x : Fin 16384) :
    val_main_v8 (F := Ideal) Q K (ix3 b h x) = rowTop Q K (seqRow b x) h := by
  unfold val_main_v8 rowTop
  rw [reduceMax_apply]
  exact Finset.fold_congr fun j _ => score_apply Q K b h x j

theorem pow_two (x : EReal) : Ideal.pow ((2 : ℝ) : EReal) x = Ideal.exp2 x := by
  induction x using EReal.rec with
  | bot => simp [Ideal.pow_coe_bot]
  | top => simp [Ideal.pow_coe_top]
  | coe r => rw [Ideal.pow_coe_coe, Ideal.exp2_coe]

theorem two_apply (i : S2x8x16384x16384.Idx) : val_main_v7 (F := Ideal) i = ((2 : ℝ) : EReal) := by
  rw [val_main_v7_apply, val_main_cst_apply]
  simp only [FloatOps.ofBits, Ideal.ofBits, Ideal.ieee]
  simp
  norm_cast
  norm_num

/-- The reference's exponentials. -/
theorem weight_apply (b : Fin 2) (h : Fin 8) (x j : Fin 16384) :
    val_main_v12 (F := Ideal) Q K (ix4 b h x j)
      = Ideal.exp2 (rowScore Q K (seqRow b x) h j - rowTop Q K (seqRow b x) h) := by
  rw [val_main_v12_apply, two_apply, val_main_v11_apply, score_apply, val_main_v10_apply, val_main_v9_apply,
    ← top_apply, ← pow_two]
  exact congrArg (fun i => Ideal.pow ((2 : ℝ) : EReal) (rowScore Q K (seqRow b x) h j - val_main_v8 (F := Ideal) Q K i)) (eq_ix3 _)

theorem total_apply (b : Fin 2) (h : Fin 8) (x : Fin 16384) :
    val_main_v13 (F := Ideal) Q K (ix3 b h x)
      = ∑ j, Ideal.exp2 (rowScore Q K (seqRow b x) h j - rowTop Q K (seqRow b x) h) := by
  rw [val_main_v13_apply, val_main_cst_1_apply,
    show (FloatOps.ofBits (F := Ideal) .f32 0x00000000#32) = (0 : EReal) from by simp [FloatOps.ofBits, Ideal.ofBits, Ideal.ieee],
    zero_add]
  exact Finset.sum_congr rfl fun j _ => (congrArg _ (eq_ix4 _)).trans (weight_apply Q K b h x j)

/-- The reference's attention probabilities. -/
theorem prob_apply (b : Fin 2) (h : Fin 8) (x j : Fin 16384) :
    val_main_v16 (F := Ideal) Q K (ix4 b h x j)
      = Ideal.div (Ideal.exp2 (rowScore Q K (seqRow b x) h j - rowTop Q K (seqRow b x) h))
          (∑ j, Ideal.exp2 (rowScore Q K (seqRow b x) h j - rowTop Q K (seqRow b x) h)) := by
  rw [val_main_v16_apply, weight_apply, val_main_v15_apply, val_main_v14_apply, ← total_apply]
  exact congrArg (fun i => Ideal.div _ (val_main_v13 (F := Ideal) Q K i)) (eq_ix3 _)

theorem out_apply (b : Fin 2) (h : Fin 8) (d : Fin 128) (x : Fin 16384) :
    val_main_v17 (F := Ideal) Q K V (ix4 b h d x) = attn Q K V (seqRow b x) ⟨h.val * 128 + d.val, by omega⟩ := by
  have hh : (⟨(h.val * 128 + d.val) / 128, by omega⟩ : Fin 8) = h := Fin.ext (by show (h.val * 128 + d.val) / 128 = h.val; omega)
  rw [val_main_v17_apply, attn]
  simp only [hh]
  refine Finset.sum_congr rfl fun j _ => ?_
  rw [keyRow_seqRow]
  exact congrArg₂ (· * ·) ((congrArg _ (eq_ix4 _)).trans (v_apply V b j h d)) ((congrArg _ (eq_ix4 _)).trans (prob_apply Q K b h x j))

theorem idx_result (i : S32768x1024.Idx) (h0 : (i 0).val < 32768) (h1 : (i 1).val < 1024) :
    idx_main_v18 (idx_main_v19 i)
      = ix4 (n0 := 2) (n1 := 8) (n2 := 128) (n3 := 16384) ⟨(i 0).val / 16384, by omega⟩ ⟨(i 1).val / 128, by omega⟩
          ⟨(i 1).val % 128, by omega⟩ ⟨(i 0).val % 16384, by omega⟩ := by
  funext a; apply Fin.ext
  match a with
  | ⟨0, _⟩ => show ((i 0).val * 1024 + (i 1).val) / 16777216 = (i 0).val / 16384; omega
  | ⟨1, _⟩ => show ((i 0).val * 1024 + (i 1).val) / 128 % 8 = (i 1).val / 128; omega
  | ⟨2, _⟩ => show ((i 0).val * 1024 + (i 1).val) % 128 = (i 1).val % 128; omega
  | ⟨3, _⟩ => show ((i 0).val * 1024 + (i 1).val) / 1024 % 16384 = (i 0).val % 16384; omega

/-- THE REFERENCE'S RESULT at an element is the attention output there. -/
theorem result_apply (i : S32768x1024.Idx) : val_main_v20 (F := Ideal) Q K V i = attn Q K V (i 0) (i 1) := by
  have h0 : (i 0).val < 32768 := (i 0).isLt
  have h1 : (i 1).val < 1024 := (i 1).isLt
  have e0 : seqRow ⟨(i 0).val / 16384, by omega⟩ ⟨(i 0).val % 16384, by omega⟩ = i 0 :=
    Fin.ext (by show (i 0).val / 16384 * 16384 + (i 0).val % 16384 = (i 0).val; omega)
  have e1 : (⟨(i 1).val / 128 * 128 + (i 1).val % 128, by omega⟩ : Fin 1024) = i 1 :=
    Fin.ext (by show (i 1).val / 128 * 128 + (i 1).val % 128 = (i 1).val; omega)
  have ho := out_apply Q K V ⟨(i 0).val / 16384, by omega⟩ ⟨(i 1).val / 128, by omega⟩ ⟨(i 1).val % 128, by omega⟩
    ⟨(i 0).val % 16384, by omega⟩
  rw [e0] at ho
  rw [val_main_v20_apply, val_main_v19_apply, val_main_v18_apply, idx_result i h0 h1]
  refine Eq.trans ?_ (ho.trans (congrArg (attn Q K V (i 0)) e1))
  generalize val_main_v17 (F := Ideal) Q K V _ = y
  rfl

end Cert.ReferenceIdeal.Attn
-- ==== Proof.Flash.Finite.lean ====
/-
  What the precondition of the attention claim says of the arguments: every query and every key is a real number.
-/
module

public import proofs.«01_k».proof.Pre_finite_queries_and_keys
public import Idealize.ShloMosaic.PureOps.Ideal
public import Idealize.ShloMosaic.Lib.ReduceAll
public import Idealize.ShloMosaic.Lib.Affine

@[expose] public section

noncomputable section

open Idealize.ShloMosaic

namespace Cert.Pre_finite_queries_and_keys

/-- The side conditions that the precondition's operations state. -/
instance facts : Facts where
  bitsLt_bf16_f32 := by decide
  bcast_S_S32768x2048 := by decide
  reducesTo_S32768x2048_S_d0_1 := by decide
  h_S_ := by decide

/-- A number whose absolute value is below infinity is real. -/
theorem real_of_abs_lt (x : EReal) (h : Ideal.cmp .olt (max x (-x)) (FloatOps.ofBits (F := Ideal) .f32 0x7F800000#32) = 1#1) :
    ∃ r : ℝ, x = r := by
  have hinf : FloatOps.ofBits (F := Ideal) .f32 0x7F800000#32 = (⊤ : EReal) := by simp [FloatOps.ofBits, Ideal.ofBits, Ideal.ieee]
  rw [hinf] at h
  induction x using EReal.rec with
  | bot => simp [Ideal.cmp] at h
  | top => simp [Ideal.cmp] at h
  | coe r => exact ⟨r, rfl⟩

instance : Subsingleton S_.Idx := ⟨fun a b => funext fun d => d.elim0⟩

/-- Under the precondition every query and every key is real. -/
theorem finite_of_fn (Q K : FVec Ideal S32768x2048 .bf16) (V : FVec Ideal S32768x1024 .bf16)
    (h : fn (F := Ideal) Q K V = constantI S_ 1 1#1) : (∀ i, ∃ r : ℝ, Q i = (r : EReal)) ∧ ∀ i, ∃ r : ℝ, K i = (r : EReal) := by
  have h1 := IntOp.andi_eq_one.1 (congrFun h (Shape.Idx.first facts.h_S_))
  exact ⟨fun i => real_of_abs_lt (Q i) (Host.reduce_andi_all _ _ _ _ _ h1.1 i),
    fun i => real_of_abs_lt (K i) (Host.reduce_andi_all _ _ _ _ _ h1.2 i)⟩

end Cert.Pre_finite_queries_and_keys
-- ==== Proof.Flash.Claims.lean ====
/-
  The claims about the attention call.
-/
module

public import proofs.«01_k».proof.Defs
public import proofs.«01_k».proof.Proof.Gen.Kernel.Frame
public import proofs.«01_k».proof.Proof.Gen.KernelIdeal.Value
public import proofs.«01_k».proof.Proof.Flash.Array
public import proofs.«01_k».proof.Proof.Flash.Ref
public import proofs.«01_k».proof.Proof.Flash.Finite
public import Idealize.ShloMosaic.Adequacy
public import Idealize.ShloMosaic.Init

@[expose] public section

noncomputable section

open Idealize.ShloMosaic Idealize.SL.Sem

namespace Cert.Proof.FlashClaims

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite_queries_and_keys := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite_queries_and_keys := fun m ρ _ => frame_ri m ρ trivial

theorem preserves : Cert.preserves_Kernel_KernelIdeal := trivial

/-- THE VALUE CLAIM: with finite queries and keys, kernel and reference end with equal attention outputs. -/
theorem algebraic : Cert.algebraic_KernelIdeal_ReferenceIdeal_pre_finite_queries_and_keys := by
  intro m ρ m' ρ' hpre hagree
  refine ⟨fun c => Cert.KernelIdeal.Flash.attnArray m c, ?_, ?_⟩
  · refine (θ_run Cert.KernelIdeal.defs _ _).mono (fun _ h c => ?_) (Cert.KernelIdeal.Value.run_blocks (F := Ideal) m ρ)
    obtain ⟨hQ, hK⟩ := Cert.Pre_finite_queries_and_keys.finite_of_fn _ _ _ (hpre c)
    exact ⟨(h c).1.trans (Cert.KernelIdeal.Flash.result_eq m c hQ hK), (h c).2⟩
  · refine (θ_run Cert.ReferenceIdeal.defs _ _).mono (fun _ h c => ?_) (Cert.ReferenceIdeal.Value.run (F := Ideal) m' ρ')
    refine ⟨(h c).1.trans ?_, (h c).2⟩
    rw [(hagree c).1, (hagree c).2.1, (hagree c).2.2]
    refine (Cert.ReferenceIdeal.Read.val_main_v20_eq (F := Ideal) _ _ _).trans ?_
    funext i
    exact Cert.ReferenceIdeal.Attn.result_apply _ _ _ i

end Cert.Proof.FlashClaims
-- ==== Proof.InProj.Block.lean ====
/-
  The input projection's block of 512 rows, read at an index: each of the nine column tiles is a matrix product.
-/
module

public import proofs.«01_k».proof.Proof.Gen.Kernel2Ideal.Value
public import Idealize.ShloMosaic.Lib.Pointwise
public import Idealize.ShloMosaic.Lib.Pipeline.ValueKit.Tiles

@[expose] public section

noncomputable section

open Idealize.ShloMosaic

namespace Cert.Kernel2Ideal.InProj

open Cert.Kernel2Ideal Cert.Kernel2Ideal.Gen

/-- A column tile's product at a row and a column of the tile. -/
theorem product_apply (x : Vec Ideal S512x2048 .bf16) (w : Vec Ideal S2048x512 .bf16) (r c : Fin 512) :
    k0_pay4 (F := Ideal) x w (ix2 r c) = ∑ k : Fin 2048, x (ix2 r k) * w (ix2 k c) := by
  unfold k0_pay4
  pointwise

/-- The tile of columns from `o` on, computed from those columns of the weights, holds the full product there. -/
theorem tile_apply (x : Vec Ideal S512x2048 .bf16) (w : Vec Ideal S2048x4608 .bf16) (y : S512x4608.Idx) (o : Nat)
    (inb : ∀ a, (![0, o] : Fin 2 → Nat) a + S2048x512.size a ≤ S2048x4608.size a) :
    View.TileAt (Val := Elt Ideal) (S := S512x4608) (e := .f32) y ![0, o] S512x512.size
      (k0_pay4 (F := Ideal) (View.ld x r0_0) (View.ld w (Rect.unit ![0, o] S2048x512.size inb)))
      (∑ k : Fin 2048, x (ix2 (y 0) k) * w (ix2 k (y 1))) := by
  intro z hz
  have hz0 : (y 0 : Nat) = 0 + z 0 := hz 0
  have hz1 : (y 1 : Nat) = o + z 1 := hz 1
  rw [show z = ix2 (n0 := 512) (n1 := 512) (z 0) (z 1) from eq_ix2 (n0 := 512) (n1 := 512) z]
  refine (product_apply _ _ (z 0) (z 1)).trans ?_
  refine Finset.sum_congr rfl fun k _ => congrArg₂ (· * ·) ?_ ?_
  · show x _ = x _
    congr 1
    funext a; apply Fin.ext
    match a with
    | ⟨0, _⟩ => show 0 + 1 * (z 0 : Nat) = (y 0 : Nat); omega
    | ⟨1, _⟩ => show 0 + 1 * (k : Nat) = (k : Nat); omega
  · show w _ = w _
    congr 1
    funext a; apply Fin.ext
    match a with
    | ⟨0, _⟩ => show 0 + 1 * (k : Nat) = (k : Nat); omega
    | ⟨1, _⟩ => show o + 1 * (z 1 : Nat) = (y 1 : Nat); omega

/-- The whole block: every element is the full sum of products of its row of the input with its column of the weights. -/
theorem block_apply (x : Vec Ideal S512x2048 .bf16) (w : Vec Ideal S2048x4608 .bf16) (y : S512x4608.Idx) :
    out0_2 (F := Ideal) x w y = ∑ k : Fin 2048, x (ix2 (y 0) k) * w (ix2 k (y 1)) := by
  unfold out0_2
  refine View.canon_eq_of_allAt _ y _ (cover0_2 _ _ _ _ _ _ _ _ _ y) ?_
  repeat' first
    | exact View.allAt_nil y _
    | refine View.allAt_cons_unit _ _ _ _ _ (tile_apply x w y _ _) ?_

end Cert.Kernel2Ideal.InProj
-- ==== Proof.InProj.Array.lean ====
/-
  The input projection's result array: the matrix product of its two arguments.
-/
module

public import proofs.«01_k».proof.Proof.InProj.Block
public import Idealize.ShloMosaic.Lib.Pipeline.Value

@[expose] public section

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

variable (m : (ℓ : Loc nD τ sig) → Buf (Elt Ideal) ℓ) (c : Dev nD)

/-- The rows and the weights that a device's launch is given. -/
abbrev argX : S32768x2048.Idx → EReal := m ((c : Thread nD τ).loc main_arg0)
abbrev argW : S2048x4608.Idx → EReal := m ((c : Thread nD τ).loc main_arg1)

/-- Point `t` stages the rows of tile `t` and all weights, and writes the rows of tile `t`. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushes : ∀ t : Fin cfg0.N, (cfg0.win 2).flush t = true := flush0_2

theorem lt_points (t : Fin cfg0.N) : t.val < 64 := lt_of_lt_of_eq t.isLt (show cfg0.N = 64 from N_0)

/-- The array row of row `r` of tile `t`. -/
abbrev rowAt (t : Fin cfg0.N) (r : Fin 512) : Fin 32768 := ⟨t.val * 512 + r.val, by have := lt_points t; omega⟩

theorem rows_apply (t : Fin cfg0.N) (r : Fin 512) (k : Fin 2048) :
    iblk m c 0 t (ix2 r k) = argX m c (ix2 (rowAt t r) k) := by
  obtain ⟨e0, e1, -⟩ := blockIndex t
  show V m c main_arg0 (((cfg0.win 0).blk t).view.emb (ix2 r k)) = _
  rw [V_main_arg0]
  congr 1
  funext a; apply Fin.ext
  match a with
  | ⟨0, _⟩ => show win0_0.index t (0 : Fin 2) * 512 + 1 * r.val = t.val * 512 + r.val; rw [e0]; omega
  | ⟨1, _⟩ => show win0_0.index t (1 : Fin 2) * 2048 + 1 * k.val = k.val; rw [e1]; omega

theorem weights_apply (t : Fin cfg0.N) (k : Fin 2048) (d : Fin 4608) :
    iblk m c 1 t (ix2 k d) = argW m c (ix2 k d) := by
  obtain ⟨-, -, e0, e1, -⟩ := blockIndex t
  show V m c main_arg1 (((cfg0.win 1).blk t).view.emb (ix2 k d)) = _
  rw [V_main_arg1]
  congr 1
  funext a; apply Fin.ext
  match a with
  | ⟨0, _⟩ => show win0_1.index t (0 : Fin 2) * 2048 + 1 * k.val = k.val; rw [e0]; omega
  | ⟨1, _⟩ => show win0_1.index t (1 : Fin 2) * 4608 + 1 * d.val = d.val; rw [e1]; omega

/-- The product of the rows and the weights, as an array. -/
def product (X : S32768x2048.Idx → EReal) (W : S2048x4608.Idx → EReal) : S32768x4608.Idx → EReal :=
  fun i => ∑ k : Fin 2048, X (ix2 (i 0) k) * W (ix2 k (i 1))

def resultArray : Buf (Elt Ideal) ((c : Thread nD τ).loc main_v0) := product (argX m c) (argW m c)

/-- THE RESULT ARRAY after the run is the product of the arguments. -/
theorem result_eq : (dats m 0 c).arrAt 2 cfg0.N = resultArray m c := by
  refine (dats m 0 c).arrAt_eq_of_cover 2 (resultArray m c) (fun t hf => ?_) (fun i => ?_)
  · rw [Value.flushed2]
    obtain ⟨-, -, -, -, e0, e1⟩ := blockIndex t
    funext y
    have he : ((cfg0.win 2).blk t).view.emb y = ix2 (n0 := 32768) (n1 := 4608) (rowAt t (y 0)) (y 1) := by
      funext a; apply Fin.ext
      match a with
      | ⟨0, _⟩ => show win0_2.index t (0 : Fin 2) * 512 + 1 * (y 0).val = t.val * 512 + (y 0).val; rw [e0]; omega
      | ⟨1, _⟩ => show win0_2.index t (1 : Fin 2) * 4608 + 1 * (y 1).val = (y 1).val; rw [e1]; omega
    have hb := block_apply (iblk m c 0 t) (iblk m c 1 t) y
    have hcut : ∀ f : S512x4608.Idx → Elt Idealize.ShloMosaic.Ideal .f32, (cfg0.win 2).cut (grid0.coords t) f y = f y := fun _ => rfl
    have hread : ∀ f : S32768x4608.Idx → Elt Idealize.ShloMosaic.Ideal .f32,
        View.read (Elt Idealize.ShloMosaic.Ideal) ((cfg0.win 2).blk t).view f y = f (((cfg0.win 2).blk t).view.emb y) := fun _ => rfl
    refine (hcut _).trans (hb.trans (Eq.symm ((hread (resultArray m c)).trans ?_)))
    rw [he]
    show (∑ k : Fin 2048, argX m c (ix2 (rowAt t (y 0)) k) * argW m c (ix2 k (y 1))) = _
    exact Finset.sum_congr rfl fun k _ =>
      (congrArg₂ (fun a b : EReal => a * b) (rows_apply m c t (y 0) k) (weights_apply m c t k (y 1))).symm
  · have h0 : (i 0 : Nat) < 32768 := (i 0).isLt
    have h1 : (i 1 : Nat) < 4608 := (i 1).isLt
    have hN : cfg0.N = 64 := N_0
    let t : Fin cfg0.N := ⟨(i 0 : Nat) / 512, by omega⟩
    have ht : t.val = (i 0 : Nat) / 512 := rfl
    obtain ⟨-, -, -, -, e0, e1⟩ := blockIndex t
    refine ⟨t, flushes t, ?_⟩
    show i ∈ ((View.whole main_v0).slice (win0_2.rect t)).set
    rw [View.set_slice_whole, Rect.mem_set_unit]
    intro a
    match a with
    | ⟨0, _⟩ =>
      show win0_2.index t (0 : Fin 2) * 512 ≤ (i 0 : Nat) ∧ (i 0 : Nat) < win0_2.index t (0 : Fin 2) * 512 + 512
      rw [e0]; omega
    | ⟨1, _⟩ =>
      show win0_2.index t (1 : Fin 2) * 4608 ≤ (i 1 : Nat) ∧ (i 1 : Nat) < win0_2.index t (1 : Fin 2) * 4608 + 4608
      rw [e1]; omega

end Cert.Kernel2Ideal.InProj
-- ==== Proof.InProj.Claims.lean ====
/-
  The claims about the input projection.
-/
module

public import proofs.«01_k».proof.Defs
public import proofs.«01_k».proof.Proof.Gen.Kernel2.Frame
public import proofs.«01_k».proof.Proof.Gen.Reference2Ideal.Read
public import proofs.«01_k».proof.Proof.InProj.Array
public import Idealize.ShloMosaic.Adequacy
public import Idealize.ShloMosaic.Init

@[expose] public section

noncomputable section

open Idealize.ShloMosaic Idealize.SL.Sem

namespace Cert.Reference2Ideal

/-- The reference's product at an index. -/
theorem product_eq (X : (⟨S32768x2048, .bf16⟩ : BufTy).Contents (Elt Ideal)) (W : (⟨S2048x4608, .bf16⟩ : BufTy).Contents (Elt Ideal)) :
    Read.val_main_v2 (F := Ideal) X W = Cert.Kernel2Ideal.InProj.product X W := by
  funext i
  rw [Read.val_main_v2_apply]
  refine Finset.sum_congr rfl fun k _ => congrArg₂ (· * ·) ?_ ?_
  · rw [Read.val_main_v0_apply]
    show X _ = X _
    congr 1
    funext a
    match a with
    | ⟨0, _⟩ => rfl
    | ⟨1, _⟩ => rfl
  · rw [Read.val_main_v1_apply]
    show W _ = W _
    congr 1
    funext a
    match a with
    | ⟨0, _⟩ => rfl
    | ⟨1, _⟩ => rfl

end Cert.Reference2Ideal

namespace Cert.Proof.InProjClaims

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem preserves : Cert.preserves_Kernel2_Kernel2Ideal := trivial

/-- THE VALUE CLAIM: whatever the arguments, kernel and reference end with equal products. -/
theorem algebraic : Cert.algebraic_Kernel2Ideal_Reference2Ideal := by
  intro m ρ m' ρ' hpre hagree
  refine ⟨fun c => Cert.Kernel2Ideal.InProj.resultArray m c, ?_, ?_⟩
  · refine (θ_run Cert.Kernel2Ideal.defs _ _).mono (fun _ h c => ?_) (Cert.Kernel2Ideal.Value.run_blocks (F := Ideal) m ρ)
    exact ⟨(h c).1.trans (Cert.Kernel2Ideal.InProj.result_eq m c), (h c).2⟩
  · refine (θ_run Cert.Reference2Ideal.defs _ _).mono (fun _ h c => ?_) (Cert.Reference2Ideal.Value.run (F := Ideal) m' ρ')
    refine ⟨(h c).1.trans ?_, (h c).2⟩
    rw [(hagree c).1, (hagree c).2]
    exact (Cert.Reference2Ideal.Read.val_main_v2_eq (F := Ideal) _ _).trans (Cert.Reference2Ideal.product_eq _ _)

end Cert.Proof.InProjClaims
-- ==== Proof.Layer.Norm.lean ====
/-
  The layer norm of a row of 2048 numbers, over the extended reals.
-/
module

public import Idealize.ShloMosaic.PureOps.Ideal
public import Idealize.ShloMosaic.PureOps.Ideal.Laws

@[expose] public section

noncomputable section

open Idealize.ShloMosaic

namespace Cert.Layer

/-- The mean of a row: its sum over 2048. -/
def mean (y : Fin 2048 → EReal) : EReal := Ideal.div (∑ k, y k) (FloatOps.ofBits (F := Ideal) .f32 0x45000000#32)

/-- The mean of the squared distances from the mean. -/
def variance (y : Fin 2048 → EReal) : EReal := mean fun k => (y k - mean y) * (y k - mean y)

/-- One element of the layer norm of a row, with the element's scale and shift. -/
def normed (y : Fin 2048 → EReal) (d : Fin 2048) (g b : EReal) : EReal :=
  (y d - mean y) * Ideal.rsqrt (variance y + FloatOps.ofBits (F := Ideal) .f32 0x3727C5AC#32) * g + b

end Cert.Layer
-- ==== Proof.Layer.Out.lean ====
/-
  What the output projection computes of one token, from the token's row of each operand and the weights: the normed
  residual, the sum that the experts add to, and the router's weights.
-/
module

public import proofs.«01_k».proof.Proof.Layer.Norm

@[expose] public section

noncomputable section

open Idealize.ShloMosaic

namespace Cert.Layer

/-- The scale of the residual, the fourth root of eight as a single-precision number. -/
abbrev alpha : EReal := FloatOps.ofBits (F := Ideal) .f32 0x3FD744FD#32

/-- The residual row: the scaled input plus both mixes through their halves of the output weights. -/
def residRow (a b : Fin 1024 → EReal) (x : Fin 2048 → EReal) (wa wb : Fin 1024 → Fin 2048 → EReal) (d : Fin 2048) : EReal :=
  alpha * x d + (∑ k, a k * wa k d + ∑ k, b k * wb k d)

/-- The hidden row: the layer norm of the residual row. -/
def hiddenRow (y : Fin 2048 → EReal) (g b : Fin 2048 → EReal) (d : Fin 2048) : EReal := normed y d (g d) (b d)

/-- The accumulator row: the scaled hidden row plus the token's embedding through its weights, gated. -/
def accumRow (h : Fin 2048 → EReal) (p : Fin 256 → EReal) (wp : Fin 256 → Fin 2048 → EReal) (wg : Fin 2048 → Fin 2048 → EReal)
    (d : Fin 2048) : EReal :=
  alpha * h d + (∑ k, p k * wp k d) * Ideal.logistic (∑ k, h k * wg k d)

/-- The router's score of an expert: the hidden row through the sum of the two halves of the expert's weights, plus its bias. -/
def score (h : Fin 2048 → EReal) (whi wlo : Fin 2048 → Fin 16 → EReal) (br : Fin 16 → EReal) (e : Fin 16) : EReal :=
  (∑ k, h k * (whi k e + wlo k e)) + br e

/-- The score as computed half by half, with a correction by the rounding of the hidden row. -/
def scoreParts (h : Fin 2048 → EReal) (whi wlo : Fin 2048 → Fin 16 → EReal) (br : Fin 16 → EReal) (e : Fin 16) : EReal :=
  (∑ k, h k * whi k e + ∑ k, h k * wlo k e + ∑ k, (h k - h k) * whi k e) + br e

/-- The largest score. -/
def top (s : Fin 16 → EReal) : EReal := Finset.univ.fold max ⊥ s

/-- The exponential of a score's distance from the largest. -/
def weight (s : Fin 16 → EReal) (e : Fin 16) : EReal := Ideal.exp (s e - top s)

/-- The softmax of the scores. -/
def softmax (s : Fin 16 → EReal) (e : Fin 16) : EReal := Ideal.div (weight s e) (∑ k, weight s k)

/-- With a real hidden row and real weights the two forms of the score agree. -/
theorem score_eq (h : Fin 2048 → EReal) (whi wlo : Fin 2048 → Fin 16 → EReal) (br : Fin 16 → EReal)
    (hh : ∀ k, ∃ r : ℝ, h k = r) (h1 : ∀ k e, ∃ r : ℝ, whi k e = r) (h2 : ∀ k e, ∃ r : ℝ, wlo k e = r) (e : Fin 16) :
    scoreParts h whi wlo br e = score h whi wlo br e := by
  unfold scoreParts score
  congr 1
  rw [show (∑ k, (h k - h k) * whi k e) = 0 from Finset.sum_eq_zero fun k _ => by
    obtain ⟨r, hr⟩ := hh k
    rw [hr, ← EReal.coe_sub, sub_self, EReal.coe_zero, zero_mul], add_zero, ← Finset.sum_add_distrib]
  refine Finset.sum_congr rfl fun k _ => ?_
  obtain ⟨r, hr⟩ := hh k
  obtain ⟨s, hs⟩ := h1 k e
  obtain ⟨u, hu⟩ := h2 k e
  rw [hr, hs, hu, ← EReal.coe_add, ← EReal.coe_mul, ← EReal.coe_mul, ← EReal.coe_mul, ← EReal.coe_add, mul_add]

end Cert.Layer
-- ==== Proof.OutProj.Hidden.lean ====
/-
  The hidden rows of a block of 256 tokens in the output projection's kernel, read at an index.
-/
module

public import proofs.«01_k».proof.Proof.Layer.Out
public import proofs.«01_k».proof.Proof.Gen.Kernel3Ideal.Skeleton
public import Idealize.ShloMosaic.Lib.Pointwise

@[expose] public section

noncomputable section

open Idealize.ShloMosaic

namespace Cert.Kernel3Ideal.OutProj

open Cert.Kernel3Ideal Cert.Kernel3Ideal.Gen Cert.Layer

/-- A block of residual rows, from the blocks of the operands. -/
def residualBlock (a : Vec Ideal S256x1024 .bf16) (wa : Vec Ideal S1024x2048 .bf16) (b : Vec Ideal S256x1024 .bf16)
    (wb : Vec Ideal S1024x2048 .bf16) (x : Vec Ideal S256x2048 .f32) : FVec Ideal S256x2048 .f32 :=
  addf (mulf (broadcast S256x2048 (FloatOps.ofBits (F := Ideal) .f32 0x3FD744FD#32)) x)
    (addf (matmul (φ₁ := .bf16) (φ₂ := .bf16) dot_S256x1024_S1024x2048_S256x2048_1_0_0_1_n_n none a wa (constant S256x2048 .f32 0x00000000#32))
      (matmul (φ₁ := .bf16) (φ₂ := .bf16) dot_S256x1024_S1024x2048_S256x2048_1_0_0_1_n_n none b wb (constant S256x2048 .f32 0x00000000#32)))

theorem residualBlock_apply (a : Vec Ideal S256x1024 .bf16) (wa : Vec Ideal S1024x2048 .bf16) (b : Vec Ideal S256x1024 .bf16)
    (wb : Vec Ideal S1024x2048 .bf16) (x : Vec Ideal S256x2048 .f32) (r : Fin 256) (d : Fin 2048) :
    residualBlock a wa b wb x (ix2 r d)
      = residRow (fun k => a (ix2 r k)) (fun k => b (ix2 r k)) (fun k => x (ix2 r k)) (fun k j => wa (ix2 k j))
          (fun k j => wb (ix2 k j)) d := by
  unfold residualBlock residRow
  pointwise

theorem hidden_apply (a : Vec Ideal S256x1024 .bf16) (wa : Vec Ideal S1024x2048 .bf16) (b : Vec Ideal S256x1024 .bf16)
    (wb : Vec Ideal S1024x2048 .bf16) (x : Vec Ideal S256x2048 .f32) (g s : Vec Ideal S1x2048 .f32) (r : Fin 256) (d : Fin 2048) :
    k0_pay2 (F := Ideal) a wa b wb x g s (ix2 r d)
      = hiddenRow (residRow (fun k => a (ix2 r k)) (fun k => b (ix2 r k)) (fun k => x (ix2 r k)) (fun k j => wa (ix2 k j))
          (fun k j => wb (ix2 k j))) (fun j => g (ix2 0 j)) (fun j => s (ix2 0 j)) d := by
  have h := residualBlock_apply a wa b wb x
  unfold k0_pay2
  dsimp only
  generalize hy : addf (F := Ideal) (mulf (broadcast S256x2048 (FloatOps.ofBits (F := Ideal) .f32 0x3FD744FD#32)) x)
    (addf (matmul (φ₁ := .bf16) (φ₂ := .bf16) dot_S256x1024_S1024x2048_S256x2048_1_0_0_1_n_n none a wa (constant S256x2048 .f32 0x00000000#32))
      (matmul (φ₁ := .bf16) (φ₂ := .bf16) dot_S256x1024_S1024x2048_S256x2048_1_0_0_1_n_n none b wb (constant S256x2048 .f32 0x00000000#32))) = y
  rw [show residualBlock a wa b wb x = y from hy] at h
  rw [show residRow (fun k => a (ix2 r k)) (fun k => b (ix2 r k)) (fun k => x (ix2 r k)) (fun k j => wa (ix2 k j))
          (fun k j => wb (ix2 k j)) = fun k => y (ix2 r k) from funext fun k => (h r k).symm]
  clear h hy
  unfold hiddenRow normed variance mean
  pointwise

end Cert.Kernel3Ideal.OutProj
-- ==== Proof.OutProj.Block.lean ====
/-
  The accumulator rows and the router's weights of a block of 256 tokens in the output projection's kernel, read at an
  index.
-/
module

public import proofs.«01_k».proof.Proof.Layer.Out
public import proofs.«01_k».proof.Proof.Gen.Kernel3Ideal.Skeleton
public import Idealize.ShloMosaic.Lib.Pointwise

@[expose] public section

noncomputable section

open Idealize.ShloMosaic

namespace Cert.Kernel3Ideal.OutProj

open Cert.Kernel3Ideal Cert.Kernel3Ideal.Gen Cert.Layer

theorem accum_apply (h : FVec Ideal S256x2048 .f32) (p : Vec Ideal S1x256x256 .f32) (wp : Vec Ideal S256x2048 .bf16)
    (wg : Vec Ideal S2048x2048 .bf16) (r : Fin 256) (d : Fin 2048) :
    k0_pay4 (F := Ideal) h p wp wg (ix2 r d)
      = accumRow (fun k => h (ix2 r k)) (fun k => p (ix3 0 r k)) (fun k j => wp (ix2 k j)) (fun k j => wg (ix2 k j)) d := by
  unfold k0_pay4 k0_pay3 accumRow
  pointwise

/-- The column of expert `e` in the first half of the router's weights, and in the second. -/
abbrev hiCol (e : Fin 16) : Fin 256 := ⟨e.val, by omega⟩
abbrev loCol (e : Fin 16) : Fin 256 := ⟨128 + e.val, by omega⟩

/-- A block of router scores. -/
def scoreBlock (h : FVec Ideal S256x2048 .f32) (w : Vec Ideal S2048x256 .bf16) (w1 : Vec Ideal S2048x128 .bf16)
    (br : Vec Ideal S1x16 .f32) : FVec Ideal S256x16 .f32 :=
  addf (extractStridedSlice S256x16 ![0, 0]
      (addf (addf
        (extractStridedSlice S256x128 ![0, 0] (matmul (φ₁ := .bf16) (φ₂ := .bf16) dot_S256x2048_S2048x256_S256x256_1_0_0_1_n_n none (k0_pay3 h) w (constant (F := Ideal) S256x256 .f32 0x00000000#32)) slices_S256x256_o0_0_S256x128)
        (extractStridedSlice S256x128 ![0, 128] (matmul (φ₁ := .bf16) (φ₂ := .bf16) dot_S256x2048_S2048x256_S256x256_1_0_0_1_n_n none (k0_pay3 h) w (constant (F := Ideal) S256x256 .f32 0x00000000#32)) slices_S256x256_o0_128_S256x128))
        (matmul (φ₁ := .bf16) (φ₂ := .bf16) dot_S256x2048_S2048x128_S256x128_1_0_0_1_n_n none
          (truncf .bf16 (subf h (extf .f32 (k0_pay3 h) bitsLt_bf16_f32)) bitsLt_bf16_f32) w1 (constant (F := Ideal) S256x128 .f32 0x00000000#32)))
      slices_S256x128_o0_0_S256x16)
    (broadcastTo S256x16 (shapeCast S1x16 br shapeCasts_S1x16_S1x16) broadcasts_S1x16_S256x16)

theorem scoreBlock_apply (h : FVec Ideal S256x2048 .f32) (w : Vec Ideal S2048x256 .bf16) (w1 : Vec Ideal S2048x128 .bf16)
    (br : Vec Ideal S1x16 .f32) (hw : ∀ (k : Fin 2048) (e : Fin 16), w1 (ix2 k ⟨e.val, by omega⟩) = w (ix2 k (hiCol e)))
    (r : Fin 256) (e : Fin 16) :
    scoreBlock h w w1 br (ix2 r e)
      = scoreParts (fun k => h (ix2 r k)) (fun k e => w (ix2 k (hiCol e))) (fun k e => w (ix2 k (loCol e)))
          (fun e => br (ix2 0 e)) e := by
  unfold scoreBlock k0_pay3 scoreParts
  pointwise
  simp only [hw]

/-- The largest score of a row of a block. -/
theorem top_apply (s : FVec Ideal S256x16 .f32) (j : S256.Idx) :
    multiReduction .maximumf [1] S256 s 0xFF800000#32 reduces_S256x16_S256 (.inl rfl) rfl j = top fun e => s (ix2 (j 0) e) := by
  refine (Ideal.multiReduction_maximumf_single (a := 1) s 0xFF800000#32 reduces_S256x16_S256 (.inl rfl) rfl j).trans ?_
  rw [show (FloatOps.ofBits (F := Ideal) .f32 0xFF800000#32) = (⊥ : EReal) from by simp [FloatOps.ofBits, Ideal.ofBits, Ideal.ieee]]
  have hl : ∀ i : Fin 16, reduces_S256x16_S256.lift j i = ix2 (j 0) i := fun i => by
    funext a
    match a with
    | ⟨0, _⟩ => rfl
    | ⟨1, _⟩ => rfl
  exact Finset.fold_congr fun i _ => congrArg s (hl i)

theorem weight_apply (h : FVec Ideal S256x2048 .f32) (w : Vec Ideal S2048x256 .bf16) (w1 : Vec Ideal S2048x128 .bf16)
    (br : Vec Ideal S1x16 .f32) (hw : ∀ (k : Fin 2048) (e : Fin 16), w1 (ix2 k ⟨e.val, by omega⟩) = w (ix2 k (hiCol e)))
    (r : Fin 256) (e : Fin 16) :
    k0_pay5 (F := Ideal) h w w1 br (ix2 r e)
      = weight (scoreParts (fun k => h (ix2 r k)) (fun k e => w (ix2 k (hiCol e))) (fun k e => w (ix2 k (loCol e)))
          (fun e => br (ix2 0 e))) e := by
  have hs := scoreBlock_apply h w w1 br hw r
  have e5 : k0_pay5 (F := Ideal) h w w1 br = exp (subf (scoreBlock h w w1 br) (broadcastTo S256x16 (shapeCast S256x1
      (multiReduction .maximumf [1] S256 (scoreBlock h w w1 br) 0xFF800000#32 reduces_S256x16_S256 (.inl rfl) rfl)
      shapeCasts_S256_S256x1) broadcasts_S256x1_S256x16)) := rfl
  rw [e5, ← funext hs]
  generalize scoreBlock h w w1 br = s
  have ht := top_apply s
  generalize multiReduction .maximumf [1] S256 s 0xFF800000#32 reduces_S256x16_S256 (.inl rfl) rfl = y at ht ⊢
  unfold weight
  pointwise
  rw [ht]
  rfl

theorem softmax_apply (h : FVec Ideal S256x2048 .f32) (w : Vec Ideal S2048x256 .bf16) (w1 : Vec Ideal S2048x128 .bf16)
    (br : Vec Ideal S1x16 .f32) (hw : ∀ (k : Fin 2048) (e : Fin 16), w1 (ix2 k ⟨e.val, by omega⟩) = w (ix2 k (hiCol e)))
    (r : Fin 256) (e : Fin 16) :
    k0_pay1 (F := Ideal) (k0_pay5 (F := Ideal) h w w1 br) (ix2 r e)
      = softmax (scoreParts (fun k => h (ix2 r k)) (fun k e => w (ix2 k (hiCol e))) (fun k e => w (ix2 k (loCol e)))
          (fun e => br (ix2 0 e))) e := by
  have hs := weight_apply h w w1 br hw r
  unfold softmax
  rw [← funext hs]
  generalize k0_pay5 (F := Ideal) h w w1 br = v
  unfold k0_pay1
  pointwise

end Cert.Kernel3Ideal.OutProj
-- ==== Proof.OutProj.Array.lean ====
/-
  The arrays that the output projection leaves: the hidden rows, the sums that the experts add to, and the router's weights.
-/
module

public import proofs.«01_k».proof.Proof.OutProj.Hidden
public import proofs.«01_k».proof.Proof.OutProj.Block
public import proofs.«01_k».proof.Proof.Gen.Kernel3Ideal.Value
public import Idealize.ShloMosaic.Lib.Pipeline.Value
public import Idealize.ShloMosaic.Lib.StableHlo.Run

@[expose] public section

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen Cert.Layer

/-! ## The results, from the arguments -/

/-- A token's hidden row. -/
def hiddenAt (A B : S32768x1024.Idx → EReal) (X : S32768x2048.Idx → EReal) (WA WB : S1024x2048.Idx → EReal) (G S : S2048.Idx → EReal)
    (r : Fin 32768) : Fin 2048 → EReal :=
  hiddenRow (residRow (fun k => A (ix2 r k)) (fun k => B (ix2 r k)) (fun k => X (ix2 r k)) (fun k j => WA (ix2 k j))
    (fun k j => WB (ix2 k j))) (fun j => G (ix1 j)) (fun j => S (ix1 j))

/-- A token's accumulator row, from its hidden row. -/
def accumAt (h : Fin 2048 → EReal) (P : S4x32768x256.Idx → EReal) (WP : S256x2048.Idx → EReal) (WG : S2048x2048.Idx → EReal)
    (r : Fin 32768) : Fin 2048 → EReal :=
  accumRow h (fun k => P (ix3 0 r k)) (fun k j => WP (ix2 k j)) (fun k j => WG (ix2 k j))

/-- A token's router weights, from its hidden row, the scores computed half by half. -/
def routePartsAt (h : Fin 2048 → EReal) (WR : S2048x256.Idx → EReal) (BR : S16.Idx → EReal) : Fin 16 → EReal :=
  softmax (scoreParts h (fun k e => WR (ix2 k (hiCol e))) (fun k e => WR (ix2 k (loCol e))) (fun e => BR (ix1 e)))

/-- A token's router weights, from its hidden row. -/
def routeAt (h : Fin 2048 → EReal) (WR : S2048x256.Idx → EReal) (BR : S16.Idx → EReal) : Fin 16 → EReal :=
  softmax (score h (fun k e => WR (ix2 k (hiCol e))) (fun k e => WR (ix2 k (loCol e))) (fun e => BR (ix1 e)))

/-! ## One block -/

theorem zeros2 : (![0, 0] : Fin 2 → Nat) = fun _ => 0 := by funext a; match a with | ⟨0, _⟩ => rfl | ⟨1, _⟩ => rfl
theorem zeros3 : (![0, 0, 0] : Fin 3 → Nat) = fun _ => 0 := by funext a; match a with | ⟨0, _⟩ => rfl | ⟨1, _⟩ => rfl | ⟨2, _⟩ => rfl

section Block

variable (x0 x1 : Vec Ideal S256x1024 .bf16) (x2 : Vec Ideal S256x2048 .f32) (x3 x4 : Vec Ideal S1024x2048 .bf16)
  (x5 x6 : Vec Ideal S1x2048 .f32) (x7 : Vec Ideal S2048x256 .bf16) (x8 : Vec Ideal S1x16 .f32) (x9 : Vec Ideal S1x256x256 .f32)
  (x10 : Vec Ideal S256x2048 .bf16) (x11 : Vec Ideal S2048x2048 .bf16)

theorem loads_eq : k0_pay6 x0 x1 x2 x3 x4 x5 x6 x7 x8 x9 x10 x11 = k0_pay2 (F := Ideal) x0 x3 x1 x4 x2 x5 x6 := by
  unfold k0_pay6
  rw [show View.ld x0 r0_0 = x0 from View.ld_unit_zero zeros2 _ _, show View.ld x3 r0_1 = x3 from View.ld_unit_zero zeros2 _ _,
    show View.ld x1 r0_0 = x1 from View.ld_unit_zero zeros2 _ _, show View.ld x4 r0_1 = x4 from View.ld_unit_zero zeros2 _ _,
    show View.ld x2 r0_2 = x2 from View.ld_unit_zero zeros2 _ _, show View.ld x5 r0_3 = x5 from View.ld_unit_zero zeros2 _ _,
    show View.ld x6 r0_3 = x6 from View.ld_unit_zero zeros2 _ _]

theorem out12_eq : out0_12 x0 x1 x2 x3 x4 x5 x6 x7 x8 x9 x10 x11 = k0_pay2 (F := Ideal) x0 x3 x1 x4 x2 x5 x6 := by
  unfold out0_12
  rw [loads_eq]
  exact View.canon_cons_unit_zero zeros2 _ _ _

theorem out13_eq : out0_13 x0 x1 x2 x3 x4 x5 x6 x7 x8 x9 x10 x11
    = k0_pay4 (F := Ideal) (k0_pay2 (F := Ideal) x0 x3 x1 x4 x2 x5 x6) x9 x10 x11 := by
  unfold out0_13
  rw [loads_eq, show View.ld x9 r0_4 = x9 from View.ld_unit_zero zeros3 _ _, show View.ld x10 r0_2 = x10 from View.ld_unit_zero zeros2 _ _,
    show View.ld x11 r0_5 = x11 from View.ld_unit_zero zeros2 _ _]
  exact View.canon_cons_unit_zero zeros2 _ _ _

theorem out14_eq : out0_14 x0 x1 x2 x3 x4 x5 x6 x7 x8 x9 x10 x11
    = k0_pay1 (F := Ideal) (k0_pay5 (F := Ideal) (k0_pay2 (F := Ideal) x0 x3 x1 x4 x2 x5 x6) x7 (View.ld x7 r0_7) x8) := by
  unfold out0_14
  rw [loads_eq, show View.ld x7 r0_6 = x7 from View.ld_unit_zero zeros2 _ _, show View.ld x8 r0_8 = x8 from View.ld_unit_zero zeros2 _ _]
  exact View.canon_cons_unit_zero zeros2 _ _ _

theorem head_apply (k : Fin 2048) (e : Fin 16) : View.ld x7 r0_7 (ix2 (n0 := 2048) (n1 := 128) k ⟨e.val, by omega⟩) = x7 (ix2 k (hiCol e)) := by
  show x7 _ = x7 _
  congr 1
  funext a; apply Fin.ext
  match a with
  | ⟨0, _⟩ => show 0 + 1 * k.val = k.val; omega
  | ⟨1, _⟩ => show 0 + 1 * e.val = e.val; omega

end Block

/-! ## The arguments, block by block -/

variable (m : (ℓ : Loc nD τ sig) → Buf (Elt Ideal) ℓ) (c : Dev nD)

abbrev argA : S32768x1024.Idx → EReal := m ((c : Thread nD τ).loc main_arg0)
abbrev argB : S32768x1024.Idx → EReal := m ((c : Thread nD τ).loc main_arg1)
abbrev argX : S32768x2048.Idx → EReal := m ((c : Thread nD τ).loc main_arg2)
abbrev argWA : S1024x2048.Idx → EReal := m ((c : Thread nD τ).loc main_arg3)
abbrev argWB : S1024x2048.Idx → EReal := m ((c : Thread nD τ).loc main_arg4)
abbrev argG : S2048.Idx → EReal := m ((c : Thread nD τ).loc main_arg5)
abbrev argS : S2048.Idx → EReal := m ((c : Thread nD τ).loc main_arg6)
abbrev argWR : S2048x256.Idx → EReal := m ((c : Thread nD τ).loc main_arg7)
abbrev argBR : S16.Idx → EReal := m ((c : Thread nD τ).loc main_arg8)
abbrev argP : S4x32768x256.Idx → EReal := m ((c : Thread nD τ).loc main_arg9)
abbrev argWP : S256x2048.Idx → EReal := m ((c : Thread nD τ).loc main_arg10)
abbrev argWG : S2048x2048.Idx → EReal := m ((c : Thread nD τ).loc main_arg11)

theorem scaleRow_eq : V m c main_v0 = shapeCast S1x2048 (argG m c) shapeCasts_S2048_S1x2048 := by
  show StableHlo.after hostOps0 _ _ = _
  unfold hostOps0
  after_results <;> rfl

theorem shiftRow_eq : V m c main_v1 = shapeCast S1x2048 (argS m c) shapeCasts_S2048_S1x2048 := by
  show StableHlo.after hostOps0 _ _ = _
  unfold hostOps0
  after_results <;> rfl

theorem biasRow_eq : V m c main_v2 = shapeCast S1x16 (argBR m c) shapeCasts_S16_S1x16 := by
  show StableHlo.after hostOps0 _ _ = _
  unfold hostOps0
  after_results <;> rfl

theorem row_apply (v : FVec Ideal S2048 .f32) (d : Fin 2048) :
    shapeCast S1x2048 v shapeCasts_S2048_S1x2048 (ix2 0 d) = v (ix1 d) := by
  pointwise

theorem row16_apply (v : FVec Ideal S16 .f32) (d : Fin 16) :
    shapeCast S1x16 v shapeCasts_S16_S1x16 (ix2 0 d) = v (ix1 d) := by
  pointwise

/-- Each window's block indices at a grid point. -/
theorem blockIndex0 : ∀ t : Fin cfg0.N, win0_0.index t (0 : Fin 2) = t.val ∧ win0_0.index t (1 : Fin 2) = 0 :=
  (by decide +kernel : ∀ t : Fin grid0.N, _)
theorem blockIndex1 : ∀ t : Fin cfg0.N, win0_1.index t (0 : Fin 2) = t.val ∧ win0_1.index t (1 : Fin 2) = 0 :=
  (by decide +kernel : ∀ t : Fin grid0.N, _)
theorem blockIndex2 : ∀ t : Fin cfg0.N, win0_2.index t (0 : Fin 2) = t.val ∧ win0_2.index t (1 : Fin 2) = 0 :=
  (by decide +kernel : ∀ t : Fin grid0.N, _)
theorem blockIndex3 : ∀ t : Fin cfg0.N, win0_3.index t (0 : Fin 2) = 0 ∧ win0_3.index t (1 : Fin 2) = 0 :=
  (by decide +kernel : ∀ t : Fin grid0.N, _)
theorem blockIndex4 : ∀ t : Fin cfg0.N, win0_4.index t (0 : Fin 2) = 0 ∧ win0_4.index t (1 : Fin 2) = 0 :=
  (by decide +kernel : ∀ t : Fin grid0.N, _)
theorem blockIndex5 : ∀ t : Fin cfg0.N, win0_5.index t (0 : Fin 2) = 0 ∧ win0_5.index t (1 : Fin 2) = 0 :=
  (by decide +kernel : ∀ t : Fin grid0.N, _)
theorem blockIndex6 : ∀ t : Fin cfg0.N, win0_6.index t (0 : Fin 2) = 0 ∧ win0_6.index t (1 : Fin 2) = 0 :=
  (by decide +kernel : ∀ t : Fin grid0.N, _)
theorem blockIndex7 : ∀ t : Fin cfg0.N, win0_7.index t (0 : Fin 2) = 0 ∧ win0_7.index t (1 : Fin 2) = 0 :=
  (by decide +kernel : ∀ t : Fin grid0.N, _)
theorem blockIndex8 : ∀ t : Fin cfg0.N, win0_8.index t (0 : Fin 2) = 0 ∧ win0_8.index t (1 : Fin 2) = 0 :=
  (by decide +kernel : ∀ t : Fin grid0.N, _)
theorem blockIndex9 : ∀ t : Fin cfg0.N, win0_9.index t (0 : Fin 3) = 0 ∧ win0_9.index t (1 : Fin 3) = t.val ∧ win0_9.index t (2 : Fin 3) = 0 :=
  (by decide +kernel : ∀ t : Fin grid0.N, _)
theorem blockIndex10 : ∀ t : Fin cfg0.N, win0_10.index t (0 : Fin 2) = 0 ∧ win0_10.index t (1 : Fin 2) = 0 :=
  (by decide +kernel : ∀ t : Fin grid0.N, _)
theorem blockIndex11 : ∀ t : Fin cfg0.N, win0_11.index t (0 : Fin 2) = 0 ∧ win0_11.index t (1 : Fin 2) = 0 :=
  (by decide +kernel : ∀ t : Fin grid0.N, _)
theorem blockIndex12 : ∀ t : Fin cfg0.N, win0_12.index t (0 : Fin 2) = t.val ∧ win0_12.index t (1 : Fin 2) = 0 :=
  (by decide +kernel : ∀ t : Fin grid0.N, _)
theorem blockIndex13 : ∀ t : Fin cfg0.N, win0_13.index t (0 : Fin 2) = t.val ∧ win0_13.index t (1 : Fin 2) = 0 :=
  (by decide +kernel : ∀ t : Fin grid0.N, _)
theorem blockIndex14 : ∀ t : Fin cfg0.N, win0_14.index t (0 : Fin 2) = t.val ∧ win0_14.index t (1 : Fin 2) = 0 :=
  (by decide +kernel : ∀ t : Fin grid0.N, _)

theorem lt_points (t : Fin cfg0.N) : t.val < 128 := lt_of_lt_of_eq t.isLt (show cfg0.N = 128 from N_0)

/-- The array row of row `r` of tile `t`. -/
abbrev rowAt (t : Fin cfg0.N) (r : Fin 256) : Fin 32768 := ⟨t.val * 256 + r.val, by have := lt_points t; omega⟩

theorem blockA_apply (t : Fin cfg0.N) (r : Fin 256) (k : Fin 1024) : iblk m c 0 t (ix2 r k) = argA m c (ix2 (rowAt t r) k) := by
  obtain ⟨e0, e1⟩ := blockIndex0 t
  show V m c main_arg0 (((cfg0.win 0).blk t).view.emb (ix2 r k)) = _
  rw [V_main_arg0]
  congr 1
  funext a; apply Fin.ext
  match a with
  | ⟨0, _⟩ => show win0_0.index t (0 : Fin 2) * 256 + 1 * r.val = t.val * 256 + r.val; rw [e0]; omega
  | ⟨1, _⟩ => show win0_0.index t (1 : Fin 2) * 1024 + 1 * k.val = k.val; rw [e1]; omega

theorem blockB_apply (t : Fin cfg0.N) (r : Fin 256) (k : Fin 1024) : iblk m c 1 t (ix2 r k) = argB m c (ix2 (rowAt t r) k) := by
  obtain ⟨e0, e1⟩ := blockIndex1 t
  show V m c main_arg1 (((cfg0.win 1).blk t).view.emb (ix2 r k)) = _
  rw [V_main_arg1]
  congr 1
  funext a; apply Fin.ext
  match a with
  | ⟨0, _⟩ => show win0_1.index t (0 : Fin 2) * 256 + 1 * r.val = t.val * 256 + r.val; rw [e0]; omega
  | ⟨1, _⟩ => show win0_1.index t (1 : Fin 2) * 1024 + 1 * k.val = k.val; rw [e1]; omega

theorem blockX_apply (t : Fin cfg0.N) (r : Fin 256) (k : Fin 2048) : iblk m c 2 t (ix2 r k) = argX m c (ix2 (rowAt t r) k) := by
  obtain ⟨e0, e1⟩ := blockIndex2 t
  show V m c main_arg2 (((cfg0.win 2).blk t).view.emb (ix2 r k)) = _
  rw [V_main_arg2]
  congr 1
  funext a; apply Fin.ext
  match a with
  | ⟨0, _⟩ => show win0_2.index t (0 : Fin 2) * 256 + 1 * r.val = t.val * 256 + r.val; rw [e0]; omega
  | ⟨1, _⟩ => show win0_2.index t (1 : Fin 2) * 2048 + 1 * k.val = k.val; rw [e1]; omega

theorem blockWA_apply (t : Fin cfg0.N) (r : Fin 1024) (k : Fin 2048) : iblk m c 3 t (ix2 r k) = argWA m c (ix2 r k) := by
  obtain ⟨e0, e1⟩ := blockIndex3 t
  show V m c main_arg3 (((cfg0.win 3).blk t).view.emb (ix2 r k)) = _
  rw [V_main_arg3]
  congr 1
  funext a; apply Fin.ext
  match a with
  | ⟨0, _⟩ => show win0_3.index t (0 : Fin 2) * 1024 + 1 * r.val = r.val; rw [e0]; omega
  | ⟨1, _⟩ => show win0_3.index t (1 : Fin 2) * 2048 + 1 * k.val = k.val; rw [e1]; omega

theorem blockWB_apply (t : Fin cfg0.N) (r : Fin 1024) (k : Fin 2048) : iblk m c 4 t (ix2 r k) = argWB m c (ix2 r k) := by
  obtain ⟨e0, e1⟩ := blockIndex4 t
  show V m c main_arg4 (((cfg0.win 4).blk t).view.emb (ix2 r k)) = _
  rw [V_main_arg4]
  congr 1
  funext a; apply Fin.ext
  match a with
  | ⟨0, _⟩ => show win0_4.index t (0 : Fin 2) * 1024 + 1 * r.val = r.val; rw [e0]; omega
  | ⟨1, _⟩ => show win0_4.index t (1 : Fin 2) * 2048 + 1 * k.val = k.val; rw [e1]; omega

theorem blockWR_apply (t : Fin cfg0.N) (r : Fin 2048) (k : Fin 256) : iblk m c 7 t (ix2 r k) = argWR m c (ix2 r k) := by
  obtain ⟨e0, e1⟩ := blockIndex7 t
  show V m c main_arg7 (((cfg0.win 7).blk t).view.emb (ix2 r k)) = _
  rw [V_main_arg7]
  congr 1
  funext a; apply Fin.ext
  match a with
  | ⟨0, _⟩ => show win0_7.index t (0 : Fin 2) * 2048 + 1 * r.val = r.val; rw [e0]; omega
  | ⟨1, _⟩ => show win0_7.index t (1 : Fin 2) * 256 + 1 * k.val = k.val; rw [e1]; omega

theorem blockWP_apply (t : Fin cfg0.N) (r : Fin 256) (k : Fin 2048) : iblk m c 10 t (ix2 r k) = argWP m c (ix2 r k) := by
  obtain ⟨e0, e1⟩ := blockIndex10 t
  show V m c main_arg10 (((cfg0.win 10).blk t).view.emb (ix2 r k)) = _
  rw [V_main_arg10]
  congr 1
  funext a; apply Fin.ext
  match a with
  | ⟨0, _⟩ => show win0_10.index t (0 : Fin 2) * 256 + 1 * r.val = r.val; rw [e0]; omega
  | ⟨1, _⟩ => show win0_10.index t (1 : Fin 2) * 2048 + 1 * k.val = k.val; rw [e1]; omega

theorem blockWG_apply (t : Fin cfg0.N) (r : Fin 2048) (k : Fin 2048) : iblk m c 11 t (ix2 r k) = argWG m c (ix2 r k) := by
  obtain ⟨e0, e1⟩ := blockIndex11 t
  show V m c main_arg11 (((cfg0.win 11).blk t).view.emb (ix2 r k)) = _
  rw [V_main_arg11]
  congr 1
  funext a; apply Fin.ext
  match a with
  | ⟨0, _⟩ => show win0_11.index t (0 : Fin 2) * 2048 + 1 * r.val = r.val; rw [e0]; omega
  | ⟨1, _⟩ => show win0_11.index t (1 : Fin 2) * 2048 + 1 * k.val = k.val; rw [e1]; omega

theorem blockP_apply (t : Fin cfg0.N) (r : Fin 256) (k : Fin 256) : iblk m c 9 t (ix3 (0 : Fin 1) r k) = argP m c (ix3 0 (rowAt t r) k) := by
  obtain ⟨e0, e1, e2⟩ := blockIndex9 t
  show V m c main_arg9 (((cfg0.win 9).blk t).view.emb (ix3 (0 : Fin 1) r k)) = _
  rw [V_main_arg9]
  congr 1
  funext a; apply Fin.ext
  match a with
  | ⟨0, _⟩ => show win0_9.index t (0 : Fin 3) * 1 + 1 * 0 = 0; rw [e0]
  | ⟨1, _⟩ => show win0_9.index t (1 : Fin 3) * 256 + 1 * r.val = t.val * 256 + r.val; rw [e1]; omega
  | ⟨2, _⟩ => show win0_9.index t (2 : Fin 3) * 256 + 1 * k.val = k.val; rw [e2]; omega

theorem blockG_apply (t : Fin cfg0.N) (d : Fin 2048) : iblk m c 5 t (ix2 (0 : Fin 1) d) = argG m c (ix1 d) := by
  obtain ⟨e0, e1⟩ := blockIndex5 t
  have he : ((cfg0.win 5).blk t).view.emb (ix2 (0 : Fin 1) d) = ix2 (n0 := 1) (n1 := 2048) 0 d := by
    funext a; apply Fin.ext
    match a with
    | ⟨0, _⟩ => show win0_5.index t (0 : Fin 2) * 1 + 1 * 0 = 0; rw [e0]
    | ⟨1, _⟩ => show win0_5.index t (1 : Fin 2) * 2048 + 1 * d.val = d.val; rw [e1]; omega
  show V m c main_v0 (((cfg0.win 5).blk t).view.emb (ix2 (0 : Fin 1) d)) = _
  rw [he, scaleRow_eq]
  exact row_apply _ d

theorem blockS_apply (t : Fin cfg0.N) (d : Fin 2048) : iblk m c 6 t (ix2 (0 : Fin 1) d) = argS m c (ix1 d) := by
  obtain ⟨e0, e1⟩ := blockIndex6 t
  have he : ((cfg0.win 6).blk t).view.emb (ix2 (0 : Fin 1) d) = ix2 (n0 := 1) (n1 := 2048) 0 d := by
    funext a; apply Fin.ext
    match a with
    | ⟨0, _⟩ => show win0_6.index t (0 : Fin 2) * 1 + 1 * 0 = 0; rw [e0]
    | ⟨1, _⟩ => show win0_6.index t (1 : Fin 2) * 2048 + 1 * d.val = d.val; rw [e1]; omega
  show V m c main_v1 (((cfg0.win 6).blk t).view.emb (ix2 (0 : Fin 1) d)) = _
  rw [he, shiftRow_eq]
  exact row_apply _ d

theorem blockBR_apply (t : Fin cfg0.N) (d : Fin 16) : iblk m c 8 t (ix2 (0 : Fin 1) d) = argBR m c (ix1 d) := by
  obtain ⟨e0, e1⟩ := blockIndex8 t
  have he : ((cfg0.win 8).blk t).view.emb (ix2 (0 : Fin 1) d) = ix2 (n0 := 1) (n1 := 16) 0 d := by
    funext a; apply Fin.ext
    match a with
    | ⟨0, _⟩ => show win0_8.index t (0 : Fin 2) * 1 + 1 * 0 = 0; rw [e0]
    | ⟨1, _⟩ => show win0_8.index t (1 : Fin 2) * 16 + 1 * d.val = d.val; rw [e1]; omega
  show V m c main_v2 (((cfg0.win 8).blk t).view.emb (ix2 (0 : Fin 1) d)) = _
  rw [he, biasRow_eq]
  exact row16_apply _ d

/-! ## One block of each result, from the arguments -/

theorem hiddenRow_congr {a a' b b' : Fin 1024 → EReal} {x x' : Fin 2048 → EReal} {u u' v v' : Fin 1024 → Fin 2048 → EReal}
    {g g' s s' : Fin 2048 → EReal} (ha : a = a') (hb : b = b') (hx : x = x') (hu : u = u') (hv : v = v') (hg : g = g') (hs : s = s') :
    hiddenRow (residRow a b x u v) g s = hiddenRow (residRow a' b' x' u' v') g' s' := by
  subst ha hb hx hu hv hg hs; rfl

theorem accumRow_congr {h h' : Fin 2048 → EReal} {p p' : Fin 256 → EReal} {u u' : Fin 256 → Fin 2048 → EReal}
    {v v' : Fin 2048 → Fin 2048 → EReal} (hh : h = h') (hp : p = p') (hu : u = u') (hv : v = v') :
    accumRow h p u v = accumRow h' p' u' v' := by
  subst hh hp hu hv; rfl

theorem softmax_congr {h h' : Fin 2048 → EReal} {u u' v v' : Fin 2048 → Fin 16 → EReal} {b b' : Fin 16 → EReal}
    (hh : h = h') (hu : u = u') (hv : v = v') (hb : b = b') : softmax (scoreParts h u v b) = softmax (scoreParts h' u' v' b') := by
  subst hh hu hv hb; rfl

abbrev argHidden (r : Fin 32768) : Fin 2048 → EReal :=
  hiddenAt (argA m c) (argB m c) (argX m c) (argWA m c) (argWB m c) (argG m c) (argS m c) r

abbrev hiddenBlock (t : Fin cfg0.N) : FVec Ideal S256x2048 .f32 :=
  k0_pay2 (F := Ideal) (iblk m c 0 t) (iblk m c 3 t) (iblk m c 1 t) (iblk m c 4 t) (iblk m c 2 t) (iblk m c 5 t) (iblk m c 6 t)

theorem hiddenBlock_apply (t : Fin cfg0.N) (r : Fin 256) (d : Fin 2048) :
    hiddenBlock m c t (ix2 r d) = argHidden m c (rowAt t r) d :=
  (hidden_apply (iblk m c 0 t) (iblk m c 3 t) (iblk m c 1 t) (iblk m c 4 t) (iblk m c 2 t) (iblk m c 5 t) (iblk m c 6 t) r d).trans
    (congrFun (hiddenRow_congr (funext fun k => blockA_apply m c t r k) (funext fun k => blockB_apply m c t r k)
      (funext fun k => blockX_apply m c t r k) (funext fun k => funext fun j => blockWA_apply m c t k j)
      (funext fun k => funext fun j => blockWB_apply m c t k j) (funext fun j => blockG_apply m c t j)
      (funext fun j => blockS_apply m c t j)) d)

theorem accumBlock_apply (t : Fin cfg0.N) (r : Fin 256) (d : Fin 2048) :
    k0_pay4 (F := Ideal) (hiddenBlock m c t) (iblk m c 9 t) (iblk m c 10 t) (iblk m c 11 t) (ix2 r d)
      = accumAt (argHidden m c (rowAt t r)) (argP m c) (argWP m c) (argWG m c) (rowAt t r) d :=
  (accum_apply (hiddenBlock m c t) (iblk m c 9 t) (iblk m c 10 t) (iblk m c 11 t) r d).trans
    (congrFun (accumRow_congr (funext fun k => hiddenBlock_apply m c t r k) (funext fun k => blockP_apply m c t r k)
      (funext fun k => funext fun j => blockWP_apply m c t k j) (funext fun k => funext fun j => blockWG_apply m c t k j)) d)

abbrev routerBlock (t : Fin cfg0.N) : Vec Ideal S2048x256 .bf16 := iblk m c 7 t

theorem routeBlock_apply (t : Fin cfg0.N) (r : Fin 256) (e : Fin 16) :
    k0_pay1 (F := Ideal) (k0_pay5 (F := Ideal) (hiddenBlock m c t) (iblk m c 7 t)
        (View.ld (routerBlock m c t) r0_7) (iblk m c 8 t)) (ix2 r e)
      = routePartsAt (argHidden m c (rowAt t r)) (argWR m c) (argBR m c) e :=
  (softmax_apply (hiddenBlock m c t) (iblk m c 7 t) (View.ld (routerBlock m c t) r0_7) (iblk m c 8 t)
      (fun k e => head_apply (routerBlock m c t) k e) r e).trans
    (congrFun (softmax_congr (funext fun k => hiddenBlock_apply m c t r k)
      (funext fun k => funext fun e => blockWR_apply m c t k (hiCol e)) (funext fun k => funext fun e => blockWR_apply m c t k (loCol e))
      (funext fun e => blockBR_apply m c t e)) e)

/-! ## The result arrays -/

def hiddenResult : Buf (Elt Ideal) ((c : Thread nD τ).loc main_v3_0) := fun i : S32768x2048.Idx => argHidden m c (i 0) (i 1)

/-- The hidden array after the run. -/
theorem hiddenResult_eq : (dats m 0 c).arrAt 12 cfg0.N = hiddenResult m c := by
  refine (dats m 0 c).arrAt_eq_of_cover 12 (hiddenResult m c) (fun t hf => ?_) (fun i => ?_)
  · rw [Value.flushed12]
    obtain ⟨e0, e1⟩ := blockIndex12 t
    funext y
    have he : ((cfg0.win 12).blk t).view.emb y = ix2 (n0 := 32768) (n1 := 2048) (rowAt t (y 0)) (y 1) := by
      funext a; apply Fin.ext
      match a with
      | ⟨0, _⟩ => show win0_12.index t (0 : Fin 2) * 256 + 1 * (y 0).val = t.val * 256 + (y 0).val; rw [e0]; omega
      | ⟨1, _⟩ => show win0_12.index t (1 : Fin 2) * 2048 + 1 * (y 1).val = (y 1).val; rw [e1]; omega
    have hb := (congrFun (out12_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) y).trans
      ((congrArg _ (show y = ix2 (n0 := 256) (n1 := 2048) (y 0) (y 1) from eq_ix2 (n0 := 256) (n1 := 2048) y)).trans
        (hiddenBlock_apply m c t (y 0) (y 1)))
    have hcut : ∀ f : S256x2048.Idx → Elt Idealize.ShloMosaic.Ideal .f32, (cfg0.win 12).cut (grid0.coords t) f y = f y := fun _ => rfl
    have hread : ∀ f : S32768x2048.Idx → Elt Idealize.ShloMosaic.Ideal .f32,
        View.read (Elt Idealize.ShloMosaic.Ideal) ((cfg0.win 12).blk t).view f y = f (((cfg0.win 12).blk t).view.emb y) := fun _ => rfl
    refine (hcut _).trans (hb.trans (Eq.symm ((hread (hiddenResult m c)).trans ?_)))
    rw [he]
    rfl
  · have h0 : (i 0 : Nat) < 32768 := (i 0).isLt
    have h1 : (i 1 : Nat) < 2048 := (i 1).isLt
    have hN : cfg0.N = 128 := N_0
    let t : Fin cfg0.N := ⟨(i 0 : Nat) / 256, by omega⟩
    have ht : t.val = (i 0 : Nat) / 256 := rfl
    obtain ⟨e0, e1⟩ := blockIndex12 t
    refine ⟨t, flush0_12 t, ?_⟩
    show i ∈ ((View.whole main_v3_0).slice (win0_12.rect t)).set
    rw [View.set_slice_whole, Rect.mem_set_unit]
    intro a
    match a with
    | ⟨0, _⟩ =>
      show win0_12.index t (0 : Fin 2) * 256 ≤ (i 0 : Nat) ∧ (i 0 : Nat) < win0_12.index t (0 : Fin 2) * 256 + 256
      rw [e0]; omega
    | ⟨1, _⟩ =>
      show win0_12.index t (1 : Fin 2) * 2048 ≤ (i 1 : Nat) ∧ (i 1 : Nat) < win0_12.index t (1 : Fin 2) * 2048 + 2048
      rw [e1]; omega

def accumResult : Buf (Elt Ideal) ((c : Thread nD τ).loc main_v3_1) := fun i : S32768x2048.Idx => accumAt (argHidden m c (i 0)) (argP m c) (argWP m c) (argWG m c) (i 0) (i 1)

/-- The accum array after the run. -/
theorem accumResult_eq : (dats m 0 c).arrAt 13 cfg0.N = accumResult m c := by
  refine (dats m 0 c).arrAt_eq_of_cover 13 (accumResult m c) (fun t hf => ?_) (fun i => ?_)
  · rw [Value.flushed13]
    obtain ⟨e0, e1⟩ := blockIndex13 t
    funext y
    have he : ((cfg0.win 13).blk t).view.emb y = ix2 (n0 := 32768) (n1 := 2048) (rowAt t (y 0)) (y 1) := by
      funext a; apply Fin.ext
      match a with
      | ⟨0, _⟩ => show win0_13.index t (0 : Fin 2) * 256 + 1 * (y 0).val = t.val * 256 + (y 0).val; rw [e0]; omega
      | ⟨1, _⟩ => show win0_13.index t (1 : Fin 2) * 2048 + 1 * (y 1).val = (y 1).val; rw [e1]; omega
    have hb := (congrFun (out13_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) y).trans
      ((congrArg _ (show y = ix2 (n0 := 256) (n1 := 2048) (y 0) (y 1) from eq_ix2 (n0 := 256) (n1 := 2048) y)).trans
        (accumBlock_apply m c t (y 0) (y 1)))
    have hcut : ∀ f : S256x2048.Idx → Elt Idealize.ShloMosaic.Ideal .f32, (cfg0.win 13).cut (grid0.coords t) f y = f y := fun _ => rfl
    have hread : ∀ f : S32768x2048.Idx → Elt Idealize.ShloMosaic.Ideal .f32,
        View.read (Elt Idealize.ShloMosaic.Ideal) ((cfg0.win 13).blk t).view f y = f (((cfg0.win 13).blk t).view.emb y) := fun _ => rfl
    refine (hcut _).trans (hb.trans (Eq.symm ((hread (accumResult m c)).trans ?_)))
    rw [he]
    rfl
  · have h0 : (i 0 : Nat) < 32768 := (i 0).isLt
    have h1 : (i 1 : Nat) < 2048 := (i 1).isLt
    have hN : cfg0.N = 128 := N_0
    let t : Fin cfg0.N := ⟨(i 0 : Nat) / 256, by omega⟩
    have ht : t.val = (i 0 : Nat) / 256 := rfl
    obtain ⟨e0, e1⟩ := blockIndex13 t
    refine ⟨t, flush0_13 t, ?_⟩
    show i ∈ ((View.whole main_v3_1).slice (win0_13.rect t)).set
    rw [View.set_slice_whole, Rect.mem_set_unit]
    intro a
    match a with
    | ⟨0, _⟩ =>
      show win0_13.index t (0 : Fin 2) * 256 ≤ (i 0 : Nat) ∧ (i 0 : Nat) < win0_13.index t (0 : Fin 2) * 256 + 256
      rw [e0]; omega
    | ⟨1, _⟩ =>
      show win0_13.index t (1 : Fin 2) * 2048 ≤ (i 1 : Nat) ∧ (i 1 : Nat) < win0_13.index t (1 : Fin 2) * 2048 + 2048
      rw [e1]; omega

def routeResult : Buf (Elt Ideal) ((c : Thread nD τ).loc main_v3_2) := fun i : S32768x16.Idx => routePartsAt (argHidden m c (i 0)) (argWR m c) (argBR m c) (i 1)

/-- The route array after the run. -/
theorem routeResult_eq : (dats m 0 c).arrAt 14 cfg0.N = routeResult m c := by
  refine (dats m 0 c).arrAt_eq_of_cover 14 (routeResult m c) (fun t hf => ?_) (fun i => ?_)
  · rw [Value.flushed14]
    obtain ⟨e0, e1⟩ := blockIndex14 t
    funext y
    have he : ((cfg0.win 14).blk t).view.emb y = ix2 (n0 := 32768) (n1 := 16) (rowAt t (y 0)) (y 1) := by
      funext a; apply Fin.ext
      match a with
      | ⟨0, _⟩ => show win0_14.index t (0 : Fin 2) * 256 + 1 * (y 0).val = t.val * 256 + (y 0).val; rw [e0]; omega
      | ⟨1, _⟩ => show win0_14.index t (1 : Fin 2) * 16 + 1 * (y 1).val = (y 1).val; rw [e1]; omega
    have hb := (congrFun (out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) y).trans
      ((congrArg _ (show y = ix2 (n0 := 256) (n1 := 16) (y 0) (y 1) from eq_ix2 (n0 := 256) (n1 := 16) y)).trans
        (routeBlock_apply m c t (y 0) (y 1)))
    have hcut : ∀ f : S256x16.Idx → Elt Idealize.ShloMosaic.Ideal .f32, (cfg0.win 14).cut (grid0.coords t) f y = f y := fun _ => rfl
    have hread : ∀ f : S32768x16.Idx → Elt Idealize.ShloMosaic.Ideal .f32,
        View.read (Elt Idealize.ShloMosaic.Ideal) ((cfg0.win 14).blk t).view f y = f (((cfg0.win 14).blk t).view.emb y) := fun _ => rfl
    refine (hcut _).trans (hb.trans (Eq.symm ((hread (routeResult m c)).trans ?_)))
    rw [he]
    rfl
  · have h0 : (i 0 : Nat) < 32768 := (i 0).isLt
    have h1 : (i 1 : Nat) < 16 := (i 1).isLt
    have hN : cfg0.N = 128 := N_0
    let t : Fin cfg0.N := ⟨(i 0 : Nat) / 256, by omega⟩
    have ht : t.val = (i 0 : Nat) / 256 := rfl
    obtain ⟨e0, e1⟩ := blockIndex14 t
    refine ⟨t, flush0_14 t, ?_⟩
    show i ∈ ((View.whole main_v3_2).slice (win0_14.rect t)).set
    rw [View.set_slice_whole, Rect.mem_set_unit]
    intro a
    match a with
    | ⟨0, _⟩ =>
      show win0_14.index t (0 : Fin 2) * 256 ≤ (i 0 : Nat) ∧ (i 0 : Nat) < win0_14.index t (0 : Fin 2) * 256 + 256
      rw [e0]; omega
    | ⟨1, _⟩ =>
      show win0_14.index t (1 : Fin 2) * 16 ≤ (i 1 : Nat) ∧ (i 1 : Nat) < win0_14.index t (1 : Fin 2) * 16 + 16
      rw [e1]; omega

end Cert.Kernel3Ideal.OutProj
-- ==== Proof.OutProj.Ref.lean ====
/-
  What the output projection's reference computes, token by token.
-/
module

public import proofs.«01_k».proof.Proof.Gen.Reference3Ideal.Read
public import proofs.«01_k».proof.Proof.OutProj.Array

@[expose] public section

noncomputable section

open Idealize.ShloMosaic Idealize.SL.Sem

namespace Cert.Reference3Ideal.OutProj

open Cert.Reference3Ideal.Gen Cert.Layer Cert.Kernel3Ideal.OutProj

variable (A B : FVec Ideal S32768x1024 .bf16) (X : FVec Ideal S32768x2048 .f32) (WA WB : FVec Ideal S1024x2048 .bf16)
  (G S : FVec Ideal S2048 .f32) (WR : FVec Ideal S2048x256 .bf16) (BR : FVec Ideal S16 .f32) (P : FVec Ideal S4x32768x256 .f32)
  (WP : FVec Ideal S256x2048 .bf16) (WG : FVec Ideal S2048x2048 .bf16)

/-- A sum over 2048 in two halves. -/
theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The two mixes side by side, at a column of the first half and of the second. -/
theorem mix_lo (r : Fin 32768) (k : Fin 1024) : Read.val_main_v1 (F := Ideal) A B (ix2 r ⟨k.val, by omega⟩) = A (ix2 r k) := by
  unfold Read.val_main_v1 Read.val_main_v0
  pointwise
theorem mix_hi (r : Fin 32768) (k : Fin 1024) : Read.val_main_v1 (F := Ideal) A B (ix2 r ⟨1024 + k.val, by omega⟩) = B (ix2 r k) := by
  unfold Read.val_main_v1 Read.val_main_v0
  pointwise
theorem weight_lo (k : Fin 1024) (d : Fin 2048) : Read.val_main_v3 (F := Ideal) WA WB (ix2 ⟨k.val, by omega⟩ d) = WA (ix2 k d) := by
  unfold Read.val_main_v3 Read.val_main_v2
  pointwise
theorem weight_hi (k : Fin 1024) (d : Fin 2048) : Read.val_main_v3 (F := Ideal) WA WB (ix2 ⟨1024 + k.val, by omega⟩ d) = WB (ix2 k d) := by
  unfold Read.val_main_v3 Read.val_main_v2
  pointwise

theorem resid_apply (r : Fin 32768) (d : Fin 2048) :
    Read.val_main_v7 (F := Ideal) A B X WA WB (ix2 r d)
      = residRow (fun k => A (ix2 r k)) (fun k => B (ix2 r k)) (fun k => X (ix2 r k)) (fun k j => WA (ix2 k j)) (fun k j => WB (ix2 k j)) d := by
  have h : Read.val_main_v7 (F := Ideal) A B X WA WB (ix2 r d)
      = alpha * X (ix2 r d) + ∑ k, Read.val_main_v1 (F := Ideal) A B (ix2 r k) * Read.val_main_v3 (F := Ideal) WA WB (ix2 k d) := by
    pointwise [Read.val_main_v7, Read.val_main_v6, Read.val_main_v5, Read.val_main_cst, Read.val_main_v4]
  rw [h, sum_halves]
  unfold residRow
  simp only [mix_lo, mix_hi, weight_lo, weight_hi]

theorem hidden_apply (r : Fin 32768) (d : Fin 2048) :
    Read.val_main_v31 (F := Ideal) A B X WA WB G S (ix2 r d) = hiddenAt A B X WA WB G S r d := by
  unfold hiddenAt
  rw [← funext (resid_apply A B X WA WB r)]
  unfold hiddenRow normed variance mean
  pointwise [Read.val_main_cst_0, Read.val_main_v8, Read.val_main_v9, Read.val_main_cst_1, Read.val_main_v10, Read.val_main_v11, Read.val_main_v12, Read.val_main_v13, Read.val_main_v14, Read.val_main_cst_2, Read.val_main_v15, Read.val_main_v16, Read.val_main_cst_3, Read.val_main_v17, Read.val_main_v18, Read.val_main_v19, Read.val_main_v20, Read.val_main_cst_4, Read.val_main_v21, Read.val_main_v22, Read.val_main_v23, Read.val_main_v24, Read.val_main_v25, Read.val_main_v26, Read.val_main_v27, Read.val_main_v28, Read.val_main_v29, Read.val_main_v30, Read.val_main_v31]

theorem accum_apply (r : Fin 32768) (d : Fin 2048) :
    Read.val_main_v65 (F := Ideal) A B X WA WB G S P WP WG (ix2 r d) = accumAt (hiddenAt A B X WA WB G S r) P WP WG r d := by
  rw [← funext (hidden_apply A B X WA WB G S r)]
  unfold accumAt accumRow Ideal.logistic
  pointwise [Read.val_main_v50, Read.val_main_v51, Read.val_main_v52, Read.val_main_v53, Read.val_main_v54, Read.val_main_v55, Read.val_main_v56, Read.val_main_v57, Read.val_main_cst_7, Read.val_main_v58, Read.val_main_v59, Read.val_main_cst_8, Read.val_main_v60, Read.val_main_v61, Read.val_main_v62, Read.val_main_cst_9, Read.val_main_v63, Read.val_main_v64, Read.val_main_v65]

theorem score_apply (r : Fin 32768) (e : Fin 16) :
    Read.val_main_v40 (F := Ideal) A B X WA WB G S WR BR (ix2 r e)
      = score (hiddenAt A B X WA WB G S r) (fun k e => WR (ix2 k (hiCol e))) (fun k e => WR (ix2 k (loCol e))) (fun e => BR (ix1 e)) e := by
  rw [← funext (hidden_apply A B X WA WB G S r)]
  unfold score
  pointwise [Read.val_main_v32, Read.val_main_v33, Read.val_main_v34, Read.val_main_v35, Read.val_main_v36, Read.val_main_v37, Read.val_main_v38, Read.val_main_v39, Read.val_main_v40]

/-- A maximum over the experts. -/
theorem max_apply (y : FVec Ideal S32768x16 .f32) (i : S32768.Idx) :
    Host.reduce FloatOps.maximumf y (Read.val_main_cst_5 (F := Ideal)) reducesTo_S32768x16_S32768_d1 h_S_ i
      = top fun j : Fin 16 => y (ix2 (i 0) j) := by
  have hr : S32768x16.Reduces [1] S32768 := by decide
  refine (Host.reduce_eq_fold_single (a := 1) FloatOps.maximumf y (Read.val_main_cst_5 (F := Ideal))
    reducesTo_S32768x16_S32768_d1 hr h_S_ i).trans ?_
  rw [Read.val_main_cst_5_apply,
    show (FloatOps.ofBits (F := Ideal) .f32 0xFF800000#32) = (⊥ : EReal) from by simp [FloatOps.ofBits, Ideal.ofBits, Ideal.ieee]]
  have hl : ∀ j : Fin 16, hr.lift i j = ix2 (i 0) j := fun j => by
    funext a
    match a with
    | ⟨0, _⟩ => rfl
    | ⟨1, _⟩ => rfl
  exact Finset.fold_congr fun j _ => congrArg y (hl j)

/-- The largest score of a token. -/
theorem top_apply (r : Fin 32768) :
    Read.val_main_v41 (F := Ideal) A B X WA WB G S WR BR (ix1 r)
      = top fun e => Read.val_main_v40 (F := Ideal) A B X WA WB G S WR BR (ix2 r e) := by
  unfold Read.val_main_v41
  exact max_apply _ _

theorem route_apply (r : Fin 32768) (e : Fin 16) :
    Read.val_main_v49 (F := Ideal) A B X WA WB G S WR BR (ix2 r e) = routeAt (hiddenAt A B X WA WB G S r) WR BR e := by
  unfold routeAt
  rw [← funext (score_apply A B X WA WB G S WR BR r)]
  unfold softmax weight
  rw [← top_apply]
  pointwise [Read.val_main_v42, Read.val_main_v43, Read.val_main_v44, Read.val_main_v45, Read.val_main_cst_6, Read.val_main_v46, Read.val_main_v47, Read.val_main_v48, Read.val_main_v49]

end Cert.Reference3Ideal.OutProj
-- ==== Proof.OutProj.Finite.lean ====
/-
  What the precondition of the output projection's claim says of the arguments: the operands of the hidden row and the
  router's weights are real numbers.
-/
module

public import proofs.«01_k».proof.Pre_finite_layer
public import proofs.«01_k».proof.Proof.Flash.Finite

@[expose] public section

noncomputable section

open Idealize.ShloMosaic

namespace Cert.Pre_finite_layer

open Cert.Pre_finite_queries_and_keys (real_of_abs_lt)

/-- The side conditions that the precondition's operations state. -/
instance facts : Facts where
  bcast_S_S32768x2048 := by decide
  reducesTo_S32768x2048_S_d0_1 := by decide
  h_S_ := by decide
  bitsLt_bf16_f32 := by decide
  bcast_S_S32768x1024 := by decide
  reducesTo_S32768x1024_S_d0_1 := by decide
  bcast_S_S1024x2048 := by decide
  reducesTo_S1024x2048_S_d0_1 := by decide
  bcast_S_S2048x256 := by decide
  reducesTo_S2048x256_S_d0_1 := by decide
  bcast_S_S2048 := by decide
  reducesTo_S2048_S_d0 := by decide

instance : Subsingleton S_.Idx := ⟨fun a b => funext fun d => d.elim0⟩

/-- Under the precondition these arguments are real. -/
theorem finite_of_fn (A B : FVec Ideal S32768x1024 .bf16) (X : FVec Ideal S32768x2048 .f32) (WA WB : FVec Ideal S1024x2048 .bf16)
    (G S : FVec Ideal S2048 .f32) (WR : FVec Ideal S2048x256 .bf16)
    (BR : FVec Ideal S16 .f32) (P : FVec Ideal S4x32768x256 .f32) (WP : FVec Ideal S256x2048 .bf16) (WG : FVec Ideal S2048x2048 .bf16)
    (h : fn (F := Ideal) A B X WA WB G S WR BR P WP WG = constantI S_ 1 1#1) :
    ((∀ i, ∃ r : ℝ, X i = (r : EReal)) ∧ (∀ i, ∃ r : ℝ, A i = (r : EReal)) ∧ (∀ i, ∃ r : ℝ, B i = (r : EReal))
      ∧ (∀ i, ∃ r : ℝ, WA i = (r : EReal)) ∧ (∀ i, ∃ r : ℝ, WB i = (r : EReal)))
    ∧ (∀ i, ∃ r : ℝ, WR i = (r : EReal)) ∧ (∀ i, ∃ r : ℝ, G i = (r : EReal)) ∧ ∀ i, ∃ r : ℝ, S i = (r : EReal) := by
  obtain ⟨h, hS⟩ := IntOp.andi_eq_one.1 (congrFun h (Shape.Idx.first facts.h_S_))
  obtain ⟨h, hG⟩ := IntOp.andi_eq_one.1 h
  obtain ⟨h, hWR⟩ := IntOp.andi_eq_one.1 h
  obtain ⟨h, hWB⟩ := IntOp.andi_eq_one.1 h
  obtain ⟨h, hWA⟩ := IntOp.andi_eq_one.1 h
  obtain ⟨h, hB⟩ := IntOp.andi_eq_one.1 h
  obtain ⟨hX, hA⟩ := IntOp.andi_eq_one.1 h
  exact ⟨⟨fun i => real_of_abs_lt (X i) (Host.reduce_andi_all _ _ _ _ _ hX i), fun i => real_of_abs_lt (A i) (Host.reduce_andi_all _ _ _ _ _ hA i),
    fun i => real_of_abs_lt (B i) (Host.reduce_andi_all _ _ _ _ _ hB i), fun i => real_of_abs_lt (WA i) (Host.reduce_andi_all _ _ _ _ _ hWA i),
    fun i => real_of_abs_lt (WB i) (Host.reduce_andi_all _ _ _ _ _ hWB i)⟩, fun i => real_of_abs_lt (WR i) (Host.reduce_andi_all _ _ _ _ _ hWR i),
    fun i => real_of_abs_lt (G i) (Host.reduce_andi_all _ _ _ _ _ hG i), fun i => real_of_abs_lt (S i) (Host.reduce_andi_all _ _ _ _ _ hS i)⟩

end Cert.Pre_finite_layer
-- ==== Proof.Layer.Real.lean ====
/-
  With real arguments the layer norm of a row, and so a token's hidden row, is real.
-/
module

public import proofs.«01_k».proof.Proof.Layer.Out
import Mathlib.Tactic.NormNum
import Mathlib.Tactic.Positivity

@[expose] public section

noncomputable section

open Idealize.ShloMosaic

namespace Cert.Layer

/-- A number that is neither infinity. -/
abbrev IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type*} (s : Finset ι) {f : ι → EReal} (hf : ∀ i, IsReal (f i)) : IsReal (∑ i ∈ s, f i) := by
  classical
  induction s using Finset.induction with
  | empty => exact ⟨0, by simp⟩
  | insert a s ha ih => rw [Finset.sum_insert ha]; exact (hf a).add ih

/-- The row length, the stabiliser and the residual's scale are positive reals. -/
theorem length_real : FloatOps.ofBits (F := Ideal) .f32 0x45000000#32 = ((2048 : ℝ) : EReal) := by
  simp [FloatOps.ofBits, Ideal.ofBits, Ideal.ieee]
  rw [← EReal.coe_mul]
  norm_num
theorem eps_real : ∃ r : ℝ, 0 < r ∧ FloatOps.ofBits (F := Ideal) .f32 0x3727C5AC#32 = (r : EReal) := by
  simp [FloatOps.ofBits, Ideal.ofBits, Ideal.ieee]
  exact ⟨_, by positivity, rfl⟩
theorem alpha_real : IsReal alpha := by
  simp [IsReal, FloatOps.ofBits, Ideal.ofBits, Ideal.ieee]
  exact ⟨_, (EReal.coe_mul _ _).symm⟩

theorem div_length (x : ℝ) : Ideal.div (x : EReal) (FloatOps.ofBits (F := Ideal) .f32 0x45000000#32) = ((x / 2048 : ℝ) : EReal) := by
  rw [length_real, Ideal.div, if_neg (by norm_num [← EReal.coe_zero, EReal.coe_eq_coe_iff]), ← EReal.coe_inv, ← EReal.coe_mul, div_eq_mul_inv]

theorem mean_real {y : Fin 2048 → EReal} (hy : ∀ k, IsReal (y k)) : IsReal (mean y) := by
  obtain ⟨s, hs⟩ := IsReal.sum Finset.univ hy
  exact ⟨s / 2048, by unfold mean; rw [hs, div_length]⟩

theorem variance_real {y : Fin 2048 → EReal} (hy : ∀ k, IsReal (y k)) : ∃ r : ℝ, 0 ≤ r ∧ variance y = r := by
  obtain ⟨u, hu⟩ := mean_real hy
  choose z hz using hy
  have hsum : ∀ s : Finset (Fin 2048), ∃ r : ℝ, 0 ≤ r ∧ ∑ k ∈ s, (y k - mean y) * (y k - mean y) = (r : EReal) := fun s => by
    classical
    induction s using Finset.induction with
    | empty => exact ⟨0, le_refl _, by simp⟩
    | insert a s ha ih =>
      obtain ⟨r, h0, h1⟩ := ih
      refine ⟨(z a - u) * (z a - u) + r, add_nonneg (mul_self_nonneg _) h0, ?_⟩
      rw [Finset.sum_insert ha, h1, hz, hu, ← EReal.coe_sub, ← EReal.coe_mul, ← EReal.coe_add]
  obtain ⟨r, h0, h1⟩ := hsum Finset.univ
  refine ⟨r / 2048, by positivity, ?_⟩
  show Ideal.div (∑ k, (y k - mean y) * (y k - mean y)) _ = _
  rw [h1, div_length]

theorem normed_real {y : Fin 2048 → EReal} (hy : ∀ k, IsReal (y k)) (d : Fin 2048) {g b : EReal} (hg : IsReal g) (hb : IsReal b) :
    IsReal (normed y d g b) := by
  unfold normed
  obtain ⟨v, hv, ev⟩ := variance_real hy
  obtain ⟨e, he, ee⟩ := eps_real
  have hr : IsReal (Ideal.rsqrt (variance y + FloatOps.ofBits (F := Ideal) .f32 0x3727C5AC#32)) := by
    rw [ev, ee, ← EReal.coe_add]
    refine ⟨(Real.sqrt (v + e))⁻¹, ?_⟩
    show (if v + e < 0 then ⊥ else if v + e = 0 then ⊤ else (((Real.sqrt (v + e))⁻¹ : ℝ) : EReal)) = _
    rw [if_neg (by linarith), if_neg (by linarith)]
  exact ((((hy d).sub (mean_real hy)).mul hr).mul hg).add hb

/-- With real operands the hidden row is real. -/
theorem hiddenRow_real {a b : Fin 1024 → EReal} {x : Fin 2048 → EReal} {u v : Fin 1024 → Fin 2048 → EReal} {g s : Fin 2048 → EReal}
    (ha : ∀ k, IsReal (a k)) (hb : ∀ k, IsReal (b k)) (hx : ∀ k, IsReal (x k)) (hu : ∀ k j, IsReal (u k j))
    (hv : ∀ k j, IsReal (v k j)) (hg : ∀ j, IsReal (g j)) (hs : ∀ j, IsReal (s j)) (d : Fin 2048) :
    IsReal (hiddenRow (residRow a b x u v) g s d) :=
  normed_real (fun k => (alpha_real.mul (hx k)).add ((IsReal.sum _ fun j => (ha j).mul (hu j k)).add (IsReal.sum _ fun j => (hb j).mul (hv j k))))
    d (hg d) (hs d)

end Cert.Layer
-- ==== Proof.OutProj.Claims.lean ====
/-
  The claims about the output projection.
-/
module

public import proofs.«01_k».proof.Defs
public import proofs.«01_k».proof.Proof.Gen.Kernel3.Frame
public import proofs.«01_k».proof.Proof.OutProj.Ref
public import proofs.«01_k».proof.Proof.OutProj.Finite
public import proofs.«01_k».proof.Proof.Layer.Real
public import Idealize.ShloMosaic.Adequacy
public import Idealize.ShloMosaic.Init

@[expose] public section

noncomputable section

open Idealize.ShloMosaic Idealize.SL.Sem

namespace Cert.Proof.OutProjClaims

open Cert.Kernel3Ideal Cert.Kernel3Ideal.OutProj Cert.Layer

theorem frame_p : Cert.quiescent_Kernel3 := fun m ρ _ => Cert.Kernel3.Gen.frame m ρ
theorem frame_pi : Cert.quiescent_Kernel3Ideal := fun m ρ _ => Cert.Kernel3Ideal.Gen.frame m ρ
theorem frame_pi_finite : Cert.quiescent_Kernel3Ideal_pre_finite_layer := fun m ρ _ => Cert.Kernel3Ideal.Gen.frame m ρ
theorem frame_ri : Cert.quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)
theorem frame_ri_finite : Cert.quiescent_Reference3Ideal_pre_finite_layer := fun m ρ _ => frame_ri m ρ trivial
theorem preserves : Cert.preserves_Kernel3_Kernel3Ideal := trivial

/-- With real operands the router's weights are those of the whole score. -/
theorem route_eq {A B : S32768x1024.Idx → EReal} {X : S32768x2048.Idx → EReal} {WA WB : S1024x2048.Idx → EReal} {G S : S2048.Idx → EReal}
    {WR : S2048x256.Idx → EReal} (BR : S16.Idx → EReal)
    (h : ((∀ i, IsReal (X i)) ∧ (∀ i, IsReal (A i)) ∧ (∀ i, IsReal (B i)) ∧ (∀ i, IsReal (WA i)) ∧ (∀ i, IsReal (WB i)))
      ∧ (∀ i, IsReal (WR i)) ∧ (∀ i, IsReal (G i)) ∧ ∀ i, IsReal (S i)) (r : Fin 32768) (e : Fin 16) :
    routePartsAt (hiddenAt A B X WA WB G S r) WR BR e = routeAt (hiddenAt A B X WA WB G S r) WR BR e := by
  obtain ⟨⟨hX, hA, hB, hWA, hWB⟩, hWR, hG, hS⟩ := h
  unfold routePartsAt routeAt
  rw [show scoreParts (hiddenAt A B X WA WB G S r) (fun k e => WR (ix2 k (hiCol e))) (fun k e => WR (ix2 k (loCol e))) (fun e => BR (ix1 e))
    = score (hiddenAt A B X WA WB G S r) (fun k e => WR (ix2 k (hiCol e))) (fun k e => WR (ix2 k (loCol e))) (fun e => BR (ix1 e)) from
    funext fun e => score_eq _ _ _ _ (fun k => hiddenRow_real (fun _ => hA _) (fun _ => hB _) (fun _ => hX _) (fun _ _ => hWA _)
      (fun _ _ => hWB _) (fun _ => hG _) (fun _ => hS _) k) (fun _ _ => hWR _) (fun _ _ => hWR _) e]

/-- The router's weights from a device's arguments. -/
def weights (m : (ℓ : Loc nD τ sig) → Buf (Elt Ideal) ℓ) (c : Dev nD) : S32768x16.Idx → EReal :=
  fun i => routeAt (argHidden m c (i 0)) (argWR m c) (argBR m c) (i 1)

/-- THE VALUE CLAIM: with a real layer, kernel and reference end with equal hidden rows, accumulators and router weights. -/
theorem algebraic : Cert.algebraic_Kernel3Ideal_Reference3Ideal_pre_finite_layer := by
  intro m ρ m' ρ' hpre hagree
  refine ⟨fun c => hiddenResult m c, fun c => accumResult m c, fun c => weights m c, ?_, ?_⟩
  · refine (θ_run Cert.Kernel3Ideal.defs _ _).mono (fun _ h c => ?_) (Cert.Kernel3Ideal.Value.run_blocks (F := Ideal) m ρ)
    refine ⟨(h c).1.trans (hiddenResult_eq m c), (h c).2.1.trans (accumResult_eq m c), ((h c).2.2.1.trans (routeResult_eq m c)).trans ?_, (h c).2.2.2⟩
    have hf := Cert.Pre_finite_layer.finite_of_fn _ _ _ _ _ _ _ _ _ _ _ _ (hpre c)
    funext i
    exact route_eq (argBR m c) hf (i 0) (i 1)
  · refine (θ_run Cert.Reference3Ideal.defs _ _).mono (fun _ h c => ?_) (Cert.Reference3Ideal.Value.run (F := Ideal) m' ρ')
    obtain ⟨g0, g1, g2, g3, g4, g5, g6, g7, g8, g9, g10, g11⟩ := hagree c
    refine ⟨(h c).1.trans ?_, (h c).2.1.trans ?_, (h c).2.2.1.trans ?_, (h c).2.2.2⟩
    · refine (Cert.Reference3Ideal.Read.val_main_v31_eq (F := Ideal) m' c).trans ?_
      rw [g0, g1, g2, g3, g4, g5, g6]
      funext i
      exact (congrArg _ (eq_ix2 (n0 := 32768) (n1 := 2048) i)).trans (Cert.Reference3Ideal.OutProj.hidden_apply _ _ _ _ _ _ _ (i 0) (i 1))
    · refine (Cert.Reference3Ideal.Read.val_main_v65_eq (F := Ideal) m' c).trans ?_
      rw [g0, g1, g2, g3, g4, g5, g6, g9, g10, g11]
      funext i
      exact (congrArg _ (eq_ix2 (n0 := 32768) (n1 := 2048) i)).trans (Cert.Reference3Ideal.OutProj.accum_apply _ _ _ _ _ _ _ _ _ _ (i 0) (i 1))
    · refine (Cert.Reference3Ideal.Read.val_main_v49_eq (F := Ideal) m' c).trans ?_
      rw [g0, g1, g2, g3, g4, g5, g6, g7, g8]
      funext i
      exact (congrArg _ (eq_ix2 (n0 := 32768) (n1 := 16) i)).trans (Cert.Reference3Ideal.OutProj.route_apply _ _ _ _ _ _ _ _ _ (i 0) (i 1))

end Cert.Proof.OutProjClaims
-- ==== Proof.Layer.Latent.lean ====
/-
  The attention's queries, keys and values of a token from its latent rows, over the extended reals: a root-mean-square norm,
  a product with the weights, and the rotation of the positional columns.
-/
module

public import Idealize.ShloMosaic.PureOps.Ideal
public import Idealize.ShloMosaic.PureOps.Ideal.Laws

@[expose] public section

noncomputable section

open Idealize.ShloMosaic

namespace Cert.Layer

/-- One element of the root-mean-square norm of a row of `n` numbers, with the element's scale; `len` is the length it divides by. -/
def rmsNorm {n : Nat} (len : EReal) (y g : Fin n → EReal) (d : Fin n) : EReal :=
  y d * Ideal.rsqrt (Ideal.div (∑ k, y k * y k) len + FloatOps.ofBits (F := Ideal) .f32 0x358637BD#32) * g d

/-- The normed row times a matrix. -/
def latentRow {n p : Nat} (len : EReal) (y g : Fin n → EReal) (w : Fin n → Fin p → EReal) (j : Fin p) : EReal :=
  ∑ k, rmsNorm len y g k * w k j

/-- The length of the queries' latent row, and that of the keys' and values'. -/
def queryLen : EReal := FloatOps.ofBits (F := Ideal) .f32 0x44400000#32
def keyLen : EReal := FloatOps.ofBits (F := Ideal) .f32 0x44000000#32

/-- What the queries are scaled by. -/
def queryScale : EReal := FloatOps.ofBits (F := Ideal) .f32 0x3DD53B95#32

/-- A pair of positional columns rotated: one by the cosine plus the other by the sine. -/
def rotate (a b co si : EReal) : EReal := a * co + b * si

/-- The queries of eight heads side by side, 256 columns each: a head's first 128 columns are its plain columns, scaled; the other 128
    are its rotated columns, scaled. Of the product `q` a head has 384 columns: the plain ones and the two parts of the rotation. -/
def queryRow (q : Fin 3072 → EReal) (co si : Fin 128 → EReal) (j : Fin 2048) : EReal :=
  if h : j.val % 256 < 128 then q ⟨384 * (j.val / 256) + j.val % 256, by omega⟩ * queryScale
  else rotate (q ⟨384 * (j.val / 256) + (128 + (j.val % 256 - 128)), by omega⟩) (q ⟨384 * (j.val / 256) + (256 + (j.val % 256 - 128)), by omega⟩)
    (co ⟨j.val % 256 - 128, by omega⟩) (si ⟨j.val % 256 - 128, by omega⟩) * queryScale

/-- The keys of eight heads side by side: a head's first 128 columns are its plain columns of the product `u`, where it has 256; the
    other 128 are the rotated columns, which all heads share. -/
def keyRow (u : Fin 2048 → EReal) (rot : Fin 128 → EReal) (j : Fin 2048) : EReal :=
  if h : j.val % 256 < 128 then u ⟨256 * (j.val / 256) + j.val % 256, by omega⟩
  else rot ⟨j.val % 256 - 128, by omega⟩

/-- The values of eight heads side by side: a head's other 128 columns of the product `u`. -/
def valueRow (u : Fin 2048 → EReal) (j : Fin 1024) : EReal := u ⟨256 * (j.val / 128) + (128 + j.val % 128), by omega⟩

theorem queryRow_lo (q : Fin 3072 → EReal) (co si : Fin 128 → EReal) (j : Fin 2048) (h l : Nat) (hl : l < 128) (hh : h < 8)
    (hj : j.val = 256 * h + l) : queryRow q co si j = q ⟨384 * h + l, by omega⟩ * queryScale := by
  have e1 : j.val / 256 = h := by omega
  have e2 : j.val % 256 = l := by omega
  unfold queryRow
  rw [dif_pos (by omega)]
  simp only [e1, e2]

theorem queryRow_hi (q : Fin 3072 → EReal) (co si : Fin 128 → EReal) (j : Fin 2048) (h l : Nat) (hl : l < 128) (hh : h < 8)
    (hj : j.val = 256 * h + 128 + l) : queryRow q co si j
      = rotate (q ⟨384 * h + (128 + l), by omega⟩) (q ⟨384 * h + (256 + l), by omega⟩) (co ⟨l, hl⟩) (si ⟨l, hl⟩) * queryScale := by
  have e1 : j.val / 256 = h := by omega
  have e2 : j.val % 256 - 128 = l := by omega
  unfold queryRow
  rw [dif_neg (by omega)]
  simp only [e1, e2]

theorem keyRow_lo (u : Fin 2048 → EReal) (rot : Fin 128 → EReal) (j : Fin 2048) (h l : Nat) (hl : l < 128) (hh : h < 8)
    (hj : j.val = 256 * h + l) : keyRow u rot j = u ⟨256 * h + l, by omega⟩ := by
  have e1 : j.val / 256 = h := by omega
  have e2 : j.val % 256 = l := by omega
  unfold keyRow
  rw [dif_pos (by omega)]
  simp only [e1, e2]

theorem keyRow_hi (u : Fin 2048 → EReal) (rot : Fin 128 → EReal) (j : Fin 2048) (h l : Nat) (hl : l < 128) (hh : h < 8)
    (hj : j.val = 256 * h + 128 + l) : keyRow u rot j = rot ⟨l, hl⟩ := by
  have e2 : j.val % 256 - 128 = l := by omega
  unfold keyRow
  rw [dif_neg (by omega)]
  simp only [e2]

theorem valueRow_at (u : Fin 2048 → EReal) (j : Fin 1024) (h l : Nat) (hl : l < 128) (hh : h < 8)
    (hj : j.val = 128 * h + l) : valueRow u j = u ⟨256 * h + (128 + l), by omega⟩ := by
  have e1 : j.val / 128 = h := by omega
  have e2 : j.val % 128 = l := by omega
  unfold valueRow
  simp only [e1, e2]

end Cert.Layer
-- ==== Proof.MlaProj.Block.lean ====
/-
  The latent projection's blocks of 512 rows, read at an index: the norms, the products, and the head by head tiles of the results.
-/
module

public import proofs.«01_k».proof.Proof.Gen.Kernel4Ideal.Value
public import proofs.«01_k».proof.Proof.Layer.Latent
public import Idealize.ShloMosaic.Lib.Pointwise
public import Idealize.ShloMosaic.Lib.Pipeline.ValueKit.Tiles

@[expose] public section

noncomputable section

open Idealize.ShloMosaic

namespace Cert.Kernel4Ideal.MlaProj

open Cert.Kernel4Ideal Cert.Kernel4Ideal.Gen Cert.Layer

/-! ## The norms and the products -/

theorem queryNorm_apply (x : Vec Ideal S512x768 .f32) (g : Vec Ideal S1x768 .f32) (r : Fin 512) (d : Fin 768) :
    k0_pay6 (F := Ideal) x g (ix2 r d) = rmsNorm queryLen (fun k => x (ix2 r k)) (fun k => g (ix2 (0 : Fin 1) k)) d := by
  unfold k0_pay6 rmsNorm queryLen
  pointwise

theorem keyNorm_apply (x : Vec Ideal S512x512 .f32) (g : Vec Ideal S1x512 .f32) (r : Fin 512) (d : Fin 512) :
    k0_pay7 (F := Ideal) x g (ix2 r d) = rmsNorm keyLen (fun k => x (ix2 r k)) (fun k => g (ix2 (0 : Fin 1) k)) d := by
  unfold k0_pay7 rmsNorm keyLen
  pointwise

theorem queryProduct_apply (x : FVec Ideal S512x768 .bf16) (w : Vec Ideal S768x3072 .bf16) (r : Fin 512) (j : Fin 3072) :
    k0_pay10 (F := Ideal) x w (ix2 r j) = ∑ k : Fin 768, x (ix2 r k) * w (ix2 k j) := by
  unfold k0_pay10
  pointwise

theorem keyProduct_apply (x : FVec Ideal S512x512 .bf16) (w : Vec Ideal S512x2048 .bf16) (r : Fin 512) (j : Fin 2048) :
    k0_pay11 (F := Ideal) x w (ix2 r j) = ∑ k : Fin 512, x (ix2 r k) * w (ix2 k j) := by
  unfold k0_pay11
  pointwise

/-- The block of query products, and its rows. -/
theorem queryLatent_apply (x : Vec Ideal S512x768 .f32) (g : Vec Ideal S1x768 .f32) (w : Vec Ideal S768x3072 .bf16) (r : Fin 512)
    (j : Fin 3072) : k0_pay10 (F := Ideal) (k0_pay6 x g) w (ix2 r j)
      = latentRow queryLen (fun k => x (ix2 r k)) (fun k => g (ix2 (0 : Fin 1) k)) (fun k j => w (ix2 k j)) j :=
  (queryProduct_apply _ _ r j).trans (Finset.sum_congr rfl fun k _ => congrArg (· * w (ix2 k j)) (queryNorm_apply x g r k))

theorem keyLatent_apply (x : Vec Ideal S512x512 .f32) (g : Vec Ideal S1x512 .f32) (w : Vec Ideal S512x2048 .bf16) (r : Fin 512)
    (j : Fin 2048) : k0_pay11 (F := Ideal) (k0_pay7 x g) w (ix2 r j)
      = latentRow keyLen (fun k => x (ix2 r k)) (fun k => g (ix2 (0 : Fin 1) k)) (fun k j => w (ix2 k j)) j :=
  (keyProduct_apply _ _ r j).trans (Finset.sum_congr rfl fun k _ => congrArg (· * w (ix2 k j)) (keyNorm_apply x g r k))

/-- The rotated columns of the keys. -/
theorem rotated_apply (co si a b : Vec Ideal S512x128 .f32) (r : Fin 512) (l : Fin 128) :
    k0_pay9 (F := Ideal) si (k0_pay8 co a) b (ix2 r l) = rotate (a (ix2 r l)) (b (ix2 r l)) (co (ix2 r l)) (si (ix2 r l)) := by
  unfold k0_pay9 k0_pay8 rotate
  pointwise

/-! ## The tiles of the queries, head by head -/

variable (co si : Vec Ideal S512x128 .f32) (nq : FVec Ideal S512x768 .bf16) (wq : Vec Ideal S768x3072 .bf16)
  (qa : FVec Ideal S512x3072 .f32) (nkv : FVec Ideal S512x512 .bf16) (wkv : Vec Ideal S512x2048 .bf16) (ua : FVec Ideal S512x2048 .f32)

theorem queryHi0 (r : Fin 512) (l : Fin 128) : k0_pay14 (F := Ideal) co si nq wq (ix2 r l)
    = rotate ((k0_pay10 (F := Ideal) nq wq) (ix2 r ⟨384 * 0 + (128 + l.val), by omega⟩)) ((k0_pay10 (F := Ideal) nq wq) (ix2 r ⟨384 * 0 + (256 + l.val), by omega⟩)) (co (ix2 r l)) (si (ix2 r l)) * queryScale := by
  unfold k0_pay14 k0_pay12 rotate queryScale
  pointwise
theorem queryLo0 (r : Fin 512) (l : Fin 128) : k0_pay13 (F := Ideal) nq wq (ix2 r l)
    = (k0_pay10 (F := Ideal) nq wq) (ix2 r ⟨384 * 0 + l.val, by omega⟩) * queryScale := by
  unfold k0_pay13 k0_pay12 queryScale
  pointwise

theorem queryHi1 (r : Fin 512) (l : Fin 128) : k0_pay22 (F := Ideal) si (k0_pay18 nq wq) (k0_pay20 co nq wq) (ix2 r l)
    = rotate ((k0_pay10 (F := Ideal) nq wq) (ix2 r ⟨384 * 1 + (128 + l.val), by omega⟩)) ((k0_pay10 (F := Ideal) nq wq) (ix2 r ⟨384 * 1 + (256 + l.val), by omega⟩)) (co (ix2 r l)) (si (ix2 r l)) * queryScale := by
  unfold k0_pay22 k0_pay20 k0_pay18 rotate queryScale
  pointwise
theorem queryLo1 (r : Fin 512) (l : Fin 128) : k0_pay21 (F := Ideal) (k0_pay19 nq wq) (ix2 r l)
    = (k0_pay10 (F := Ideal) nq wq) (ix2 r ⟨384 * 1 + l.val, by omega⟩) * queryScale := by
  unfold k0_pay21 k0_pay19 k0_pay18 queryScale
  pointwise

theorem queryHi2 (r : Fin 512) (l : Fin 128) : k0_pay28 (F := Ideal) co si qa (ix2 r l)
    = rotate (qa (ix2 r ⟨384 * 2 + (128 + l.val), by omega⟩)) (qa (ix2 r ⟨384 * 2 + (256 + l.val), by omega⟩)) (co (ix2 r l)) (si (ix2 r l)) * queryScale := by
  unfold k0_pay28 k0_pay26 rotate queryScale
  pointwise
theorem queryLo2 (r : Fin 512) (l : Fin 128) : k0_pay27 (F := Ideal) qa (ix2 r l)
    = qa (ix2 r ⟨384 * 2 + l.val, by omega⟩) * queryScale := by
  unfold k0_pay27 k0_pay26 queryScale
  pointwise

theorem queryHi3 (r : Fin 512) (l : Fin 128) : k0_pay34 (F := Ideal) co si qa (ix2 r l)
    = rotate (qa (ix2 r ⟨384 * 3 + (128 + l.val), by omega⟩)) (qa (ix2 r ⟨384 * 3 + (256 + l.val), by omega⟩)) (co (ix2 r l)) (si (ix2 r l)) * queryScale := by
  unfold k0_pay34 k0_pay32 rotate queryScale
  pointwise
theorem queryLo3 (r : Fin 512) (l : Fin 128) : k0_pay33 (F := Ideal) qa (ix2 r l)
    = qa (ix2 r ⟨384 * 3 + l.val, by omega⟩) * queryScale := by
  unfold k0_pay33 k0_pay32 queryScale
  pointwise

theorem queryHi4 (r : Fin 512) (l : Fin 128) : k0_pay42 (F := Ideal) si (k0_pay38 qa) (k0_pay40 co qa) (ix2 r l)
    = rotate (qa (ix2 r ⟨384 * 4 + (128 + l.val), by omega⟩)) (qa (ix2 r ⟨384 * 4 + (256 + l.val), by omega⟩)) (co (ix2 r l)) (si (ix2 r l)) * queryScale := by
  unfold k0_pay42 k0_pay40 k0_pay38 rotate queryScale
  pointwise
theorem queryLo4 (r : Fin 512) (l : Fin 128) : k0_pay41 (F := Ideal) (k0_pay39 qa) (ix2 r l)
    = qa (ix2 r ⟨384 * 4 + l.val, by omega⟩) * queryScale := by
  unfold k0_pay41 k0_pay39 k0_pay38 queryScale
  pointwise

theorem queryHi5 (r : Fin 512) (l : Fin 128) : k0_pay48 (F := Ideal) co si qa (ix2 r l)
    = rotate (qa (ix2 r ⟨384 * 5 + (128 + l.val), by omega⟩)) (qa (ix2 r ⟨384 * 5 + (256 + l.val), by omega⟩)) (co (ix2 r l)) (si (ix2 r l)) * queryScale := by
  unfold k0_pay48 k0_pay46 rotate queryScale
  pointwise
theorem queryLo5 (r : Fin 512) (l : Fin 128) : k0_pay47 (F := Ideal) qa (ix2 r l)
    = qa (ix2 r ⟨384 * 5 + l.val, by omega⟩) * queryScale := by
  unfold k0_pay47 k0_pay46 queryScale
  pointwise

theorem queryHi6 (r : Fin 512) (l : Fin 128) : k0_pay54 (F := Ideal) co si qa (ix2 r l)
    = rotate (qa (ix2 r ⟨384 * 6 + (128 + l.val), by omega⟩)) (qa (ix2 r ⟨384 * 6 + (256 + l.val), by omega⟩)) (co (ix2 r l)) (si (ix2 r l)) * queryScale := by
  unfold k0_pay54 k0_pay52 rotate queryScale
  pointwise
theorem queryLo6 (r : Fin 512) (l : Fin 128) : k0_pay53 (F := Ideal) qa (ix2 r l)
    = qa (ix2 r ⟨384 * 6 + l.val, by omega⟩) * queryScale := by
  unfold k0_pay53 k0_pay52 queryScale
  pointwise

theorem queryHi7 (r : Fin 512) (l : Fin 128) : k0_pay2 (F := Ideal) si (k0_pay58 qa) (k0_pay60 co qa) (ix2 r l)
    = rotate (qa (ix2 r ⟨384 * 7 + (128 + l.val), by omega⟩)) (qa (ix2 r ⟨384 * 7 + (256 + l.val), by omega⟩)) (co (ix2 r l)) (si (ix2 r l)) * queryScale := by
  unfold k0_pay2 k0_pay60 k0_pay58 rotate queryScale
  pointwise
theorem queryLo7 (r : Fin 512) (l : Fin 128) : k0_pay1 (F := Ideal) (k0_pay59 qa) (ix2 r l)
    = qa (ix2 r ⟨384 * 7 + l.val, by omega⟩) * queryScale := by
  unfold k0_pay1 k0_pay59 k0_pay58 queryScale
  pointwise

/-! ## The tiles of the keys and of the values, head by head -/

theorem keyLo0 (r : Fin 512) (l : Fin 128) : k0_pay16 (F := Ideal) nkv wkv (ix2 r l) = (k0_pay11 (F := Ideal) nkv wkv) (ix2 r ⟨256 * 0 + l.val, by omega⟩) := by
  unfold k0_pay16 k0_pay15
  pointwise
theorem value0 (r : Fin 512) (l : Fin 128) : k0_pay17 (F := Ideal) nkv wkv (ix2 r l) = (k0_pay11 (F := Ideal) nkv wkv) (ix2 r ⟨256 * 0 + (128 + l.val), by omega⟩) := by
  unfold k0_pay17 k0_pay15
  pointwise

theorem keyLo1 (r : Fin 512) (l : Fin 128) : k0_pay24 (F := Ideal) ua (ix2 r l) = ua (ix2 r ⟨256 * 1 + l.val, by omega⟩) := by
  unfold k0_pay24 k0_pay23
  pointwise
theorem value1 (r : Fin 512) (l : Fin 128) : k0_pay25 (F := Ideal) ua (ix2 r l) = ua (ix2 r ⟨256 * 1 + (128 + l.val), by omega⟩) := by
  unfold k0_pay25 k0_pay23
  pointwise

theorem keyLo2 (r : Fin 512) (l : Fin 128) : k0_pay30 (F := Ideal) ua (ix2 r l) = ua (ix2 r ⟨256 * 2 + l.val, by omega⟩) := by
  unfold k0_pay30 k0_pay29
  pointwise
theorem value2 (r : Fin 512) (l : Fin 128) : k0_pay31 (F := Ideal) (k0_pay29 ua) (ix2 r l) = ua (ix2 r ⟨256 * 2 + (128 + l.val), by omega⟩) := by
  unfold k0_pay31 k0_pay29
  pointwise

theorem keyLo3 (r : Fin 512) (l : Fin 128) : k0_pay36 (F := Ideal) ua (ix2 r l) = ua (ix2 r ⟨256 * 3 + l.val, by omega⟩) := by
  unfold k0_pay36 k0_pay35
  pointwise
theorem value3 (r : Fin 512) (l : Fin 128) : k0_pay37 (F := Ideal) ua (ix2 r l) = ua (ix2 r ⟨256 * 3 + (128 + l.val), by omega⟩) := by
  unfold k0_pay37 k0_pay35
  pointwise

theorem keyLo4 (r : Fin 512) (l : Fin 128) : k0_pay44 (F := Ideal) ua (ix2 r l) = ua (ix2 r ⟨256 * 4 + l.val, by omega⟩) := by
  unfold k0_pay44 k0_pay43
  pointwise
theorem value4 (r : Fin 512) (l : Fin 128) : k0_pay45 (F := Ideal) ua (ix2 r l) = ua (ix2 r ⟨256 * 4 + (128 + l.val), by omega⟩) := by
  unfold k0_pay45 k0_pay43
  pointwise

theorem keyLo5 (r : Fin 512) (l : Fin 128) : k0_pay50 (F := Ideal) ua (ix2 r l) = ua (ix2 r ⟨256 * 5 + l.val, by omega⟩) := by
  unfold k0_pay50 k0_pay49
  pointwise
theorem value5 (r : Fin 512) (l : Fin 128) : k0_pay51 (F := Ideal) (k0_pay49 ua) (ix2 r l) = ua (ix2 r ⟨256 * 5 + (128 + l.val), by omega⟩) := by
  unfold k0_pay51 k0_pay49
  pointwise

theorem keyLo6 (r : Fin 512) (l : Fin 128) : k0_pay56 (F := Ideal) ua (ix2 r l) = ua (ix2 r ⟨256 * 6 + l.val, by omega⟩) := by
  unfold k0_pay56 k0_pay55
  pointwise
theorem value6 (r : Fin 512) (l : Fin 128) : k0_pay57 (F := Ideal) ua (ix2 r l) = ua (ix2 r ⟨256 * 6 + (128 + l.val), by omega⟩) := by
  unfold k0_pay57 k0_pay55
  pointwise

theorem keyLo7 (r : Fin 512) (l : Fin 128) : k0_pay4 (F := Ideal) ua (ix2 r l) = ua (ix2 r ⟨256 * 7 + l.val, by omega⟩) := by
  unfold k0_pay4 k0_pay3
  pointwise
theorem value7 (r : Fin 512) (l : Fin 128) : k0_pay5 (F := Ideal) ua (ix2 r l) = ua (ix2 r ⟨256 * 7 + (128 + l.val), by omega⟩) := by
  unfold k0_pay5 k0_pay3
  pointwise

/-! ## The tiles in the whole blocks -/

/-- A tile that holds a head's plain queries, in the block of queries. -/
theorem queryTileLo (q : FVec Ideal S512x3072 .f32) (co si : Vec Ideal S512x128 .f32) (w : FVec Ideal S512x128 .bf16) (y : S512x2048.Idx) (r0 : Fin 512) (j0 : Fin 2048)
    (hy0 : (y 0 : Nat) = r0) (hy1 : (y 1 : Nat) = j0)
    (h o : Nat) (hh : h < 8) (ho : o = 256 * h)
    (hw : ∀ (r : Fin 512) (l : Fin 128), w (ix2 r l) = q (ix2 r ⟨384 * h + l.val, by omega⟩) * queryScale) :
    View.TileAt (Val := Elt Ideal) (S := S512x2048) (e := .bf16) y ![0, o] S512x128.size w
      (queryRow (fun j => q (ix2 r0 j)) (fun l => co (ix2 r0 l)) (fun l => si (ix2 r0 l)) j0) := by
  intro z hz
  have hz0 : (y 0 : Nat) = 0 + z 0 := hz 0
  have hz1 : (y 1 : Nat) = o + z 1 := hz 1
  have hr : r0 = (z 0 : Fin 512) := Fin.ext (by omega)
  have hl : (z 1 : Nat) < 128 := (z 1).isLt
  rw [queryRow_lo _ _ _ _ h (z 1 : Nat) hl hh (by omega), hr]
  exact (congrArg w (eq_ix2 (n0 := 512) (n1 := 128) z)).trans (hw (z 0) (z 1))

/-- A tile that holds a head's rotated queries, in the block of queries. -/
theorem queryTileHi (q : FVec Ideal S512x3072 .f32) (co si : Vec Ideal S512x128 .f32) (w : FVec Ideal S512x128 .bf16) (y : S512x2048.Idx) (r0 : Fin 512) (j0 : Fin 2048)
    (hy0 : (y 0 : Nat) = r0) (hy1 : (y 1 : Nat) = j0)
    (h o : Nat) (hh : h < 8) (ho : o = 256 * h + 128)
    (hw : ∀ (r : Fin 512) (l : Fin 128), w (ix2 r l) = rotate (q (ix2 r ⟨384 * h + (128 + l.val), by omega⟩))
      (q (ix2 r ⟨384 * h + (256 + l.val), by omega⟩)) (co (ix2 r l)) (si (ix2 r l)) * queryScale) :
    View.TileAt (Val := Elt Ideal) (S := S512x2048) (e := .bf16) y ![0, o] S512x128.size w
      (queryRow (fun j => q (ix2 r0 j)) (fun l => co (ix2 r0 l)) (fun l => si (ix2 r0 l)) j0) := by
  intro z hz
  have hz0 : (y 0 : Nat) = 0 + z 0 := hz 0
  have hz1 : (y 1 : Nat) = o + z 1 := hz 1
  have hr : r0 = (z 0 : Fin 512) := Fin.ext (by omega)
  have hl : (z 1 : Nat) < 128 := (z 1).isLt
  rw [queryRow_hi _ _ _ _ h (z 1 : Nat) hl hh (by omega), hr]
  exact (congrArg w (eq_ix2 (n0 := 512) (n1 := 128) z)).trans (hw (z 0) (z 1))

/-- A tile that holds a head's plain keys, in the block of keys. -/
theorem keyTileLo (u : FVec Ideal S512x2048 .f32) (rot : FVec Ideal S512x128 .bf16) (w : FVec Ideal S512x128 .bf16) (y : S512x2048.Idx) (r0 : Fin 512) (j0 : Fin 2048)
    (hy0 : (y 0 : Nat) = r0) (hy1 : (y 1 : Nat) = j0)
    (h o : Nat) (hh : h < 8) (ho : o = 256 * h)
    (hw : ∀ (r : Fin 512) (l : Fin 128), w (ix2 r l) = u (ix2 r ⟨256 * h + l.val, by omega⟩)) :
    View.TileAt (Val := Elt Ideal) (S := S512x2048) (e := .bf16) y ![0, o] S512x128.size w
      (keyRow (fun j => u (ix2 r0 j)) (fun l => rot (ix2 r0 l)) j0) := by
  intro z hz
  have hz0 : (y 0 : Nat) = 0 + z 0 := hz 0
  have hz1 : (y 1 : Nat) = o + z 1 := hz 1
  have hr : r0 = (z 0 : Fin 512) := Fin.ext (by omega)
  have hl : (z 1 : Nat) < 128 := (z 1).isLt
  rw [keyRow_lo _ _ _ h (z 1 : Nat) hl hh (by omega), hr]
  exact (congrArg w (eq_ix2 (n0 := 512) (n1 := 128) z)).trans (hw (z 0) (z 1))

/-- The tile of rotated keys, in the block of keys under any head. -/
theorem keyTileHi (u : FVec Ideal S512x2048 .f32) (rot : FVec Ideal S512x128 .bf16) (y : S512x2048.Idx) (r0 : Fin 512) (j0 : Fin 2048)
    (hy0 : (y 0 : Nat) = r0) (hy1 : (y 1 : Nat) = j0)
    (h o : Nat) (hh : h < 8) (ho : o = 256 * h + 128) :
    View.TileAt (Val := Elt Ideal) (S := S512x2048) (e := .bf16) y ![0, o] S512x128.size rot
      (keyRow (fun j => u (ix2 r0 j)) (fun l => rot (ix2 r0 l)) j0) := by
  intro z hz
  have hz0 : (y 0 : Nat) = 0 + z 0 := hz 0
  have hz1 : (y 1 : Nat) = o + z 1 := hz 1
  have hr : r0 = (z 0 : Fin 512) := Fin.ext (by omega)
  have hl : (z 1 : Nat) < 128 := (z 1).isLt
  rw [keyRow_hi _ _ _ h (z 1 : Nat) hl hh (by omega), hr]
  exact congrArg rot (eq_ix2 (n0 := 512) (n1 := 128) z)

/-- A tile that holds a head's values, in the block of values. -/
theorem valueTile (u : FVec Ideal S512x2048 .f32) (w : FVec Ideal S512x128 .bf16) (y : S512x1024.Idx) (r0 : Fin 512) (j0 : Fin 1024)
    (hy0 : (y 0 : Nat) = r0) (hy1 : (y 1 : Nat) = j0)
    (h o : Nat) (hh : h < 8) (ho : o = 128 * h)
    (hw : ∀ (r : Fin 512) (l : Fin 128), w (ix2 r l) = u (ix2 r ⟨256 * h + (128 + l.val), by omega⟩)) :
    View.TileAt (Val := Elt Ideal) (S := S512x1024) (e := .bf16) y ![0, o] S512x128.size w
      (valueRow (fun j => u (ix2 r0 j)) j0) := by
  intro z hz
  have hz0 : (y 0 : Nat) = 0 + z 0 := hz 0
  have hz1 : (y 1 : Nat) = o + z 1 := hz 1
  have hr : r0 = (z 0 : Fin 512) := Fin.ext (by omega)
  have hl : (z 1 : Nat) < 128 := (z 1).isLt
  rw [valueRow_at _ _ h (z 1 : Nat) hl hh (by omega), hr]
  exact (congrArg w (eq_ix2 (n0 := 512) (n1 := 128) z)).trans (hw (z 0) (z 1))

/-! ## The whole blocks -/

variable (x0 : Vec Ideal S512x768 .f32) (x1 x2 : Vec Ideal S512x128 .f32) (x3 : Vec Ideal S512x512 .f32) (x4 x5 : Vec Ideal S512x128 .f32)
  (x6 : Vec Ideal S1x768 .f32) (x7 : Vec Ideal S1x512 .f32) (x8 : Vec Ideal S768x3072 .bf16) (x9 : Vec Ideal S512x2048 .bf16)

/-- The block of query products, that of key and value products, and that of rotated keys. -/
abbrev queryProducts : FVec Ideal S512x3072 .f32 := k0_pay65 (F := Ideal) x0 x1 x2 x3 x4 x5 x6 x7 x8 x9
abbrev keyProducts : FVec Ideal S512x2048 .f32 := k0_pay66 (F := Ideal) x0 x1 x2 x3 x4 x5 x6 x7 x8 x9
abbrev rotatedKeys : FVec Ideal S512x128 .bf16 := k0_pay64 (F := Ideal) x0 x1 x2 x3 x4 x5 x6 x7 x8 x9

theorem queryBlock_apply (y : S512x2048.Idx) : out0_10 (F := Ideal) x0 x1 x2 x3 x4 x5 x6 x7 x8 x9 y
    = queryRow (fun j => queryProducts x0 x1 x2 x3 x4 x5 x6 x7 x8 x9 (ix2 (y 0) j)) (fun l => View.ld x4 r0_0 (ix2 (y 0) l)) (fun l => View.ld x5 r0_0 (ix2 (y 0) l)) (y 1) := by
  unfold out0_10
  refine View.canon_eq_of_allAt _ y _ (cover0_10 _ _ _ _ _ _ _ _ _ _ _ _ _ _ _ _ y) ?_
  refine View.allAt_cons_unit _ _ _ _ _ (queryTileHi _ _ _ _ y (y 0) (y 1) rfl rfl 7 _ (by omega) rfl (queryHi7 _ _ _)) ?_
  refine View.allAt_cons_unit _ _ _ _ _ (queryTileLo _ _ _ _ y (y 0) (y 1) rfl rfl 7 _ (by omega) rfl (queryLo7 _)) ?_
  refine View.allAt_cons_unit _ _ _ _ _ (queryTileHi _ _ _ _ y (y 0) (y 1) rfl rfl 6 _ (by omega) rfl (queryHi6 _ _ _)) ?_
  refine View.allAt_cons_unit _ _ _ _ _ (queryTileLo _ _ _ _ y (y 0) (y 1) rfl rfl 6 _ (by omega) rfl (queryLo6 _)) ?_
  refine View.allAt_cons_unit _ _ _ _ _ (queryTileHi _ _ _ _ y (y 0) (y 1) rfl rfl 5 _ (by omega) rfl (queryHi5 _ _ _)) ?_
  refine View.allAt_cons_unit _ _ _ _ _ (queryTileLo _ _ _ _ y (y 0) (y 1) rfl rfl 5 _ (by omega) rfl (queryLo5 _)) ?_
  refine View.allAt_cons_unit _ _ _ _ _ (queryTileHi _ _ _ _ y (y 0) (y 1) rfl rfl 4 _ (by omega) rfl (queryHi4 _ _ _)) ?_
  refine View.allAt_cons_unit _ _ _ _ _ (queryTileLo _ _ _ _ y (y 0) (y 1) rfl rfl 4 _ (by omega) rfl (queryLo4 _)) ?_
  refine View.allAt_cons_unit _ _ _ _ _ (queryTileHi _ _ _ _ y (y 0) (y 1) rfl rfl 3 _ (by omega) rfl (queryHi3 _ _ _)) ?_
  refine View.allAt_cons_unit _ _ _ _ _ (queryTileLo _ _ _ _ y (y 0) (y 1) rfl rfl 3 _ (by omega) rfl (queryLo3 _)) ?_
  refine View.allAt_cons_unit _ _ _ _ _ (queryTileHi _ _ _ _ y (y 0) (y 1) rfl rfl 2 _ (by omega) rfl (queryHi2 _ _ _)) ?_
  refine View.allAt_cons_unit _ _ _ _ _ (queryTileLo _ _ _ _ y (y 0) (y 1) rfl rfl 2 _ (by omega) rfl (queryLo2 _)) ?_
  refine View.allAt_cons_unit _ _ _ _ _ (queryTileHi _ _ _ _ y (y 0) (y 1) rfl rfl 1 _ (by omega) rfl (queryHi1 _ _ _ _)) ?_
  refine View.allAt_cons_unit _ _ _ _ _ (queryTileLo _ _ _ _ y (y 0) (y 1) rfl rfl 1 _ (by omega) rfl (queryLo1 _ _)) ?_
  refine View.allAt_cons_unit _ _ _ _ _ (queryTileHi _ _ _ _ y (y 0) (y 1) rfl rfl 0 _ (by omega) rfl (queryHi0 _ _ _ _)) ?_
  refine View.allAt_cons_unit _ _ _ _ _ (queryTileLo _ _ _ _ y (y 0) (y 1) rfl rfl 0 _ (by omega) rfl (queryLo0 _ _)) ?_
  exact View.allAt_nil y _

theorem keyBlock_apply (y : S512x2048.Idx) : out0_11 (F := Ideal) x0 x1 x2 x3 x4 x5 x6 x7 x8 x9 y
    = keyRow (fun j => keyProducts x0 x1 x2 x3 x4 x5 x6 x7 x8 x9 (ix2 (y 0) j)) (fun l => rotatedKeys x0 x1 x2 x3 x4 x5 x6 x7 x8 x9 (ix2 (y 0) l)) (y 1) := by
  unfold out0_11
  refine View.canon_eq_of_allAt _ y _ (cover0_11 _ _ _ _ _ _ _ _ _ _ _ _ _ _ _ _ y) ?_
  refine View.allAt_cons_unit _ _ _ _ _ (keyTileHi _ _ y (y 0) (y 1) rfl rfl 7 _ (by omega) rfl) ?_
  refine View.allAt_cons_unit _ _ _ _ _ (keyTileLo _ _ _ y (y 0) (y 1) rfl rfl 7 _ (by omega) rfl (keyLo7 _)) ?_
  refine View.allAt_cons_unit _ _ _ _ _ (keyTileHi _ _ y (y 0) (y 1) rfl rfl 6 _ (by omega) rfl) ?_
  refine View.allAt_cons_unit _ _ _ _ _ (keyTileLo _ _ _ y (y 0) (y 1) rfl rfl 6 _ (by omega) rfl (keyLo6 _)) ?_
  refine View.allAt_cons_unit _ _ _ _ _ (keyTileHi _ _ y (y 0) (y 1) rfl rfl 5 _ (by omega) rfl) ?_
  refine View.allAt_cons_unit _ _ _ _ _ (keyTileLo _ _ _ y (y 0) (y 1) rfl rfl 5 _ (by omega) rfl (keyLo5 _)) ?_
  refine View.allAt_cons_unit _ _ _ _ _ (keyTileHi _ _ y (y 0) (y 1) rfl rfl 4 _ (by omega) rfl) ?_
  refine View.allAt_cons_unit _ _ _ _ _ (keyTileLo _ _ _ y (y 0) (y 1) rfl rfl 4 _ (by omega) rfl (keyLo4 _)) ?_
  refine View.allAt_cons_unit _ _ _ _ _ (keyTileHi _ _ y (y 0) (y 1) rfl rfl 3 _ (by omega) rfl) ?_
  refine View.allAt_cons_unit _ _ _ _ _ (keyTileLo _ _ _ y (y 0) (y 1) rfl rfl 3 _ (by omega) rfl (keyLo3 _)) ?_
  refine View.allAt_cons_unit _ _ _ _ _ (keyTileHi _ _ y (y 0) (y 1) rfl rfl 2 _ (by omega) rfl) ?_
  refine View.allAt_cons_unit _ _ _ _ _ (keyTileLo _ _ _ y (y 0) (y 1) rfl rfl 2 _ (by omega) rfl (keyLo2 _)) ?_
  refine View.allAt_cons_unit _ _ _ _ _ (keyTileHi _ _ y (y 0) (y 1) rfl rfl 1 _ (by omega) rfl) ?_
  refine View.allAt_cons_unit _ _ _ _ _ (keyTileLo _ _ _ y (y 0) (y 1) rfl rfl 1 _ (by omega) rfl (keyLo1 _)) ?_
  refine View.allAt_cons_unit _ _ _ _ _ (keyTileHi _ _ y (y 0) (y 1) rfl rfl 0 _ (by omega) rfl) ?_
  refine View.allAt_cons_unit _ _ _ _ _ (keyTileLo _ _ _ y (y 0) (y 1) rfl rfl 0 _ (by omega) rfl (keyLo0 _ _)) ?_
  exact View.allAt_nil y _

theorem valueBlock_apply (y : S512x1024.Idx) : out0_12 (F := Ideal) x0 x1 x2 x3 x4 x5 x6 x7 x8 x9 y
    = valueRow (fun j => keyProducts x0 x1 x2 x3 x4 x5 x6 x7 x8 x9 (ix2 (y 0) j)) (y 1) := by
  unfold out0_12
  refine View.canon_eq_of_allAt _ y _ (cover0_12 _ _ _ _ _ _ _ _ y) ?_
  refine View.allAt_cons_unit _ _ _ _ _ (valueTile _ _ y (y 0) (y 1) rfl rfl 7 _ (by omega) rfl (value7 _)) ?_
  refine View.allAt_cons_unit _ _ _ _ _ (valueTile _ _ y (y 0) (y 1) rfl rfl 6 _ (by omega) rfl (value6 _)) ?_
  refine View.allAt_cons_unit _ _ _ _ _ (valueTile _ _ y (y 0) (y 1) rfl rfl 5 _ (by omega) rfl (value5 _)) ?_
  refine View.allAt_cons_unit _ _ _ _ _ (valueTile _ _ y (y 0) (y 1) rfl rfl 4 _ (by omega) rfl (value4 _)) ?_
  refine View.allAt_cons_unit _ _ _ _ _ (valueTile _ _ y (y 0) (y 1) rfl rfl 3 _ (by omega) rfl (value3 _)) ?_
  refine View.allAt_cons_unit _ _ _ _ _ (valueTile _ _ y (y 0) (y 1) rfl rfl 2 _ (by omega) rfl (value2 _)) ?_
  refine View.allAt_cons_unit _ _ _ _ _ (valueTile _ _ y (y 0) (y 1) rfl rfl 1 _ (by omega) rfl (value1 _)) ?_
  refine View.allAt_cons_unit _ _ _ _ _ (valueTile _ _ y (y 0) (y 1) rfl rfl 0 _ (by omega) rfl (value0 _ _)) ?_
  exact View.allAt_nil y _

end Cert.Kernel4Ideal.MlaProj
-- ==== Proof.MlaProj.Array.lean ====
/-
  The arrays that the latent projection leaves: the queries, the keys and the values.
-/
module

public import proofs.«01_k».proof.Proof.MlaProj.Block
public import Idealize.ShloMosaic.Lib.Pipeline.Value
public import Idealize.ShloMosaic.Lib.StableHlo.Run

@[expose] public section

noncomputable section

open Idealize.ShloMosaic Idealize.ShloMosaic.TcCoe Idealize.SL.Sem
open Idealize.ShloMosaic.Pipeline (Dat)

namespace Cert.Kernel4Ideal.MlaProj

open Cert.Kernel4Ideal Cert.Kernel4Ideal.Gen Cert.Layer

/-! ## The results, from the arguments -/

/-- The position of a token in its sequence of 16384. -/
def position (r : Fin 32768) : Fin 16384 := ⟨r.val % 16384, by omega⟩

/-- A token's query product: its 768 latent columns from column 3072 on, normed, times the weights. -/
def queryLatentAt (Z : S32768x4608.Idx → EReal) (GQ : S768.Idx → EReal) (WQ : S768x3072.Idx → EReal) (r : Fin 32768) : Fin 3072 → EReal :=
  latentRow queryLen (fun k : Fin 768 => Z (ix2 r ⟨3072 + k.val, by omega⟩)) (fun k => GQ (ix1 k)) (fun k j => WQ (ix2 k j))

/-- A token's product for keys and values: its 512 latent columns from column 4096 on, normed, times the weights. -/
def keyLatentAt (Z : S32768x4608.Idx → EReal) (GK : S512.Idx → EReal) (WK : S512x2048.Idx → EReal) (r : Fin 32768) : Fin 2048 → EReal :=
  latentRow keyLen (fun k : Fin 512 => Z (ix2 r ⟨4096 + k.val, by omega⟩)) (fun k => GK (ix1 k)) (fun k j => WK (ix2 k j))

/-- A token's rotated key columns, from columns 3840 and 3968 on. -/
def rotatedAt (Z : S32768x4608.Idx → EReal) (CO SI : S16384x128.Idx → EReal) (r : Fin 32768) (l : Fin 128) : EReal :=
  rotate (Z (ix2 r ⟨3840 + l.val, by omega⟩)) (Z (ix2 r ⟨3968 + l.val, by omega⟩)) (CO (ix2 (position r) l)) (SI (ix2 (position r) l))

/-- A token's queries, keys and values. -/
def queryAt (Z : S32768x4608.Idx → EReal) (CO SI : S16384x128.Idx → EReal) (GQ : S768.Idx → EReal) (WQ : S768x3072.Idx → EReal)
    (r : Fin 32768) : Fin 2048 → EReal :=
  queryRow (queryLatentAt Z GQ WQ r) (fun l => CO (ix2 (position r) l)) (fun l => SI (ix2 (position r) l))
def keyAt (Z : S32768x4608.Idx → EReal) (CO SI : S16384x128.Idx → EReal) (GK : S512.Idx → EReal) (WK : S512x2048.Idx → EReal)
    (r : Fin 32768) : Fin 2048 → EReal :=
  keyRow (keyLatentAt Z GK WK r) (rotatedAt Z CO SI r)
def valueAt (Z : S32768x4608.Idx → EReal) (GK : S512.Idx → EReal) (WK : S512x2048.Idx → EReal) (r : Fin 32768) : Fin 1024 → EReal :=
  valueRow (keyLatentAt Z GK WK r)

/-! ## The blocks of rows that a grid point reads -/

theorem zeros2 : (![0, 0] : Fin 2 → Nat) = fun _ => 0 := by funext a; match a with | ⟨0, _⟩ => rfl | ⟨1, _⟩ => rfl

variable (m : (ℓ : Loc nD τ sig) → Buf (Elt Ideal) ℓ) (c : Dev nD)

abbrev argZ : S32768x4608.Idx → EReal := m ((c : Thread nD τ).loc main_arg0)
abbrev argCO : S16384x128.Idx → EReal := m ((c : Thread nD τ).loc main_arg1)
abbrev argSI : S16384x128.Idx → EReal := m ((c : Thread nD τ).loc main_arg2)
abbrev argGQ : S768.Idx → EReal := m ((c : Thread nD τ).loc main_arg3)
abbrev argGK : S512.Idx → EReal := m ((c : Thread nD τ).loc main_arg4)
abbrev argWQ : S768x3072.Idx → EReal := m ((c : Thread nD τ).loc main_arg5)
abbrev argWK : S512x2048.Idx → EReal := m ((c : Thread nD τ).loc main_arg6)

/-- The scale rows are the scale vectors, laid out as one row. -/
theorem queryScaleRow_eq : V m c main_v0 = shapeCast S1x768 (argGQ m c) shapeCasts_S768_S1x768 := by
  show StableHlo.after hostOps0 _ _ = _
  unfold hostOps0
  after_results <;> rfl
theorem keyScaleRow_eq : V m c main_v1 = shapeCast S1x512 (argGK m c) shapeCasts_S512_S1x512 := by
  show StableHlo.after hostOps0 _ _ = _
  unfold hostOps0
  after_results <;> rfl
theorem queryScaleRow_apply (x : FVec Ideal S768 .f32) (d : Fin 768) : shapeCast S1x768 x shapeCasts_S768_S1x768 (ix2 (0 : Fin 1) d) = x (ix1 d) := by
  pointwise
theorem keyScaleRow_apply (x : FVec Ideal S512 .f32) (d : Fin 512) : shapeCast S1x512 x shapeCasts_S512_S1x512 (ix2 (0 : Fin 1) d) = x (ix1 d) := by
  pointwise

theorem blockIndex0 : ∀ t : Fin cfg0.N, win0_0.index t (0 : Fin 2) = t.val ∧ win0_0.index t (1 : Fin 2) = 4 :=
  (by decide +kernel : ∀ t : Fin grid0.N, _)
theorem blockIndex1 : ∀ t : Fin cfg0.N, win0_1.index t (0 : Fin 2) = t.val ∧ win0_1.index t (1 : Fin 2) = 30 :=
  (by decide +kernel : ∀ t : Fin grid0.N, _)
theorem blockIndex2 : ∀ t : Fin cfg0.N, win0_2.index t (0 : Fin 2) = t.val ∧ win0_2.index t (1 : Fin 2) = 31 :=
  (by decide +kernel : ∀ t : Fin grid0.N, _)
theorem blockIndex3 : ∀ t : Fin cfg0.N, win0_3.index t (0 : Fin 2) = t.val ∧ win0_3.index t (1 : Fin 2) = 8 :=
  (by decide +kernel : ∀ t : Fin grid0.N, _)
theorem blockIndex4 : ∀ t : Fin cfg0.N, win0_4.index t (0 : Fin 2) = t.val % 32 ∧ win0_4.index t (1 : Fin 2) = 0 :=
  (by decide +kernel : ∀ t : Fin grid0.N, _)
theorem blockIndex5 : ∀ t : Fin cfg0.N, win0_5.index t (0 : Fin 2) = t.val % 32 ∧ win0_5.index t (1 : Fin 2) = 0 :=
  (by decide +kernel : ∀ t : Fin grid0.N, _)
theorem blockIndex6 : ∀ t : Fin cfg0.N, win0_6.index t (0 : Fin 2) = 0 ∧ win0_6.index t (1 : Fin 2) = 0 :=
  (by decide +kernel : ∀ t : Fin grid0.N, _)
theorem blockIndex7 : ∀ t : Fin cfg0.N, win0_7.index t (0 : Fin 2) = 0 ∧ win0_7.index t (1 : Fin 2) = 0 :=
  (by decide +kernel : ∀ t : Fin grid0.N, _)
theorem blockIndex8 : ∀ t : Fin cfg0.N, win0_8.index t (0 : Fin 2) = 0 ∧ win0_8.index t (1 : Fin 2) = 0 :=
  (by decide +kernel : ∀ t : Fin grid0.N, _)
theorem blockIndex9 : ∀ t : Fin cfg0.N, win0_9.index t (0 : Fin 2) = 0 ∧ win0_9.index t (1 : Fin 2) = 0 :=
  (by decide +kernel : ∀ t : Fin grid0.N, _)
theorem blockIndex10 : ∀ t : Fin cfg0.N, win0_10.index t (0 : Fin 2) = t.val ∧ win0_10.index t (1 : Fin 2) = 0 :=
  (by decide +kernel : ∀ t : Fin grid0.N, _)
theorem blockIndex11 : ∀ t : Fin cfg0.N, win0_11.index t (0 : Fin 2) = t.val ∧ win0_11.index t (1 : Fin 2) = 0 :=
  (by decide +kernel : ∀ t : Fin grid0.N, _)
theorem blockIndex12 : ∀ t : Fin cfg0.N, win0_12.index t (0 : Fin 2) = t.val ∧ win0_12.index t (1 : Fin 2) = 0 :=
  (by decide +kernel : ∀ t : Fin grid0.N, _)

theorem lt_points (t : Fin cfg0.N) : t.val < 64 := lt_of_lt_of_eq t.isLt (show cfg0.N = 64 from N_0)

/-- The array row of row `r` of tile `t`. -/
def rowAt (t : Fin cfg0.N) (r : Fin 512) : Fin 32768 := ⟨t.val * 512 + r.val, by have := lt_points t; omega⟩

theorem blockQuery_apply (t : Fin cfg0.N) (r : Fin 512) (k : Fin 768) : iblk m c 0 t (ix2 r k) = argZ m c (ix2 (rowAt t r) ⟨3072 + k.val, by omega⟩) := by
  obtain ⟨e0, e1⟩ := blockIndex0 t
  have ht := lt_points t
  show V m c main_arg0 (((cfg0.win 0).blk t).view.emb (ix2 r k)) = _
  rw [V_main_arg0]
  congr 1
  funext a; apply Fin.ext
  match a with
  | ⟨0, _⟩ => show win0_0.index t (0 : Fin 2) * 512 + 1 * r.val = t.val * 512 + r.val; rw [e0]; omega
  | ⟨1, _⟩ => show win0_0.index t (1 : Fin 2) * 768 + 1 * k.val = 3072 + k.val; rw [e1]; omega

theorem blockRotA_apply (t : Fin cfg0.N) (r : Fin 512) (k : Fin 128) : iblk m c 1 t (ix2 r k) = argZ m c (ix2 (rowAt t r) ⟨3840 + k.val, by omega⟩) := by
  obtain ⟨e0, e1⟩ := blockIndex1 t
  have ht := lt_points t
  show V m c main_arg0 (((cfg0.win 1).blk t).view.emb (ix2 r k)) = _
  rw [V_main_arg0]
  congr 1
  funext a; apply Fin.ext
  match a with
  | ⟨0, _⟩ => show win0_1.index t (0 : Fin 2) * 512 + 1 * r.val = t.val * 512 + r.val; rw [e0]; omega
  | ⟨1, _⟩ => show win0_1.index t (1 : Fin 2) * 128 + 1 * k.val = 3840 + k.val; rw [e1]; omega

theorem blockRotB_apply (t : Fin cfg0.N) (r : Fin 512) (k : Fin 128) : iblk m c 2 t (ix2 r k) = argZ m c (ix2 (rowAt t r) ⟨3968 + k.val, by omega⟩) := by
  obtain ⟨e0, e1⟩ := blockIndex2 t
  have ht := lt_points t
  show V m c main_arg0 (((cfg0.win 2).blk t).view.emb (ix2 r k)) = _
  rw [V_main_arg0]
  congr 1
  funext a; apply Fin.ext
  match a with
  | ⟨0, _⟩ => show win0_2.index t (0 : Fin 2) * 512 + 1 * r.val = t.val * 512 + r.val; rw [e0]; omega
  | ⟨1, _⟩ => show win0_2.index t (1 : Fin 2) * 128 + 1 * k.val = 3968 + k.val; rw [e1]; omega

theorem blockKey_apply (t : Fin cfg0.N) (r : Fin 512) (k : Fin 512) : iblk m c 3 t (ix2 r k) = argZ m c (ix2 (rowAt t r) ⟨4096 + k.val, by omega⟩) := by
  obtain ⟨e0, e1⟩ := blockIndex3 t
  have ht := lt_points t
  show V m c main_arg0 (((cfg0.win 3).blk t).view.emb (ix2 r k)) = _
  rw [V_main_arg0]
  congr 1
  funext a; apply Fin.ext
  match a with
  | ⟨0, _⟩ => show win0_3.index t (0 : Fin 2) * 512 + 1 * r.val = t.val * 512 + r.val; rw [e0]; omega
  | ⟨1, _⟩ => show win0_3.index t (1 : Fin 2) * 512 + 1 * k.val = 4096 + k.val; rw [e1]; omega

theorem blockCO_apply (t : Fin cfg0.N) (r : Fin 512) (k : Fin 128) : iblk m c 4 t (ix2 r k) = argCO m c (ix2 (position (rowAt t r)) k) := by
  obtain ⟨e0, e1⟩ := blockIndex4 t
  have ht := lt_points t
  show V m c main_arg1 (((cfg0.win 4).blk t).view.emb (ix2 r k)) = _
  rw [V_main_arg1]
  congr 1
  funext a; apply Fin.ext
  match a with
  | ⟨0, _⟩ => show win0_4.index t (0 : Fin 2) * 512 + 1 * r.val = (t.val * 512 + r.val) % 16384; rw [e0]; omega
  | ⟨1, _⟩ => show win0_4.index t (1 : Fin 2) * 128 + 1 * k.val = k.val; rw [e1]; omega

theorem blockSI_apply (t : Fin cfg0.N) (r : Fin 512) (k : Fin 128) : iblk m c 5 t (ix2 r k) = argSI m c (ix2 (position (rowAt t r)) k) := by
  obtain ⟨e0, e1⟩ := blockIndex5 t
  have ht := lt_points t
  show V m c main_arg2 (((cfg0.win 5).blk t).view.emb (ix2 r k)) = _
  rw [V_main_arg2]
  congr 1
  funext a; apply Fin.ext
  match a with
  | ⟨0, _⟩ => show win0_5.index t (0 : Fin 2) * 512 + 1 * r.val = (t.val * 512 + r.val) % 16384; rw [e0]; omega
  | ⟨1, _⟩ => show win0_5.index t (1 : Fin 2) * 128 + 1 * k.val = k.val; rw [e1]; omega

theorem blockWQ_apply (t : Fin cfg0.N) (r : Fin 768) (k : Fin 3072) : iblk m c 8 t (ix2 r k) = argWQ m c (ix2 (r) k) := by
  obtain ⟨e0, e1⟩ := blockIndex8 t
  have ht := lt_points t
  show V m c main_arg5 (((cfg0.win 8).blk t).view.emb (ix2 r k)) = _
  rw [V_main_arg5]
  congr 1
  funext a; apply Fin.ext
  match a with
  | ⟨0, _⟩ => show win0_8.index t (0 : Fin 2) * 768 + 1 * r.val = r.val; rw [e0]; omega
  | ⟨1, _⟩ => show win0_8.index t (1 : Fin 2) * 3072 + 1 * k.val = k.val; rw [e1]; omega

theorem blockWK_apply (t : Fin cfg0.N) (r : Fin 512) (k : Fin 2048) : iblk m c 9 t (ix2 r k) = argWK m c (ix2 (r) k) := by
  obtain ⟨e0, e1⟩ := blockIndex9 t
  have ht := lt_points t
  show V m c main_arg6 (((cfg0.win 9).blk t).view.emb (ix2 r k)) = _
  rw [V_main_arg6]
  congr 1
  funext a; apply Fin.ext
  match a with
  | ⟨0, _⟩ => show win0_9.index t (0 : Fin 2) * 512 + 1 * r.val = r.val; rw [e0]; omega
  | ⟨1, _⟩ => show win0_9.index t (1 : Fin 2) * 2048 + 1 * k.val = k.val; rw [e1]; omega

theorem blockGQ_apply (t : Fin cfg0.N) (d : Fin 768) : iblk m c 6 t (ix2 (0 : Fin 1) d) = argGQ m c (ix1 d) := by
  obtain ⟨e0, e1⟩ := blockIndex6 t
  have he : ((cfg0.win 6).blk t).view.emb (ix2 (0 : Fin 1) d) = ix2 (n0 := 1) (n1 := 768) 0 d := by
    funext a; apply Fin.ext
    match a with
    | ⟨0, _⟩ => show win0_6.index t (0 : Fin 2) * 1 + 1 * 0 = 0; rw [e0]
    | ⟨1, _⟩ => show win0_6.index t (1 : Fin 2) * 768 + 1 * d.val = d.val; rw [e1]; omega
  show V m c main_v0 (((cfg0.win 6).blk t).view.emb (ix2 (0 : Fin 1) d)) = _
  rw [he, queryScaleRow_eq]
  exact queryScaleRow_apply _ d

theorem blockGK_apply (t : Fin cfg0.N) (d : Fin 512) : iblk m c 7 t (ix2 (0 : Fin 1) d) = argGK m c (ix1 d) := by
  obtain ⟨e0, e1⟩ := blockIndex7 t
  have he : ((cfg0.win 7).blk t).view.emb (ix2 (0 : Fin 1) d) = ix2 (n0 := 1) (n1 := 512) 0 d := by
    funext a; apply Fin.ext
    match a with
    | ⟨0, _⟩ => show win0_7.index t (0 : Fin 2) * 1 + 1 * 0 = 0; rw [e0]
    | ⟨1, _⟩ => show win0_7.index t (1 : Fin 2) * 512 + 1 * d.val = d.val; rw [e1]; omega
  show V m c main_v1 (((cfg0.win 7).blk t).view.emb (ix2 (0 : Fin 1) d)) = _
  rw [he, keyScaleRow_eq]
  exact keyScaleRow_apply _ d

/-! ## One block of each result, from the arguments -/

theorem latentRow_congr {n p : Nat} {len : EReal} {y y' g g' : Fin n → EReal} {w w' : Fin n → Fin p → EReal} (hy : y = y') (hg : g = g')
    (hw : w = w') : latentRow len y g w = latentRow len y' g' w' := by
  subst hy hg hw; rfl

theorem queryRow_congr {q q' : Fin 3072 → EReal} {co co' si si' : Fin 128 → EReal} (hq : q = q') (hc : co = co') (hs : si = si') :
    queryRow q co si = queryRow q' co' si' := by
  subst hq hc hs; rfl

theorem keyRow_congr {u u' : Fin 2048 → EReal} {x x' : Fin 128 → EReal} (hu : u = u') (hx : x = x') : keyRow u x = keyRow u' x' := by
  subst hu hx; rfl

section products
variable (x0 : Vec Ideal S512x768 .f32) (x1 x2 : Vec Ideal S512x128 .f32) (x3 : Vec Ideal S512x512 .f32) (x4 x5 : Vec Ideal S512x128 .f32)
  (x6 : Vec Ideal S1x768 .f32) (x7 : Vec Ideal S1x512 .f32) (x8 : Vec Ideal S768x3072 .bf16) (x9 : Vec Ideal S512x2048 .bf16)

theorem queryProducts_apply (r : Fin 512) (j : Fin 3072) : queryProducts x0 x1 x2 x3 x4 x5 x6 x7 x8 x9 (ix2 r j)
    = latentRow queryLen (fun k => x0 (ix2 r k)) (fun k => x6 (ix2 (0 : Fin 1) k)) (fun k j => x8 (ix2 k j)) j := by
  unfold queryProducts k0_pay65 k0_pay61
  rw [show View.ld x0 r0_1 = x0 from View.ld_unit_zero zeros2 _ _, show View.ld x6 r0_2 = x6 from View.ld_unit_zero zeros2 _ _,
    show View.ld x8 r0_5 = x8 from View.ld_unit_zero zeros2 _ _]
  exact queryLatent_apply x0 x6 x8 r j

theorem keyProducts_apply (r : Fin 512) (j : Fin 2048) : keyProducts x0 x1 x2 x3 x4 x5 x6 x7 x8 x9 (ix2 r j)
    = latentRow keyLen (fun k => x3 (ix2 r k)) (fun k => x7 (ix2 (0 : Fin 1) k)) (fun k j => x9 (ix2 k j)) j := by
  unfold keyProducts k0_pay66 k0_pay62
  rw [show View.ld x3 r0_3 = x3 from View.ld_unit_zero zeros2 _ _, show View.ld x7 r0_4 = x7 from View.ld_unit_zero zeros2 _ _,
    show View.ld x9 r0_6 = x9 from View.ld_unit_zero zeros2 _ _]
  exact keyLatent_apply x3 x7 x9 r j

theorem rotatedKeys_apply (r : Fin 512) (l : Fin 128) : rotatedKeys x0 x1 x2 x3 x4 x5 x6 x7 x8 x9 (ix2 r l)
    = rotate (x1 (ix2 r l)) (x2 (ix2 r l)) (x4 (ix2 r l)) (x5 (ix2 r l)) := by
  unfold rotatedKeys k0_pay64 k0_pay63
  rw [show View.ld x1 r0_0 = x1 from View.ld_unit_zero zeros2 _ _, show View.ld x2 r0_0 = x2 from View.ld_unit_zero zeros2 _ _,
    show View.ld x4 r0_0 = x4 from View.ld_unit_zero zeros2 _ _, show View.ld x5 r0_0 = x5 from View.ld_unit_zero zeros2 _ _]
  exact rotated_apply x4 x5 x1 x2 r l

theorem loaded_apply (x : Vec Ideal S512x128 .f32) (r : Fin 512) (l : Fin 128) : View.ld x r0_0 (ix2 r l) = x (ix2 r l) :=
  congrFun (show View.ld x r0_0 = x from View.ld_unit_zero zeros2 _ _) _

end products

theorem queryLatentBlock_apply (t : Fin cfg0.N) (r : Fin 512) (j : Fin 3072) :
    queryProducts (iblk m c 0 t) (iblk m c 1 t) (iblk m c 2 t) (iblk m c 3 t) (iblk m c 4 t) (iblk m c 5 t) (iblk m c 6 t) (iblk m c 7 t) (iblk m c 8 t) (iblk m c 9 t) (ix2 r j) = queryLatentAt (argZ m c) (argGQ m c) (argWQ m c) (rowAt t r) j :=
  (queryProducts_apply (iblk m c 0 t) (iblk m c 1 t) (iblk m c 2 t) (iblk m c 3 t) (iblk m c 4 t) (iblk m c 5 t) (iblk m c 6 t) (iblk m c 7 t) (iblk m c 8 t) (iblk m c 9 t) r j).trans
    (congrFun (latentRow_congr (funext fun k => blockQuery_apply m c t r k) (funext fun k => blockGQ_apply m c t k)
      (funext fun k => funext fun j => blockWQ_apply m c t k j)) j)

theorem keyLatentBlock_apply (t : Fin cfg0.N) (r : Fin 512) (j : Fin 2048) :
    keyProducts (iblk m c 0 t) (iblk m c 1 t) (iblk m c 2 t) (iblk m c 3 t) (iblk m c 4 t) (iblk m c 5 t) (iblk m c 6 t) (iblk m c 7 t) (iblk m c 8 t) (iblk m c 9 t) (ix2 r j) = keyLatentAt (argZ m c) (argGK m c) (argWK m c) (rowAt t r) j :=
  (keyProducts_apply (iblk m c 0 t) (iblk m c 1 t) (iblk m c 2 t) (iblk m c 3 t) (iblk m c 4 t) (iblk m c 5 t) (iblk m c 6 t) (iblk m c 7 t) (iblk m c 8 t) (iblk m c 9 t) r j).trans
    (congrFun (latentRow_congr (funext fun k => blockKey_apply m c t r k) (funext fun k => blockGK_apply m c t k)
      (funext fun k => funext fun j => blockWK_apply m c t k j)) j)

theorem rotatedBlock_apply (t : Fin cfg0.N) (r : Fin 512) (l : Fin 128) :
    rotatedKeys (iblk m c 0 t) (iblk m c 1 t) (iblk m c 2 t) (iblk m c 3 t) (iblk m c 4 t) (iblk m c 5 t) (iblk m c 6 t) (iblk m c 7 t) (iblk m c 8 t) (iblk m c 9 t) (ix2 r l) = rotatedAt (argZ m c) (argCO m c) (argSI m c) (rowAt t r) l :=
  (rotatedKeys_apply (iblk m c 0 t) (iblk m c 1 t) (iblk m c 2 t) (iblk m c 3 t) (iblk m c 4 t) (iblk m c 5 t) (iblk m c 6 t) (iblk m c 7 t) (iblk m c 8 t) (iblk m c 9 t) r l).trans
    (congrArg₂ (· + ·) (congrArg₂ (· * ·) (blockRotA_apply m c t r l) (blockCO_apply m c t r l))
      (congrArg₂ (· * ·) (blockRotB_apply m c t r l) (blockSI_apply m c t r l)))

theorem queryBlock_eq (t : Fin cfg0.N) (r : Fin 512) (j : Fin 2048) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = queryAt (argZ m c) (argCO m c) (argSI m c) (argGQ m c) (argWQ m c) (rowAt t r) j :=
  (queryBlock_apply (iblk m c 0 t) (iblk m c 1 t) (iblk m c 2 t) (iblk m c 3 t) (iblk m c 4 t) (iblk m c 5 t) (iblk m c 6 t) (iblk m c 7 t) (iblk m c 8 t) (iblk m c 9 t) (ix2 r j)).trans
    (congrFun (queryRow_congr (funext fun j => queryLatentBlock_apply m c t r j)
      (funext fun l => (loaded_apply (iblk m c 4 t) r l).trans (blockCO_apply m c t r l))
      (funext fun l => (loaded_apply (iblk m c 5 t) r l).trans (blockSI_apply m c t r l))) j)

theorem keyBlock_eq (t : Fin cfg0.N) (r : Fin 512) (j : Fin 2048) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = keyAt (argZ m c) (argCO m c) (argSI m c) (argGK m c) (argWK m c) (rowAt t r) j :=
  (keyBlock_apply (iblk m c 0 t) (iblk m c 1 t) (iblk m c 2 t) (iblk m c 3 t) (iblk m c 4 t) (iblk m c 5 t) (iblk m c 6 t) (iblk m c 7 t) (iblk m c 8 t) (iblk m c 9 t) (ix2 r j)).trans
    (congrFun (keyRow_congr (funext fun j => keyLatentBlock_apply m c t r j) (funext fun l => rotatedBlock_apply m c t r l)) j)

theorem valueBlock_eq (t : Fin cfg0.N) (r : Fin 512) (j : Fin 1024) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
    = valueAt (argZ m c) (argGK m c) (argWK m c) (rowAt t r) j :=
  (valueBlock_apply (iblk m c 0 t) (iblk m c 1 t) (iblk m c 2 t) (iblk m c 3 t) (iblk m c 4 t) (iblk m c 5 t) (iblk m c 6 t) (iblk m c 7 t) (iblk m c 8 t) (iblk m c 9 t) (ix2 r j)).trans
    (congrFun (congrArg valueRow (funext fun j => keyLatentBlock_apply m c t r j)) j)

/-! ## The result arrays -/

def queryResult : Buf (Elt Ideal) ((c : Thread nD τ).loc main_v2_0) := fun i : S32768x2048.Idx => queryAt (argZ m c) (argCO m c) (argSI m c) (argGQ m c) (argWQ m c) (i 0) (i 1)

/-- The query array after the run. -/
theorem queryResult_eq : (dats m 0 c).arrAt 10 cfg0.N = queryResult m c := by
  refine (dats m 0 c).arrAt_eq_of_cover 10 (queryResult m c) (fun t hf => ?_) (fun i => ?_)
  · rw [Value.flushed10]
    obtain ⟨e0, e1⟩ := blockIndex10 t
    funext y
    have he : ((cfg0.win 10).blk t).view.emb y = ix2 (n0 := 32768) (n1 := 2048) (rowAt t (y 0)) (y 1) := by
      funext a; apply Fin.ext
      match a with
      | ⟨0, _⟩ => show win0_10.index t (0 : Fin 2) * 512 + 1 * (y 0).val = t.val * 512 + (y 0).val; rw [e0]; omega
      | ⟨1, _⟩ => show win0_10.index t (1 : Fin 2) * 2048 + 1 * (y 1).val = (y 1).val; rw [e1]; omega
    have hb := (congrArg (out0_10 (F := Ideal) (iblk m c 0 t) (iblk m c 1 t) (iblk m c 2 t) (iblk m c 3 t) (iblk m c 4 t) (iblk m c 5 t) (iblk m c 6 t) (iblk m c 7 t) (iblk m c 8 t) (iblk m c 9 t)) (show y = ix2 (n0 := 512) (n1 := 2048) (y 0) (y 1) from eq_ix2 (n0 := 512) (n1 := 2048) y)).trans
        (queryBlock_eq m c t (y 0) (y 1))
    have hcut : ∀ f : S512x2048.Idx → Elt Idealize.ShloMosaic.Ideal .bf16, (cfg0.win 10).cut (grid0.coords t) f y = f y := fun _ => rfl
    have hread : ∀ f : S32768x2048.Idx → Elt Idealize.ShloMosaic.Ideal .bf16,
        View.read (Elt Idealize.ShloMosaic.Ideal) ((cfg0.win 10).blk t).view f y = f (((cfg0.win 10).blk t).view.emb y) := fun _ => rfl
    refine (hcut _).trans (hb.trans (Eq.symm ((hread (queryResult m c)).trans ?_)))
    rw [he]
    rfl
  · have h0 : (i 0 : Nat) < 32768 := (i 0).isLt
    have h1 : (i 1 : Nat) < 2048 := (i 1).isLt
    have hN : cfg0.N = 64 := N_0
    let t : Fin cfg0.N := ⟨(i 0 : Nat) / 512, by omega⟩
    have ht : t.val = (i 0 : Nat) / 512 := rfl
    obtain ⟨e0, e1⟩ := blockIndex10 t
    refine ⟨t, flush0_10 t, ?_⟩
    show i ∈ ((View.whole main_v2_0).slice (win0_10.rect t)).set
    rw [View.set_slice_whole, Rect.mem_set_unit]
    intro a
    match a with
    | ⟨0, _⟩ =>
      show win0_10.index t (0 : Fin 2) * 512 ≤ (i 0 : Nat) ∧ (i 0 : Nat) < win0_10.index t (0 : Fin 2) * 512 + 512
      rw [e0]; omega
    | ⟨1, _⟩ =>
      show win0_10.index t (1 : Fin 2) * 2048 ≤ (i 1 : Nat) ∧ (i 1 : Nat) < win0_10.index t (1 : Fin 2) * 2048 + 2048
      rw [e1]; omega

def keyResult : Buf (Elt Ideal) ((c : Thread nD τ).loc main_v2_1) := fun i : S32768x2048.Idx => keyAt (argZ m c) (argCO m c) (argSI m c) (argGK m c) (argWK m c) (i 0) (i 1)

/-- The key array after the run. -/
theorem keyResult_eq : (dats m 0 c).arrAt 11 cfg0.N = keyResult m c := by
  refine (dats m 0 c).arrAt_eq_of_cover 11 (keyResult m c) (fun t hf => ?_) (fun i => ?_)
  · rw [Value.flushed11]
    obtain ⟨e0, e1⟩ := blockIndex11 t
    funext y
    have he : ((cfg0.win 11).blk t).view.emb y = ix2 (n0 := 32768) (n1 := 2048) (rowAt t (y 0)) (y 1) := by
      funext a; apply Fin.ext
      match a with
      | ⟨0, _⟩ => show win0_11.index t (0 : Fin 2) * 512 + 1 * (y 0).val = t.val * 512 + (y 0).val; rw [e0]; omega
      | ⟨1, _⟩ => show win0_11.index t (1 : Fin 2) * 2048 + 1 * (y 1).val = (y 1).val; rw [e1]; omega
    have hb := (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t)) (show y = ix2 (n0 := 512) (n1 := 2048) (y 0) (y 1) from eq_ix2 (n0 := 512) (n1 := 2048) y)).trans
        (keyBlock_eq m c t (y 0) (y 1))
    have hcut : ∀ f : S512x2048.Idx → Elt Idealize.ShloMosaic.Ideal .bf16, (cfg0.win 11).cut (grid0.coords t) f y = f y := fun _ => rfl
    have hread : ∀ f : S32768x2048.Idx → Elt Idealize.ShloMosaic.Ideal .bf16,
        View.read (Elt Idealize.ShloMosaic.Ideal) ((cfg0.win 11).blk t).view f y = f (((cfg0.win 11).blk t).view.emb y) := fun _ => rfl
    refine (hcut _).trans (hb.trans (Eq.symm ((hread (keyResult m c)).trans ?_)))
    rw [he]
    rfl
  · have h0 : (i 0 : Nat) < 32768 := (i 0).isLt
    have h1 : (i 1 : Nat) < 2048 := (i 1).isLt
    have hN : cfg0.N = 64 := N_0
    let t : Fin cfg0.N := ⟨(i 0 : Nat) / 512, by omega⟩
    have ht : t.val = (i 0 : Nat) / 512 := rfl
    obtain ⟨e0, e1⟩ := blockIndex11 t
    refine ⟨t, flush0_11 t, ?_⟩
    show i ∈ ((View.whole main_v2_1).slice (win0_11.rect t)).set
    rw [View.set_slice_whole, Rect.mem_set_unit]
    intro a
    match a with
    | ⟨0, _⟩ =>
      show win0_11.index t (0 : Fin 2) * 512 ≤ (i 0 : Nat) ∧ (i 0 : Nat) < win0_11.index t (0 : Fin 2) * 512 + 512
      rw [e0]; omega
    | ⟨1, _⟩ =>
      show win0_11.index t (1 : Fin 2) * 2048 ≤ (i 1 : Nat) ∧ (i 1 : Nat) < win0_11.index t (1 : Fin 2) * 2048 + 2048
      rw [e1]; omega

def valueResult : Buf (Elt Ideal) ((c : Thread nD τ).loc main_v2_2) := fun i : S32768x1024.Idx => valueAt (argZ m c) (argGK m c) (argWK m c) (i 0) (i 1)

/-- The value array after the run. -/
theorem valueResult_eq : (dats m 0 c).arrAt 12 cfg0.N = valueResult m c := by
  refine (dats m 0 c).arrAt_eq_of_cover 12 (valueResult m c) (fun t hf => ?_) (fun i => ?_)
  · rw [Value.flushed12]
    obtain ⟨e0, e1⟩ := blockIndex12 t
    funext y
    have he : ((cfg0.win 12).blk t).view.emb y = ix2 (n0 := 32768) (n1 := 1024) (rowAt t (y 0)) (y 1) := by
      funext a; apply Fin.ext
      match a with
      | ⟨0, _⟩ => show win0_12.index t (0 : Fin 2) * 512 + 1 * (y 0).val = t.val * 512 + (y 0).val; rw [e0]; omega
      | ⟨1, _⟩ => show win0_12.index t (1 : Fin 2) * 1024 + 1 * (y 1).val = (y 1).val; rw [e1]; omega
    have hb := (congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t)) (show y = ix2 (n0 := 512) (n1 := 1024) (y 0) (y 1) from eq_ix2 (n0 := 512) (n1 := 1024) y)).trans
        (valueBlock_eq m c t (y 0) (y 1))
    have hcut : ∀ f : S512x1024.Idx → Elt Idealize.ShloMosaic.Ideal .bf16, (cfg0.win 12).cut (grid0.coords t) f y = f y := fun _ => rfl
    have hread : ∀ f : S32768x1024.Idx → Elt Idealize.ShloMosaic.Ideal .bf16,
        View.read (Elt Idealize.ShloMosaic.Ideal) ((cfg0.win 12).blk t).view f y = f (((cfg0.win 12).blk t).view.emb y) := fun _ => rfl
    refine (hcut _).trans (hb.trans (Eq.symm ((hread (valueResult m c)).trans ?_)))
    rw [he]
    rfl
  · have h0 : (i 0 : Nat) < 32768 := (i 0).isLt
    have h1 : (i 1 : Nat) < 1024 := (i 1).isLt
    have hN : cfg0.N = 64 := N_0
    let t : Fin cfg0.N := ⟨(i 0 : Nat) / 512, by omega⟩
    have ht : t.val = (i 0 : Nat) / 512 := rfl
    obtain ⟨e0, e1⟩ := blockIndex12 t
    refine ⟨t, flush0_12 t, ?_⟩
    show i ∈ ((View.whole main_v2_2).slice (win0_12.rect t)).set
    rw [View.set_slice_whole, Rect.mem_set_unit]
    intro a
    match a with
    | ⟨0, _⟩ =>
      show win0_12.index t (0 : Fin 2) * 512 ≤ (i 0 : Nat) ∧ (i 0 : Nat) < win0_12.index t (0 : Fin 2) * 512 + 512
      rw [e0]; omega
    | ⟨1, _⟩ =>
      show win0_12.index t (1 : Fin 2) * 1024 ≤ (i 1 : Nat) ∧ (i 1 : Nat) < win0_12.index t (1 : Fin 2) * 1024 + 1024
      rw [e1]; omega

end Cert.Kernel4Ideal.MlaProj
-- ==== Proof.MlaProj.Ref.lean ====
/-
  What the latent projection's reference computes, token by token.
-/
module

public import proofs.«01_k».proof.Proof.Gen.Reference4Ideal.Read
public import proofs.«01_k».proof.Proof.MlaProj.Array

@[expose] public section

noncomputable section

open Idealize.ShloMosaic Idealize.SL.Sem

namespace Cert.Reference4Ideal.MlaProj

open Cert.Reference4Ideal.Gen Cert.Layer Cert.Kernel4Ideal.MlaProj

variable (Z : FVec Ideal S32768x4608 .f32) (CO SI : FVec Ideal S16384x128 .f32) (GQ : FVec Ideal S768 .f32) (GK : FVec Ideal S512 .f32)
  (WQ : FVec Ideal S768x3072 .bf16) (WK : FVec Ideal S512x2048 .bf16)

/-! ## The two products -/

theorem queryNorm_apply (r : Fin 32768) (d : Fin 768) : Read.val_main_v18 (F := Ideal) Z GQ (ix2 r d)
    = rmsNorm queryLen (fun k : Fin 768 => Z (ix2 r ⟨3072 + k.val, by omega⟩)) (fun k => GQ (ix1 k)) d := by
  unfold rmsNorm queryLen
  pointwise [Read.val_main_v0, Read.val_main_v6, Read.val_main_cst, Read.val_main_v7, Read.val_main_v8, Read.val_main_cst_0, Read.val_main_v9, Read.val_main_v10, Read.val_main_cst_1, Read.val_main_v11, Read.val_main_v12, Read.val_main_v13, Read.val_main_v14, Read.val_main_v15, Read.val_main_v16, Read.val_main_v17, Read.val_main_v18]

theorem keyNorm_apply (r : Fin 32768) (d : Fin 512) : Read.val_main_v34 (F := Ideal) Z GK (ix2 r d)
    = rmsNorm keyLen (fun k : Fin 512 => Z (ix2 r ⟨4096 + k.val, by omega⟩)) (fun k => GK (ix1 k)) d := by
  unfold rmsNorm keyLen
  pointwise [Read.val_main_v1, Read.val_main_v22, Read.val_main_cst_2, Read.val_main_v23, Read.val_main_v24, Read.val_main_cst_3, Read.val_main_v25, Read.val_main_v26, Read.val_main_cst_4, Read.val_main_v27, Read.val_main_v28, Read.val_main_v29, Read.val_main_v30, Read.val_main_v31, Read.val_main_v32, Read.val_main_v33, Read.val_main_v34]

theorem queryProduct_apply (r : Fin 32768) (j : Fin 3072) : Read.val_main_v20 (F := Ideal) Z GQ WQ (ix2 r j) = queryLatentAt Z GQ WQ r j := by
  unfold queryLatentAt latentRow
  simp only [← queryNorm_apply]
  pointwise [Read.val_main_v19, Read.val_main_v20]

theorem keyProduct_apply (r : Fin 32768) (j : Fin 2048) : Read.val_main_v36 (F := Ideal) Z GK WK (ix2 r j) = keyLatentAt Z GK WK r j := by
  unfold keyLatentAt latentRow
  simp only [← keyNorm_apply]
  pointwise [Read.val_main_v35, Read.val_main_v36]

/-! ## The heads' columns of the products, by sequence, position, head and column -/

/-- The array row of a position of a sequence. -/
abbrev tokenAt (b : Fin 2) (s : Fin 16384) : Fin 32768 := ⟨16384 * b.val + s.val, by omega⟩

theorem position_tokenAt (b : Fin 2) (s : Fin 16384) : position (tokenAt b s) = s := Fin.ext (by show (16384 * b.val + s.val) % 16384 = s.val; omega)

theorem plainQuery_apply (b : Fin 2) (s : Fin 16384) (h : Fin 8) (l : Fin 128) : Read.val_main_v57 (F := Ideal) Z GQ WQ (ix4 b s h l)
    = Read.val_main_v20 (F := Ideal) Z GQ WQ (ix2 (tokenAt b s) ⟨384 * h.val + l.val, by omega⟩) := by
  rw [Read.val_main_v57_apply, Read.val_main_v56_apply, Read.val_main_v21_apply]
  congr 1
  funext a; apply Fin.ext
  have hb := b.isLt; have hs := s.isLt; have hh := h.isLt; have hl := l.isLt
  match a with
  | ⟨0, _⟩ => simp [Read.idx_main_v21, Read.idx_main_v56, Read.idx_main_v57, ix2, ix4]; omega
  | ⟨1, _⟩ => simp [Read.idx_main_v21, Read.idx_main_v56, Read.idx_main_v57, ix2, ix4]; omega

theorem rotQueryA_apply (b : Fin 2) (s : Fin 16384) (h : Fin 8) (l : Fin 128) : Read.val_main_v41 (F := Ideal) Z GQ WQ (ix4 b s h l)
    = Read.val_main_v20 (F := Ideal) Z GQ WQ (ix2 (tokenAt b s) ⟨384 * h.val + (128 + l.val), by omega⟩) := by
  rw [Read.val_main_v41_apply, Read.val_main_v40_apply, Read.val_main_v21_apply]
  congr 1
  funext a; apply Fin.ext
  have hb := b.isLt; have hs := s.isLt; have hh := h.isLt; have hl := l.isLt
  match a with
  | ⟨0, _⟩ => simp [Read.idx_main_v21, Read.idx_main_v40, Read.idx_main_v41, ix2, ix4]; omega
  | ⟨1, _⟩ => simp [Read.idx_main_v21, Read.idx_main_v40, Read.idx_main_v41, ix2, ix4]; omega

theorem rotQueryB_apply (b : Fin 2) (s : Fin 16384) (h : Fin 8) (l : Fin 128) : Read.val_main_v45 (F := Ideal) Z GQ WQ (ix4 b s h l)
    = Read.val_main_v20 (F := Ideal) Z GQ WQ (ix2 (tokenAt b s) ⟨384 * h.val + (256 + l.val), by omega⟩) := by
  rw [Read.val_main_v45_apply, Read.val_main_v44_apply, Read.val_main_v21_apply]
  congr 1
  funext a; apply Fin.ext
  have hb := b.isLt; have hs := s.isLt; have hh := h.isLt; have hl := l.isLt
  match a with
  | ⟨0, _⟩ => simp [Read.idx_main_v21, Read.idx_main_v44, Read.idx_main_v45, ix2, ix4]; omega
  | ⟨1, _⟩ => simp [Read.idx_main_v21, Read.idx_main_v44, Read.idx_main_v45, ix2, ix4]; omega

theorem plainKey_apply (b : Fin 2) (s : Fin 16384) (h : Fin 8) (l : Fin 128) : Read.val_main_v64 (F := Ideal) Z GK WK (ix4 b s h l)
    = Read.val_main_v36 (F := Ideal) Z GK WK (ix2 (tokenAt b s) ⟨256 * h.val + l.val, by omega⟩) := by
  rw [Read.val_main_v64_apply, Read.val_main_v63_apply, Read.val_main_v37_apply]
  congr 1
  funext a; apply Fin.ext
  have hb := b.isLt; have hs := s.isLt; have hh := h.isLt; have hl := l.isLt
  match a with
  | ⟨0, _⟩ => simp [Read.idx_main_v37, Read.idx_main_v63, Read.idx_main_v64, ix2, ix4]; omega
  | ⟨1, _⟩ => simp [Read.idx_main_v37, Read.idx_main_v63, Read.idx_main_v64, ix2, ix4]; omega

theorem value_apply (b : Fin 2) (s : Fin 16384) (h : Fin 8) (l : Fin 128) : Read.val_main_v73 (F := Ideal) Z GK WK (ix4 b s h l)
    = Read.val_main_v36 (F := Ideal) Z GK WK (ix2 (tokenAt b s) ⟨256 * h.val + (128 + l.val), by omega⟩) := by
  rw [Read.val_main_v73_apply, Read.val_main_v72_apply, Read.val_main_v37_apply]
  congr 1
  funext a; apply Fin.ext
  have hb := b.isLt; have hs := s.isLt; have hh := h.isLt; have hl := l.isLt
  match a with
  | ⟨0, _⟩ => simp [Read.idx_main_v37, Read.idx_main_v72, Read.idx_main_v73, ix2, ix4]; omega
  | ⟨1, _⟩ => simp [Read.idx_main_v37, Read.idx_main_v72, Read.idx_main_v73, ix2, ix4]; omega

theorem rotKeyA_apply (b : Fin 2) (s : Fin 16384) (l : Fin 128) : Read.val_main_v3 (F := Ideal) Z (ix3 b s l)
    = Z (ix2 (tokenAt b s) ⟨3840 + l.val, by omega⟩) := by
  rw [Read.val_main_v3_apply, Read.val_main_v2_apply]
  congr 1
  funext a; apply Fin.ext
  have hb := b.isLt; have hs := s.isLt; have hl := l.isLt
  match a with
  | ⟨0, _⟩ => simp [Read.idx_main_v2, Read.idx_main_v3, ix2, ix3]; omega
  | ⟨1, _⟩ => simp [Read.idx_main_v2, Read.idx_main_v3, ix2, ix3]

theorem rotKeyB_apply (b : Fin 2) (s : Fin 16384) (l : Fin 128) : Read.val_main_v5 (F := Ideal) Z (ix3 b s l)
    = Z (ix2 (tokenAt b s) ⟨3968 + l.val, by omega⟩) := by
  rw [Read.val_main_v5_apply, Read.val_main_v4_apply]
  congr 1
  funext a; apply Fin.ext
  have hb := b.isLt; have hs := s.isLt; have hl := l.isLt
  match a with
  | ⟨0, _⟩ => simp [Read.idx_main_v4, Read.idx_main_v5, ix2, ix3]; omega
  | ⟨1, _⟩ => simp [Read.idx_main_v4, Read.idx_main_v5, ix2, ix3]

/-! ## The queries, keys and values, by sequence, position, head and column -/

theorem scaledQuery_apply (b : Fin 2) (s : Fin 16384) (h : Fin 8) (l : Fin 128) : Read.val_main_v59 (F := Ideal) Z GQ WQ (ix4 b s h l)
    = queryLatentAt Z GQ WQ (tokenAt b s) ⟨384 * h.val + l.val, by omega⟩ * queryScale := by
  have e : Read.val_main_v59 (F := Ideal) Z GQ WQ (ix4 b s h l) = Read.val_main_v57 (F := Ideal) Z GQ WQ (ix4 b s h l) * queryScale := by
    unfold queryScale
    pointwise [Read.val_main_cst_5, Read.val_main_v58, Read.val_main_v59]
  rw [e, plainQuery_apply, queryProduct_apply]

theorem rotatedQuery_apply (b : Fin 2) (s : Fin 16384) (h : Fin 8) (l : Fin 128) : Read.val_main_v61 (F := Ideal) Z CO SI GQ WQ (ix4 b s h l)
    = rotate (queryLatentAt Z GQ WQ (tokenAt b s) ⟨384 * h.val + (128 + l.val), by omega⟩)
        (queryLatentAt Z GQ WQ (tokenAt b s) ⟨384 * h.val + (256 + l.val), by omega⟩) (CO (ix2 s l)) (SI (ix2 s l)) * queryScale := by
  have e : Read.val_main_v61 (F := Ideal) Z CO SI GQ WQ (ix4 b s h l)
      = (Read.val_main_v41 (F := Ideal) Z GQ WQ (ix4 b s h l) * CO (ix2 s l) + Read.val_main_v45 (F := Ideal) Z GQ WQ (ix4 b s h l) * SI (ix2 s l)) * queryScale := by
    unfold queryScale
    pointwise [Read.val_main_v38, Read.val_main_v39, Read.val_main_v42, Read.val_main_v43, Read.val_main_v46, Read.val_main_v47, Read.val_main_v48, Read.val_main_cst_6, Read.val_main_v60, Read.val_main_v61]
  rw [e, rotQueryA_apply, rotQueryB_apply, queryProduct_apply, queryProduct_apply]
  rfl

theorem rotatedKey_apply (b : Fin 2) (s : Fin 16384) (l : Fin 128) : Read.val_main_v55 (F := Ideal) Z CO SI (ix3 b s l)
    = rotatedAt Z CO SI (tokenAt b s) l := by
  have e : Read.val_main_v55 (F := Ideal) Z CO SI (ix3 b s l)
      = Read.val_main_v3 (F := Ideal) Z (ix3 b s l) * CO (ix2 s l) + Read.val_main_v5 (F := Ideal) Z (ix3 b s l) * SI (ix2 s l) := by
    pointwise [Read.val_main_v49, Read.val_main_v50, Read.val_main_v51, Read.val_main_v52, Read.val_main_v53, Read.val_main_v54, Read.val_main_v55]
  rw [e, rotKeyA_apply, rotKeyB_apply]
  unfold rotatedAt rotate
  rw [position_tokenAt]

/-! ## The results -/

theorem queryLo_apply (b : Fin 2) (s : Fin 16384) (h : Fin 8) (l : Fin 128) :
    Read.val_main_v62 (F := Ideal) Z CO SI GQ WQ (ix4 b s h ⟨l.val, by omega⟩) = Read.val_main_v59 (F := Ideal) Z GQ WQ (ix4 b s h l) := by
  unfold Read.val_main_v62
  pointwise
theorem queryHi_apply (b : Fin 2) (s : Fin 16384) (h : Fin 8) (l : Fin 128) :
    Read.val_main_v62 (F := Ideal) Z CO SI GQ WQ (ix4 b s h ⟨128 + l.val, by omega⟩) = Read.val_main_v61 (F := Ideal) Z CO SI GQ WQ (ix4 b s h l) := by
  unfold Read.val_main_v62
  pointwise

theorem keyLo_apply (b : Fin 2) (s : Fin 16384) (h : Fin 8) (l : Fin 128) :
    Read.val_main_v67 (F := Ideal) Z CO SI GK WK (ix4 b s h ⟨l.val, by omega⟩) = Read.val_main_v64 (F := Ideal) Z GK WK (ix4 b s h l) := by
  unfold Read.val_main_v67
  pointwise
theorem keyHi_apply (b : Fin 2) (s : Fin 16384) (h : Fin 8) (l : Fin 128) :
    Read.val_main_v67 (F := Ideal) Z CO SI GK WK (ix4 b s h ⟨128 + l.val, by omega⟩) = Read.val_main_v55 (F := Ideal) Z CO SI (ix3 b s l) := by
  unfold Read.val_main_v67 Read.val_main_v66 Read.val_main_v65
  pointwise

/-- A column of eight heads of 256 columns, as head and column. -/
theorem split256 (r : Fin 32768) (j : Fin 2048) : Read.idx_main_v68 (ix2 r j)
    = ix4 (n0 := 2) (n1 := 16384) (n2 := 8) (n3 := 256) ⟨r.val / 16384, by omega⟩ ⟨r.val % 16384, by omega⟩ ⟨j.val / 256, by omega⟩ ⟨j.val % 256, by omega⟩ := by
  have hr := r.isLt; have hj := j.isLt
  funext a; apply Fin.ext
  match a with
  | ⟨0, _⟩ => show (r.val * 2048 + j.val) / 33554432 = r.val / 16384; omega
  | ⟨1, _⟩ => show (r.val * 2048 + j.val) / 2048 % 16384 = r.val % 16384; omega
  | ⟨2, _⟩ => show (r.val * 2048 + j.val) / 256 % 8 = j.val / 256; omega
  | ⟨3, _⟩ => show (r.val * 2048 + j.val) % 256 = j.val % 256; omega

theorem split128 (r : Fin 32768) (j : Fin 1024) : Read.idx_main_v74 (ix2 r j)
    = ix4 (n0 := 2) (n1 := 16384) (n2 := 8) (n3 := 128) ⟨r.val / 16384, by omega⟩ ⟨r.val % 16384, by omega⟩ ⟨j.val / 128, by omega⟩ ⟨j.val % 128, by omega⟩ := by
  have hr := r.isLt; have hj := j.isLt
  funext a; apply Fin.ext
  match a with
  | ⟨0, _⟩ => show (r.val * 1024 + j.val) / 16777216 = r.val / 16384; omega
  | ⟨1, _⟩ => show (r.val * 1024 + j.val) / 1024 % 16384 = r.val % 16384; omega
  | ⟨2, _⟩ => show (r.val * 1024 + j.val) / 128 % 8 = j.val / 128; omega
  | ⟨3, _⟩ => show (r.val * 1024 + j.val) % 128 = j.val % 128; omega

theorem tokenAt_split (r : Fin 32768) : tokenAt ⟨r.val / 16384, by omega⟩ ⟨r.val % 16384, by omega⟩ = r :=
  Fin.ext (by show 16384 * (r.val / 16384) + r.val % 16384 = r.val; omega)

theorem query_apply (r : Fin 32768) (j : Fin 2048) : Read.val_main_v69 (F := Ideal) Z CO SI GQ WQ (ix2 r j) = queryAt Z CO SI GQ WQ r j := by
  refine (Read.val_main_v69_apply (F := Ideal) Z CO SI GQ WQ (ix2 r j)).trans ?_
  refine (Read.val_main_v68_apply (F := Ideal) Z CO SI GQ WQ (ix2 r j)).trans ?_
  rw [split256]
  unfold queryAt
  by_cases hj : j.val % 256 < 128
  · rw [queryRow_lo _ _ _ j (j.val / 256) (j.val % 256) hj (by omega) (by omega)]
    refine (queryLo_apply Z CO SI GQ WQ _ _ _ ⟨j.val % 256, hj⟩).trans ((scaledQuery_apply Z GQ WQ _ _ _ _).trans ?_)
    rw [tokenAt_split]
  · rw [queryRow_hi _ _ _ j (j.val / 256) (j.val % 256 - 128) (by omega) (by omega) (by omega)]
    rw [show (⟨j.val % 256, by omega⟩ : Fin 256) = ⟨128 + (⟨j.val % 256 - 128, by omega⟩ : Fin 128).val, by omega⟩ from Fin.ext (by show j.val % 256 = 128 + (j.val % 256 - 128); omega)]
    refine (queryHi_apply Z CO SI GQ WQ _ _ _ ⟨j.val % 256 - 128, by omega⟩).trans ((rotatedQuery_apply Z CO SI GQ WQ _ _ _ _).trans ?_)
    rw [tokenAt_split]
    rfl

theorem key_apply (r : Fin 32768) (j : Fin 2048) : Read.val_main_v71 (F := Ideal) Z CO SI GK WK (ix2 r j) = keyAt Z CO SI GK WK r j := by
  refine (Read.val_main_v71_apply (F := Ideal) Z CO SI GK WK (ix2 r j)).trans ?_
  refine (Read.val_main_v70_apply (F := Ideal) Z CO SI GK WK (ix2 r j)).trans ?_
  rw [show Read.idx_main_v70 (ix2 r j) = Read.idx_main_v68 (ix2 r j) from rfl, split256]
  unfold keyAt
  by_cases hj : j.val % 256 < 128
  · rw [keyRow_lo _ _ j (j.val / 256) (j.val % 256) hj (by omega) (by omega)]
    refine (keyLo_apply Z CO SI GK WK _ _ _ ⟨j.val % 256, hj⟩).trans ((plainKey_apply Z GK WK _ _ _ _).trans ((keyProduct_apply Z GK WK _ _).trans ?_))
    rw [tokenAt_split]
  · rw [keyRow_hi _ _ j (j.val / 256) (j.val % 256 - 128) (by omega) (by omega) (by omega)]
    rw [show (⟨j.val % 256, by omega⟩ : Fin 256) = ⟨128 + (⟨j.val % 256 - 128, by omega⟩ : Fin 128).val, by omega⟩ from Fin.ext (by show j.val % 256 = 128 + (j.val % 256 - 128); omega)]
    refine (keyHi_apply Z CO SI GK WK _ _ _ ⟨j.val % 256 - 128, by omega⟩).trans ((rotatedKey_apply Z CO SI _ _ _).trans ?_)
    rw [tokenAt_split]

theorem valueResult_apply (r : Fin 32768) (j : Fin 1024) : Read.val_main_v75 (F := Ideal) Z GK WK (ix2 r j) = valueAt Z GK WK r j := by
  refine (Read.val_main_v75_apply (F := Ideal) Z GK WK (ix2 r j)).trans ?_
  refine (Read.val_main_v74_apply (F := Ideal) Z GK WK (ix2 r j)).trans ?_
  rw [split128]
  refine (value_apply Z GK WK _ _ _ _).trans ((keyProduct_apply Z GK WK _ _).trans ?_)
  rw [tokenAt_split]
  rfl

end Cert.Reference4Ideal.MlaProj
-- ==== Proof.MlaProj.Claims.lean ====
/-
  The claims about the latent projection.
-/
module

public import proofs.«01_k».proof.Defs
public import proofs.«01_k».proof.Proof.Gen.Kernel4.Frame
public import proofs.«01_k».proof.Proof.Gen.Reference4Ideal.Read
public import proofs.«01_k».proof.Proof.MlaProj.Ref
public import Idealize.ShloMosaic.Adequacy
public import Idealize.ShloMosaic.Init

@[expose] public section

noncomputable section

open Idealize.ShloMosaic Idealize.SL.Sem

namespace Cert.Reference4Ideal.MlaProj

open Cert.Kernel4Ideal.MlaProj

theorem query_eq (Z : FVec Ideal S32768x4608 .f32) (CO SI : FVec Ideal S16384x128 .f32) (GQ : FVec Ideal S768 .f32) (WQ : FVec Ideal S768x3072 .bf16) :
    Read.val_main_v69 (F := Ideal) Z CO SI GQ WQ = fun i => queryAt Z CO SI GQ WQ (i 0) (i 1) := by
  funext i
  exact (congrArg _ (show i = ix2 (n0 := 32768) (n1 := 2048) (i 0) (i 1) from eq_ix2 (n0 := 32768) (n1 := 2048) i)).trans
    (query_apply Z CO SI GQ WQ (i 0) (i 1))

theorem key_eq (Z : FVec Ideal S32768x4608 .f32) (CO SI : FVec Ideal S16384x128 .f32) (GK : FVec Ideal S512 .f32) (WK : FVec Ideal S512x2048 .bf16) :
    Read.val_main_v71 (F := Ideal) Z CO SI GK WK = fun i => keyAt Z CO SI GK WK (i 0) (i 1) := by
  funext i
  exact (congrArg _ (show i = ix2 (n0 := 32768) (n1 := 2048) (i 0) (i 1) from eq_ix2 (n0 := 32768) (n1 := 2048) i)).trans
    (key_apply Z CO SI GK WK (i 0) (i 1))

theorem value_eq (Z : FVec Ideal S32768x4608 .f32) (GK : FVec Ideal S512 .f32) (WK : FVec Ideal S512x2048 .bf16) :
    Read.val_main_v75 (F := Ideal) Z GK WK = fun i => valueAt Z GK WK (i 0) (i 1) := by
  funext i
  exact (congrArg _ (show i = ix2 (n0 := 32768) (n1 := 1024) (i 0) (i 1) from eq_ix2 (n0 := 32768) (n1 := 1024) i)).trans
    (valueResult_apply Z GK WK (i 0) (i 1))

end Cert.Reference4Ideal.MlaProj

namespace Cert.Proof.MlaProjClaims

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)
theorem preserves : Cert.preserves_Kernel4_Kernel4Ideal := trivial

/-- THE VALUE CLAIM: whatever the arguments, kernel and reference end with equal queries, keys and values. -/
theorem algebraic : Cert.algebraic_Kernel4Ideal_Reference4Ideal := by
  intro m ρ m' ρ' hpre hagree
  refine ⟨fun c => Cert.Kernel4Ideal.MlaProj.queryResult m c, fun c => Cert.Kernel4Ideal.MlaProj.keyResult m c,
    fun c => Cert.Kernel4Ideal.MlaProj.valueResult m c, ?_, ?_⟩
  · refine (θ_run Cert.Kernel4Ideal.defs _ _).mono (fun _ h c => ?_) (Cert.Kernel4Ideal.Value.run_blocks (F := Ideal) m ρ)
    exact ⟨(h c).1.trans (Cert.Kernel4Ideal.MlaProj.queryResult_eq m c), (h c).2.1.trans (Cert.Kernel4Ideal.MlaProj.keyResult_eq m c),
      (h c).2.2.1.trans (Cert.Kernel4Ideal.MlaProj.valueResult_eq m c), (h c).2.2.2⟩
  · refine (θ_run Cert.Reference4Ideal.defs _ _).mono (fun _ h c => ?_) (Cert.Reference4Ideal.Value.run (F := Ideal) m' ρ')
    obtain ⟨a0, a1, a2, a3, a4, a5, a6⟩ := hagree c
    refine ⟨(h c).1.trans ?_, (h c).2.1.trans ?_, (h c).2.2.1.trans ?_, (h c).2.2.2⟩
    · rw [Cert.Reference4Ideal.Read.val_main_v69_eq, a0, a1, a2, a3, a5]
      exact Cert.Reference4Ideal.MlaProj.query_eq _ _ _ _ _
    · rw [a0, a1, a2, a4, a6]
      exact (Cert.Reference4Ideal.Read.val_main_v71_eq (F := Ideal) _ _ _ _ _).trans (Cert.Reference4Ideal.MlaProj.key_eq _ _ _ _ _)
    · rw [a0, a4, a6]
      exact (Cert.Reference4Ideal.Read.val_main_v75_eq (F := Ideal) _ _ _).trans (Cert.Reference4Ideal.MlaProj.value_eq _ _ _)

end Cert.Proof.MlaProjClaims
-- ==== Proof.LayerNorm.Block.lean ====
/-
  A block of 512 normed rows in the layer norm's kernel, read at an index.
-/
module

public import proofs.«01_k».proof.Proof.Layer.Norm
public import proofs.«01_k».proof.Proof.Gen.Kernel5Ideal.Skeleton
public import Idealize.ShloMosaic.Lib.Pointwise

@[expose] public section

noncomputable section

open Idealize.ShloMosaic

namespace Cert.Kernel5Ideal.LayerNorm

open Cert.Kernel5Ideal Cert.Kernel5Ideal.Gen Cert.Layer

theorem normed_apply (y : Vec Ideal S512x2048 .f32) (g s : Vec Ideal S1x2048 .f32) (r : Fin 512) (d : Fin 2048) :
    k0_pay1 (F := Ideal) y g s (ix2 r d) = normed (fun k => y (ix2 r k)) d (g (ix2 0 d)) (s (ix2 0 d)) := by
  unfold k0_pay1 normed variance mean
  pointwise

theorem normed_bf16_apply (y : Vec Ideal S512x2048 .f32) (g s : Vec Ideal S1x2048 .f32) (r : Fin 512) (d : Fin 2048) :
    k0_pay2 (F := Ideal) y g s (ix2 r d) = normed (fun k => y (ix2 r k)) d (g (ix2 0 d)) (s (ix2 0 d)) :=
  normed_apply y g s r d

end Cert.Kernel5Ideal.LayerNorm
-- ==== Proof.LayerNorm.Array.lean ====
/-
  The layer norm's result arrays: every row normed.
-/
module

public import proofs.«01_k».proof.Proof.LayerNorm.Block
public import proofs.«01_k».proof.Proof.Gen.Kernel5Ideal.Value
public import Idealize.ShloMosaic.Lib.Pipeline.Value
public import Idealize.ShloMosaic.Lib.StableHlo.Run

@[expose] public section

noncomputable section

open Idealize.ShloMosaic Idealize.ShloMosaic.TcCoe Idealize.SL.Sem
open Idealize.ShloMosaic.Pipeline (Dat)

namespace Cert.Kernel5Ideal.LayerNorm

open Cert.Kernel5Ideal Cert.Kernel5Ideal.Gen Cert.Layer

variable (m : (ℓ : Loc nD τ sig) → Buf (Elt Ideal) ℓ) (c : Dev nD)

/-- The rows, the scales and the shifts that a device's launch is given. -/
abbrev argX : S32768x2048.Idx → EReal := m ((c : Thread nD τ).loc main_arg0)
abbrev argG : S2048.Idx → EReal := m ((c : Thread nD τ).loc main_arg1)
abbrev argB : S2048.Idx → EReal := m ((c : Thread nD τ).loc main_arg2)

/-- The scales and the shifts are staged as one row each. -/
theorem scaleRow_eq : V m c main_v0 = shapeCast S1x2048 (argG m c) shapeCasts_S2048_S1x2048 := by
  show StableHlo.after hostOps0 _ _ = _
  unfold hostOps0
  after_results <;> rfl

theorem shiftRow_eq : V m c main_v1 = shapeCast S1x2048 (argB m c) shapeCasts_S2048_S1x2048 := by
  show StableHlo.after hostOps0 _ _ = _
  unfold hostOps0
  after_results <;> rfl

theorem row_apply (v : FVec Ideal S2048 .f32) (d : Fin 2048) :
    shapeCast S1x2048 v shapeCasts_S2048_S1x2048 (ix2 0 d) = v (ix1 d) := by
  pointwise

theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_points (t : Fin cfg0.N) : t.val < 64 := lt_of_lt_of_eq t.isLt (show cfg0.N = 64 from N_0)

/-- The array row of row `r` of tile `t`. -/
abbrev rowAt (t : Fin cfg0.N) (r : Fin 512) : Fin 32768 := ⟨t.val * 512 + r.val, by have := lt_points t; omega⟩

theorem rows_apply (t : Fin cfg0.N) (r : Fin 512) (k : Fin 2048) :
    iblk m c 0 t (ix2 r k) = argX m c (ix2 (rowAt t r) k) := by
  obtain ⟨e0, e1, -⟩ := blockIndex t
  show V m c main_arg0 (((cfg0.win 0).blk t).view.emb (ix2 r k)) = _
  rw [V_main_arg0]
  congr 1
  funext a; apply Fin.ext
  match a with
  | ⟨0, _⟩ => show win0_0.index t (0 : Fin 2) * 512 + 1 * r.val = t.val * 512 + r.val; rw [e0]; omega
  | ⟨1, _⟩ => show win0_0.index t (1 : Fin 2) * 2048 + 1 * k.val = k.val; rw [e1]; omega

theorem scales_apply (t : Fin cfg0.N) (d : Fin 2048) : iblk m c 1 t (ix2 (0 : Fin 1) d) = argG m c (ix1 d) := by
  obtain ⟨-, -, e0, e1, -⟩ := blockIndex t
  have he : ((cfg0.win 1).blk t).view.emb (ix2 (0 : Fin 1) d) = ix2 (n0 := 1) (n1 := 2048) 0 d := by
    funext a; apply Fin.ext
    match a with
    | ⟨0, _⟩ => show win0_1.index t (0 : Fin 2) * 1 + 1 * 0 = 0; rw [e0]
    | ⟨1, _⟩ => show win0_1.index t (1 : Fin 2) * 2048 + 1 * d.val = d.val; rw [e1]; omega
  show V m c main_v0 (((cfg0.win 1).blk t).view.emb (ix2 (0 : Fin 1) d)) = _
  rw [he, scaleRow_eq]
  exact row_apply _ d

theorem shifts_apply (t : Fin cfg0.N) (d : Fin 2048) : iblk m c 2 t (ix2 (0 : Fin 1) d) = argB m c (ix1 d) := by
  obtain ⟨-, -, -, -, e0, e1, -⟩ := blockIndex t
  have he : ((cfg0.win 2).blk t).view.emb (ix2 (0 : Fin 1) d) = ix2 (n0 := 1) (n1 := 2048) 0 d := by
    funext a; apply Fin.ext
    match a with
    | ⟨0, _⟩ => show win0_2.index t (0 : Fin 2) * 1 + 1 * 0 = 0; rw [e0]
    | ⟨1, _⟩ => show win0_2.index t (1 : Fin 2) * 2048 + 1 * d.val = d.val; rw [e1]; omega
  show V m c main_v1 (((cfg0.win 2).blk t).view.emb (ix2 (0 : Fin 1) d)) = _
  rw [he, shiftRow_eq]
  exact row_apply _ d

/-- The rows normed, as an array. -/
def normedArray (X : S32768x2048.Idx → EReal) (G B : S2048.Idx → EReal) : S32768x2048.Idx → EReal :=
  fun i => normed (fun k => X (ix2 (i 0) k)) (i 1) (G (ix1 (i 1))) (B (ix1 (i 1)))

def result : Buf (Elt Ideal) ((c : Thread nD τ).loc main_v2_0) := normedArray (argX m c) (argG m c) (argB m c)
def resultBf16 : Buf (Elt Ideal) ((c : Thread nD τ).loc main_v2_1) := normedArray (argX m c) (argG m c) (argB m c)

/-- A point's block of the layer norm holds the rows of its tile. -/
theorem block_apply (t : Fin cfg0.N) (y : S512x2048.Idx) :
    k0_pay1 (F := Ideal) (iblk m c 0 t) (iblk m c 1 t) (iblk m c 2 t) y
      = normedArray (argX m c) (argG m c) (argB m c) (ix2 (n0 := 32768) (n1 := 2048) (rowAt t (y 0)) (y 1)) := by
  refine (congrArg _ (show y = ix2 (n0 := 512) (n1 := 2048) (y 0) (y 1) from eq_ix2 (n0 := 512) (n1 := 2048) y)).trans ?_
  refine (normed_apply (iblk m c 0 t) (iblk m c 1 t) (iblk m c 2 t) (y 0) (y 1)).trans ?_
  have h0 := rows_apply m c t (y 0)
  have h1 := scales_apply m c t (y 1)
  have h2 := shifts_apply m c t (y 1)
  exact congr (congr (congrArg (fun f : Fin 2048 → EReal => normed f (y 1)) (funext h0)) h1) h2

theorem out3_apply (x0 : Vec Ideal S512x2048 .f32) (x1 x2 : Vec Ideal S1x2048 .f32) : out0_3 x0 x1 x2 = k0_pay1 x0 x1 x2 := by
  have z : (![0, 0] : Fin 2 → Nat) = fun _ => 0 := by funext a; match a with | ⟨0, _⟩ => rfl | ⟨1, _⟩ => rfl
  unfold out0_3
  rw [show View.ld x0 r0_0 = x0 from View.ld_unit_zero z _ _, show View.ld x1 r0_1 = x1 from View.ld_unit_zero z _ _,
    show View.ld x2 r0_1 = x2 from View.ld_unit_zero z _ _]
  exact View.canon_cons_unit_zero z _ _ _

theorem out4_apply (x0 : Vec Ideal S512x2048 .f32) (x1 x2 : Vec Ideal S1x2048 .f32) : out0_4 x0 x1 x2 = k0_pay2 x0 x1 x2 := by
  have z : (![0, 0] : Fin 2 → Nat) = fun _ => 0 := by funext a; match a with | ⟨0, _⟩ => rfl | ⟨1, _⟩ => rfl
  unfold out0_4
  rw [show View.ld x0 r0_0 = x0 from View.ld_unit_zero z _ _, show View.ld x1 r0_1 = x1 from View.ld_unit_zero z _ _,
    show View.ld x2 r0_1 = x2 from View.ld_unit_zero z _ _]
  exact View.canon_cons_unit_zero z _ _ _

/-- THE FIRST RESULT ARRAY after the run is the layer norm of the rows. -/
theorem result_eq : (dats m 0 c).arrAt 3 cfg0.N = result m c := by
  refine (dats m 0 c).arrAt_eq_of_cover 3 (result m c) (fun t hf => ?_) (fun i => ?_)
  · rw [Value.flushed3]
    obtain ⟨-, -, -, -, -, -, e0, e1, -⟩ := blockIndex t
    funext y
    have he : ((cfg0.win 3).blk t).view.emb y = ix2 (n0 := 32768) (n1 := 2048) (rowAt t (y 0)) (y 1) := by
      funext a; apply Fin.ext
      match a with
      | ⟨0, _⟩ => show win0_3.index t (0 : Fin 2) * 512 + 1 * (y 0).val = t.val * 512 + (y 0).val; rw [e0]; omega
      | ⟨1, _⟩ => show win0_3.index t (1 : Fin 2) * 2048 + 1 * (y 1).val = (y 1).val; rw [e1]; omega
    have hb := (congrFun (out3_apply (iblk m c 0 t) (iblk m c 1 t) (iblk m c 2 t)) y).trans (block_apply m c t y)
    have hcut : ∀ f : S512x2048.Idx → Elt Idealize.ShloMosaic.Ideal .f32, (cfg0.win 3).cut (grid0.coords t) f y = f y := fun _ => rfl
    have hread : ∀ f : S32768x2048.Idx → Elt Idealize.ShloMosaic.Ideal .f32,
        View.read (Elt Idealize.ShloMosaic.Ideal) ((cfg0.win 3).blk t).view f y = f (((cfg0.win 3).blk t).view.emb y) := fun _ => rfl
    refine (hcut _).trans (hb.trans (Eq.symm ((hread (result m c)).trans ?_)))
    rw [he]
    rfl
  · have h0 : (i 0 : Nat) < 32768 := (i 0).isLt
    have h1 : (i 1 : Nat) < 2048 := (i 1).isLt
    have hN : cfg0.N = 64 := N_0
    let t : Fin cfg0.N := ⟨(i 0 : Nat) / 512, by omega⟩
    have ht : t.val = (i 0 : Nat) / 512 := rfl
    obtain ⟨-, -, -, -, -, -, e0, e1, -⟩ := blockIndex t
    refine ⟨t, flush0_3 t, ?_⟩
    show i ∈ ((View.whole main_v2_0).slice (win0_3.rect t)).set
    rw [View.set_slice_whole, Rect.mem_set_unit]
    intro a
    match a with
    | ⟨0, _⟩ =>
      show win0_3.index t (0 : Fin 2) * 512 ≤ (i 0 : Nat) ∧ (i 0 : Nat) < win0_3.index t (0 : Fin 2) * 512 + 512
      rw [e0]; omega
    | ⟨1, _⟩ =>
      show win0_3.index t (1 : Fin 2) * 2048 ≤ (i 1 : Nat) ∧ (i 1 : Nat) < win0_3.index t (1 : Fin 2) * 2048 + 2048
      rw [e1]; omega

/-- THE SECOND RESULT ARRAY after the run is the layer norm of the rows too. -/
theorem resultBf16_eq : (dats m 0 c).arrAt 4 cfg0.N = resultBf16 m c := by
  refine (dats m 0 c).arrAt_eq_of_cover 4 (resultBf16 m c) (fun t hf => ?_) (fun i => ?_)
  · rw [Value.flushed4]
    obtain ⟨-, -, -, -, -, -, -, -, e0, e1⟩ := blockIndex t
    funext y
    have he : ((cfg0.win 4).blk t).view.emb y = ix2 (n0 := 32768) (n1 := 2048) (rowAt t (y 0)) (y 1) := by
      funext a; apply Fin.ext
      match a with
      | ⟨0, _⟩ => show win0_4.index t (0 : Fin 2) * 512 + 1 * (y 0).val = t.val * 512 + (y 0).val; rw [e0]; omega
      | ⟨1, _⟩ => show win0_4.index t (1 : Fin 2) * 2048 + 1 * (y 1).val = (y 1).val; rw [e1]; omega
    have hb := (congrFun (out4_apply (iblk m c 0 t) (iblk m c 1 t) (iblk m c 2 t)) y).trans (block_apply m c t y)
    have hcut : ∀ f : S512x2048.Idx → Elt Idealize.ShloMosaic.Ideal .bf16, (cfg0.win 4).cut (grid0.coords t) f y = f y := fun _ => rfl
    have hread : ∀ f : S32768x2048.Idx → Elt Idealize.ShloMosaic.Ideal .bf16,
        View.read (Elt Idealize.ShloMosaic.Ideal) ((cfg0.win 4).blk t).view f y = f (((cfg0.win 4).blk t).view.emb y) := fun _ => rfl
    refine (hcut _).trans (hb.trans (Eq.symm ((hread (resultBf16 m c)).trans ?_)))
    rw [he]
    rfl
  · have h0 : (i 0 : Nat) < 32768 := (i 0).isLt
    have h1 : (i 1 : Nat) < 2048 := (i 1).isLt
    have hN : cfg0.N = 64 := N_0
    let t : Fin cfg0.N := ⟨(i 0 : Nat) / 512, by omega⟩
    have ht : t.val = (i 0 : Nat) / 512 := rfl
    obtain ⟨-, -, -, -, -, -, -, -, e0, e1⟩ := blockIndex t
    refine ⟨t, flush0_4 t, ?_⟩
    show i ∈ ((View.whole main_v2_1).slice (win0_4.rect t)).set
    rw [View.set_slice_whole, Rect.mem_set_unit]
    intro a
    match a with
    | ⟨0, _⟩ =>
      show win0_4.index t (0 : Fin 2) * 512 ≤ (i 0 : Nat) ∧ (i 0 : Nat) < win0_4.index t (0 : Fin 2) * 512 + 512
      rw [e0]; omega
    | ⟨1, _⟩ =>
      show win0_4.index t (1 : Fin 2) * 2048 ≤ (i 1 : Nat) ∧ (i 1 : Nat) < win0_4.index t (1 : Fin 2) * 2048 + 2048
      rw [e1]; omega

end Cert.Kernel5Ideal.LayerNorm
-- ==== Proof.LayerNorm.Claims.lean ====
/-
  The claims about the layer norm.
-/
module

public import proofs.«01_k».proof.Defs
public import proofs.«01_k».proof.Proof.Gen.Kernel5.Frame
public import proofs.«01_k».proof.Proof.Gen.Reference5Ideal.Read
public import proofs.«01_k».proof.Proof.LayerNorm.Array
public import Idealize.ShloMosaic.Adequacy
public import Idealize.ShloMosaic.Init

@[expose] public section

noncomputable section

open Idealize.ShloMosaic Idealize.SL.Sem

namespace Cert.Reference5Ideal

/-- The reference's layer norm at an index. -/
theorem normed_apply (X : FVec Ideal S32768x2048 .f32) (G B : FVec Ideal S2048 .f32) (r : Fin 32768) (d : Fin 2048) :
    Read.val_main_v23 (F := Ideal) X G B (ix2 r d)
      = Cert.Layer.normed (fun k => X (ix2 r k)) d (G (ix1 d)) (B (ix1 d)) := by
  unfold Cert.Layer.normed Cert.Layer.variance Cert.Layer.mean
  pointwise [Read.val_main_cst, Read.val_main_v0, Read.val_main_v1, Read.val_main_cst_0, Read.val_main_v2, Read.val_main_v3, Read.val_main_v4, Read.val_main_v5, Read.val_main_v6, Read.val_main_cst_1, Read.val_main_v7, Read.val_main_v8, Read.val_main_cst_2, Read.val_main_v9, Read.val_main_v10, Read.val_main_v11, Read.val_main_v12, Read.val_main_cst_3, Read.val_main_v13, Read.val_main_v14, Read.val_main_v15, Read.val_main_v16, Read.val_main_v17, Read.val_main_v18, Read.val_main_v19, Read.val_main_v20, Read.val_main_v21, Read.val_main_v22, Read.val_main_v23, Read.val_main_v24]

theorem normed_eq (X : FVec Ideal S32768x2048 .f32) (G B : FVec Ideal S2048 .f32) :
    Read.val_main_v23 (F := Ideal) X G B = Cert.Kernel5Ideal.LayerNorm.normedArray X G B := by
  funext i
  exact (congrArg _ (show i = ix2 (n0 := 32768) (n1 := 2048) (i 0) (i 1) from eq_ix2 (n0 := 32768) (n1 := 2048) i)).trans
    (normed_apply X G B (i 0) (i 1))

end Cert.Reference5Ideal

namespace Cert.Proof.LayerNormClaims

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)
theorem preserves : Cert.preserves_Kernel5_Kernel5Ideal := trivial

/-- THE VALUE CLAIM: whatever the arguments, kernel and reference end with equal layer norms. -/
theorem algebraic : Cert.algebraic_Kernel5Ideal_Reference5Ideal := by
  intro m ρ m' ρ' hpre hagree
  refine ⟨fun c => Cert.Kernel5Ideal.LayerNorm.result m c, fun c => Cert.Kernel5Ideal.LayerNorm.resultBf16 m c, ?_, ?_⟩
  · refine (θ_run Cert.Kernel5Ideal.defs _ _).mono (fun _ h c => ?_) (Cert.Kernel5Ideal.Value.run_blocks (F := Ideal) m ρ)
    exact ⟨(h c).1.trans (Cert.Kernel5Ideal.LayerNorm.result_eq m c), (h c).2.1.trans (Cert.Kernel5Ideal.LayerNorm.resultBf16_eq m c), (h c).2.2⟩
  · refine (θ_run Cert.Reference5Ideal.defs _ _).mono (fun _ h c => ?_) (Cert.Reference5Ideal.Value.run (F := Ideal) m' ρ')
    refine ⟨(h c).1.trans ?_, (h c).2.1.trans ?_, (h c).2.2⟩
    · rw [(hagree c).1, (hagree c).2.1, (hagree c).2.2]
      exact (Cert.Reference5Ideal.Read.val_main_v23_eq (F := Ideal) _ _ _).trans (Cert.Reference5Ideal.normed_eq _ _ _)
    · rw [(hagree c).1, (hagree c).2.1, (hagree c).2.2]
      exact (Cert.Reference5Ideal.Read.val_main_v24_eq (F := Ideal) _ _ _).trans (Cert.Reference5Ideal.normed_eq _ _ _)

end Cert.Proof.LayerNormClaims
-- ==== Proof.Recurrence.Terms.lean ====
/-
  One tile of 256 rows of the recurrence, as functions of the head and of the chunk: what the kernel spells out for four
  heads and four chunks of 64 rows is, for each of them, the same term.
-/
module

public import proofs.«01_k».proof.Proof.Gen.Kernel6Ideal.Value
public import Idealize.ShloMosaic.Lib.Pointwise
public import Idealize.ShloMosaic.Lib.Tactic
public import Idealize.ShloMosaic.Lib.Pipeline.ValueKit.Tiles
public import Idealize.ShloMosaic.Lib.Pipeline.CanonAppend

@[expose] public section

noncomputable section

open Idealize.ShloMosaic Idealize.ShloMosaic.TcCoe Idealize.SL.Sem

namespace Cert.Kernel6Ideal.Recurrence

open Cert.Kernel6Ideal Cert.Kernel6Ideal.Gen

variable {F : FTy → Type} [FloatOps F]

theorem slicesEnd : ∀ c : Fin 4, S256x512.Slices ![64 * c.val + 63, 0] S1x512 := by decide
theorem slicesDecay : ∀ h : Fin 4, S1x512.Slices ![0, 128 * h.val] S1x128 := by decide
theorem slicesHead : ∀ h : Fin 4, S256x512.Slices ![0, 128 * h.val] S256x128 := by decide
theorem slicesHeadChunk : ∀ c h : Fin 4, S256x512.Slices ![64 * c.val, 128 * h.val] S64x128 := by decide
theorem slicesValue : ∀ h : Fin 4, S256x1024.Slices ![0, 256 * h.val] S256x256 := by decide
theorem slicesValueChunk : ∀ c h : Fin 4, S256x1024.Slices ![64 * c.val, 256 * h.val] S64x256 := by decide
theorem slicesChunk : ∀ c : Fin 4, S256x256.Slices ![64 * c.val, 0] S64x256 := by decide
theorem slabInb : ∀ h : Fin 4, ∀ a, (![h.val, 0, 0] : Fin 3 → Nat) a + (![1, 256, 128] : Fin 3 → Nat) a ≤ S4x256x128.size a := by decide

/-! ## The rows of one tile, all heads side by side -/

section
variable (q : Vec F S256x512 .f32) (k : Vec F S256x512 .f32) (v : Vec F S256x1024 .f32) (a : Vec F S256x128 .f32)
  (w : Vec F S128x512 .f32) (g : Vec F S1x512 .f32)

/-- The log-decays, added up from the start of each row's chunk. -/
def decays : FVec F S256x512 .f32 := k0_pay17 (k0_pay10 a w g) (k0_pay11 a w g) (k0_pay12 a w g) (k0_pay13 a w g) k0_pay14

/-- The log-decays of the rows. -/
def logDecays : FVec F S256x512 .f32 :=
  mulf (subf (broadcast S256x512 (Scalar.ofBits .f32 0x00000000#32))
    (select (k0_pay13 a w g) (addf (k0_pay10 a w g) k0_pay14)
      (addf (k0_pay11 a w g) (log1p (exp (subf (broadcast S256x512 (Scalar.ofBits .f32 0x00000000#32)) (absf (k0_pay12 a w g))))))))
    (broadcast S256x512 (Scalar.ofBits .f32 0x3D800000#32))

/-- Rows added up within their chunks, as the mask has them: the product of the mask with the rows, which are cut into three parts. -/
def addedUp (tri : IVec S256x256 1) (x : FVec F S256x512 .f32) : FVec F S256x512 .f32 :=
  have hi : FVec F S256x512 .bf16 := truncf .bf16 x bitsLt_bf16_f32
  have rest : FVec F S256x512 .f32 := subf x (extf .f32 hi bitsLt_bf16_f32)
  have mid : FVec F S256x512 .bf16 := truncf .bf16 rest bitsLt_bf16_f32
  have lo : FVec F S256x512 .bf16 := truncf .bf16 (subf rest (extf .f32 mid bitsLt_bf16_f32)) bitsLt_bf16_f32
  have parts : FVec F S256x1536 .f32 := matmul dot_S256x256_S256x1536_S256x1536_1_0_0_1_n_n none
    (truncf .bf16 (select tri (broadcast S256x256 (Scalar.ofBits .f32 0x3F800000#32)) (broadcast S256x256 (Scalar.ofBits .f32 0x00000000#32)))
      bitsLt_bf16_f32)
    (concatenate S256x1536 1 [⟨S256x512, hi⟩, ⟨S256x512, mid⟩, ⟨S256x512, lo⟩] concatenates_S256x512_S256x512_S256x512_S256x1536_d1)
    (constant S256x1536 .f32 0x00000000#32)
  addf (addf (extractStridedSlice S256x512 ![0, 0] parts slices_S256x1536_o0_0_S256x512)
      (extractStridedSlice S256x512 ![0, 512] parts slices_S256x1536_o0_512_S256x512))
    (extractStridedSlice S256x512 ![0, 1024] parts slices_S256x1536_o0_1024_S256x512)

theorem decays_eq : decays a w g = addedUp k0_pay16 (logDecays a w g) := rfl

/-- The queries, weighted by the decay from the chunk's start. -/
def queries : FVec F S256x512 .bf16 := k0_pay26 q (decays a w g)

/-- The keys, weighted by the inverse of the decay from the chunk's start. -/
def keys : FVec F S256x512 .bf16 := k0_pay27 k (decays a w g)

/-- The keys, weighted by the decay to the chunk's end. -/
def endKeys : FVec F S256x512 .bf16 :=
  k0_pay28 k (decays a w g)
    (k0_pay22 (k0_pay10 a w g) (k0_pay11 a w g) (k0_pay12 a w g) (k0_pay13 a w g) k0_pay14)
    (k0_pay23 (k0_pay10 a w g) (k0_pay11 a w g) (k0_pay12 a w g) (k0_pay13 a w g) k0_pay14)
    (k0_pay24 (k0_pay10 a w g) (k0_pay11 a w g) (k0_pay12 a w g) (k0_pay13 a w g) k0_pay14)
    (k0_pay25 (k0_pay10 a w g) (k0_pay11 a w g) (k0_pay12 a w g) (k0_pay13 a w g) k0_pay14)

/-- The values, narrowed. -/
def values : FVec F S256x1024 .bf16 := k0_pay33 v

/-- A chunk's whole decay. -/
def chunkDecay (c : Fin 4) : FVec F S1x512 .f32 := exp (extractStridedSlice S1x512 ![64 * c.val + 63, 0] (decays a w g) (slicesEnd c))

end

/-! ## One head, one chunk -/

/-- The weights of a head's keys for its queries, within the chunks; the mask says which of them count. -/
def weights (keep : IVec S256x256 1) (Q K : FVec F S256x512 .bf16) (h : Fin 4) : FVec F S256x256 .bf16 :=
  truncf .bf16 (select keep
    (matmul dot_S256x128_S256x128_S256x256_1_1_0_0_n_n none
      (extractStridedSlice S256x128 ![0, 128 * h.val] Q (slicesHead h))
      (extractStridedSlice S256x128 ![0, 128 * h.val] K (slicesHead h)) (constant S256x256 .f32 0x00000000#32))
    (broadcast S256x256 (Scalar.ofBits .f32 0x00000000#32))) bitsLt_bf16_f32

/-- What a head's rows attend to within their chunks. -/
def within (keep : IVec S256x256 1) (Q K : FVec F S256x512 .bf16) (V : FVec F S256x1024 .bf16) (h : Fin 4) : FVec F S256x256 .f32 :=
  matmul dot_S256x256_S256x256_S256x256_1_0_0_1_n_n none (weights keep Q K h)
    (extractStridedSlice S256x256 ![0, 256 * h.val] V (slicesValue h)) (constant S256x256 .f32 0x00000000#32)

/-- What a chunk's rows add to a head's state. -/
def update (E : FVec F S256x512 .bf16) (V : FVec F S256x1024 .bf16) (c h : Fin 4) : FVec F S256x128 .f32 :=
  matmul dot_S64x256_S64x128_S256x128_0_0_1_1_n_n none
    (extractStridedSlice S64x256 ![64 * c.val, 256 * h.val] V (slicesValueChunk c h))
    (extractStridedSlice S64x128 ![64 * c.val, 128 * h.val] E (slicesHeadChunk c h)) (constant S256x128 .f32 0x00000000#32)

/-- A head's state after a chunk, from its state before it. -/
def next (D : FVec F S1x512 .f32) (U s : FVec F S256x128 .f32) (h : Fin 4) : FVec F S256x128 .f32 :=
  addf (mulf s (broadcastTo S256x128 (extractStridedSlice S1x128 ![0, 128 * h.val] D (slicesDecay h)) broadcasts_S1x128_S256x128)) U

/-- What a chunk's rows attend to. -/
def rows (Q : FVec F S256x512 .bf16) (W : FVec F S256x256 .f32) (s : FVec F S256x128 .f32) (c h : Fin 4) : FVec F S64x256 .f32 :=
  addf (extractStridedSlice S64x256 ![64 * c.val, 0] W (slicesChunk c))
    (matmul dot_S64x128_S256x128_S64x256_1_1_0_0_n_n none
      (extractStridedSlice S64x128 ![64 * c.val, 128 * h.val] Q (slicesHeadChunk c h)) (truncf .bf16 s bitsLt_bf16_f32)
      (constant S64x256 .f32 0x00000000#32))

section
variable (q : Vec F S256x512 .f32) (k : Vec F S256x512 .f32) (v : Vec F S256x1024 .f32) (a : Vec F S256x128 .f32)
  (w : Vec F S128x512 .f32) (g : Vec F S1x512 .f32)

/-- A head's state before the tile. -/
def slab (x : Vec F S4x256x128 .f32) (h : Fin 4) : FVec F S256x128 .f32 :=
  shapeCast S256x128 (View.ld x (Rect.unit ![h.val, 0, 0] ![1, 256, 128] (slabInb h))) shapeCasts_S1x256x128_S256x128

/-- A head's state after the tile's first `n` chunks. -/
def stateAfter (s : FVec F S256x128 .f32) (h : Fin 4) : Nat → FVec F S256x128 .f32
  | 0 => s
  | n + 1 => next (chunkDecay a w g (Fin.ofNat 4 n)) (update (endKeys k a w g) (values v) (Fin.ofNat 4 n) h) (stateAfter s h n) h

/-- What a head's rows attend to. -/
def headOut (s : FVec F S256x128 .f32) (h : Fin 4) : FVec F S256x256 .f32 :=
  concatenate S256x256 0
    (List.ofFn fun c : Fin 4 => (⟨S64x256, rows (queries q a w g) (within k0_pay16 (queries q a w g) (keys k a w g) (values v) h)
      (stateAfter k v a w g s h c.val) c h⟩ : (s : Shape) × (s.Idx → F .f32)))
    concatenates_S64x256_S64x256_S64x256_S64x256_S256x256_d0

/-- The tile's output, the heads side by side. -/
def tileOut (x : Vec F S4x256x128 .f32) : Vec F S256x1024 .f32 := fun y =>
  headOut q k v a w g (slab x ⟨(y 1).val / 256, by have := (y 1).isLt; change _ < 1024 at this; omega⟩)
    ⟨(y 1).val / 256, by have := (y 1).isLt; change _ < 1024 at this; omega⟩ (ix2 (y 0) ⟨(y 1).val % 256, by omega⟩)

/-- The states after the tile. -/
def tileState (x : Vec F S4x256x128 .f32) : Vec F S4x256x128 .f32 := fun y =>
  stateAfter k v a w g (slab x (y 0)) (y 0) 4 (ix2 (y 1) (y 2))

end

theorem hz : (![0, 0] : Fin 2 → Nat) = fun _ => 0 := funext fun a => by fin_cases a <;> rfl
theorem hz3 : (![0, 0, 0] : Fin 3 → Nat) = fun _ => 0 := funext fun a => by fin_cases a <;> rfl

end Cert.Kernel6Ideal.Recurrence
-- ==== Proof.Layer.Recurrence.lean ====
/-
  The gated linear attention over the real numbers. A row attends to the rows before it and to itself, a key being
  weighted by the product of the decays of the rows that follow it up to the query's. Cut into chunks of 64 rows, the
  sum splits into the chunk's own part and a state that holds every earlier row, and the state moves from chunk to chunk.
-/
module

public import Mathlib.Analysis.SpecialFunctions.Log.Basic
public import Mathlib.Algebra.BigOperators.Intervals

@[expose] public section

noncomputable section

namespace Cert.Layer.Recurrence

open Finset

/-- The logarithm of the logistic function, as the layer computes it. -/
def logSigmoid (x : ℝ) : ℝ := -(max (-x) 0 + Real.log (1 + Real.exp (-|(-x)|)))

variable (L q k v : ℕ → ℕ → ℝ)

/-- The log-decays of the first `n` rows, added up. -/
def total (n d : ℕ) : ℝ := ∑ j ∈ range n, L j d

/-- The weight of row `j` in row `p`'s sum. -/
def weight (p j : ℕ) : ℝ := ∑ d ∈ range 128, q p d * Real.exp (total L (p + 1) d - total L (j + 1) d) * k j d

/-- What row `p` attends to. -/
def attend (p e : ℕ) : ℝ := ∑ j ∈ range (p + 1), weight L q k p j * v j e

/-- What the first `s` rows leave for the rows after them. -/
def state (s e d : ℕ) : ℝ := ∑ j ∈ range s, v j e * (k j d * Real.exp (total L s d - total L (j + 1) d))

/-! ## Sums over a chunk -/

/-- A sum whose terms vanish outside the 64 rows from `s` on is the sum over those rows. -/
theorem sum_chunk (f : ℕ → ℝ) (N s : ℕ) (hs : s + 64 ≤ N) (hf : ∀ j, j < N → ¬(s ≤ j ∧ j < s + 64) → f j = 0) :
    ∑ j ∈ range N, f j = ∑ i ∈ range 64, f (s + i) := by
  obtain ⟨r, rfl⟩ := Nat.exists_eq_add_of_le hs
  rw [sum_range_add, sum_range_add, sum_eq_zero (s := range s), sum_eq_zero (s := range r), zero_add, add_zero]
  · exact fun i hi => hf _ (by have := mem_range.1 hi; omega) (by omega)
  · exact fun i hi => hf _ (by have := mem_range.1 hi; omega) (by have := mem_range.1 hi; omega)

/-- A sum whose terms vanish after `i` is the sum up to `i`. -/
theorem sum_upto (f : ℕ → ℝ) (N i : ℕ) (hi : i < N) : ∑ j ∈ range N, (if j ≤ i then f j else 0) = ∑ j ∈ range (i + 1), f j := by
  obtain ⟨r, rfl⟩ := Nat.exists_eq_add_of_lt hi
  rw [show i + r + 1 = (i + 1) + r by omega, sum_range_add, sum_eq_zero (s := range r), add_zero]
  · exact sum_congr rfl fun j hj => if_pos (by have := mem_range.1 hj; omega)
  · exact fun j _ => if_neg (by omega)

theorem total_add (s n d : ℕ) : total L (s + n) d = total L s d + ∑ i ∈ range n, L (s + i) d := sum_range_add _ _ _

/-- The decays of a chunk up to its row `i`, as the masked sum over a block of rows. -/
theorem total_masked (base N c i d : ℕ) (hi : i < 64) (hc : 64 * c + 64 ≤ N) :
    ∑ j ∈ range N, (if j / 64 = (64 * c + i) / 64 ∧ j ≤ 64 * c + i then L (base + j) d else 0)
      = total L (base + 64 * c + i + 1) d - total L (base + 64 * c) d := by
  rw [sum_chunk _ N (64 * c) hc fun j _ hj => by rw [if_neg (by omega)]]
  rw [show base + 64 * c + i + 1 = base + 64 * c + (i + 1) by omega, total_add, add_sub_cancel_left, ← sum_upto _ 64 i hi]
  refine sum_congr rfl fun j hj => ?_
  have := mem_range.1 hj
  by_cases h : j ≤ i
  · rw [if_pos ⟨by omega, by omega⟩, if_pos h, add_assoc]
  · rw [if_neg (by omega), if_neg h]

/-! ## From chunk to chunk -/

theorem state_zero (e d : ℕ) : state L k v 0 e d = 0 := by simp [state]

/-- The state after a chunk: the state before it decayed by the chunk's decays, and the chunk's own rows. -/
theorem state_chunk (s e d : ℕ) :
    state L k v (s + 64) e d = state L k v s e d * Real.exp (total L (s + 64) d - total L s d)
      + ∑ i ∈ range 64, v (s + i) e * (k (s + i) d * Real.exp ((total L (s + 64) d - total L s d) - (total L (s + i + 1) d - total L s d))) := by
  unfold state
  rw [sum_range_add, sum_mul]
  congr 1
  · refine sum_congr rfl fun j _ => ?_
    rw [mul_assoc, mul_assoc, ← Real.exp_add]
    congr 4; ring
  · refine sum_congr rfl fun j _ => ?_
    congr 3; ring

/-- A row's sum: the chunk's own part, masked over a block of rows, and the state before the chunk. -/
theorem attend_chunk (base N c i e : ℕ) (hi : i < 64) (hc : 64 * c + 64 ≤ N) :
    attend L q k v (base + 64 * c + i) e
      = ∑ j ∈ range N, (if j / 64 = (64 * c + i) / 64 ∧ j ≤ 64 * c + i then
            (∑ d ∈ range 128, q (base + 64 * c + i) d * Real.exp (total L (base + 64 * c + i + 1) d - total L (base + 64 * c) d)
              * (k (base + j) d * Real.exp (0 - (total L (base + j + 1) d - total L (base + 64 * c) d)))) * v (base + j) e else 0)
        + ∑ d ∈ range 128, q (base + 64 * c + i) d * Real.exp (total L (base + 64 * c + i + 1) d - total L (base + 64 * c) d)
            * state L k v (base + 64 * c) e d := by
  rw [sum_chunk _ N (64 * c) hc fun j _ hj => by rw [if_neg (by omega)]]
  unfold attend
  rw [show base + 64 * c + i + 1 = base + 64 * c + (i + 1) by omega, sum_range_add, add_comm]
  congr 1
  · rw [← sum_upto _ 64 i hi]
    refine sum_congr rfl fun j hj => ?_
    have := mem_range.1 hj
    by_cases h : j ≤ i
    · rw [if_pos h, if_pos (by omega), show base + (64 * c + j) = base + 64 * c + j by omega]
      congr 1
      unfold weight
      refine sum_congr rfl fun d _ => ?_
      rw [show ∀ a x b y : ℝ, a * x * (b * y) = a * (x * y) * b from fun a x b y => by ring, ← Real.exp_add]
      congr 3
      rw [show base + 64 * c + (i + 1) = base + 64 * c + i + 1 by omega]
      ring
    · rw [if_neg h, if_neg (by omega)]
  · unfold state weight
    simp only [sum_mul, mul_sum]
    rw [sum_comm]
    refine sum_congr rfl fun d _ => sum_congr rfl fun j _ => ?_
    rw [show ∀ a x b w y : ℝ, a * x * (w * (b * y)) = a * (x * y) * b * w from fun a x b w y => by ring, ← Real.exp_add]
    congr 3
    refine congrArg Real.exp ?_
    rw [show base + 64 * c + (i + 1) = base + 64 * c + i + 1 by omega]
    ring

/-! ## From the arguments

`z` are the projected rows of all sequences, 16384 to a sequence: a row's queries, keys and values of the four heads, and
from column 3840 on the input of the gate; `w` and `g` are the gate's second weights and bias, `σ` the queries' scale. -/

section
variable (z w : ℕ → ℕ → ℝ) (g : ℕ → ℝ) (σ : ℝ) (b h : ℕ)

def logDecay (r D : ℕ) : ℝ := logSigmoid (∑ l ∈ range 128, z r (3840 + l) * w l D + g D) * (1 / 16)

/-- The log-decays, queries, keys and values of head `h` in sequence `b`. -/
def headDecay (p d : ℕ) : ℝ := logDecay z w g (16384 * b + p) (128 * h + d)
def headQuery (p d : ℕ) : ℝ := z (16384 * b + p) (128 * h + d) * σ
def headKey (p d : ℕ) : ℝ := z (16384 * b + p) (512 + (128 * h + d))
def headValue (p e : ℕ) : ℝ := z (16384 * b + p) (1024 + (256 * h + e))

/-- What row `p` of sequence `b` attends to in head `h`, and the state that its first `s` rows leave. -/
def headAttend (p e : ℕ) : ℝ := attend (headDecay z w g b h) (headQuery z σ b h) (headKey z b h) (headValue z b h) p e
def headState (s e d : ℕ) : ℝ := state (headDecay z w g b h) (headKey z b h) (headValue z b h) s e d

end

end Cert.Layer.Recurrence
-- ==== Proof.Recurrence.Decay.lean ====
/-
  One tile of 256 rows of the recurrence over the real numbers: the mask of the chunks, the log-decays and their sums.
-/
module

public import proofs.«01_k».proof.Proof.Recurrence.Terms
public import proofs.«01_k».proof.Proof.Layer.Recurrence
public import proofs.«01_k».proof.Proof.Flash.Math

@[expose] public section

noncomputable section

open Idealize.ShloMosaic Idealize.ShloMosaic.TcCoe Idealize.SL.Sem

namespace Cert.Kernel6Ideal.Recurrence

open Cert.Kernel6Ideal Cert.Kernel6Ideal.Gen Cert.Layer.Recurrence
open Cert.Attention (coe_sum coe_max)

/-! ## Real numbers among the extended ones -/

theorem sixteenth : Ideal.ofBits FTy.f32 0x3D800000#32 = (((1 / 16 : ℝ)) : EReal) := by
  simp [Ideal.ofBits, Ideal.ieee]
  rw [← EReal.coe_mul]
  norm_num

theorem scale_real : ∃ σ : ℝ, Ideal.ofBits FTy.f32 0x3DB504F3#32 = (σ : EReal) := by
  simp [Ideal.ofBits, Ideal.ieee]
  exact ⟨_, (EReal.coe_mul _ _).symm⟩

/-- A sum of reals over the first `n` numbers, read in the extended reals. -/
theorem sum_real (n : ℕ) (f : Fin n → EReal) (r : ℕ → ℝ) (h : ∀ j : Fin n, f j = ((r j : ℝ) : EReal)) :
    ∑ j, f j = ((∑ j ∈ Finset.range n, r j : ℝ) : EReal) := by
  rw [Finset.sum_range, coe_sum]
  exact Finset.sum_congr rfl fun j _ => h j

theorem sub_self_real (x : ℝ) : (x : EReal) - (x : EReal) = ((0 : ℝ) : EReal) := by rw [← EReal.coe_sub, sub_self]

/-- The logarithm of the logistic function as the kernel spells it. -/
theorem logSigmoid_real (x : ℝ) (X : EReal) (hX : X = 0 - (x : EReal)) :
    (0 : EReal) - (max X 0 + Ideal.log1p (Ideal.exp (0 - FloatOps.absf (F := Ideal) (φ := .f32) X))) = ((logSigmoid x : ℝ) : EReal) := by
  have hX' : X = ((-x : ℝ) : EReal) := by rw [hX, ← EReal.coe_zero, ← EReal.coe_sub, zero_sub]
  have habs : FloatOps.absf (F := Ideal) (φ := .f32) X = ((|(-x)| : ℝ) : EReal) := by
    show max X (-X) = _
    rw [hX', ← EReal.coe_neg, ← coe_max]; rfl
  have hexp : (0 : EReal) - ((|(-x)| : ℝ) : EReal) = ((-|(-x)| : ℝ) : EReal) := by rw [← EReal.coe_zero, ← EReal.coe_sub, zero_sub]
  have hpos : 0 < 1 + Real.exp (-|(-x)|) := by positivity
  rw [habs, hexp, hX']
  show (0 : EReal) - (max ((-x : ℝ) : EReal) 0 + Ideal.log (1 + ((Real.exp (-|(-x)|) : ℝ) : EReal))) = _
  rw [← EReal.coe_one, ← EReal.coe_add]
  show (0 : EReal) - (max ((-x : ℝ) : EReal) 0 + (if 1 + Real.exp (-|(-x)|) ≤ 0 then ⊥ else ((Real.log (1 + Real.exp (-|(-x)|)) : ℝ) : EReal))) = _
  rw [if_neg (not_le.2 hpos), ← EReal.coe_zero, ← coe_max, ← EReal.coe_add, ← EReal.coe_sub, zero_sub]
  rfl

/-! ## The mask -/

theorem chunkOf : ∀ r : Fin 256, IntOp.shrui ArithUnit.vector (BitVec.ofNat 32 r.val) 6#32 = BitVec.ofNat 32 (r.val / 64) := by decide +kernel

theorem row_inj {a b : ℕ} (ha : a < 256) (hb : b < 256) : (BitVec.ofNat 32 a == BitVec.ofNat 32 b) = decide (b = a) := by
  rw [Bool.eq_iff_iff, beq_iff_eq, decide_eq_true_iff, ← BitVec.toNat_inj, BitVec.toNat_ofNat, BitVec.toNat_ofNat]
  omega

theorem row_toInt {a : ℕ} (ha : a < 256) : (BitVec.ofNat 32 a).toInt = a := by
  rw [BitVec.toInt_eq_toNat_of_lt (by rw [BitVec.toNat_ofNat]; omega), BitVec.toNat_ofNat]; omega

theorem row_sle (a b : Fin 256) : (BitVec.ofNat 32 a.val).sle (BitVec.ofNat 32 b.val) = decide (a.val ≤ b.val) := by
  rw [BitVec.sle, row_toInt a.isLt, row_toInt b.isLt]; simp

theorem row_slt (a b : Fin 256) : (BitVec.ofNat 32 a.val).slt (BitVec.ofNat 32 b.val) = decide (a.val < b.val) := by
  rw [BitVec.slt, row_toInt a.isLt, row_toInt b.isLt]; simp

/-- Two rows are in one chunk, and a comparison of them holds. -/
theorem mask (r j : Fin 256) {x : Bool} {p : Prop} [Decidable p] (hx : x = decide p) :
    IntOp.andi (IntOp.cmpi .eq (IntOp.shrui ArithUnit.vector (BitVec.ofNat 32 r.val) 6#32) (IntOp.shrui ArithUnit.vector (BitVec.ofNat 32 j.val) 6#32))
      (BitVec.ofBool x) = if j.val / 64 = r.val / 64 ∧ p then 1#1 else 0#1 := by
  rw [chunkOf, chunkOf, hx]
  show BitVec.ofBool (BitVec.ofNat 32 (r.val / 64) == BitVec.ofNat 32 (j.val / 64)) &&& _ = _
  rw [row_inj (by omega) (by omega)]
  by_cases h1 : j.val / 64 = r.val / 64 <;> by_cases h2 : p <;> simp [h1, h2]

/-- A mask of a tile's rows, and the relation that it holds. -/
def Masks (M : IVec S256x256 1) (P : ℕ → ℕ → Prop) [∀ r j, Decidable (P r j)] : Prop :=
  ∀ r j : Fin 256, M (ix2 r j) = if P r j then 1#1 else 0#1

/-- Row `j` is in the chunk of row `r`, and not after it. -/
abbrev upTo (r j : ℕ) : Prop := j / 64 = r / 64 ∧ j ≤ r

theorem masks_upTo : Masks k0_pay16 upTo := fun r j => by
  unfold k0_pay16 k0_pay15
  pointwise
  exact mask r j (row_sle j r)

/-- What the mask keeps is a real, and nothing else matters. -/
theorem select_mask {M : IVec S256x256 1} {P : ℕ → ℕ → Prop} [∀ r j, Decidable (P r j)] (hM : Masks M P) (r j : Fin 256) (x : EReal) (y : ℝ)
    (h : P r j → x = (y : EReal)) : Scalar.select (M (ix2 r j)) x (0 : EReal) = ((if P r j then y else 0 : ℝ) : EReal) := by
  rw [hM]
  unfold Scalar.select
  by_cases hm : P r j
  · rw [if_pos hm, if_pos hm, h hm]; exact if_pos rfl
  · rw [if_neg hm, if_neg hm, if_neg (by decide), EReal.coe_zero]

/-! ## The log-decays -/

section
variable {q : Vec Ideal S256x512 .f32} {k : Vec Ideal S256x512 .f32} {v : Vec Ideal S256x1024 .f32} {a : Vec Ideal S256x128 .f32}
  {w : Vec Ideal S128x512 .f32} {g : Vec Ideal S1x512 .f32}
variable {zr wr : ℕ → ℕ → ℝ} {gr : ℕ → ℝ} {R : ℕ}

/-- The log-decays of a tile whose first row is row `R` of all. -/
theorem logDecays_real (ha : ∀ (r : Fin 256) (l : Fin 128), a (ix2 r l) = ((zr (R + r) (3840 + l) : ℝ) : EReal))
    (hw : ∀ (l : Fin 128) (D : Fin 512), w (ix2 l D) = ((wr l D : ℝ) : EReal)) (hg : ∀ D : Fin 512, g (ix2 0 D) = ((gr D : ℝ) : EReal))
    (r : Fin 256) (D : Fin 512) : logDecays a w g (ix2 r D) = ((logDecay zr wr gr (R + r) D : ℝ) : EReal) := by
  unfold logDecays k0_pay14 k0_pay13 k0_pay12 k0_pay11 k0_pay10
  pointwise
  have hsum : (∑ x : Fin 128, a (ix2 r x) * w (ix2 x D) + g (ix2 0 D) : EReal)
      = ((∑ l ∈ Finset.range 128, zr (R + r) (3840 + l) * wr l D + gr D : ℝ) : EReal) := by
    rw [sum_real 128 _ (fun l => zr (R + r) (3840 + l) * wr l D) fun l => by rw [ha, hw, EReal.coe_mul], hg, ← EReal.coe_add]
  rw [hsum]
  simp only [ne_eq, not_true_eq_false, if_false]
  rw [logSigmoid_real _ _ rfl, sixteenth, ← EReal.coe_mul]
  rfl

/-- Real rows, added up within their chunks. -/
theorem addedUp_real {M : IVec S256x256 1} {P : ℕ → ℕ → Prop} [∀ r j, Decidable (P r j)] (hM : Masks M P) (x : FVec Ideal S256x512 .f32) (f : ℕ → ℕ → ℝ) (hx : ∀ (r : Fin 256) (D : Fin 512), x (ix2 r D) = ((f r D : ℝ) : EReal))
    (r : Fin 256) (D : Fin 512) :
    addedUp M x (ix2 r D) = ((∑ j ∈ Finset.range 256, if P r j then f j D else 0 : ℝ) : EReal) := by
  unfold addedUp
  pointwise
  have h0 : ∀ (j : Fin 256) (D : Fin 512), x (ix2 j D) - x (ix2 j D) = ((0 : ℝ) : EReal) := fun j D => by rw [hx, sub_self_real]
  have h3 : ∀ j : Fin 256, (if h : 1024 + D.val < 512 then x (ix2 j ⟨1024 + D.val, by omega⟩)
      else if h : 1024 + D.val - 512 < 512 then x (ix2 j ⟨1024 + D.val - 512, by omega⟩) - x (ix2 j ⟨1024 + D.val - 512, by omega⟩)
      else x (ix2 j ⟨1024 + D.val - 512 - 512, by omega⟩) - x (ix2 j ⟨1024 + D.val - 512 - 512, by omega⟩)
        - (x (ix2 j ⟨1024 + D.val - 512 - 512, by omega⟩) - x (ix2 j ⟨1024 + D.val - 512 - 512, by omega⟩)) : EReal) = ((0 : ℝ) : EReal) := fun j => by
    rw [dif_neg (by omega), dif_neg (by omega), h0, sub_self_real]
  rw [sum_real 256 _ (fun j => if P r j then f j D else 0) fun j => select_mask hM r j _ _ fun _ => hx j D,
    sum_real 256 _ (fun j => if P r j then 0 else 0) fun j => select_mask hM r j _ _ fun _ => h0 j D,
    sum_real 256 _ (fun j => if P r j then 0 else 0) fun j => select_mask hM r j _ _ fun _ => h3 j]
  simp

end

end Cert.Kernel6Ideal.Recurrence
-- ==== Proof.Recurrence.Block.lean ====
/-
  One tile of 256 rows of the recurrence over the real numbers: its output is what the rows attend to, and the states after
  it are those of the sequence so far.
-/
module

public import proofs.«01_k».proof.Proof.Recurrence.Decay

@[expose] public section

noncomputable section

open Idealize.ShloMosaic Idealize.ShloMosaic.TcCoe Idealize.SL.Sem

namespace Cert.Kernel6Ideal.Recurrence

open Cert.Kernel6Ideal Cert.Kernel6Ideal.Gen Cert.Layer.Recurrence

/-- The blocks of the tile that starts at row `base` of sequence `b`. -/
structure Tile (z wr : ℕ → ℕ → ℝ) (gr : ℕ → ℝ) (b base : ℕ) (q : Vec Ideal S256x512 .f32) (k : Vec Ideal S256x512 .f32)
    (v : Vec Ideal S256x1024 .f32) (a : Vec Ideal S256x128 .f32) (w : Vec Ideal S128x512 .f32) (g : Vec Ideal S1x512 .f32) : Prop where
  hq : ∀ (r : Fin 256) (D : Fin 512), q (ix2 r D) = ((z (16384 * b + (base + r)) D : ℝ) : EReal)
  hk : ∀ (r : Fin 256) (D : Fin 512), k (ix2 r D) = ((z (16384 * b + (base + r)) (512 + D) : ℝ) : EReal)
  hv : ∀ (r : Fin 256) (D : Fin 1024), v (ix2 r D) = ((z (16384 * b + (base + r)) (1024 + D) : ℝ) : EReal)
  ha : ∀ (r : Fin 256) (l : Fin 128), a (ix2 r l) = ((z (16384 * b + (base + r)) (3840 + l) : ℝ) : EReal)
  hw : ∀ (l : Fin 128) (D : Fin 512), w (ix2 l D) = ((wr l D : ℝ) : EReal)
  hg : ∀ D : Fin 512, g (ix2 0 D) = ((gr D : ℝ) : EReal)

/-! ## The products over the real numbers -/

section
variable {q k B : FVec Ideal S256x512 .f32} {r : Fin 256} {D : Fin 512} {x β σ : ℝ}

theorem weighted_query (hq : q (ix2 r D) = (x : EReal)) (hB : B (ix2 r D) = (β : EReal)) (hσ : Ideal.ofBits FTy.f32 0x3DB504F3#32 = (σ : EReal)) :
    k0_pay26 q B (ix2 r D) = ((x * σ * Real.exp β : ℝ) : EReal) := by
  unfold k0_pay26
  pointwise
  rw [hq, hB, hσ, Ideal.exp_coe, ← EReal.coe_mul, ← EReal.coe_mul]

theorem weighted_key (hk : k (ix2 r D) = (x : EReal)) (hB : B (ix2 r D) = (β : EReal)) :
    k0_pay27 k B (ix2 r D) = ((x * Real.exp (0 - β) : ℝ) : EReal) := by
  unfold k0_pay27
  pointwise
  rw [hk, hB, ← EReal.coe_zero, ← EReal.coe_sub, Ideal.exp_coe, ← EReal.coe_mul]

end

section
variable {Q K E : FVec Ideal S256x512 .bf16} {v : Vec Ideal S256x1024 .f32} {s : FVec Ideal S256x128 .f32} {c h : Fin 4} {e : Fin 256}

theorem update_sum {d : Fin 128} {vf kf : ℕ → ℝ} (hv : ∀ i : Fin 64, v (ix2 ⟨64 * c.val + i.val, by omega⟩ ⟨256 * h.val + e.val, by omega⟩) = ((vf i : ℝ) : EReal))
    (hE : ∀ i : Fin 64, E (ix2 ⟨64 * c.val + i.val, by omega⟩ ⟨128 * h.val + d.val, by omega⟩) = ((kf i : ℝ) : EReal)) :
    update E (values v) c h (ix2 e d) = ((∑ i ∈ Finset.range 64, vf i * kf i : ℝ) : EReal) := by
  unfold update values k0_pay33
  pointwise
  exact sum_real 64 _ _ fun i => by rw [hv, hE, ← EReal.coe_mul]

/-- A row's sum: the part within its chunk, under the mask, and the part of the state. -/
theorem rows_real {M : IVec S256x256 1} {P : ℕ → ℕ → Prop} [∀ r j, Decidable (P r j)] (hM : Masks M P) {i : Fin 64} {qf : ℕ → ℝ} {kf : ℕ → ℕ → ℝ} {vf sf : ℕ → ℝ}
    (hQ : ∀ d : Fin 128, Q (ix2 ⟨64 * c.val + i.val, by omega⟩ ⟨128 * h.val + d.val, by omega⟩) = ((qf d : ℝ) : EReal))
    (hK : ∀ (j : Fin 256) (d : Fin 128), P (64 * c.val + i.val) j → K (ix2 j ⟨128 * h.val + d.val, by omega⟩) = ((kf j d : ℝ) : EReal))
    (hv : ∀ j : Fin 256, v (ix2 j ⟨256 * h.val + e.val, by omega⟩) = ((vf j : ℝ) : EReal))
    (hs : ∀ d : Fin 128, s (ix2 e d) = ((sf d : ℝ) : EReal)) :
    rows Q (within M Q K (values v) h) s c h (ix2 i e)
      = ((∑ j ∈ Finset.range 256, (if P (64 * c.val + i.val) j then (∑ d ∈ Finset.range 128, qf d * kf j d) * vf j else 0)
          + ∑ d ∈ Finset.range 128, qf d * sf d : ℝ) : EReal) := by
  unfold rows within weights values k0_pay33
  pointwise
  rw [EReal.coe_add]
  refine congrArg₂ (· + ·)
    (sum_real 256 _ _ fun j => select_mask hM ⟨64 * c.val + i.val, by omega⟩ j _ _ fun hm =>
      (congrArg₂ (· * ·) (sum_real 128 _ (fun d => qf d * kf j d) fun d => by rw [hQ, hK j d hm, ← EReal.coe_mul]) (hv j)).trans (EReal.coe_mul _ _).symm)
    (sum_real 128 _ _ fun d => by rw [hQ, hs, ← EReal.coe_mul])

end

variable {z wr : ℕ → ℕ → ℝ} {gr : ℕ → ℝ} {b base : ℕ} {q : Vec Ideal S256x512 .f32} {k : Vec Ideal S256x512 .f32}
  {v : Vec Ideal S256x1024 .f32} {a : Vec Ideal S256x128 .f32} {w : Vec Ideal S128x512 .f32} {g : Vec Ideal S1x512 .f32}
  (T : Tile z wr gr b base q k v a w g)

include T

theorem decays_real (r : Fin 256) (c : ℕ) (hc : r.val / 64 = c) (h : Fin 4) (d : Fin 128) :
    decays a w g (ix2 r ⟨128 * h.val + d.val, by omega⟩)
      = ((total (headDecay z wr gr b h) (base + r + 1) d - total (headDecay z wr gr b h) (base + 64 * c) d : ℝ) : EReal) := by
  rw [decays_eq, addedUp_real masks_upTo _ (fun r D => logDecay z wr gr (16384 * b + (base + r)) D) fun r D => by
    rw [logDecays_real (R := 16384 * b + base) (fun r l => by rw [T.ha, Nat.add_assoc]) T.hw T.hg, Nat.add_assoc]]
  obtain ⟨i, hi, e⟩ : ∃ i < 64, r.val = 64 * c + i := ⟨r.val % 64, by omega, by omega⟩
  rw [e, ← Nat.add_assoc base, ← total_masked _ base 256 c i d hi (by omega)]
  rfl

theorem queries_real (r : Fin 256) (c : ℕ) (hc : r.val / 64 = c) (h : Fin 4) (d : Fin 128) {σ : ℝ} (hσ : Ideal.ofBits FTy.f32 0x3DB504F3#32 = (σ : EReal)) :
    queries q a w g (ix2 r ⟨128 * h.val + d.val, by omega⟩)
      = ((headQuery z σ b h (base + r) d * Real.exp (total (headDecay z wr gr b h) (base + r + 1) d - total (headDecay z wr gr b h) (base + 64 * c) d) : ℝ) : EReal) := by
  exact weighted_query (T.hq r ⟨128 * h.val + d.val, by omega⟩) (decays_real T r c hc h d) hσ

theorem keys_real (r : Fin 256) (c : ℕ) (hc : r.val / 64 = c) (h : Fin 4) (d : Fin 128) :
    keys k a w g (ix2 r ⟨128 * h.val + d.val, by omega⟩)
      = ((headKey z b h (base + r) d * Real.exp (0 - (total (headDecay z wr gr b h) (base + r + 1) d - total (headDecay z wr gr b h) (base + 64 * c) d)) : ℝ) : EReal) := by
  exact weighted_key (T.hk r ⟨128 * h.val + d.val, by omega⟩) (decays_real T r c hc h d)

theorem endKeys_real (r : Fin 256) (c : ℕ) (hc : r.val / 64 = c) (h : Fin 4) (d : Fin 128) :
    endKeys k a w g (ix2 r ⟨128 * h.val + d.val, by omega⟩)
      = ((headKey z b h (base + r) d * Real.exp ((total (headDecay z wr gr b h) (base + 64 * c + 64) d - total (headDecay z wr gr b h) (base + 64 * c) d)
          - (total (headDecay z wr gr b h) (base + r + 1) d - total (headDecay z wr gr b h) (base + 64 * c) d)) : ℝ) : EReal) := by
  unfold endKeys k0_pay28 k0_pay22 k0_pay23 k0_pay24 k0_pay25 k0_pay21 k0_pay20 k0_pay19 k0_pay18
  pointwise
  have hend : ∀ (e : Fin 256), e.val = 64 * c + 63 → k0_pay17 (k0_pay10 a w g) (k0_pay11 a w g) (k0_pay12 a w g) (k0_pay13 a w g) k0_pay14 (ix2 e ⟨128 * h.val + d.val, by omega⟩)
      = ((total (headDecay z wr gr b h) (base + 64 * c + 64) d - total (headDecay z wr gr b h) (base + 64 * c) d : ℝ) : EReal) := fun e he => by
    have := decays_real T e c (by omega) h d
    rw [he, show base + (64 * c + 63) + 1 = base + 64 * c + 64 by omega] at this
    exact this
  have hsel : (if h1 : r.val < 64 then
            k0_pay17 (k0_pay10 a w g) (k0_pay11 a w g) (k0_pay12 a w g) (k0_pay13 a w g) k0_pay14 (ix2 63 ⟨128 * h.val + d.val, by omega⟩)
          else if h2 : r.val - 64 < 64 then
            k0_pay17 (k0_pay10 a w g) (k0_pay11 a w g) (k0_pay12 a w g) (k0_pay13 a w g) k0_pay14 (ix2 127 ⟨128 * h.val + d.val, by omega⟩)
          else if h3 : r.val - 64 - 64 < 64 then
            k0_pay17 (k0_pay10 a w g) (k0_pay11 a w g) (k0_pay12 a w g) (k0_pay13 a w g) k0_pay14 (ix2 191 ⟨128 * h.val + d.val, by omega⟩)
          else k0_pay17 (k0_pay10 a w g) (k0_pay11 a w g) (k0_pay12 a w g) (k0_pay13 a w g) k0_pay14 (ix2 255 ⟨128 * h.val + d.val, by omega⟩) : EReal)
      = ((total (headDecay z wr gr b h) (base + 64 * c + 64) d - total (headDecay z wr gr b h) (base + 64 * c) d : ℝ) : EReal) := by
    split_ifs <;> refine hend _ ?_
    · show 63 = _; omega
    · show 127 = _; omega
    · show 191 = _; omega
    · show 255 = _; omega
  rw [hsel, decays_real T r c hc, T.hk, ← EReal.coe_sub, Ideal.exp_coe, ← EReal.coe_mul]
  rfl

theorem chunkDecay_real (c h : Fin 4) (d : Fin 128) :
    chunkDecay a w g c (ix2 0 ⟨128 * h.val + d.val, by omega⟩)
      = ((Real.exp (total (headDecay z wr gr b h) (base + 64 * c + 64) d - total (headDecay z wr gr b h) (base + 64 * c) d) : ℝ) : EReal) := by
  unfold chunkDecay
  pointwise
  rw [decays_real T ⟨64 * c.val + 63, by omega⟩ c (by show (64 * c.val + 63) / 64 = c.val; omega), Ideal.exp_coe,
    show base + (64 * c.val + 63) + 1 = base + 64 * c.val + 64 by omega]

theorem update_real (c h : Fin 4) (e : Fin 256) (d : Fin 128) :
    update (endKeys k a w g) (values v) c h (ix2 e d)
      = ((∑ i ∈ Finset.range 64, headValue z b h (base + 64 * c + i) e * (headKey z b h (base + 64 * c + i) d
          * Real.exp ((total (headDecay z wr gr b h) (base + 64 * c + 64) d - total (headDecay z wr gr b h) (base + 64 * c) d)
            - (total (headDecay z wr gr b h) (base + 64 * c + i + 1) d - total (headDecay z wr gr b h) (base + 64 * c) d))) : ℝ) : EReal) := by
  refine update_sum (fun i => ?_) fun i => ?_
  · exact (T.hv _ ⟨256 * h.val + e.val, by omega⟩).trans (by rw [Nat.add_assoc base (64 * c.val) i.val]; rfl)
  · rw [endKeys_real T ⟨64 * c.val + i.val, by omega⟩ c (by show (64 * c.val + i.val) / 64 = c.val; omega),
      show base + (64 * c.val + i.val) = base + 64 * c.val + i.val by omega]

/-- A head's state after the tile's first `n` chunks is the sequence's. -/
theorem stateAfter_real (s : FVec Ideal S256x128 .f32) (h : Fin 4)
    (hs : ∀ (e : Fin 256) (d : Fin 128), s (ix2 e d) = ((headState z wr gr b h base e d : ℝ) : EReal)) (n : ℕ) (hn : n ≤ 4) (e : Fin 256) (d : Fin 128) :
    stateAfter k v a w g s h n (ix2 e d) = ((headState z wr gr b h (base + 64 * n) e d : ℝ) : EReal) := by
  induction n generalizing e d with
  | zero => exact hs e d
  | succ n ih =>
    have hc : (Fin.ofNat 4 n).val = n := Nat.mod_eq_of_lt hn
    show next (chunkDecay a w g (Fin.ofNat 4 n)) (update (endKeys k a w g) (values v) (Fin.ofNat 4 n) h) (stateAfter k v a w g s h n) h (ix2 e d) = _
    unfold next
    pointwise
    rw [ih (by omega), chunkDecay_real T, update_real T, ← EReal.coe_mul, ← EReal.coe_add, hc]
    congr 1
    rw [show base + 64 * (n + 1) = base + 64 * n + 64 by omega]
    exact (state_chunk _ _ _ _ _ _).symm

theorem headOut_real (s : FVec Ideal S256x128 .f32) (h : Fin 4)
    (hs : ∀ (e : Fin 256) (d : Fin 128), s (ix2 e d) = ((headState z wr gr b h base e d : ℝ) : EReal)) {σ : ℝ}
    (hσ : Ideal.ofBits FTy.f32 0x3DB504F3#32 = (σ : EReal)) (r : Fin 256) (e : Fin 256) :
    headOut q k v a w g s h (ix2 r e) = ((headAttend z wr gr σ b h (base + r) e : ℝ) : EReal) := by
  obtain ⟨c, i, rfl⟩ : ∃ (c : Fin 4) (i : Fin 64), r = ⟨64 * c.val + i.val, by omega⟩ :=
    ⟨⟨r.val / 64, by omega⟩, ⟨r.val % 64, by omega⟩, Fin.ext (by show r.val = 64 * (r.val / 64) + r.val % 64; omega)⟩
  have hr : (64 * c.val + i.val) / 64 = c.val := by omega
  have hpick : headOut q k v a w g s h (ix2 ⟨64 * c.val + i.val, by omega⟩ e)
      = rows (queries q a w g) (within k0_pay16 (queries q a w g) (keys k a w g) (values v) h) (stateAfter k v a w g s h c.val) c h (ix2 i e) := by
    unfold headOut
    refine concatenate_ofFn_apply (s₁ := S64x256) (0 : Fin S256x256.rank) _ _ rfl 64 rfl (ix2 (n0 := 256) (n1 := 256) ⟨64 * c.val + i.val, by omega⟩ e) c hr (ix2 (n0 := 64) (n1 := 256) i e) ?_ ?_
    · show i.val = (64 * c.val + i.val) % 64; omega
    · intro b hb
      fin_cases b
      · exact absurd rfl hb
      · rfl
  rw [hpick, rows_real masks_upTo
    (qf := fun d => headQuery z σ b h (base + (64 * c.val + i.val)) d * Real.exp (total (headDecay z wr gr b h) (base + (64 * c.val + i.val) + 1) d - total (headDecay z wr gr b h) (base + 64 * c.val) d))
    (kf := fun j d => headKey z b h (base + j) d * Real.exp (0 - (total (headDecay z wr gr b h) (base + j + 1) d - total (headDecay z wr gr b h) (base + 64 * c.val) d)))
    (vf := fun j => headValue z b h (base + j) e) (sf := fun d => headState z wr gr b h (base + 64 * c.val) e d)
    (queries_real T ⟨64 * c.val + i.val, by omega⟩ c hr h · hσ)
    (fun j d hm => keys_real T j c (by rw [hm.1]; exact hr) h d) (T.hv · ⟨256 * h.val + e.val, by omega⟩) (stateAfter_real T s h hs c (by omega) e)]
  refine congrArg (fun x : ℝ => (x : EReal)) ?_
  rw [← Nat.add_assoc base]
  exact (attend_chunk _ _ _ _ base 256 c i e i.isLt (by omega)).symm

end Cert.Kernel6Ideal.Recurrence
-- ==== Proof.Recurrence.Pieces.lean ====
/-
  What the kernel's stores leave at one grid point: the tile's output and the heads' states, as the terms of one head.
-/
module

public import proofs.«01_k».proof.Proof.Recurrence.Terms

@[expose] public section

noncomputable section

open Idealize.ShloMosaic Idealize.ShloMosaic.TcCoe Idealize.SL.Sem

namespace Cert.Kernel6Ideal.Recurrence

open Cert.Kernel6Ideal Cert.Kernel6Ideal.Gen

variable {F : FTy → Type} [FloatOps F]

section
variable (q : Vec F S256x512 .f32) (k : Vec F S256x512 .f32) (v : Vec F S256x1024 .f32) (a : Vec F S256x128 .f32)
  (w : Vec F S128x512 .f32) (g : Vec F S1x512 .f32) (x : Vec F S4x256x128 .f32)

/-- The tile's output at a column of head `h`. -/
theorem tileOut_at (y : S256x1024.Idx) (h : Fin 4) (j : S256x256.Idx) (h0 : (y 0).val = (j 0).val) (h1 : (y 1).val = 256 * h.val + (j 1).val) :
    tileOut q k v a w g x y = headOut q k v a w g (slab x h) h j := by
  have hj : (j 1).val < 256 := (j 1).isLt
  have e : (⟨(y 1).val / 256, by have := (y 1).isLt; change _ < 1024 at this; omega⟩ : Fin 4) = h := Fin.ext (by show (y 1).val / 256 = _; omega)
  unfold tileOut
  rw [e]
  congr 1
  funext d
  match d with
  | ⟨0, _⟩ => exact Fin.ext h0
  | ⟨1, _⟩ => exact Fin.ext (by show (y 1).val % 256 = (j 1).val; omega)

/-- The states after the tile at head `h`. -/
theorem tileState_at (y : S4x256x128.Idx) (h : Fin 4) (j : S1x256x128.Idx) (h0 : (y 0).val = h.val) (h1 : (y 1).val = (j 1).val)
    (h2 : (y 2).val = (j 2).val) :
    tileState k v a w g x y = stateAfter k v a w g (slab x h) h 4 (ix2 (j 1) (j 2)) := by
  have e : (y 0 : Fin 4) = h := Fin.ext h0
  unfold tileState
  rw [e]
  congr 1
  funext d
  match d with
  | ⟨0, _⟩ => exact Fin.ext h1
  | ⟨1, _⟩ => exact Fin.ext h2

end

/-- Where the last stores cover, the earlier ones do not matter. -/
theorem canon_append_of_cover {Val : EltTy → Type} [∀ e, Nonempty (Val e)] {S : Shape} {e : EltTy} (E : List (View.Piece Val S e)) :
    ∀ (L : List (View.Piece Val S e)) (y : S.Idx), (∃ p ∈ L, y ∈ p.1.set) → View.canon (L ++ E) y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover E L y ?_
      obtain ⟨r, hr, hy⟩ := h
      rcases List.mem_cons.mp hr with rfl | hr'
      · exact absurd hy hm
      · exact ⟨r, hr', hy⟩

theorem shapeCast_slab (s : FVec F S256x128 .f32) (j : S1x256x128.Idx) :
    shapeCast S1x256x128 s shapeCasts_S256x128_S1x256x128 j = s (ix2 (j 1) (j 2)) := by
  have e : j = ix3 (0 : Fin 1) (j 1 : Fin 256) (j 2 : Fin 128) := by
    funext d
    match d with
    | ⟨0, _⟩ => exact Fin.ext (by have := (j 0).isLt; change _ < 1 at this; show (j 0).val = 0; omega)
    | ⟨1, _⟩ => rfl
    | ⟨2, _⟩ => rfl
  have p : ∀ (r : Fin 256) (d : Fin 128), shapeCast S1x256x128 s shapeCasts_S256x128_S1x256x128 (ix3 (0 : Fin 1) r d) = s (ix2 r d) := by
    intro r d
    pointwise
  exact (congrArg _ e).trans (p _ _)

section
variable (c : Dev nD) (i : grid0.Coords)
  (a2 : Memref sig .tc .vmem S256x512 .f32) (h2 : a2.IsWhole) (a3 : Memref sig .tc .vmem S256x512 .f32) (h3 : a3.IsWhole)
  (a4 : Memref sig .tc .vmem S256x1024 .f32) (h4 : a4.IsWhole) (a5 : Memref sig .tc .vmem S256x128 .f32) (h5 : a5.IsWhole)
  (a6 : Memref sig .tc .vmem S128x512 .f32) (h6 : a6.IsWhole) (a7 : Memref sig .tc .vmem S1x512 .f32) (h7 : a7.IsWhole)
  (a8 : Memref sig .tc .vmem S256x1024 .f32) (h8 : a8.IsWhole) (a9 : Memref sig .tc .vmem S4x256x128 .f32) (h9 : a9.IsWhole)
  (x0 : Vec F S256x512 .f32) (x1 : Vec F S256x512 .f32) (x2 : Vec F S256x1024 .f32) (x3 : Vec F S256x128 .f32) (x4 : Vec F S128x512 .f32) (x5 : Vec F S1x512 .f32)

theorem outB (hc0 : ¬cond0_0 i) (xs : Vec F S4x256x128 .f32) :
    out0_B_6 c i a2 h2 a3 h3 a4 h4 a5 h5 a6 h6 a7 h7 a8 h8 a9 h9 hc0 x0 x1 x2 x3 x4 x5 xs = tileOut x0 x1 x2 x3 x4 x5 xs := by
  unfold out0_B_6
  rw [View.read_writes_eq_canon _ _ _ (cover0_B_6 c i a2 h2 a3 h3 a4 h4 a5 h5 a6 h6 a7 h7 a8 h8 a9 h9 hc0 x0 x1 x2 x3 x4 x5 xs)]
  unfold kernelRun0_B
  dsimp only
  sl_unfold_words
  simp only [View.readAt_eq_ld, h2.read_unread, h3.read_unread, h4.read_unread, h5.read_unread, h6.read_unread, h7.read_unread, h9.read_unread,
    View.ld_unit_zero (S := S256x512) hz, View.ld_unit_zero (S := S256x1024) hz, View.ld_unit_zero (S := S256x128) hz,
    View.ld_unit_zero (S := S128x512) hz, View.ld_unit_zero (S := S1x512) hz, shapeCast_self]
  funext y
  canon_tiles j h
  · exact (congrFun (show _ = headOut x0 x1 x2 x3 x4 x5 (slab xs 3) 3 from rfl) j).trans (tileOut_at _ _ _ _ _ _ _ y 3 j h0 h1).symm
  · exact (congrFun (show _ = headOut x0 x1 x2 x3 x4 x5 (slab xs 2) 2 from rfl) j).trans (tileOut_at _ _ _ _ _ _ _ y 2 j h0 h1).symm
  · exact (congrFun (show _ = headOut x0 x1 x2 x3 x4 x5 (slab xs 1) 1 from rfl) j).trans (tileOut_at _ _ _ _ _ _ _ y 1 j h0 h1).symm
  · exact (congrFun (show _ = headOut x0 x1 x2 x3 x4 x5 (slab xs 0) 0 from rfl) j).trans (tileOut_at _ _ _ _ _ _ _ y 0 j h0 (by omega)).symm

theorem outA (hc0 : cond0_0 i) :
    out0_A_6 c i a2 h2 a3 h3 a4 h4 a5 h5 a6 h6 a7 h7 a8 h8 a9 h9 hc0 x0 x1 x2 x3 x4 x5 = tileOut x0 x1 x2 x3 x4 x5 k0_pay5 := by
  unfold out0_A_6
  rw [View.read_writes_eq_canon _ _ _ (cover0_A_6 c i a2 h2 a3 h3 a4 h4 a5 h5 a6 h6 a7 h7 a8 h8 a9 h9 hc0 x0 x1 x2 x3 x4 x5)]
  unfold kernelRun0_A
  dsimp only
  sl_unfold_words
  simp only [View.readAt_eq_ld, h2.read_unread, h3.read_unread, h4.read_unread, h5.read_unread, h6.read_unread, h7.read_unread,
    View.ld_unit_zero (S := S256x512) hz, View.ld_unit_zero (S := S256x1024) hz, View.ld_unit_zero (S := S256x128) hz,
    View.ld_unit_zero (S := S128x512) hz, View.ld_unit_zero (S := S1x512) hz, shapeCast_self, View.readCov_eq_canon', View.canon_unit_zero (S := S4x256x128) hz3]
  funext y
  canon_tiles j h
  · exact (congrFun (show _ = headOut x0 x1 x2 x3 x4 x5 (slab k0_pay5 3) 3 from rfl) j).trans (tileOut_at _ _ _ _ _ _ _ y 3 j h0 h1).symm
  · exact (congrFun (show _ = headOut x0 x1 x2 x3 x4 x5 (slab k0_pay5 2) 2 from rfl) j).trans (tileOut_at _ _ _ _ _ _ _ y 2 j h0 h1).symm
  · exact (congrFun (show _ = headOut x0 x1 x2 x3 x4 x5 (slab k0_pay5 1) 1 from rfl) j).trans (tileOut_at _ _ _ _ _ _ _ y 1 j h0 h1).symm
  · exact (congrFun (show _ = headOut x0 x1 x2 x3 x4 x5 (slab k0_pay5 0) 0 from rfl) j).trans (tileOut_at _ _ _ _ _ _ _ y 0 j h0 (by omega)).symm

theorem soutB (hc0 : ¬cond0_0 i) (xs : Vec F S4x256x128 .f32) :
    sout0_B_0 c i a2 h2 a3 h3 a4 h4 a5 h5 a6 h6 a7 h7 a8 h8 a9 h9 hc0 x0 x1 x2 x3 x4 x5 xs = tileState x1 x2 x3 x4 x5 xs := by
  unfold sout0_B_0
  rw [View.read_writes_eq_canon _ _ _ (scover0_B_0 c i a2 h2 a3 h3 a4 h4 a5 h5 a6 h6 a7 h7 a8 h8 a9 h9 hc0 x0 x1 x2 x3 x4 x5 xs)]
  unfold kernelRun0_B
  dsimp only
  sl_unfold_words
  simp only [View.readAt_eq_ld, h2.read_unread, h3.read_unread, h4.read_unread, h5.read_unread, h6.read_unread, h7.read_unread, h9.read_unread,
    View.ld_unit_zero (S := S256x512) hz, View.ld_unit_zero (S := S256x1024) hz, View.ld_unit_zero (S := S256x128) hz,
    View.ld_unit_zero (S := S128x512) hz, View.ld_unit_zero (S := S1x512) hz, shapeCast_self]
  funext y
  canon_tiles j h
  · exact ((shapeCast_slab _ j).trans (congrFun (show _ = stateAfter x1 x2 x3 x4 x5 (slab xs 3) 3 4 from rfl) _)).trans (tileState_at _ _ _ _ _ _ y 3 j (by omega) h1 h2).symm
  · exact ((shapeCast_slab _ j).trans (congrFun (show _ = stateAfter x1 x2 x3 x4 x5 (slab xs 2) 2 4 from rfl) _)).trans (tileState_at _ _ _ _ _ _ y 2 j (by omega) h1 h2).symm
  · exact ((shapeCast_slab _ j).trans (congrFun (show _ = stateAfter x1 x2 x3 x4 x5 (slab xs 1) 1 4 from rfl) _)).trans (tileState_at _ _ _ _ _ _ y 1 j (by omega) h1 h2).symm
  · exact ((shapeCast_slab _ j).trans (congrFun (show _ = stateAfter x1 x2 x3 x4 x5 (slab xs 0) 0 4 from rfl) _)).trans (tileState_at _ _ _ _ _ _ y 0 j (by omega) h1 h2).symm

theorem soutA (hc0 : cond0_0 i) :
    sout0_A_0 c i a2 h2 a3 h3 a4 h4 a5 h5 a6 h6 a7 h7 a8 h8 a9 h9 hc0 x0 x1 x2 x3 x4 x5 = tileState x1 x2 x3 x4 x5 k0_pay5 := by
  unfold sout0_A_0
  rw [View.read_writes_eq_canon _ _ _ (scover0_A_0 c i a2 h2 a3 h3 a4 h4 a5 h5 a6 h6 a7 h7 a8 h8 a9 h9 hc0 x0 x1 x2 x3 x4 x5)]
  unfold kernelRun0_A
  dsimp only
  sl_unfold_words
  simp only [View.readAt_eq_ld, h2.read_unread, h3.read_unread, h4.read_unread, h5.read_unread, h6.read_unread, h7.read_unread,
    View.ld_unit_zero (S := S256x512) hz, View.ld_unit_zero (S := S256x1024) hz, View.ld_unit_zero (S := S256x128) hz,
    View.ld_unit_zero (S := S128x512) hz, View.ld_unit_zero (S := S1x512) hz, shapeCast_self, View.readCov_eq_canon', View.canon_unit_zero (S := S4x256x128) hz3]
  funext y
  refine (canon_append_of_cover [_] [_, _, _, _] y (View.cover_of_tiled_head _ _ _ (by rfl) y)).trans ?_
  canon_tiles j h
  · exact ((shapeCast_slab _ j).trans (congrFun (show _ = stateAfter x1 x2 x3 x4 x5 (slab k0_pay5 3) 3 4 from rfl) _)).trans (tileState_at _ _ _ _ _ _ y 3 j (by omega) h1 h2).symm
  · exact ((shapeCast_slab _ j).trans (congrFun (show _ = stateAfter x1 x2 x3 x4 x5 (slab k0_pay5 2) 2 4 from rfl) _)).trans (tileState_at _ _ _ _ _ _ y 2 j (by omega) h1 h2).symm
  · exact ((shapeCast_slab _ j).trans (congrFun (show _ = stateAfter x1 x2 x3 x4 x5 (slab k0_pay5 1) 1 4 from rfl) _)).trans (tileState_at _ _ _ _ _ _ y 1 j (by omega) h1 h2).symm
  · exact ((shapeCast_slab _ j).trans (congrFun (show _ = stateAfter x1 x2 x3 x4 x5 (slab k0_pay5 0) 0 4 from rfl) _)).trans (tileState_at _ _ _ _ _ _ y 0 j (by omega) h1 h2).symm

end

end Cert.Kernel6Ideal.Recurrence
-- ==== Proof.Recurrence.Array.lean ====
/-
  The array that the recurrence leaves: every row's sum, the states carried from tile to tile through a sequence.
-/
module

public import proofs.«01_k».proof.Proof.Recurrence.Block
public import proofs.«01_k».proof.Proof.Recurrence.Pieces
public import Idealize.ShloMosaic.Lib.Pipeline.Value

@[expose] public section

noncomputable section

open Idealize.ShloMosaic Idealize.ShloMosaic.TcCoe Idealize.SL.Sem
open Idealize.ShloMosaic.Pipeline (Dat)

namespace Cert.Kernel6Ideal.Recurrence

open Cert.Kernel6Ideal Cert.Kernel6Ideal.Gen Cert.Layer.Recurrence

/-- The arguments are these reals. -/
structure Reals (z w : ℕ → ℕ → ℝ) (g : ℕ → ℝ) (Z : S32768x4608.Idx → EReal) (W : S128x1024.Idx → EReal) (G : S1x1024.Idx → EReal) : Prop where
  hz : ∀ (r : Fin 32768) (D : Fin 4608), Z (ix2 r D) = ((z r D : ℝ) : EReal)
  hw : ∀ (l : Fin 128) (D : Fin 1024), W (ix2 l D) = ((w l D : ℝ) : EReal)
  hg : ∀ D : Fin 1024, G (ix2 0 D) = ((g D : ℝ) : EReal)

/-- What the rows attend to: row `r` is row `r % 16384` of sequence `r / 16384`, column `C` is column `C % 256` of head `C / 256`. -/
def attended (z w : ℕ → ℕ → ℝ) (g : ℕ → ℝ) (σ : ℝ) (r C : ℕ) : EReal :=
  ((headAttend z w g σ (r / 16384) (C / 256) (r % 16384) (C % 256) : ℝ) : EReal)

/-- An element of an argument, by its row and column. -/
theorem Reals.z_at {z w : ℕ → ℕ → ℝ} {g : ℕ → ℝ} {Z : S32768x4608.Idx → EReal} {W : S128x1024.Idx → EReal} {G : S1x1024.Idx → EReal}
    (A : Reals z w g Z W G) (i : S32768x4608.Idx) (r D : ℕ) (h0 : (i 0).val = r) (h1 : (i 1).val = D) : Z i = ((z r D : ℝ) : EReal) := by
  subst h0 h1
  exact (congrArg Z (show i = ix2 (n0 := 32768) (n1 := 4608) (i 0) (i 1) from eq_ix2 (n0 := 32768) (n1 := 4608) i)).trans (A.hz (i 0) (i 1))
theorem Reals.w_at {z w : ℕ → ℕ → ℝ} {g : ℕ → ℝ} {Z : S32768x4608.Idx → EReal} {W : S128x1024.Idx → EReal} {G : S1x1024.Idx → EReal}
    (A : Reals z w g Z W G) (i : S128x1024.Idx) (l D : ℕ) (h0 : (i 0).val = l) (h1 : (i 1).val = D) : W i = ((w l D : ℝ) : EReal) := by
  subst h0 h1
  exact (congrArg W (show i = ix2 (n0 := 128) (n1 := 1024) (i 0) (i 1) from eq_ix2 (n0 := 128) (n1 := 1024) i)).trans (A.hw (i 0) (i 1))
theorem Reals.g_at {z w : ℕ → ℕ → ℝ} {g : ℕ → ℝ} {Z : S32768x4608.Idx → EReal} {W : S128x1024.Idx → EReal} {G : S1x1024.Idx → EReal}
    (A : Reals z w g Z W G) (i : S1x1024.Idx) (D : ℕ) (h1 : (i 1).val = D) : G i = ((g D : ℝ) : EReal) := by
  subst h1
  refine (congrArg G (show i = ix2 (n0 := 1) (n1 := 1024) 0 (i 1) from ?_)).trans (A.hg (i 1))
  funext a
  match a with
  | ⟨0, _⟩ => exact Fin.ext (by have := (i 0).isLt; change _ < 1 at this; show (i 0).val = 0; omega)
  | ⟨1, _⟩ => rfl

variable (m : (ℓ : Loc nD τ sig) → Buf (Elt Ideal) ℓ) (c : Dev nD)

abbrev argZ : S32768x4608.Idx → EReal := m ((c : Thread nD τ).loc main_arg0)
abbrev argW : S128x1024.Idx → EReal := m ((c : Thread nD τ).loc main_arg1)
abbrev argG : S1x1024.Idx → EReal := m ((c : Thread nD τ).loc main_arg2)

/-! ## The blocks that a grid point reads -/

theorem blockIndex0 : ∀ t : Fin cfg0.N, win0_0.index t (0 : Fin 2) = t.val ∧ win0_0.index t (1 : Fin 2) = 0 := (by decide +kernel : ∀ t : Fin grid0.N, _)
theorem blockIndex1 : ∀ t : Fin cfg0.N, win0_1.index t (0 : Fin 2) = t.val ∧ win0_1.index t (1 : Fin 2) = 1 := (by decide +kernel : ∀ t : Fin grid0.N, _)
theorem blockIndex2 : ∀ t : Fin cfg0.N, win0_2.index t (0 : Fin 2) = t.val ∧ win0_2.index t (1 : Fin 2) = 1 := (by decide +kernel : ∀ t : Fin grid0.N, _)
theorem blockIndex3 : ∀ t : Fin cfg0.N, win0_3.index t (0 : Fin 2) = t.val ∧ win0_3.index t (1 : Fin 2) = 30 := (by decide +kernel : ∀ t : Fin grid0.N, _)
theorem blockIndex4 : ∀ t : Fin cfg0.N, win0_4.index t (0 : Fin 2) = 0 ∧ win0_4.index t (1 : Fin 2) = 0 := (by decide +kernel : ∀ t : Fin grid0.N, _)
theorem blockIndex5 : ∀ t : Fin cfg0.N, win0_5.index t (0 : Fin 2) = 0 ∧ win0_5.index t (1 : Fin 2) = 0 := (by decide +kernel : ∀ t : Fin grid0.N, _)

theorem lt_points (t : Fin cfg0.N) : t.val < 128 := lt_of_lt_of_eq t.isLt (show cfg0.N = 128 from N_0)

variable {z w : ℕ → ℕ → ℝ} {g : ℕ → ℝ} (A : Reals z w g (argZ m c) (argW m c) (argG m c))

include A

/-- A grid point's blocks are a tile of the sequence `t / 64`, 256 rows from row `256 (t % 64)` on. -/
theorem tile (t : Fin cfg0.N) : Tile z w g (t.val / 64) (256 * (t.val % 64)) (iblk m c 0 t) (iblk m c 1 t) (X0_2 m c t) (iblk m c 3 t) (iblk m c 4 t) (iblk m c 5 t) where
  hq r D := by
    obtain ⟨e0, e1⟩ := blockIndex0 t
    have ht := lt_points t
    refine A.z_at (((cfg0.win 0).blk t).view.emb (ix2 r D)) _ _ ?_ ?_
    · show win0_0.index t (0 : Fin 2) * 256 + 1 * r.val = _; rw [e0]; omega
    · show win0_0.index t (1 : Fin 2) * 512 + 1 * D.val = _; rw [e1]; omega
  hk r D := by
    obtain ⟨e0, e1⟩ := blockIndex1 t
    have ht := lt_points t
    refine A.z_at (((cfg0.win 1).blk t).view.emb (ix2 r D)) _ _ ?_ ?_
    · show win0_1.index t (0 : Fin 2) * 256 + 1 * r.val = _; rw [e0]; omega
    · show win0_1.index t (1 : Fin 2) * 512 + 1 * D.val = _; rw [e1]; omega
  hv r D := by
    obtain ⟨e0, e1⟩ := blockIndex2 t
    have ht := lt_points t
    unfold X0_2 Pipeline.Window.fill
    rw [dif_pos (moved0_2 t _)]
    refine A.z_at (((cfg0.win 2).blk t).view.emb _) _ _ ?_ ?_
    · show win0_2.index t (0 : Fin 2) * 256 + 1 * r.val = _; rw [e0]; omega
    · show win0_2.index t (1 : Fin 2) * 1024 + 1 * D.val = _; rw [e1]; omega
  ha r D := by
    obtain ⟨e0, e1⟩ := blockIndex3 t
    have ht := lt_points t
    refine A.z_at (((cfg0.win 3).blk t).view.emb (ix2 r D)) _ _ ?_ ?_
    · show win0_3.index t (0 : Fin 2) * 256 + 1 * r.val = _; rw [e0]; omega
    · show win0_3.index t (1 : Fin 2) * 128 + 1 * D.val = _; rw [e1]; omega
  hw l D := by
    obtain ⟨e0, e1⟩ := blockIndex4 t
    refine A.w_at (((cfg0.win 4).blk t).view.emb (ix2 l D)) _ _ ?_ ?_
    · show win0_4.index t (0 : Fin 2) * 128 + 1 * l.val = _; rw [e0]; omega
    · show win0_4.index t (1 : Fin 2) * 512 + 1 * D.val = _; rw [e1]; omega
  hg D := by
    obtain ⟨e0, e1⟩ := blockIndex5 t
    refine A.g_at (((cfg0.win 5).blk t).view.emb (ix2 (0 : Fin 1) D)) _ ?_
    show win0_5.index t (1 : Fin 2) * 512 + 1 * D.val = _; rw [e1]; omega

omit A

/-! ## From tile to tile -/

section
variable {z w : ℕ → ℕ → ℝ} {g : ℕ → ℝ} {b base : ℕ} {x0 : Vec Ideal S256x512 .f32} {x1 : Vec Ideal S256x512 .f32}
  {x2 : Vec Ideal S256x1024 .f32} {x3 : Vec Ideal S256x128 .f32} {x4 : Vec Ideal S128x512 .f32} {x5 : Vec Ideal S1x512 .f32}

/-- The states of the four heads after the first `s` rows of a sequence. -/
def States (z w : ℕ → ℕ → ℝ) (g : ℕ → ℝ) (b s : ℕ) (x : Vec Ideal S4x256x128 .f32) : Prop :=
  ∀ (h : Fin 4) (e : Fin 256) (d : Fin 128), x (ix3 h e d) = ((headState z w g b h s e d : ℝ) : EReal)

theorem slab_apply (x : Vec Ideal S4x256x128 .f32) (h : Fin 4) (e : Fin 256) (d : Fin 128) : slab x h (ix2 e d) = x (ix3 h e d) := by
  have hc : ∀ y : FVec Ideal S1x256x128 .f32, shapeCast S256x128 y shapeCasts_S1x256x128_S256x128 (ix2 e d) = y (ix3 (0 : Fin 1) e d) := fun y => by
    pointwise
  refine (hc _).trans (congrArg x ?_)
  funext a; apply Fin.ext
  match a with
  | ⟨0, _⟩ => show h.val + 1 * 0 = h.val; omega
  | ⟨1, _⟩ => show 0 + 1 * e.val = e.val; omega
  | ⟨2, _⟩ => show 0 + 1 * d.val = d.val; omega

theorem states_zero (b : ℕ) : States z w g b 0 (k0_pay5 (F := Ideal)) := fun h e d => by
  unfold k0_pay5
  pointwise
  rw [show headState z w g b h 0 e d = 0 from state_zero _ _ _ _ _, EReal.coe_zero]

theorem states_next (T : Tile z w g b base x0 x1 x2 x3 x4 x5) (x : Vec Ideal S4x256x128 .f32) (hx : States z w g b base x) :
    States z w g b (base + 256) (tileState x1 x2 x3 x4 x5 x) := fun h e d =>
  stateAfter_real T (slab x h) h (fun e d => (slab_apply x h e d).trans (hx h e d)) 4 (le_refl 4) e d

theorem tileOut_real (T : Tile z w g b base x0 x1 x2 x3 x4 x5) (x : Vec Ideal S4x256x128 .f32) (hx : States z w g b base x) {σ : ℝ}
    (hσ : Ideal.ofBits FTy.f32 0x3DB504F3#32 = (σ : EReal)) (y : S256x1024.Idx) :
    tileOut x0 x1 x2 x3 x4 x5 x y = ((headAttend z w g σ b ((y 1).val / 256) (base + (y 0).val) ((y 1).val % 256) : ℝ) : EReal) :=
  headOut_real T _ _ (fun e d => (slab_apply x _ e d).trans (hx _ e d)) hσ _ _

end

include A

/-- What a grid point leaves: its rows' sums, and the states of its sequence so far. -/
theorem point {σ : ℝ} (hσ : Ideal.ofBits FTy.f32 0x3DB504F3#32 = (σ : EReal)) (n : ℕ) (hn : n < cfg0.N) :
    (∀ y : S256x1024.Idx, (outsAt0 m c n hn).1 y
        = ((headAttend z w g σ (n / 64) ((y 1).val / 256) (256 * (n % 64) + (y 0).val) ((y 1).val % 256) : ℝ) : EReal))
      ∧ States z w g (n / 64) (256 * (n % 64) + 256) (outsAt0 m c n hn).2 := by
  have first : ∀ n (hn : n < cfg0.N), n % 64 = 0 →
      (∀ y : S256x1024.Idx, (outsAt0 m c n hn).1 y
        = ((headAttend z w g σ (n / 64) ((y 1).val / 256) (256 * (n % 64) + (y 0).val) ((y 1).val % 256) : ℝ) : EReal))
      ∧ States z w g (n / 64) (256 * (n % 64) + 256) (outsAt0 m c n hn).2 := fun n hn h0 => by
    have T := tile m c A ⟨n, hn⟩
    have hs : States z w g (n / 64) (256 * (n % 64)) (k0_pay5 (F := Ideal)) := by rw [h0]; exact states_zero (n / 64)
    have e := outsAt0_A m c ⟨n, hn⟩ h0
    rw [outA, soutA] at e
    exact ⟨fun y => (congrFun (congrArg Prod.fst e) y).trans (tileOut_real T _ hs hσ y), (congrArg Prod.snd e) ▸ states_next T _ hs⟩
  induction n with
  | zero => exact first 0 hn rfl
  | succ n ih =>
    by_cases h0 : (n + 1) % 64 = 0
    · exact first (n + 1) hn h0
    · have T := tile m c A ⟨n + 1, hn⟩
      have hs : States z w g ((n + 1) / 64) (256 * ((n + 1) % 64)) (outsAt0 m c n (Nat.lt_of_succ_lt hn)).2 := by
        have := (ih (Nat.lt_of_succ_lt hn)).2
        rw [show (n + 1) / 64 = n / 64 by omega, show 256 * ((n + 1) % 64) = 256 * (n % 64) + 256 by omega]
        exact this
      have e := outsAt0_B m c ⟨n + 1, hn⟩ h0
      rw [outB, soutB] at e
      exact ⟨fun y => (congrFun (congrArg Prod.fst e) y).trans (tileOut_real T _ hs hσ y), (congrArg Prod.snd e) ▸ states_next T _ hs⟩

/-- THE ARRAY after the run. -/
theorem array_eq {σ : ℝ} (hσ : Ideal.ofBits FTy.f32 0x3DB504F3#32 = (σ : EReal)) :
    Value.G6 m c = fun i : S32768x1024.Idx => attended z w g σ (i 0).val (i 1).val := by
  funext i
  have h0 : (i 0 : Nat) < 32768 := (i 0).isLt
  have h1 : (i 1 : Nat) < 1024 := (i 1).isLt
  have hp : Value.pt6Of i = (i 0).val / 256 := by show 1 * ((i 0).val / 256 - 0) + 1 * ((i 1).val / 1024 - 0) = _; omega
  have hN : cfg0.N = 128 := N_0
  unfold Value.G6
  rw [dif_pos (by rw [hp, hN]; omega), ← Value.outsAt0_sweep m c (Value.pt6Of i) (by rw [hp, hN]; omega), (point m c A hσ _ _).1]
  show ((headAttend z w g σ (Value.pt6Of i / 64) ((i 1).val % 1024 / 256) (256 * (Value.pt6Of i % 64) + (i 0).val % 256) ((i 1).val % 1024 % 256) : ℝ) : EReal) = _
  unfold attended
  rw [hp, show (i 0).val / 256 / 64 = (i 0).val / 16384 by omega, show (i 1).val % 1024 = (i 1).val by omega,
    show 256 * ((i 0).val / 256 % 64) + (i 0).val % 256 = (i 0).val % 16384 by omega]

end Cert.Kernel6Ideal.Recurrence
-- ==== Proof.Recurrence.Cumsum.lean ====
/-
  The running sum along the rows of a sequence, as the host takes it: a window of all the rows up to each one.
-/
module

public import proofs.«01_k».proof.Proof.Gen.Reference6Ideal.Read
public import proofs.«01_k».proof.Proof.Recurrence.Decay

@[expose] public section

noncomputable section

open Idealize.ShloMosaic

namespace Cert.Reference6Ideal.Recurrence

open Cert.Reference6Ideal Cert.Kernel6Ideal.Recurrence

/-- A left fold that adds is the initial value and the sum. -/
theorem foldl_sum {n : ℕ} (g : Fin n → EReal) (v : EReal) : (List.finRange n).foldl (fun r k => r + g k) v = v + ∑ k, g k := by
  have h : ∀ (l : List (Fin n)) (v : EReal), l.foldl (fun r k => r + g k) v = v + (l.map g).sum := fun l => by
    induction l with
    | nil => intro v; simp
    | cons a l ih => intro v; rw [List.foldl_cons, ih, List.map_cons, List.sum_cons, add_assoc]
  rw [h, Fin.sum_univ_def]

/-- A choice does not depend on how its condition is decided. -/
theorem dite_any {α : Type} {p : Prop} (d e : Decidable p) (x : p → α) (y : ¬p → α) : @dite α p d x y = @dite α p e x y := by
  rw [Subsingleton.elim d e]

/-- A window sum is the sum over the window's positions. -/
theorem reduceWindow_sum {s t u : Shape} (window strides lo hi : Fin s.rank → ℕ) (x : s.Idx → EReal) (v : u.Idx → EReal)
    (h : s.ReduceWindows window strides lo hi t) (hu : 0 < u.numel) (hv : ∀ i, v i = 0) (j : t.Idx) :
    Host.reduceWindowAdd (F := Ideal) (φ := .f32) window strides lo hi x v h hu j
      = ∑ y : (⟨s.rank, window⟩ : Shape).Idx,
          if hin : ∀ a, lo a ≤ (j (a.cast h.1.symm)).val * strides a + (y a).val ∧ (j (a.cast h.1.symm)).val * strides a + (y a).val - lo a < s.size a then
            x (fun a => ⟨(j (a.cast h.1.symm)).val * strides a + (y a).val - lo a, (hin a).2⟩)
          else 0 := by
  refine (foldl_sum _ _).trans ?_
  rw [hv, zero_add]
  refine (Finset.sum_congr rfl fun n _ => ?_).trans (Equiv.sum_comp (⟨s.rank, window⟩ : Shape).rowMajor.symm _)
  exact dite_any _ _ _ _

/-- The window's positions are the row numbers. -/
def positions : (⟨4, ![1, 16384, 1, 1]⟩ : Shape).Idx ≃ Fin 16384 where
  toFun y := y 1
  invFun n := fun a => match a with
    | ⟨0, _⟩ => (0 : Fin 1)
    | ⟨1, _⟩ => n
    | ⟨2, _⟩ => (0 : Fin 1)
    | ⟨3, _⟩ => (0 : Fin 1)
  left_inv y := funext fun a => match a with
    | ⟨0, _⟩ => Fin.ext (by have := (y 0).isLt; change _ < 1 at this; show 0 = (y 0).val; omega)
    | ⟨1, _⟩ => rfl
    | ⟨2, _⟩ => Fin.ext (by have := (y 2).isLt; change _ < 1 at this; show 0 = (y 2).val; omega)
    | ⟨3, _⟩ => Fin.ext (by have := (y 3).isLt; change _ < 1 at this; show 0 = (y 3).val; omega)
  right_inv n := rfl

/-- The window of row `p` ends at row `p`; what it holds before row zero is zero. -/
theorem sum_window (f : ℕ → ℝ) (N p : ℕ) (hp : p < N) :
    ∑ n ∈ Finset.range N, (if N - 1 ≤ p + n then f (p + n - (N - 1)) else 0) = ∑ s ∈ Finset.range (p + 1), f s := by
  obtain ⟨r, rfl⟩ := Nat.exists_eq_add_of_lt hp
  rw [show p + r + 1 = r + (p + 1) by omega, Finset.sum_range_add, Finset.sum_eq_zero (s := Finset.range r), zero_add]
  · refine Finset.sum_congr rfl fun n hn => ?_
    rw [if_pos (by omega), show p + (r + n) - (r + (p + 1) - 1) = n by omega]
  · intro n hn
    have := Finset.mem_range.1 hn
    rw [if_neg (by omega)]

/-- The running sum of real rows. -/
theorem cumsum_real (x : S2x16384x4x128.Idx → EReal) (v : S_.Idx → EReal) (h : S2x16384x4x128.ReduceWindows ![1, 16384, 1, 1] ![1, 1, 1, 1] ![0, 16383, 0, 0] ![0, 0, 0, 0] S2x16384x4x128)
    (hu : 0 < S_.numel) (f : ℕ → ℕ → ℕ → ℕ → ℝ) (hv : ∀ i, v i = 0)
    (hx : ∀ i, x i = ((f (i 0).val (i 1).val (i 2).val (i 3).val : ℝ) : EReal)) (i : S2x16384x4x128.Idx) :
    Host.reduceWindowAdd (F := Ideal) (φ := .f32) ![1, 16384, 1, 1] ![1, 1, 1, 1] ![0, 16383, 0, 0] ![0, 0, 0, 0] x v h hu i
      = ((∑ s ∈ Finset.range ((i 1).val + 1), f (i 0).val s (i 2).val (i 3).val : ℝ) : EReal) := by
  have hi0 : (i 0).val < 2 := (i 0).isLt
  have hi1 : (i 1).val < 16384 := (i 1).isLt
  have hi2 : (i 2).val < 4 := (i 2).isLt
  have hi3 : (i 3).val < 128 := (i 3).isLt
  rw [reduceWindow_sum _ _ _ _ _ _ _ _ hv, ← sum_window (fun s => f (i 0).val s (i 2).val (i 3).val) 16384 (i 1).val hi1,
    ← sum_real 16384 (fun n : Fin 16384 => (((if 16384 - 1 ≤ (i 1).val + n.val then f (i 0).val ((i 1).val + n.val - (16384 - 1)) (i 2).val (i 3).val else 0 : ℝ)) : EReal)) _ fun n => rfl]
  refine (Equiv.sum_comp positions.symm _).symm.trans (Finset.sum_congr rfl fun n _ => ?_)
  by_cases hn : 16384 - 1 ≤ (i 1).val + n.val
  · have hlt := n.isLt
    rw [if_pos hn, dif_pos]
    · rw [hx]
      show ((f ((i 0).val * 1 + 0 - 0) ((i 1).val * 1 + n.val - 16383) ((i 2).val * 1 + 0 - 0) ((i 3).val * 1 + 0 - 0) : ℝ) : EReal) = _
      simp only [Nat.mul_one, Nat.add_zero, Nat.sub_zero]
    · intro a
      match a with
      | ⟨0, _⟩ => exact ⟨Nat.zero_le _, show (i 0).val * 1 + 0 - 0 < 2 by omega⟩
      | ⟨1, _⟩ => exact ⟨show 16383 ≤ (i 1).val * 1 + n.val by omega, show (i 1).val * 1 + n.val - 16383 < 16384 by omega⟩
      | ⟨2, _⟩ => exact ⟨Nat.zero_le _, show (i 2).val * 1 + 0 - 0 < 4 by omega⟩
      | ⟨3, _⟩ => exact ⟨Nat.zero_le _, show (i 3).val * 1 + 0 - 0 < 128 by omega⟩
  · rw [if_neg hn, dif_neg, EReal.coe_zero]
    intro hin
    have h1 : 16383 ≤ (i 1).val * 1 + n.val := (hin 1).1
    omega

end Cert.Reference6Ideal.Recurrence
-- ==== Proof.Recurrence.Ref.lean ====
/-
  The reference of the recurrence over the real numbers, stage by stage: every row's sum over the rows up to it.
-/
module

public import proofs.«01_k».proof.Proof.Recurrence.Array
public import proofs.«01_k».proof.Proof.Recurrence.Cumsum

@[expose] public section

noncomputable section

open Idealize.ShloMosaic Idealize.ShloMosaic.TcCoe Idealize.SL.Sem

namespace Cert.Reference6Ideal.Recurrence

open Cert.Reference6Ideal Cert.Reference6Ideal.Read Cert.Layer.Recurrence Cert.Kernel6Ideal.Recurrence

theorem sixteen : FloatOps.ofBits (F := Ideal) .f32 0x41800000#32 = ((16 : ℝ) : EReal) := by
  show Ideal.ofBits .f32 0x41800000#32 = _
  simp [Ideal.ofBits, Ideal.ieee]
  rw [← EReal.coe_mul]
  norm_num

theorem zero_const : FloatOps.ofBits (F := Ideal) .f32 0x00000000#32 = (0 : EReal) := by
  show Ideal.ofBits .f32 0x00000000#32 = _
  simp [Ideal.ofBits, Ideal.ieee]

/-- The logarithm of the logistic function as the reference spells it. -/
theorem logSigmoid_host (x : ℝ) (Y : EReal) (hY : Y = (x : EReal)) :
    FloatOps.hostNegf (F := Ideal) (φ := .f32)
      (Scalar.select (FloatOps.cmpf (F := Ideal) (φ := .f32) .une (FloatOps.subf (F := Ideal) (φ := .f32) (FloatOps.hostNegf (F := Ideal) (φ := .f32) Y) (0 : EReal))
          (FloatOps.subf (F := Ideal) (φ := .f32) (FloatOps.hostNegf (F := Ideal) (φ := .f32) Y) (0 : EReal)))
        (FloatOps.addf (F := Ideal) (φ := .f32) (FloatOps.hostNegf (F := Ideal) (φ := .f32) Y) (0 : EReal))
        (FloatOps.addf (F := Ideal) (φ := .f32) (FloatOps.maximumf (F := Ideal) (φ := .f32) (FloatOps.hostNegf (F := Ideal) (φ := .f32) Y) (0 : EReal))
          (FloatOps.hostUnary (F := Ideal) (φ := .f32) .log1p (FloatOps.hostUnary (F := Ideal) (φ := .f32) .exp
            (FloatOps.hostNegf (F := Ideal) (φ := .f32) (FloatOps.hostAbsf (F := Ideal) (φ := .f32)
              (FloatOps.subf (F := Ideal) (φ := .f32) (FloatOps.hostNegf (F := Ideal) (φ := .f32) Y) (0 : EReal))))))))
      = ((logSigmoid x : ℝ) : EReal) := by
  have hs : FloatOps.cmpf (F := Ideal) (φ := .f32) .une (FloatOps.subf (F := Ideal) (φ := .f32) (FloatOps.hostNegf (F := Ideal) (φ := .f32) Y) (0 : EReal))
      (FloatOps.subf (F := Ideal) (φ := .f32) (FloatOps.hostNegf (F := Ideal) (φ := .f32) Y) (0 : EReal)) = 0 := by
    simp [Ideal.cmpf_def, Ideal.cmp]
  rw [hs]
  refine Eq.trans ?_ (logSigmoid_real x (0 - (x : EReal)) rfl)
  subst hY
  show -(max (-(x : EReal)) 0 + Ideal.log1p (Ideal.exp (-(FloatOps.absf (F := Ideal) (φ := .f32) (-(x : EReal) - 0))))) = _
  simp only [sub_zero, zero_sub]

section
variable {z w : ℕ → ℕ → ℝ} {g : ℕ → ℝ} {Z : S32768x4608.Idx → EReal} {W : S128x1024.Idx → EReal} {G : S1x1024.Idx → EReal}
variable (A : Reals z w g Z W G)
include A

theorem queries_real {σ : ℝ} (hσ : Ideal.ofBits FTy.f32 0x3DB504F3#32 = (σ : EReal)) (i : S2x16384x4x128.Idx) :
    val_main_v3 (F := Ideal) Z i = ((headQuery z σ (i 0).val (i 2).val (i 1).val (i 3).val : ℝ) : EReal) := by
  have h2 : (i 2).val < 4 := (i 2).isLt
  have h3 : (i 3).val < 128 := (i 3).isLt
  rw [val_main_v3_apply, val_main_v1_apply, val_main_v0_apply,
    A.z_at _ (16384 * (i 0).val + (i 1).val) (128 * (i 2).val + (i 3).val)
      (show ((((i 0).val * 16384 + (i 1).val) * 4 + (i 2).val) * 128 + (i 3).val) / 512 = _ by omega)
      (show ((((i 0).val * 16384 + (i 1).val) * 4 + (i 2).val) * 128 + (i 3).val) % 512 = _ by omega)]
  rw [val_main_v2_apply, val_main_cst_apply]
  show _ * Ideal.ofBits FTy.f32 0x3DB504F3#32 = _
  rw [hσ, ← EReal.coe_mul]
  rfl

theorem keys_real (i : S2x16384x4x128.Idx) :
    val_main_v5 (F := Ideal) Z i = ((headKey z (i 0).val (i 2).val (i 1).val (i 3).val : ℝ) : EReal) := by
  have h2 : (i 2).val < 4 := (i 2).isLt
  have h3 : (i 3).val < 128 := (i 3).isLt
  rw [val_main_v5_apply, val_main_v4_apply,
    A.z_at _ (16384 * (i 0).val + (i 1).val) (512 + (128 * (i 2).val + (i 3).val))
      (show ((((i 0).val * 16384 + (i 1).val) * 4 + (i 2).val) * 128 + (i 3).val) / 512 = _ by omega)
      (show 512 + ((((i 0).val * 16384 + (i 1).val) * 4 + (i 2).val) * 128 + (i 3).val) % 512 = _ by omega)]
  rfl

theorem values_real (i : S2x16384x4x256.Idx) :
    val_main_v7 (F := Ideal) Z i = ((headValue z (i 0).val (i 2).val (i 1).val (i 3).val : ℝ) : EReal) := by
  have h2 : (i 2).val < 4 := (i 2).isLt
  have h3 : (i 3).val < 256 := (i 3).isLt
  rw [val_main_v7_apply, val_main_v6_apply,
    A.z_at _ (16384 * (i 0).val + (i 1).val) (1024 + (256 * (i 2).val + (i 3).val))
      (show ((((i 0).val * 16384 + (i 1).val) * 4 + (i 2).val) * 256 + (i 3).val) / 1024 = _ by omega)
      (show 1024 + ((((i 0).val * 16384 + (i 1).val) * 4 + (i 2).val) * 256 + (i 3).val) % 1024 = _ by omega)]
  rfl

/-- The gate's input. -/
theorem gate_real (i : S32768x512.Idx) :
    val_main_v13 (F := Ideal) Z W G i
      = ((∑ l ∈ Finset.range 128, z (i 0).val (3840 + l) * w l (i 1).val + g (i 1).val : ℝ) : EReal) := by
  rw [val_main_v13_apply, val_main_v10_apply, val_main_v12_apply, val_main_v11_apply, A.g_at _ (i 1).val rfl, EReal.coe_add,
    ← sum_real 128 (fun l : Fin 128 => ((z (i 0).val (3840 + l.val) * w l.val (i 1).val : ℝ) : EReal)) _ fun l => rfl]
  refine congrArg₂ (· + ·) (Finset.sum_congr rfl fun l _ => ?_) rfl
  rw [val_main_v8_apply, val_main_v9_apply, A.z_at _ (i 0).val (3840 + l.val) rfl rfl, A.w_at _ l.val (i 1).val rfl rfl, EReal.coe_mul]

theorem decays_real (i : S2x16384x4x128.Idx) :
    val_main_v17 (F := Ideal) Z W G i = ((headDecay z w g (i 0).val (i 2).val (i 1).val (i 3).val : ℝ) : EReal) := by
  have h2 : (i 2).val < 4 := (i 2).isLt
  have h3 : (i 3).val < 128 := (i 3).isLt
  rw [val_main_v17_apply]
  have hr : (idx_main_v17 i 0).val = 16384 * (i 0).val + (i 1).val :=
    show ((((i 0).val * 16384 + (i 1).val) * 4 + (i 2).val) * 128 + (i 3).val) / 512 = _ by omega
  have hd : (idx_main_v17 i 1).val = 128 * (i 2).val + (i 3).val :=
    show ((((i 0).val * 16384 + (i 1).val) * 4 + (i 2).val) * 128 + (i 3).val) % 512 = _ by omega
  have hg := gate_real A (idx_main_v17 i)
  rw [hr, hd] at hg
  generalize idx_main_v17 i = j at hg
  rw [val_main_v16_apply, val_main_v14_apply, val_main_v15_apply, val_main_cst_0_apply, sixteen, val_main_call0_v1_apply,
    val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v0_apply, val_main_call0_call0_v2_apply,
    val_main_call0_call0_v5_apply, val_main_call0_call0_cst_apply, zero_const, logSigmoid_host _ _ hg]
  show Ideal.div _ _ = _
  rw [Ideal.div_coe (by norm_num), ← EReal.coe_mul]
  rfl

theorem totals_real (i : S2x16384x4x128.Idx) :
    val_main_v18 (F := Ideal) Z W G i = ((total (headDecay z w g (i 0).val (i 2).val) ((i 1).val + 1) (i 3).val : ℝ) : EReal) := by
  unfold val_main_v18
  refine (cumsum_real _ _ _ _ (fun b p h d => headDecay z w g b h p d) (fun j => ?_) (decays_real A) i).trans rfl
  rw [val_main_call1_call0_v0_apply, val_main_call1_call0_cst_apply, zero_const]

theorem weights_real {σ : ℝ} (hσ : Ideal.ofBits FTy.f32 0x3DB504F3#32 = (σ : EReal)) (i : S2x16384x16384x4.Idx) :
    val_main_v31 (F := Ideal) Z W G i
      = ((weight (headDecay z w g (i 0).val (i 3).val) (headQuery z σ (i 0).val (i 3).val) (headKey z (i 0).val (i 3).val) (i 1).val (i 2).val : ℝ) : EReal) := by
  rw [val_main_v31_apply, show val_main_cst_1 (F := Ideal) (Shape.Idx.first Gen.h_S_) = (0 : EReal) from zero_const, zero_add]
  refine sum_real 128 _ _ fun d => ?_
  rw [val_main_v30_apply, val_main_v27_apply, val_main_v26_apply, val_main_v25_apply, val_main_v24_apply, val_main_v23_apply,
    val_main_v22_apply, val_main_v21_apply, val_main_v20_apply, val_main_v19_apply, val_main_v29_apply, val_main_v28_apply,
    totals_real A, totals_real A, queries_real A hσ, keys_real A]
  rw [Ideal.mulf_def, Ideal.mulf_def, Ideal.hostUnary_exp_def, Ideal.subf_def, ← EReal.coe_sub, Ideal.exp_coe, ← EReal.coe_mul, ← EReal.coe_mul]

/-- The weights of the rows up to each one; the others are zero. -/
theorem masked_real {σ : ℝ} (hσ : Ideal.ofBits FTy.f32 0x3DB504F3#32 = (σ : EReal)) (i : S2x16384x16384x4.Idx) :
    val_main_v40 (F := Ideal) Z W G i
      = (((if (i 2).val ≤ (i 1).val then
          weight (headDecay z w g (i 0).val (i 3).val) (headQuery z σ (i 0).val (i 3).val) (headKey z (i 0).val (i 3).val) (i 1).val (i 2).val else 0 : ℝ)) : EReal) := by
  have h1 : (i 1).val < 16384 := (i 1).isLt
  have h2 : (i 2).val < 16384 := (i 2).isLt
  rw [val_main_v40_apply, val_main_call2_v1_apply, val_main_v39_apply, val_main_v38_apply, val_main_v36_apply, val_main_v33_apply,
    val_main_v32_apply, val_main_v37_apply, val_main_v35_apply, val_main_v34_apply, weights_real A hσ]
  have hm : IntOp.cmpi .sge (BitVec.ofNat 32 (i 1).val) (BitVec.ofNat 32 (i 2).val) = if (i 2).val ≤ (i 1).val then 1 else 0 := by
    have hi : ∀ a : ℕ, a < 16384 → (BitVec.ofNat 32 a).toInt = a := fun a ha => by
      rw [BitVec.toInt_eq_toNat_of_lt (by rw [BitVec.toNat_ofNat]; omega), BitVec.toNat_ofNat]; omega
    show BitVec.ofBool ((BitVec.ofNat 32 (i 2).val).sle (BitVec.ofNat 32 (i 1).val)) = _
    rw [BitVec.sle, hi _ h1, hi _ h2]
    by_cases h : (i 2).val ≤ (i 1).val <;> simp [h]
  refine (congrArg (fun c => Scalar.select c _ _) hm).trans ?_
  by_cases h : (i 2).val ≤ (i 1).val
  · rw [if_pos h, if_pos h]; rfl
  · rw [if_neg h, if_neg h, EReal.coe_zero]; exact zero_const

theorem reference_eq {σ : ℝ} (hσ : Ideal.ofBits FTy.f32 0x3DB504F3#32 = (σ : EReal)) :
    val_main_v43 (F := Ideal) Z W G = fun i => attended z w g σ (i 0).val (i 1).val := by
  funext i
  have h0 : (i 0).val < 32768 := (i 0).isLt
  have h1 : (i 1).val < 1024 := (i 1).isLt
  rw [val_main_v43_apply, val_main_v42_apply, val_main_v41_apply]
  have e0 : (idx_main_v43 i 0).val = (i 0).val / 16384 := show ((i 0).val * 1024 + (i 1).val) / 16777216 = _ by omega
  have e1 : (idx_main_v43 i 1).val = (i 0).val % 16384 := show ((i 0).val * 1024 + (i 1).val) / 1024 % 16384 = _ by omega
  have e2 : (idx_main_v43 i 2).val = (i 1).val / 256 := show ((i 0).val * 1024 + (i 1).val) / 256 % 4 = _ by omega
  have e3 : (idx_main_v43 i 3).val = (i 1).val % 256 := show ((i 0).val * 1024 + (i 1).val) % 256 = _ by omega
  generalize idx_main_v43 i = j at e0 e1 e2 e3
  have hj : (j 1).val < 16384 := (j 1).isLt
  show _ = ((headAttend z w g σ ((i 0).val / 16384) ((i 1).val / 256) ((i 0).val % 16384) ((i 1).val % 256) : ℝ) : EReal)
  rw [← e0, ← e1, ← e2, ← e3]
  unfold headAttend attend
  rw [← sum_upto _ 16384 (j 1).val hj]
  refine sum_real 16384 _ _ fun s => ?_
  rw [values_real A, masked_real A hσ, ← EReal.coe_mul]
  refine congrArg (fun r : ℝ => (r : EReal)) ?_
  show headValue z (j 0).val (j 2).val s.val (j 3).val * (if s.val ≤ (j 1).val then _ else 0) = _
  by_cases h : s.val ≤ (j 1).val
  · rw [if_pos h, if_pos h, mul_comm]
  · rw [if_neg h, if_neg h, mul_zero]

end

end Cert.Reference6Ideal.Recurrence
-- ==== Proof.Recurrence.Finite.lean ====
/-
  What the precondition of the recurrence's claim says of the arguments: they are real numbers, given by row and column.
-/
module

public import proofs.«01_k».proof.Pre_finite_gates
public import proofs.«01_k».proof.Proof.Flash.Finite
public import proofs.«01_k».proof.Proof.Recurrence.Array

@[expose] public section

noncomputable section

open Idealize.ShloMosaic

namespace Cert.Pre_finite_gates

open Cert.Pre_finite_queries_and_keys (real_of_abs_lt)
open Cert.Kernel6Ideal.Recurrence (Reals)

/-- The side conditions that the precondition's operations state. -/
instance facts : Facts where
  bcast_S_S32768x4608 := by decide
  reducesTo_S32768x4608_S_d0_1 := by decide
  h_S_ := by decide
  bcast_S_S128x1024 := by decide
  reducesTo_S128x1024_S_d0_1 := by decide
  bcast_S_S1x1024 := by decide
  reducesTo_S1x1024_S_d0_1 := by decide

instance : Subsingleton S_.Idx := ⟨fun a b => funext fun d => d.elim0⟩

/-- The elements of a real array by row and column. -/
theorem by_row_and_column {a b : ℕ} (x : (⟨2, ![a, b]⟩ : Shape).Idx → EReal) (h : ∀ i, ∃ r : ℝ, x i = (r : EReal)) :
    ∃ y : ℕ → ℕ → ℝ, ∀ (r : Fin a) (D : Fin b), x (ix2 r D) = ((y r D : ℝ) : EReal) := by
  choose v hv using h
  refine ⟨fun r D => if H : r < a ∧ D < b then v (ix2 ⟨r, H.1⟩ ⟨D, H.2⟩) else 0, fun r D => ?_⟩
  refine (hv _).trans (congrArg (fun q : ℝ => (q : EReal)) ?_)
  show _ = if H : r.val < a ∧ D.val < b then v (ix2 ⟨r.val, H.1⟩ ⟨D.val, H.2⟩) else 0
  rw [dif_pos ⟨r.isLt, D.isLt⟩]

/-- Under the precondition the arguments are real. -/
theorem reals_of_fn (Z : FVec Ideal S32768x4608 .f32) (W : FVec Ideal S128x1024 .f32) (G : FVec Ideal S1x1024 .f32)
    (h : fn (F := Ideal) Z W G = constantI S_ 1 1#1) : ∃ z w g, Reals z w g Z W G := by
  obtain ⟨h, hG⟩ := IntOp.andi_eq_one.1 (congrFun h (Shape.Idx.first facts.h_S_))
  obtain ⟨hZ, hW⟩ := IntOp.andi_eq_one.1 h
  obtain ⟨z, hz⟩ := by_row_and_column Z fun i => real_of_abs_lt (Z i) (Host.reduce_andi_all _ _ _ _ _ hZ i)
  obtain ⟨w, hw⟩ := by_row_and_column W fun i => real_of_abs_lt (W i) (Host.reduce_andi_all _ _ _ _ _ hW i)
  obtain ⟨g, hg⟩ := by_row_and_column G fun i => real_of_abs_lt (G i) (Host.reduce_andi_all _ _ _ _ _ hG i)
  exact ⟨z, w, g 0, hz, hw, hg 0⟩

end Cert.Pre_finite_gates
-- ==== Proof.Recurrence.Claims.lean ====
/-
  The claims about the forward recurrence.
-/
module

public import proofs.«01_k».proof.Defs
public import proofs.«01_k».proof.Proof.Gen.Kernel6.Frame
public import proofs.«01_k».proof.Proof.Recurrence.Ref
public import proofs.«01_k».proof.Proof.Recurrence.Finite
public import Idealize.ShloMosaic.Adequacy
public import Idealize.ShloMosaic.Init

@[expose] public section

noncomputable section

open Idealize.ShloMosaic Idealize.SL.Sem

namespace Cert.Proof.RecurrenceClaims

open Cert.Kernel6Ideal.Recurrence (scale_real array_eq)
open Cert.Reference6Ideal.Recurrence (reference_eq)

theorem frame_p : Cert.quiescent_Kernel6 := fun m ρ _ => Cert.Kernel6.Gen.frame m ρ
theorem frame_pi : Cert.quiescent_Kernel6Ideal := fun m ρ _ => Cert.Kernel6Ideal.Gen.frame m ρ
theorem frame_pi_finite : Cert.quiescent_Kernel6Ideal_pre_finite_gates := fun m ρ _ => Cert.Kernel6Ideal.Gen.frame m ρ
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)
theorem frame_ri_finite : Cert.quiescent_Reference6Ideal_pre_finite_gates := fun m ρ _ => frame_ri m ρ trivial

theorem preserves : Cert.preserves_Kernel6_Kernel6Ideal := trivial

/-- THE VALUE CLAIM: with finite arguments, kernel and reference end with equal arrays of attended rows. -/
theorem algebraic : Cert.algebraic_Kernel6Ideal_Reference6Ideal_pre_finite_gates := by
  intro m ρ m' ρ' hpre hagree
  refine ⟨fun c => Cert.Kernel6Ideal.Value.G6 (F := Ideal) m c, Cert.Kernel6Ideal.Value.run (F := Ideal) m ρ, ?_⟩
  refine (θ_run Cert.Reference6Ideal.defs _ _).mono (fun _ h c => ?_) (Cert.Reference6Ideal.Value.run (F := Ideal) m' ρ')
  obtain ⟨z, w, g, A⟩ := Cert.Pre_finite_gates.reals_of_fn _ _ _ (hpre c)
  obtain ⟨σ, hσ⟩ := scale_real
  refine ⟨(h c).1.trans ?_, (h c).2⟩
  refine (Cert.Reference6Ideal.Read.val_main_v43_eq (F := Ideal) m' c).trans ?_
  rw [(hagree c).1, (hagree c).2.1, (hagree c).2.2]
  exact (reference_eq A hσ).trans (array_eq m c A hσ).symm

end Cert.Proof.RecurrenceClaims
-- ==== Proof.Backward.Terms.lean ====
/-
  One tile of 256 rows of the backward recurrence, as functions of the head and of the chunk. The terms of one head and one
  chunk are the forward recurrence's; the chunks are taken from the last to the first.
-/
module

public import proofs.«01_k».proof.Proof.Gen.Kernel7Ideal.Value
public import proofs.«01_k».proof.Proof.Recurrence.Terms

@[expose] public section

noncomputable section

open Idealize.ShloMosaic Idealize.ShloMosaic.TcCoe Idealize.SL.Sem

namespace Cert.Kernel7Ideal.Backward

open Cert.Kernel7Ideal Cert.Kernel7Ideal.Gen
open Cert.Kernel6Ideal.Recurrence (logDecays addedUp values within update next rows slab)

variable {F : FTy → Type} [FloatOps F]

theorem slicesStart : ∀ c : Fin 4, S256x512.Slices ![64 * c.val, 0] S1x512 := by decide
theorem headInb : ∀ h : Fin 4, ∀ a, (![0, 256 * h.val] : Fin 2 → Nat) a + (![256, 256] : Fin 2 → Nat) a ≤ S256x1024.size a := by decide

section
variable (q : Vec F S256x512 .f32) (k : Vec F S256x512 .f32) (v : Vec F S256x1024 .f32) (a : Vec F S256x128 .f32)
  (w : Vec F S128x512 .f32) (g : Vec F S1x512 .f32)

/-- The log-decays, added up from each row to the end of its chunk. -/
def decays : FVec F S256x512 .f32 := k0_pay14 (k0_pay7 a w g) (k0_pay8 a w g) (k0_pay9 a w g) (k0_pay10 a w g) k0_pay11

/-- The mask of the rows from each row on, within the chunks. -/
def fromOn : IVec S256x256 1 :=
  andi k0_pay12 (cmpi .sge (iota .tc S256x256 32 [1] iota_S256x256_d1_w32) (iota .tc S256x256 32 [0] iota_S256x256_d0_w32))

theorem decays_eq : decays a w g = addedUp fromOn (logDecays a w g) := rfl

/-- The queries, weighted by the decay to the chunk's end. -/
def queries : FVec F S256x512 .bf16 := k0_pay23 q (decays a w g)

/-- The keys, weighted by the inverse of the decay to the chunk's end. -/
def keys : FVec F S256x512 .bf16 := k0_pay24 k (decays a w g)

/-- The keys, weighted by the decay from the chunk's start. -/
def startKeys : FVec F S256x512 .bf16 :=
  k0_pay25 k (decays a w g)
    (k0_pay19 (k0_pay7 a w g) (k0_pay8 a w g) (k0_pay9 a w g) (k0_pay10 a w g) k0_pay11)
    (k0_pay20 (k0_pay7 a w g) (k0_pay8 a w g) (k0_pay9 a w g) (k0_pay10 a w g) k0_pay11)
    (k0_pay21 (k0_pay7 a w g) (k0_pay8 a w g) (k0_pay9 a w g) (k0_pay10 a w g) k0_pay11)
    (k0_pay22 (k0_pay7 a w g) (k0_pay8 a w g) (k0_pay9 a w g) (k0_pay10 a w g) k0_pay11)

/-- A chunk's whole decay. -/
def chunkDecay (c : Fin 4) : FVec F S1x512 .f32 := exp (extractStridedSlice S1x512 ![64 * c.val, 0] (decays a w g) (slicesStart c))

/-- A head's state before the tile's last `n` chunks. -/
def stateAfter (s : FVec F S256x128 .f32) (h : Fin 4) : Nat → FVec F S256x128 .f32
  | 0 => s
  | n + 1 => next (chunkDecay a w g (Fin.ofNat 4 (3 - n))) (update (startKeys k a w g) (values v) (Fin.ofNat 4 (3 - n)) h) (stateAfter s h n) h

/-- What a head's rows attend to. -/
def headOut (s : FVec F S256x128 .f32) (h : Fin 4) : FVec F S256x256 .f32 :=
  concatenate S256x256 0
    (List.ofFn fun c : Fin 4 => (⟨S64x256, rows (queries q a w g) (within k0_pay13 (queries q a w g) (keys k a w g) (values v) h)
      (stateAfter k v a w g s h (3 - c.val)) c h⟩ : (s : Shape) × (s.Idx → F .f32)))
    concatenates_S64x256_S64x256_S64x256_S64x256_S256x256_d0

/-- A head's columns of a block. -/
def headOf (x : Vec F S256x1024 .f32) (h : Fin 4) : Vec F S256x256 .f32 := View.ld x (Rect.unit ![0, 256 * h.val] ![256, 256] (headInb h))

/-- The tile's output, the heads side by side: with the forward sums added, normed, scaled and gated. -/
def tileOut (o r : Vec F S256x1024 .f32) (ng : Vec F S1x256 .f32) (x : Vec F S4x256x128 .f32) : Vec F S256x1024 .bf16 := fun y =>
  have h : Fin 4 := ⟨(y 1).val / 256, by have := (y 1).isLt; change _ < 1024 at this; omega⟩
  k0_pay1 (headOut q k v a w g (slab x h) h) (k0_pay90 ng) (headOf o h) (headOf r h) (ix2 (y 0) ⟨(y 1).val % 256, by omega⟩)

/-- The states before the tile. -/
def tileState (x : Vec F S4x256x128 .f32) : Vec F S4x256x128 .f32 := fun y =>
  stateAfter k v a w g (slab x (y 0)) (y 0) 4 (ix2 (y 1) (y 2))

end

end Cert.Kernel7Ideal.Backward
-- ==== Proof.Layer.Backward.lean ====
/-
  The gated linear attention backwards, over the real numbers. A row attends to the rows after it, a key being weighted by
  the product of the decays from the query's row up to the one before the key's. Cut into chunks of 64 rows, the sum splits
  into the chunk's own part and a state that holds every later row, and the state moves from chunk to chunk.
-/
module

public import proofs.«01_k».proof.Proof.Layer.Recurrence

@[expose] public section

noncomputable section

namespace Cert.Layer.Recurrence

open Finset

variable (L q k v : ℕ → ℕ → ℝ) (S : ℕ)

/-- The weight of the later row `j` in row `p`'s sum. -/
def backWeight (p j : ℕ) : ℝ := ∑ d ∈ range 128, q p d * Real.exp (total L j d - total L p d) * k j d

/-- What row `p` attends to among the rows after it, of `S` rows in all. -/
def backAttend (p e : ℕ) : ℝ := ∑ j ∈ Ico (p + 1) S, backWeight L q k p j * v j e

/-- What the rows from `s` on leave for the rows before them. -/
def backState (s e d : ℕ) : ℝ := ∑ j ∈ Ico s S, v j e * (k j d * Real.exp (total L j d - total L s d))

/-! ## Sums from a row on -/

/-- A sum whose terms vanish before `a` is the sum from `a` on. -/
theorem sum_from (f : ℕ → ℝ) (N a : ℕ) : ∑ j ∈ range N, (if a ≤ j then f j else 0) = ∑ j ∈ Ico a N, f j := by
  rw [← sum_filter]
  refine sum_congr ?_ fun _ _ => rfl
  ext j
  rw [mem_filter, mem_range, mem_Ico, and_comm]

theorem sum_Ico_shift (f : ℕ → ℝ) (s a b : ℕ) : ∑ j ∈ Ico a b, f (s + j) = ∑ j ∈ Ico (s + a) (s + b), f j := by
  rw [sum_Ico_add f a b s, add_comm a, add_comm b]

/-- The decays of a chunk from its row `i` on, as the masked sum over a block of rows. -/
theorem total_masked_from (base N c i d : ℕ) (hi : i < 64) (hc : 64 * c + 64 ≤ N) :
    ∑ j ∈ range N, (if j / 64 = (64 * c + i) / 64 ∧ 64 * c + i ≤ j then L (base + j) d else 0)
      = total L (base + 64 * c + 64) d - total L (base + 64 * c + i) d := by
  rw [sum_chunk _ N (64 * c) hc fun j _ hj => by rw [if_neg (by omega)]]
  unfold total
  rw [← sum_Ico_eq_sub _ (show base + 64 * c + i ≤ base + 64 * c + 64 by omega), ← sum_Ico_shift (fun j => L j d), ← sum_from]
  refine sum_congr rfl fun j hj => ?_
  have := mem_range.1 hj
  by_cases h : i ≤ j
  · rw [if_pos ⟨by omega, by omega⟩, if_pos h, add_assoc]
  · rw [if_neg (by omega), if_neg h]

/-! ## From chunk to chunk -/

theorem backState_end (e d : ℕ) : backState L k v S S e d = 0 := by simp [backState]

/-- The state before a chunk: the state after it decayed by the chunk's decays, and the chunk's own rows. -/
theorem backState_chunk (s e d : ℕ) (hs : s + 64 ≤ S) :
    backState L k v S s e d = backState L k v S (s + 64) e d * Real.exp (total L (s + 64) d - total L s d)
      + ∑ i ∈ range 64, v (s + i) e * (k (s + i) d * Real.exp ((total L (s + 64) d - total L s d) - (total L (s + 64) d - total L (s + i) d))) := by
  unfold backState
  rw [← sum_Ico_consecutive _ (show s ≤ s + 64 by omega) hs, add_comm, sum_mul, sum_Ico_eq_sum_range _ s (s + 64), Nat.add_sub_cancel_left]
  congr 1
  · refine sum_congr rfl fun j _ => ?_
    rw [mul_assoc, mul_assoc, ← Real.exp_add]
    congr 3
    ring
  · refine sum_congr rfl fun j _ => ?_
    congr 3
    ring

/-- A row's sum: the chunk's own part, masked over a block of rows, and the state after the chunk. -/
theorem backAttend_chunk (base N c i e : ℕ) (hi : i < 64) (hc : 64 * c + 64 ≤ N) (hS : base + 64 * c + 64 ≤ S) :
    backAttend L q k v S (base + 64 * c + i) e
      = ∑ j ∈ range N, (if j / 64 = (64 * c + i) / 64 ∧ 64 * c + i < j then
            (∑ d ∈ range 128, q (base + 64 * c + i) d * Real.exp (total L (base + 64 * c + 64) d - total L (base + 64 * c + i) d)
              * (k (base + j) d * Real.exp (0 - (total L (base + 64 * c + 64) d - total L (base + j) d)))) * v (base + j) e else 0)
        + ∑ d ∈ range 128, q (base + 64 * c + i) d * Real.exp (total L (base + 64 * c + 64) d - total L (base + 64 * c + i) d)
            * backState L k v S (base + 64 * c + 64) e d := by
  rw [sum_chunk _ N (64 * c) hc fun j _ hj => by rw [if_neg (by omega)]]
  unfold backAttend
  rw [← sum_Ico_consecutive _ (show base + 64 * c + i + 1 ≤ base + 64 * c + 64 by omega) hS]
  congr 1
  · rw [show base + 64 * c + i + 1 = base + 64 * c + (i + 1) by omega, ← sum_Ico_shift (fun j => backWeight L q k (base + 64 * c + i) j * v j e), ← sum_from]
    refine sum_congr rfl fun j hj => ?_
    have := mem_range.1 hj
    by_cases h : i < j
    · rw [if_pos (show i + 1 ≤ j from h), if_pos (by omega), show base + (64 * c + j) = base + 64 * c + j by omega]
      congr 1
      unfold backWeight
      refine sum_congr rfl fun d _ => ?_
      rw [show ∀ a x b y : ℝ, a * x * (b * y) = a * (x * y) * b from fun a x b y => by ring, ← Real.exp_add]
      congr 3
      ring
    · rw [if_neg (show ¬i + 1 ≤ j from h), if_neg (by omega)]
  · unfold backState backWeight
    simp only [sum_mul, mul_sum]
    rw [sum_comm]
    refine sum_congr rfl fun d _ => sum_congr rfl fun j _ => ?_
    rw [show ∀ a x b w y : ℝ, a * x * (w * (b * y)) = a * (x * y) * b * w from fun a x b w y => by ring, ← Real.exp_add]
    congr 4
    ring

/-! ## From the arguments -/

section
variable (z w : ℕ → ℕ → ℝ) (g : ℕ → ℝ) (σ : ℝ) (b h : ℕ)

/-- What row `p` of sequence `b` attends to in head `h` among the later rows, and the state that the rows from `s` on leave. -/
def headBackAttend (p e : ℕ) : ℝ := backAttend (headDecay z w g b h) (headQuery z σ b h) (headKey z b h) (headValue z b h) 16384 p e
def headBackState (s e d : ℕ) : ℝ := backState (headDecay z w g b h) (headKey z b h) (headValue z b h) 16384 s e d

end

end Cert.Layer.Recurrence
-- ==== Proof.Backward.Block.lean ====
/-
  One tile of 256 rows of the backward recurrence over the real numbers: its rows' sums are over the rows after them, and the
  states before it are those of the rows from its first one on.
-/
module

public import proofs.«01_k».proof.Proof.Backward.Terms
public import proofs.«01_k».proof.Proof.Recurrence.Block
public import proofs.«01_k».proof.Proof.Layer.Backward
public import proofs.«01_k».proof.Proof.Layer.Latent

@[expose] public section

noncomputable section

open Idealize.ShloMosaic Idealize.ShloMosaic.TcCoe Idealize.SL.Sem

namespace Cert.Kernel7Ideal.Backward

open Cert.Kernel7Ideal Cert.Kernel7Ideal.Gen Cert.Layer.Recurrence
open Cert.Kernel6Ideal.Recurrence (logDecays logDecays_real addedUp_real values within update next rows slab Tile Masks mask row_sle row_slt
  weighted_query weighted_key update_sum rows_real)

/-! ## The masks -/

/-- Row `j` is in the chunk of row `r`, and not before it. -/
abbrev onFrom (r j : ℕ) : Prop := j / 64 = r / 64 ∧ r ≤ j

/-- Row `j` is in the chunk of row `r`, and after it. -/
abbrev laterThan (r j : ℕ) : Prop := j / 64 = r / 64 ∧ r < j

theorem masks_onFrom : Masks fromOn onFrom := fun r j => by
  unfold fromOn k0_pay12
  pointwise
  exact mask r j (row_sle r j)

theorem masks_laterThan : Masks k0_pay13 laterThan := fun r j => by
  unfold k0_pay13 k0_pay12
  pointwise
  exact mask r j (row_slt r j)

/-! ## The tile -/

variable {z wr : ℕ → ℕ → ℝ} {gr : ℕ → ℝ} {b base : ℕ} {q : Vec Ideal S256x512 .f32} {k : Vec Ideal S256x512 .f32}
  {v : Vec Ideal S256x1024 .f32} {a : Vec Ideal S256x128 .f32} {w : Vec Ideal S128x512 .f32} {g : Vec Ideal S1x512 .f32}
  (T : Tile z wr gr b base q k v a w g)

include T

theorem decays_real (r : Fin 256) (c : ℕ) (hc : r.val / 64 = c) (h : Fin 4) (d : Fin 128) :
    decays a w g (ix2 r ⟨128 * h.val + d.val, by omega⟩)
      = ((total (headDecay z wr gr b h) (base + 64 * c + 64) d - total (headDecay z wr gr b h) (base + r) d : ℝ) : EReal) := by
  rw [decays_eq, addedUp_real masks_onFrom _ (fun r D => logDecay z wr gr (16384 * b + (base + r)) D) fun r D => by
    rw [logDecays_real (R := 16384 * b + base) (fun r l => by rw [T.ha, Nat.add_assoc]) T.hw T.hg, Nat.add_assoc]]
  obtain ⟨i, hi, e⟩ : ∃ i < 64, r.val = 64 * c + i := ⟨r.val % 64, by omega, by omega⟩
  rw [e, ← Nat.add_assoc base, ← total_masked_from _ base 256 c i d hi (by omega)]
  rfl

theorem queries_real (r : Fin 256) (c : ℕ) (hc : r.val / 64 = c) (h : Fin 4) (d : Fin 128) {σ : ℝ} (hσ : Ideal.ofBits FTy.f32 0x3DB504F3#32 = (σ : EReal)) :
    queries q a w g (ix2 r ⟨128 * h.val + d.val, by omega⟩)
      = ((headQuery z σ b h (base + r) d * Real.exp (total (headDecay z wr gr b h) (base + 64 * c + 64) d - total (headDecay z wr gr b h) (base + r) d) : ℝ) : EReal) :=
  weighted_query (T.hq r ⟨128 * h.val + d.val, by omega⟩) (decays_real T r c hc h d) hσ

theorem keys_real (r : Fin 256) (c : ℕ) (hc : r.val / 64 = c) (h : Fin 4) (d : Fin 128) :
    keys k a w g (ix2 r ⟨128 * h.val + d.val, by omega⟩)
      = ((headKey z b h (base + r) d * Real.exp (0 - (total (headDecay z wr gr b h) (base + 64 * c + 64) d - total (headDecay z wr gr b h) (base + r) d)) : ℝ) : EReal) :=
  weighted_key (T.hk r ⟨128 * h.val + d.val, by omega⟩) (decays_real T r c hc h d)

theorem startDecay_real (c : ℕ) (h : Fin 4) (d : Fin 128) (r : Fin 256) (hr : r.val = 64 * c) :
    decays a w g (ix2 r ⟨128 * h.val + d.val, by omega⟩)
      = ((total (headDecay z wr gr b h) (base + 64 * c + 64) d - total (headDecay z wr gr b h) (base + 64 * c) d : ℝ) : EReal) := by
  rw [decays_real T r c (by omega) h d, hr]

theorem startKeys_real (r : Fin 256) (c : ℕ) (hc : r.val / 64 = c) (h : Fin 4) (d : Fin 128) :
    startKeys k a w g (ix2 r ⟨128 * h.val + d.val, by omega⟩)
      = ((headKey z b h (base + r) d * Real.exp ((total (headDecay z wr gr b h) (base + 64 * c + 64) d - total (headDecay z wr gr b h) (base + 64 * c) d)
          - (total (headDecay z wr gr b h) (base + 64 * c + 64) d - total (headDecay z wr gr b h) (base + r) d)) : ℝ) : EReal) := by
  unfold startKeys k0_pay25 k0_pay19 k0_pay20 k0_pay21 k0_pay22 k0_pay18 k0_pay17 k0_pay16 k0_pay15
  pointwise
  have hsel : (if h1 : r.val < 64 then decays a w g (ix2 0 ⟨128 * h.val + d.val, by omega⟩)
          else if h2 : r.val - 64 < 64 then decays a w g (ix2 64 ⟨128 * h.val + d.val, by omega⟩)
          else if h3 : r.val - 64 - 64 < 64 then decays a w g (ix2 128 ⟨128 * h.val + d.val, by omega⟩)
          else decays a w g (ix2 192 ⟨128 * h.val + d.val, by omega⟩) : EReal)
      = ((total (headDecay z wr gr b h) (base + 64 * c + 64) d - total (headDecay z wr gr b h) (base + 64 * c) d : ℝ) : EReal) := by
    split_ifs <;> refine startDecay_real T c h d _ ?_
    · show 0 = _; omega
    · show 64 = _; omega
    · show 128 = _; omega
    · show 192 = _; omega
  unfold decays at hsel
  rw [hsel, decays_real T r c hc, T.hk, ← EReal.coe_sub, Ideal.exp_coe, ← EReal.coe_mul]
  rfl

theorem chunkDecay_real (c h : Fin 4) (d : Fin 128) :
    chunkDecay a w g c (ix2 0 ⟨128 * h.val + d.val, by omega⟩)
      = ((Real.exp (total (headDecay z wr gr b h) (base + 64 * c + 64) d - total (headDecay z wr gr b h) (base + 64 * c) d) : ℝ) : EReal) := by
  unfold chunkDecay
  pointwise
  rw [startDecay_real T c h d ⟨64 * c.val, by omega⟩ rfl, Ideal.exp_coe]

theorem update_real (c h : Fin 4) (e : Fin 256) (d : Fin 128) :
    update (startKeys k a w g) (values v) c h (ix2 e d)
      = ((∑ i ∈ Finset.range 64, headValue z b h (base + 64 * c + i) e * (headKey z b h (base + 64 * c + i) d
          * Real.exp ((total (headDecay z wr gr b h) (base + 64 * c + 64) d - total (headDecay z wr gr b h) (base + 64 * c) d)
            - (total (headDecay z wr gr b h) (base + 64 * c + 64) d - total (headDecay z wr gr b h) (base + 64 * c + i) d))) : ℝ) : EReal) := by
  refine update_sum (fun i => ?_) fun i => ?_
  · exact (T.hv _ ⟨256 * h.val + e.val, by omega⟩).trans (by rw [Nat.add_assoc base (64 * c.val) i.val]; rfl)
  · rw [startKeys_real T ⟨64 * c.val + i.val, by omega⟩ c (by show (64 * c.val + i.val) / 64 = c.val; omega),
      show base + (64 * c.val + i.val) = base + 64 * c.val + i.val by omega]

/-- A head's state before the tile's last `n` chunks is that of the rows from there on. -/
theorem stateAfter_real (hb : base + 256 ≤ 16384) (s : FVec Ideal S256x128 .f32) (h : Fin 4)
    (hs : ∀ (e : Fin 256) (d : Fin 128), s (ix2 e d) = ((headBackState z wr gr b h (base + 256) e d : ℝ) : EReal)) (n : ℕ) (hn : n ≤ 4) (e : Fin 256) (d : Fin 128) :
    stateAfter k v a w g s h n (ix2 e d) = ((headBackState z wr gr b h (base + 64 * (4 - n)) e d : ℝ) : EReal) := by
  induction n generalizing e d with
  | zero => exact hs e d
  | succ n ih =>
    have hc : (Fin.ofNat 4 (3 - n)).val = 3 - n := Nat.mod_eq_of_lt (by omega)
    show next (chunkDecay a w g (Fin.ofNat 4 (3 - n))) (update (startKeys k a w g) (values v) (Fin.ofNat 4 (3 - n)) h) (stateAfter k v a w g s h n) h (ix2 e d) = _
    unfold next
    pointwise
    rw [ih (by omega), chunkDecay_real T, update_real T, ← EReal.coe_mul, ← EReal.coe_add, hc]
    congr 1
    rw [show base + 64 * (4 - n) = base + 64 * (3 - n) + 64 by omega, show 4 - (n + 1) = 3 - n by omega]
    exact (backState_chunk _ _ _ _ _ _ _ (by omega)).symm

theorem headOut_real (hb : base + 256 ≤ 16384) (s : FVec Ideal S256x128 .f32) (h : Fin 4)
    (hs : ∀ (e : Fin 256) (d : Fin 128), s (ix2 e d) = ((headBackState z wr gr b h (base + 256) e d : ℝ) : EReal)) {σ : ℝ}
    (hσ : Ideal.ofBits FTy.f32 0x3DB504F3#32 = (σ : EReal)) (r : Fin 256) (e : Fin 256) :
    headOut q k v a w g s h (ix2 r e) = ((headBackAttend z wr gr σ b h (base + r) e : ℝ) : EReal) := by
  obtain ⟨c, i, rfl⟩ : ∃ (c : Fin 4) (i : Fin 64), r = ⟨64 * c.val + i.val, by omega⟩ :=
    ⟨⟨r.val / 64, by omega⟩, ⟨r.val % 64, by omega⟩, Fin.ext (by show r.val = 64 * (r.val / 64) + r.val % 64; omega)⟩
  have hr : (64 * c.val + i.val) / 64 = c.val := by omega
  have hpick : headOut q k v a w g s h (ix2 ⟨64 * c.val + i.val, by omega⟩ e)
      = rows (queries q a w g) (within k0_pay13 (queries q a w g) (keys k a w g) (values v) h) (stateAfter k v a w g s h (3 - c.val)) c h (ix2 i e) := by
    unfold headOut
    refine concatenate_ofFn_apply (s₁ := S64x256) (0 : Fin S256x256.rank) _ _ rfl 64 rfl (ix2 (n0 := 256) (n1 := 256) ⟨64 * c.val + i.val, by omega⟩ e) c hr (ix2 (n0 := 64) (n1 := 256) i e) ?_ ?_
    · show i.val = (64 * c.val + i.val) % 64; omega
    · intro b hb
      fin_cases b
      · exact absurd rfl hb
      · rfl
  rw [hpick, rows_real masks_laterThan
    (qf := fun d => headQuery z σ b h (base + (64 * c.val + i.val)) d * Real.exp (total (headDecay z wr gr b h) (base + 64 * c.val + 64) d - total (headDecay z wr gr b h) (base + (64 * c.val + i.val)) d))
    (kf := fun j d => headKey z b h (base + j) d * Real.exp (0 - (total (headDecay z wr gr b h) (base + 64 * c.val + 64) d - total (headDecay z wr gr b h) (base + j) d)))
    (vf := fun j => headValue z b h (base + j) e) (sf := fun d => headBackState z wr gr b h (base + 64 * c.val + 64) e d)
    (queries_real T ⟨64 * c.val + i.val, by omega⟩ c hr h · hσ)
    (fun j d hm => keys_real T j c (by rw [hm.1]; exact hr) h d) (T.hv · ⟨256 * h.val + e.val, by omega⟩)
    (fun d => (stateAfter_real T hb s h hs (3 - c.val) (by omega) e d).trans (by rw [show base + 64 * (4 - (3 - c.val)) = base + 64 * c.val + 64 by omega]))]
  refine congrArg (fun x : ℝ => (x : EReal)) ?_
  rw [← Nat.add_assoc base]
  exact (backAttend_chunk _ _ _ _ _ base 256 c i e i.isLt (by omega) (by omega)).symm

omit T

/-! ## The heads' rows, normed, scaled and gated -/

/-- What a row is normed over. -/
def headLen : EReal := FloatOps.ofBits (F := Ideal) .f32 0x43800000#32

/-- The gate `r · σ(r)`. -/
def gated (r : EReal) : EReal := r * Ideal.logistic r

theorem out_apply (s : FVec Ideal S256x256 .f32) (ng : Vec Ideal S1x256 .f32) (o r : Vec Ideal S256x256 .f32) (i e : Fin 256) :
    k0_pay1 s (k0_pay90 ng) o r (ix2 i e)
      = Cert.Layer.rmsNorm headLen (fun d : Fin 256 => s (ix2 i d) + o (ix2 i d)) (fun d => ng (ix2 0 d)) e * gated (r (ix2 i e)) := by
  unfold k0_pay1 k0_pay90
  pointwise
  rfl

end Cert.Kernel7Ideal.Backward
-- ==== Proof.Backward.Pieces.lean ====
/-
  What the backward kernel's stores leave at one grid point: the tile's output and the heads' states, as the terms of one head.
-/
module

public import proofs.«01_k».proof.Proof.Backward.Terms
public import proofs.«01_k».proof.Proof.Recurrence.Pieces

@[expose] public section

noncomputable section

open Idealize.ShloMosaic Idealize.ShloMosaic.TcCoe Idealize.SL.Sem

namespace Cert.Kernel7Ideal.Backward

open Cert.Kernel7Ideal Cert.Kernel7Ideal.Gen
open Cert.Kernel6Ideal.Recurrence (slab canon_append_of_cover shapeCast_slab hz hz3)

variable {F : FTy → Type} [FloatOps F]

section
variable (q : Vec F S256x512 .f32) (k : Vec F S256x512 .f32) (v : Vec F S256x1024 .f32) (a : Vec F S256x128 .f32)
  (w : Vec F S128x512 .f32) (g : Vec F S1x512 .f32) (o r : Vec F S256x1024 .f32) (ng : Vec F S1x256 .f32) (x : Vec F S4x256x128 .f32)

/-- The tile's output at a column of head `h`. -/
theorem tileOut_at (y : S256x1024.Idx) (h : Fin 4) (j : S256x256.Idx) (h0 : (y 0).val = (j 0).val) (h1 : (y 1).val = 256 * h.val + (j 1).val) :
    tileOut q k v a w g o r ng x y = k0_pay1 (headOut q k v a w g (slab x h) h) (k0_pay90 ng) (headOf o h) (headOf r h) j := by
  have hj : (j 1).val < 256 := (j 1).isLt
  have e : (⟨(y 1).val / 256, by have := (y 1).isLt; change _ < 1024 at this; omega⟩ : Fin 4) = h := Fin.ext (by show (y 1).val / 256 = _; omega)
  unfold tileOut
  rw [e]
  dsimp only
  refine congrArg _ ?_
  funext d
  match d with
  | ⟨0, _⟩ => exact Fin.ext h0
  | ⟨1, _⟩ => exact Fin.ext (by show (y 1).val % 256 = (j 1).val; omega)

/-- The states before the tile at head `h`. -/
theorem tileState_at (y : S4x256x128.Idx) (h : Fin 4) (j : S1x256x128.Idx) (h0 : (y 0).val = h.val) (h1 : (y 1).val = (j 1).val)
    (h2 : (y 2).val = (j 2).val) :
    tileState k v a w g x y = stateAfter k v a w g (slab x h) h 4 (ix2 (j 1) (j 2)) := by
  have e : (y 0 : Fin 4) = h := Fin.ext h0
  unfold tileState
  rw [e]
  congr 1
  funext d
  match d with
  | ⟨0, _⟩ => exact Fin.ext h1
  | ⟨1, _⟩ => exact Fin.ext h2

end

section
variable (c : Dev nD) (i : grid0.Coords)
  (a2 : Memref sig .tc .vmem S256x512 .f32) (h2 : a2.IsWhole) (a3 : Memref sig .tc .vmem S256x512 .f32) (h3 : a3.IsWhole)
  (a4 : Memref sig .tc .vmem S256x1024 .f32) (h4 : a4.IsWhole) (a5 : Memref sig .tc .vmem S256x128 .f32) (h5 : a5.IsWhole)
  (a6 : Memref sig .tc .vmem S128x512 .f32) (h6 : a6.IsWhole) (a7 : Memref sig .tc .vmem S1x512 .f32) (h7 : a7.IsWhole)
  (a8 : Memref sig .tc .vmem S256x1024 .f32) (h8 : a8.IsWhole) (a9 : Memref sig .tc .vmem S256x1024 .f32) (h9 : a9.IsWhole)
  (a10 : Memref sig .tc .vmem S1x256 .f32) (h10 : a10.IsWhole) (a11 : Memref sig .tc .vmem S256x1024 .bf16) (h11 : a11.IsWhole)
  (a12 : Memref sig .tc .vmem S4x256x128 .f32) (h12 : a12.IsWhole)
  (x0 : Vec F S256x512 .f32) (x1 : Vec F S256x512 .f32) (x2 : Vec F S256x1024 .f32) (x3 : Vec F S256x128 .f32) (x4 : Vec F S128x512 .f32) (x5 : Vec F S1x512 .f32)
  (x6 : Vec F S256x1024 .f32) (x7 : Vec F S256x1024 .f32) (x8 : Vec F S1x256 .f32)

theorem outB (hc0 : ¬cond0_0 i) (xs : Vec F S4x256x128 .f32) :
    out0_B_9 c i a2 h2 a3 h3 a4 h4 a5 h5 a6 h6 a7 h7 a8 h8 a9 h9 a10 h10 a11 h11 a12 h12 hc0 x0 x1 x2 x3 x4 x5 x6 x7 x8 xs = tileOut x0 x1 x2 x3 x4 x5 x6 x7 x8 xs := by
  unfold out0_B_9
  rw [View.read_writes_eq_canon _ _ _ (cover0_B_9 c i a2 h2 a3 h3 a4 h4 a5 h5 a6 h6 a7 h7 a8 h8 a9 h9 a10 h10 a11 h11 a12 h12 hc0 x0 x1 x2 x3 x4 x5 x6 x7 x8 xs)]
  unfold kernelRun0_B
  dsimp only
  sl_unfold_words
  simp only [View.readAt_eq_ld, h2.read_unread, h3.read_unread, h4.read_unread, h5.read_unread, h6.read_unread, h7.read_unread, h8.read_unread, h9.read_unread, h10.read_unread, h12.read_unread,
    View.ld_unit_zero (S := S256x512) hz, View.ld_unit_zero (S := S256x1024) hz, View.ld_unit_zero (S := S256x128) hz,
    View.ld_unit_zero (S := S128x512) hz, View.ld_unit_zero (S := S1x512) hz, View.ld_unit_zero (S := S1x256) hz, shapeCast_self]
  funext y
  canon_tiles j h
  · exact (congrFun (show _ = k0_pay1 (headOut x0 x1 x2 x3 x4 x5 (slab xs 3) 3) (k0_pay90 x8) (headOf x6 3) (headOf x7 3) from rfl) j).trans (tileOut_at _ _ _ _ _ _ _ _ _ _ y 3 j h0 h1).symm
  · exact (congrFun (show _ = k0_pay1 (headOut x0 x1 x2 x3 x4 x5 (slab xs 2) 2) (k0_pay90 x8) (headOf x6 2) (headOf x7 2) from rfl) j).trans (tileOut_at _ _ _ _ _ _ _ _ _ _ y 2 j h0 h1).symm
  · exact (congrFun (show _ = k0_pay1 (headOut x0 x1 x2 x3 x4 x5 (slab xs 1) 1) (k0_pay90 x8) (headOf x6 1) (headOf x7 1) from rfl) j).trans (tileOut_at _ _ _ _ _ _ _ _ _ _ y 1 j h0 h1).symm
  · exact (congrFun (show _ = k0_pay1 (headOut x0 x1 x2 x3 x4 x5 (slab xs 0) 0) (k0_pay90 x8) (headOf x6 0) (headOf x7 0) from rfl) j).trans (tileOut_at _ _ _ _ _ _ _ _ _ _ y 0 j h0 (by omega)).symm

theorem outA (hc0 : cond0_0 i) :
    out0_A_9 c i a2 h2 a3 h3 a4 h4 a5 h5 a6 h6 a7 h7 a8 h8 a9 h9 a10 h10 a11 h11 a12 h12 hc0 x0 x1 x2 x3 x4 x5 x6 x7 x8 = tileOut x0 x1 x2 x3 x4 x5 x6 x7 x8 k0_pay2 := by
  unfold out0_A_9
  rw [View.read_writes_eq_canon _ _ _ (cover0_A_9 c i a2 h2 a3 h3 a4 h4 a5 h5 a6 h6 a7 h7 a8 h8 a9 h9 a10 h10 a11 h11 a12 h12 hc0 x0 x1 x2 x3 x4 x5 x6 x7 x8)]
  unfold kernelRun0_A
  dsimp only
  sl_unfold_words
  simp only [View.readAt_eq_ld, h2.read_unread, h3.read_unread, h4.read_unread, h5.read_unread, h6.read_unread, h7.read_unread, h8.read_unread, h9.read_unread, h10.read_unread,
    View.ld_unit_zero (S := S256x512) hz, View.ld_unit_zero (S := S256x1024) hz, View.ld_unit_zero (S := S256x128) hz,
    View.ld_unit_zero (S := S128x512) hz, View.ld_unit_zero (S := S1x512) hz, View.ld_unit_zero (S := S1x256) hz, shapeCast_self, View.readCov_eq_canon', View.canon_unit_zero (S := S4x256x128) hz3]
  funext y
  canon_tiles j h
  · exact (congrFun (show _ = k0_pay1 (headOut x0 x1 x2 x3 x4 x5 (slab k0_pay2 3) 3) (k0_pay90 x8) (headOf x6 3) (headOf x7 3) from rfl) j).trans (tileOut_at _ _ _ _ _ _ _ _ _ _ y 3 j h0 h1).symm
  · exact (congrFun (show _ = k0_pay1 (headOut x0 x1 x2 x3 x4 x5 (slab k0_pay2 2) 2) (k0_pay90 x8) (headOf x6 2) (headOf x7 2) from rfl) j).trans (tileOut_at _ _ _ _ _ _ _ _ _ _ y 2 j h0 h1).symm
  · exact (congrFun (show _ = k0_pay1 (headOut x0 x1 x2 x3 x4 x5 (slab k0_pay2 1) 1) (k0_pay90 x8) (headOf x6 1) (headOf x7 1) from rfl) j).trans (tileOut_at _ _ _ _ _ _ _ _ _ _ y 1 j h0 h1).symm
  · exact (congrFun (show _ = k0_pay1 (headOut x0 x1 x2 x3 x4 x5 (slab k0_pay2 0) 0) (k0_pay90 x8) (headOf x6 0) (headOf x7 0) from rfl) j).trans (tileOut_at _ _ _ _ _ _ _ _ _ _ y 0 j h0 (by omega)).symm

theorem soutB (hc0 : ¬cond0_0 i) (xs : Vec F S4x256x128 .f32) :
    sout0_B_0 c i a2 h2 a3 h3 a4 h4 a5 h5 a6 h6 a7 h7 a8 h8 a9 h9 a10 h10 a11 h11 a12 h12 hc0 x0 x1 x2 x3 x4 x5 x6 x7 x8 xs = tileState x1 x2 x3 x4 x5 xs := by
  unfold sout0_B_0
  rw [View.read_writes_eq_canon _ _ _ (scover0_B_0 c i a2 h2 a3 h3 a4 h4 a5 h5 a6 h6 a7 h7 a8 h8 a9 h9 a10 h10 a11 h11 a12 h12 hc0 x0 x1 x2 x3 x4 x5 x6 x7 x8 xs)]
  unfold kernelRun0_B
  dsimp only
  sl_unfold_words
  simp only [View.readAt_eq_ld, h2.read_unread, h3.read_unread, h4.read_unread, h5.read_unread, h6.read_unread, h7.read_unread, h8.read_unread, h9.read_unread, h10.read_unread, h12.read_unread,
    View.ld_unit_zero (S := S256x512) hz, View.ld_unit_zero (S := S256x1024) hz, View.ld_unit_zero (S := S256x128) hz,
    View.ld_unit_zero (S := S128x512) hz, View.ld_unit_zero (S := S1x512) hz, View.ld_unit_zero (S := S1x256) hz, shapeCast_self]
  funext y
  canon_tiles j h
  · exact ((shapeCast_slab _ j).trans (congrFun (show _ = stateAfter x1 x2 x3 x4 x5 (slab xs 3) 3 4 from rfl) _)).trans (tileState_at _ _ _ _ _ _ y 3 j (by omega) h1 h2).symm
  · exact ((shapeCast_slab _ j).trans (congrFun (show _ = stateAfter x1 x2 x3 x4 x5 (slab xs 2) 2 4 from rfl) _)).trans (tileState_at _ _ _ _ _ _ y 2 j (by omega) h1 h2).symm
  · exact ((shapeCast_slab _ j).trans (congrFun (show _ = stateAfter x1 x2 x3 x4 x5 (slab xs 1) 1 4 from rfl) _)).trans (tileState_at _ _ _ _ _ _ y 1 j (by omega) h1 h2).symm
  · exact ((shapeCast_slab _ j).trans (congrFun (show _ = stateAfter x1 x2 x3 x4 x5 (slab xs 0) 0 4 from rfl) _)).trans (tileState_at _ _ _ _ _ _ y 0 j (by omega) h1 h2).symm

theorem soutA (hc0 : cond0_0 i) :
    sout0_A_0 c i a2 h2 a3 h3 a4 h4 a5 h5 a6 h6 a7 h7 a8 h8 a9 h9 a10 h10 a11 h11 a12 h12 hc0 x0 x1 x2 x3 x4 x5 x6 x7 x8 = tileState x1 x2 x3 x4 x5 k0_pay2 := by
  unfold sout0_A_0
  rw [View.read_writes_eq_canon _ _ _ (scover0_A_0 c i a2 h2 a3 h3 a4 h4 a5 h5 a6 h6 a7 h7 a8 h8 a9 h9 a10 h10 a11 h11 a12 h12 hc0 x0 x1 x2 x3 x4 x5 x6 x7 x8)]
  unfold kernelRun0_A
  dsimp only
  sl_unfold_words
  simp only [View.readAt_eq_ld, h2.read_unread, h3.read_unread, h4.read_unread, h5.read_unread, h6.read_unread, h7.read_unread, h8.read_unread, h9.read_unread, h10.read_unread,
    View.ld_unit_zero (S := S256x512) hz, View.ld_unit_zero (S := S256x1024) hz, View.ld_unit_zero (S := S256x128) hz,
    View.ld_unit_zero (S := S128x512) hz, View.ld_unit_zero (S := S1x512) hz, View.ld_unit_zero (S := S1x256) hz, shapeCast_self, View.readCov_eq_canon', View.canon_unit_zero (S := S4x256x128) hz3]
  funext y
  refine (canon_append_of_cover [_] [_, _, _, _] y (View.cover_of_tiled_head _ _ _ (by rfl) y)).trans ?_
  canon_tiles j h
  · exact ((shapeCast_slab _ j).trans (congrFun (show _ = stateAfter x1 x2 x3 x4 x5 (slab k0_pay2 3) 3 4 from rfl) _)).trans (tileState_at _ _ _ _ _ _ y 3 j (by omega) h1 h2).symm
  · exact ((shapeCast_slab _ j).trans (congrFun (show _ = stateAfter x1 x2 x3 x4 x5 (slab k0_pay2 2) 2 4 from rfl) _)).trans (tileState_at _ _ _ _ _ _ y 2 j (by omega) h1 h2).symm
  · exact ((shapeCast_slab _ j).trans (congrFun (show _ = stateAfter x1 x2 x3 x4 x5 (slab k0_pay2 1) 1 4 from rfl) _)).trans (tileState_at _ _ _ _ _ _ y 1 j (by omega) h1 h2).symm
  · exact ((shapeCast_slab _ j).trans (congrFun (show _ = stateAfter x1 x2 x3 x4 x5 (slab k0_pay2 0) 0 4 from rfl) _)).trans (tileState_at _ _ _ _ _ _ y 0 j (by omega) h1 h2).symm

end

end Cert.Kernel7Ideal.Backward
-- ==== Proof.Backward.Array.lean ====
/-
  The array that the backward recurrence leaves: every row's sum over the later rows, the states carried from the last tile of
  a sequence to its first, and with the forward sums added, the rows normed, scaled and gated.
-/
module

public import proofs.«01_k».proof.Proof.Backward.Block
public import proofs.«01_k».proof.Proof.Backward.Pieces
public import proofs.«01_k».proof.Proof.Recurrence.Array

@[expose] public section

noncomputable section

open Idealize.ShloMosaic Idealize.ShloMosaic.TcCoe Idealize.SL.Sem
open Idealize.ShloMosaic.Pipeline (Dat)

namespace Cert.Kernel7Ideal.Backward

open Cert.Kernel7Ideal Cert.Kernel7Ideal.Gen Cert.Layer.Recurrence
open Cert.Kernel6Ideal.Recurrence (slab slab_apply Tile Reals)

/-- The gate's weights and bias of the backward half: their columns from 512 on. -/
def turned (w : ℕ → ℕ → ℝ) (l D : ℕ) : ℝ := w l ((512 + D) % 1024)
def turnedBias (g : ℕ → ℝ) (D : ℕ) : ℝ := g ((512 + D) % 1024)

/-- The backward sum of row `r`, column `C`: row `r % 16384` of sequence `r / 16384`, column `C % 256` of head `C / 256`. -/
def later (z w : ℕ → ℕ → ℝ) (g : ℕ → ℝ) (σ : ℝ) (r h d : ℕ) : EReal :=
  ((headBackAttend z (turned w) (turnedBias g) σ (r / 16384) h (r % 16384) d : ℝ) : EReal)

/-- A result's element: the sums of both directions of its row and head, normed and scaled, times the gate. -/
def resultAt (z w : ℕ → ℕ → ℝ) (g : ℕ → ℝ) (σ : ℝ) (O : S32768x1024.Idx → EReal) (N : S256.Idx → EReal) (r : Fin 32768) (h : Fin 4) (e : Fin 256) : EReal :=
  Cert.Layer.rmsNorm headLen (fun d : Fin 256 => later z w g σ r h d + O (ix2 r ⟨256 * h.val + d.val, by omega⟩)) (fun d => N (ix1 d)) e
    * gated ((z r (2048 + (256 * h.val + e.val)) : ℝ) : EReal)

variable (m : (ℓ : Loc nD τ sig) → Buf (Elt Ideal) ℓ) (c : Dev nD)

abbrev argZ : S32768x4608.Idx → EReal := m ((c : Thread nD τ).loc main_arg0)
abbrev argW : S128x1024.Idx → EReal := m ((c : Thread nD τ).loc main_arg1)
abbrev argG : S1x1024.Idx → EReal := m ((c : Thread nD τ).loc main_arg2)
abbrev argO : S32768x1024.Idx → EReal := m ((c : Thread nD τ).loc main_arg3)
abbrev argN : S256.Idx → EReal := m ((c : Thread nD τ).loc main_arg4)

theorem scaleRow_eq : V m c main_v0 = shapeCast S1x256 (argN m c) shapeCasts_S256_S1x256 := by
  show StableHlo.after hostOps0 _ _ = _
  unfold hostOps0
  after_results <;> rfl

theorem scaleRow_apply (x : FVec Ideal S256 .f32) (d : Fin 256) : shapeCast S1x256 x shapeCasts_S256_S1x256 (ix2 (0 : Fin 1) d) = x (ix1 d) := by
  pointwise

/-! ## The blocks that a grid point reads -/

/- Point `t` takes tile `64 * (t / 64) + (63 - t % 64)`: the tiles of a sequence from the last to the first. -/

theorem blockIndex0 : ∀ t : Fin cfg0.N, win0_0.index t (0 : Fin 2) = (64 * (t.val / 64) + (63 - t.val % 64)) ∧ win0_0.index t (1 : Fin 2) = 0 := (by decide +kernel : ∀ t : Fin grid0.N, _)
theorem blockIndex1 : ∀ t : Fin cfg0.N, win0_1.index t (0 : Fin 2) = (64 * (t.val / 64) + (63 - t.val % 64)) ∧ win0_1.index t (1 : Fin 2) = 1 := (by decide +kernel : ∀ t : Fin grid0.N, _)
theorem blockIndex2 : ∀ t : Fin cfg0.N, win0_2.index t (0 : Fin 2) = (64 * (t.val / 64) + (63 - t.val % 64)) ∧ win0_2.index t (1 : Fin 2) = 1 := (by decide +kernel : ∀ t : Fin grid0.N, _)
theorem blockIndex3 : ∀ t : Fin cfg0.N, win0_3.index t (0 : Fin 2) = (64 * (t.val / 64) + (63 - t.val % 64)) ∧ win0_3.index t (1 : Fin 2) = 30 := (by decide +kernel : ∀ t : Fin grid0.N, _)
theorem blockIndex4 : ∀ t : Fin cfg0.N, win0_4.index t (0 : Fin 2) = 0 ∧ win0_4.index t (1 : Fin 2) = 1 := (by decide +kernel : ∀ t : Fin grid0.N, _)
theorem blockIndex5 : ∀ t : Fin cfg0.N, win0_5.index t (0 : Fin 2) = 0 ∧ win0_5.index t (1 : Fin 2) = 1 := (by decide +kernel : ∀ t : Fin grid0.N, _)
theorem blockIndex6 : ∀ t : Fin cfg0.N, win0_6.index t (0 : Fin 2) = (64 * (t.val / 64) + (63 - t.val % 64)) ∧ win0_6.index t (1 : Fin 2) = 0 := (by decide +kernel : ∀ t : Fin grid0.N, _)
theorem blockIndex7 : ∀ t : Fin cfg0.N, win0_7.index t (0 : Fin 2) = (64 * (t.val / 64) + (63 - t.val % 64)) ∧ win0_7.index t (1 : Fin 2) = 2 := (by decide +kernel : ∀ t : Fin grid0.N, _)
theorem blockIndex8 : ∀ t : Fin cfg0.N, win0_8.index t (0 : Fin 2) = 0 ∧ win0_8.index t (1 : Fin 2) = 0 := (by decide +kernel : ∀ t : Fin grid0.N, _)
theorem blockIndex9 : ∀ t : Fin cfg0.N, win0_9.index t (0 : Fin 2) = (64 * (t.val / 64) + (63 - t.val % 64)) ∧ win0_9.index t (1 : Fin 2) = 0 := (by decide +kernel : ∀ t : Fin grid0.N, _)

theorem lt_points (t : Fin cfg0.N) : t.val < 128 := lt_of_lt_of_eq t.isLt (show cfg0.N = 128 from N_0)

/-- A block's row among all rows. -/
def rowAt (t : Fin cfg0.N) (r : Fin 256) : Fin 32768 := ⟨256 * (64 * (t.val / 64) + (63 - t.val % 64)) + r.val, by have := lt_points t; omega⟩

/-- The forward sums' block. -/
theorem blockO_apply (t : Fin cfg0.N) (r : Fin 256) (C : Fin 1024) : iblk m c 6 t (ix2 r C) = argO m c (ix2 (rowAt t r) C) := by
  obtain ⟨e0, e1⟩ := blockIndex6 t
  show V m c main_arg3 (((cfg0.win 6).blk t).view.emb (ix2 r C)) = _
  rw [V_main_arg3]
  refine congrArg (argO m c) ?_
  funext a; apply Fin.ext
  match a with
  | ⟨0, _⟩ => show win0_6.index t (0 : Fin 2) * 256 + 1 * r.val = 256 * (64 * (t.val / 64) + (63 - t.val % 64)) + r.val; rw [e0]; omega
  | ⟨1, _⟩ => show win0_6.index t (1 : Fin 2) * 1024 + 1 * C.val = C.val; rw [e1]; omega

/-- The scale's block. -/
theorem blockN_apply (t : Fin cfg0.N) (d : Fin 256) : iblk m c 8 t (ix2 (0 : Fin 1) d) = argN m c (ix1 d) := by
  obtain ⟨e0, e1⟩ := blockIndex8 t
  have he : ((cfg0.win 8).blk t).view.emb (ix2 (0 : Fin 1) d) = ix2 (n0 := 1) (n1 := 256) 0 d := by
    funext a; apply Fin.ext
    match a with
    | ⟨0, _⟩ => show win0_8.index t (0 : Fin 2) * 1 + 1 * 0 = 0; rw [e0]
    | ⟨1, _⟩ => show win0_8.index t (1 : Fin 2) * 256 + 1 * d.val = d.val; rw [e1]; omega
  show V m c main_v0 (((cfg0.win 8).blk t).view.emb (ix2 (0 : Fin 1) d)) = _
  rw [he, scaleRow_eq]
  exact scaleRow_apply _ d

variable {z w : ℕ → ℕ → ℝ} {g : ℕ → ℝ} (A : Reals z w g (argZ m c) (argW m c) (argG m c))

include A

/-- A grid point's blocks are a tile of the sequence `t / 64`. -/
theorem tile (t : Fin cfg0.N) : Tile z (turned w) (turnedBias g) (t.val / 64) (256 * (63 - t.val % 64))
    (iblk m c 0 t) (iblk m c 1 t) (X0_2 m c t) (iblk m c 3 t) (iblk m c 4 t) (iblk m c 5 t) where
  hq r D := by
    obtain ⟨e0, e1⟩ := blockIndex0 t
    have ht := lt_points t
    refine A.z_at (((cfg0.win 0).blk t).view.emb (ix2 r D)) _ _ ?_ ?_
    · show win0_0.index t (0 : Fin 2) * 256 + 1 * r.val = _; rw [e0]; omega
    · show win0_0.index t (1 : Fin 2) * 512 + 1 * D.val = _; rw [e1]; omega
  hk r D := by
    obtain ⟨e0, e1⟩ := blockIndex1 t
    have ht := lt_points t
    refine A.z_at (((cfg0.win 1).blk t).view.emb (ix2 r D)) _ _ ?_ ?_
    · show win0_1.index t (0 : Fin 2) * 256 + 1 * r.val = _; rw [e0]; omega
    · show win0_1.index t (1 : Fin 2) * 512 + 1 * D.val = _; rw [e1]; omega
  hv r D := by
    obtain ⟨e0, e1⟩ := blockIndex2 t
    have ht := lt_points t
    unfold X0_2 Pipeline.Window.fill
    rw [dif_pos (moved0_2 t _)]
    refine A.z_at (((cfg0.win 2).blk t).view.emb _) _ _ ?_ ?_
    · show win0_2.index t (0 : Fin 2) * 256 + 1 * r.val = _; rw [e0]; omega
    · show win0_2.index t (1 : Fin 2) * 1024 + 1 * D.val = _; rw [e1]; omega
  ha r D := by
    obtain ⟨e0, e1⟩ := blockIndex3 t
    have ht := lt_points t
    refine A.z_at (((cfg0.win 3).blk t).view.emb (ix2 r D)) _ _ ?_ ?_
    · show win0_3.index t (0 : Fin 2) * 256 + 1 * r.val = _; rw [e0]; omega
    · show win0_3.index t (1 : Fin 2) * 128 + 1 * D.val = _; rw [e1]; omega
  hw l D := by
    obtain ⟨e0, e1⟩ := blockIndex4 t
    refine A.w_at (((cfg0.win 4).blk t).view.emb (ix2 l D)) l.val ((512 + D.val) % 1024) ?_ ?_
    · show win0_4.index t (0 : Fin 2) * 128 + 1 * l.val = _; rw [e0]; omega
    · show win0_4.index t (1 : Fin 2) * 512 + 1 * D.val = _; rw [e1]; omega
  hg D := by
    obtain ⟨e0, e1⟩ := blockIndex5 t
    refine A.g_at (((cfg0.win 5).blk t).view.emb (ix2 (0 : Fin 1) D)) ((512 + D.val) % 1024) ?_
    show win0_5.index t (1 : Fin 2) * 512 + 1 * D.val = _; rw [e1]; omega

/-- The gate's block. -/
theorem blockR_apply (t : Fin cfg0.N) (r : Fin 256) (C : Fin 1024) : X0_7 m c t (ix2 r C) = ((z (rowAt t r) (2048 + C) : ℝ) : EReal) := by
  obtain ⟨e0, e1⟩ := blockIndex7 t
  unfold X0_7 Pipeline.Window.fill
  rw [dif_pos (moved0_7 t _)]
  refine A.z_at (((cfg0.win 7).blk t).view.emb _) _ _ ?_ ?_
  · show win0_7.index t (0 : Fin 2) * 256 + 1 * r.val = 256 * (64 * (t.val / 64) + (63 - t.val % 64)) + r.val; rw [e0]; omega
  · show win0_7.index t (1 : Fin 2) * 1024 + 1 * C.val = _; rw [e1]; omega

omit A

/-! ## From tile to tile -/

section
variable {z w : ℕ → ℕ → ℝ} {g : ℕ → ℝ} {b base : ℕ} {x0 : Vec Ideal S256x512 .f32} {x1 : Vec Ideal S256x512 .f32}
  {x2 : Vec Ideal S256x1024 .f32} {x3 : Vec Ideal S256x128 .f32} {x4 : Vec Ideal S128x512 .f32} {x5 : Vec Ideal S1x512 .f32}

/-- The states of the four heads that the rows of a sequence from `s` on leave. -/
def States (z w : ℕ → ℕ → ℝ) (g : ℕ → ℝ) (b s : ℕ) (x : Vec Ideal S4x256x128 .f32) : Prop :=
  ∀ (h : Fin 4) (e : Fin 256) (d : Fin 128), x (ix3 h e d) = ((headBackState z w g b h s e d : ℝ) : EReal)

theorem states_end (b : ℕ) : States z w g b 16384 (k0_pay2 (F := Ideal)) := fun h e d => by
  unfold k0_pay2
  pointwise
  rw [show headBackState z w g b h 16384 e d = 0 from backState_end _ _ _ _ _ _, EReal.coe_zero]

theorem states_next (T : Tile z w g b base x0 x1 x2 x3 x4 x5) (hb : base + 256 ≤ 16384) (x : Vec Ideal S4x256x128 .f32) (hx : States z w g b (base + 256) x) :
    States z w g b base (tileState x1 x2 x3 x4 x5 x) := fun h e d =>
  stateAfter_real T hb (slab x h) h (fun e d => (slab_apply x h e d).trans (hx h e d)) 4 (le_refl 4) e d

theorem headOf_apply (x : Vec Ideal S256x1024 .f32) (h : Fin 4) (i e : Fin 256) : headOf x h (ix2 i e) = x (ix2 i ⟨256 * h.val + e.val, by omega⟩) := by
  refine congrArg x ?_
  funext a; apply Fin.ext
  match a with
  | ⟨0, _⟩ => show 0 + 1 * i.val = i.val; omega
  | ⟨1, _⟩ => show 256 * h.val + 1 * e.val = 256 * h.val + e.val; omega

theorem rmsNorm_congr {n : ℕ} {len : EReal} {y y' g g' : Fin n → EReal} (hy : ∀ d, y d = y' d) (hg : ∀ d, g d = g' d) (e : Fin n) :
    Cert.Layer.rmsNorm len y g e = Cert.Layer.rmsNorm len y' g' e := by rw [funext hy, funext hg]

theorem tileOut_real (T : Tile z w g b base x0 x1 x2 x3 x4 x5) (hb : base + 256 ≤ 16384) (o r : Vec Ideal S256x1024 .f32) (ng : Vec Ideal S1x256 .f32)
    (x : Vec Ideal S4x256x128 .f32) (hx : States z w g b (base + 256) x) {σ : ℝ}
    (hσ : Ideal.ofBits FTy.f32 0x3DB504F3#32 = (σ : EReal)) (i : Fin 256) (h : Fin 4) (e : Fin 256) :
    tileOut x0 x1 x2 x3 x4 x5 o r ng x (ix2 i ⟨256 * h.val + e.val, by omega⟩)
      = Cert.Layer.rmsNorm headLen (fun d : Fin 256 => ((headBackAttend z w g σ b h (base + i) d : ℝ) : EReal) + o (ix2 i ⟨256 * h.val + d.val, by omega⟩))
          (fun d => ng (ix2 0 d)) e * gated (r (ix2 i ⟨256 * h.val + e.val, by omega⟩)) := by
  rw [tileOut_at x0 x1 x2 x3 x4 x5 o r ng x _ h (ix2 i e) rfl rfl, out_apply, headOf_apply]
  refine congrArg₂ (· * ·) (rmsNorm_congr (fun d => ?_) (fun _ => rfl) e) rfl
  rw [headOut_real T hb _ h (fun e d => (slab_apply x h e d).trans (hx h e d)) hσ i d, headOf_apply]

end

include A

/-- What a grid point leaves: its rows' results, and the states of its sequence from its first row on. -/
theorem point {σ : ℝ} (hσ : Ideal.ofBits FTy.f32 0x3DB504F3#32 = (σ : EReal)) : ∀ (n : ℕ) (hn : n < cfg0.N),
    (∀ (i : Fin 256) (h : Fin 4) (e : Fin 256), (outsAt0 m c n hn).1 (ix2 i ⟨256 * h.val + e.val, by omega⟩)
        = resultAt z w g σ (argO m c) (argN m c) (rowAt ⟨n, hn⟩ i) h e)
      ∧ States z (turned w) (turnedBias g) (n / 64) (256 * (63 - n % 64)) (outsAt0 m c n hn).2 := by
  have step : ∀ n (hn : n < cfg0.N) (x : Vec Ideal S4x256x128 .f32), States z (turned w) (turnedBias g) (n / 64) (256 * (63 - n % 64) + 256) x →
      outsAt0 m c n hn = (tileOut (iblk m c 0 ⟨n, hn⟩) (iblk m c 1 ⟨n, hn⟩) (X0_2 m c ⟨n, hn⟩) (iblk m c 3 ⟨n, hn⟩) (iblk m c 4 ⟨n, hn⟩) (iblk m c 5 ⟨n, hn⟩)
          (iblk m c 6 ⟨n, hn⟩) (X0_7 m c ⟨n, hn⟩) (iblk m c 8 ⟨n, hn⟩) x,
        tileState (iblk m c 1 ⟨n, hn⟩) (X0_2 m c ⟨n, hn⟩) (iblk m c 3 ⟨n, hn⟩) (iblk m c 4 ⟨n, hn⟩) (iblk m c 5 ⟨n, hn⟩) x) →
      (∀ (i : Fin 256) (h : Fin 4) (e : Fin 256), (outsAt0 m c n hn).1 (ix2 i ⟨256 * h.val + e.val, by omega⟩)
        = resultAt z w g σ (argO m c) (argN m c) (rowAt ⟨n, hn⟩ i) h e)
      ∧ States z (turned w) (turnedBias g) (n / 64) (256 * (63 - n % 64)) (outsAt0 m c n hn).2 := fun n hn x hx he => by
    have T := tile m c A ⟨n, hn⟩
    have hb : 256 * (63 - n % 64) + 256 ≤ 16384 := by omega
    have hr (i : Fin 256) : (rowAt ⟨n, hn⟩ i).val = 256 * (64 * (n / 64) + (63 - n % 64)) + i.val := rfl
    refine ⟨fun i h e => ?_, (congrArg Prod.snd he) ▸ states_next T hb x hx⟩
    refine (congrFun (congrArg Prod.fst he) _).trans ((tileOut_real T hb _ _ _ x hx hσ i h e).trans ?_)
    rw [blockR_apply m c A]
    refine congrArg₂ (· * ·) (rmsNorm_congr (fun d => ?_) (blockN_apply m c ⟨n, hn⟩) e) rfl
    rw [blockO_apply]
    unfold later
    rw [hr, show (256 * (64 * (n / 64) + (63 - n % 64)) + i.val) / 16384 = n / 64 by omega,
      show (256 * (64 * (n / 64) + (63 - n % 64)) + i.val) % 16384 = 256 * (63 - n % 64) + i.val by omega]
  have first : ∀ n (hn : n < cfg0.N), n % 64 = 0 → States z (turned w) (turnedBias g) (n / 64) (256 * (63 - n % 64) + 256) (k0_pay2 (F := Ideal)) :=
    fun n hn h0 => by rw [h0]; exact states_end (n / 64)
  intro n
  induction n with
  | zero => intro hn; exact step 0 hn _ (first 0 hn rfl) ((outsAt0_A m c ⟨0, hn⟩ rfl).trans (by rw [outA, soutA]))
  | succ n ih =>
    intro hn
    by_cases h0 : (n + 1) % 64 = 0
    · exact step (n + 1) hn _ (first (n + 1) hn h0) ((outsAt0_A m c ⟨n + 1, hn⟩ h0).trans (by rw [outA, soutA]))
    · refine step (n + 1) hn (outsAt0 m c n (Nat.lt_of_succ_lt hn)).2 ?_ ((outsAt0_B m c ⟨n + 1, hn⟩ h0).trans (by rw [outB, soutB]; rfl))
      have := (ih (Nat.lt_of_succ_lt hn)).2
      rw [show (n + 1) / 64 = n / 64 by omega, show 256 * (63 - (n + 1) % 64) + 256 = 256 * (63 - n % 64) by omega]
      exact this

omit A

/-- The result array. -/
def result (z w : ℕ → ℕ → ℝ) (g : ℕ → ℝ) (σ : ℝ) (O : S32768x1024.Idx → EReal) (N : S256.Idx → EReal) : S32768x1024.Idx → EReal := fun i =>
  resultAt z w g σ O N (i 0) ⟨(i 1).val / 256, by have := (i 1).isLt; change _ < 1024 at this; omega⟩ ⟨(i 1).val % 256, by omega⟩

theorem result_at (z w : ℕ → ℕ → ℝ) (g : ℕ → ℝ) (σ : ℝ) (O : S32768x1024.Idx → EReal) (N : S256.Idx → EReal) (i : S32768x1024.Idx)
    (r : Fin 32768) (h : Fin 4) (e : Fin 256) (h0 : (i 0).val = r.val) (h1 : (i 1).val = 256 * h.val + e.val) :
    result z w g σ O N i = resultAt z w g σ O N r h e := by
  have hr : i 0 = r := Fin.ext h0
  have hh : (⟨(i 1).val / 256, by have := (i 1).isLt; change _ < 1024 at this; omega⟩ : Fin 4) = h := Fin.ext (by show (i 1).val / 256 = _; omega)
  have he : (⟨(i 1).val % 256, by omega⟩ : Fin 256) = e := Fin.ext (by show (i 1).val % 256 = _; omega)
  unfold result
  rw [hr, hh, he]

include A

/-- THE ARRAY after the run. -/
theorem array_eq {σ : ℝ} (hσ : Ideal.ofBits FTy.f32 0x3DB504F3#32 = (σ : EReal)) :
    (dats m 0 c).arrAt 9 cfg0.N = (result z w g σ (argO m c) (argN m c) : Buf (Elt Ideal) ((c : Thread nD τ).loc main_v1)) := by
  refine (dats m 0 c).arrAt_eq_of_cover 9 _ (fun t hf => ?_) (fun i => ?_)
  · rw [Value.flushed9]
    obtain ⟨e0, e1⟩ := blockIndex9 t
    funext y
    have hy1 : (y 1).val < 1024 := (y 1).isLt
    have hcut : ∀ f : S256x1024.Idx → Elt Idealize.ShloMosaic.Ideal .bf16, (cfg0.win 9).cut (grid0.coords t) f y = f y := fun _ => rfl
    have hread : ∀ f : S32768x1024.Idx → Elt Idealize.ShloMosaic.Ideal .bf16,
        View.read (Elt Idealize.ShloMosaic.Ideal) ((cfg0.win 9).blk t).view f y = f (((cfg0.win 9).blk t).view.emb y) := fun _ => rfl
    let h : Fin 4 := ⟨(y 1).val / 256, by omega⟩
    let e : Fin 256 := ⟨(y 1).val % 256, by omega⟩
    have hy : y = ix2 (n0 := 256) (n1 := 1024) (y 0) ⟨256 * h.val + e.val, by omega⟩ := by
      funext a
      match a with
      | ⟨0, _⟩ => rfl
      | ⟨1, _⟩ => exact Fin.ext (by show (y 1).val = 256 * ((y 1).val / 256) + (y 1).val % 256; omega)
    refine (hcut _).trans (((congrArg _ hy).trans ((point m c A hσ t.val t.isLt).1 (y 0) h e)).trans (Eq.symm ((hread _).trans ?_)))
    refine result_at _ _ _ _ _ _ _ (rowAt t (y 0)) h e ?_ ?_
    · show win0_9.index t (0 : Fin 2) * 256 + 1 * (y 0).val = 256 * (64 * (t.val / 64) + (63 - t.val % 64)) + (y 0).val; rw [e0]; omega
    · show win0_9.index t (1 : Fin 2) * 1024 + 1 * (y 1).val = 256 * ((y 1).val / 256) + (y 1).val % 256; rw [e1]; omega
  · have h0 : (i 0 : Nat) < 32768 := (i 0).isLt
    have h1 : (i 1 : Nat) < 1024 := (i 1).isLt
    have hN : cfg0.N = 128 := N_0
    let t : Fin cfg0.N := ⟨64 * ((i 0 : Nat) / 256 / 64) + (63 - (i 0 : Nat) / 256 % 64), by omega⟩
    have ht : t.val = 64 * ((i 0 : Nat) / 256 / 64) + (63 - (i 0 : Nat) / 256 % 64) := rfl
    obtain ⟨e0, e1⟩ := blockIndex9 t
    refine ⟨t, flush0_9 t, ?_⟩
    show i ∈ ((View.whole main_v1).slice (win0_9.rect t)).set
    rw [View.set_slice_whole, Rect.mem_set_unit]
    intro a
    match a with
    | ⟨0, _⟩ =>
      show win0_9.index t (0 : Fin 2) * 256 ≤ (i 0 : Nat) ∧ (i 0 : Nat) < win0_9.index t (0 : Fin 2) * 256 + 256
      rw [e0, ht]; omega
    | ⟨1, _⟩ =>
      show win0_9.index t (1 : Fin 2) * 1024 ≤ (i 1 : Nat) ∧ (i 1 : Nat) < win0_9.index t (1 : Fin 2) * 1024 + 1024
      rw [e1]; omega

end Cert.Kernel7Ideal.Backward
-- ==== Proof.Backward.Ref.lean ====
/-
  The reference of the backward recurrence, stage by stage: every row's sum over the rows after it, the forward sums added,
  the rows normed, scaled and gated. Up to the sums of decays it is the forward recurrence's, with the other half of the gate.
-/
module

public import proofs.«01_k».proof.Proof.Gen.Reference7Ideal.Run
public import proofs.«01_k».proof.Proof.Gen.Reference7Ideal.Read
public import proofs.«01_k».proof.Proof.Backward.Array
public import proofs.«01_k».proof.Proof.Recurrence.Ref

@[expose] public section

noncomputable section

open Idealize.ShloMosaic Idealize.ShloMosaic.TcCoe Idealize.SL.Sem

namespace Cert.Reference7Ideal.Backward

open Cert.Reference7Ideal Cert.Reference7Ideal.Read Cert.Layer.Recurrence Cert.Kernel7Ideal.Backward
open Cert.Kernel6Ideal.Recurrence (Reals sum_real)
open Cert.Reference6Ideal.Recurrence (zero_const queries_real keys_real values_real decays_real totals_real)

theorem one_const : FloatOps.ofBits (F := Ideal) .f32 0x3F800000#32 = (1 : EReal) := by
  show Ideal.ofBits .f32 0x3F800000#32 = _
  simp [Ideal.ofBits, Ideal.ieee]
  rw [← EReal.coe_mul]
  norm_num

/-- The gate's weights and bias with their halves exchanged. -/
def turnW (W : S128x1024.Idx → EReal) : S128x1024.Idx → EReal := fun i => W (ix2 (n0 := 128) (n1 := 1024) (i 0) ⟨(512 + (i 1).val) % 1024, by omega⟩)
def turnG (G : S1x1024.Idx → EReal) : S1x1024.Idx → EReal := fun i => G (ix2 (n0 := 1) (n1 := 1024) (i 0) ⟨(512 + (i 1).val) % 1024, by omega⟩)

theorem half_weights (W : S128x1024.Idx → EReal) : val_main_v9 (F := Ideal) W = Cert.Reference6Ideal.Read.val_main_v9 (F := Ideal) (turnW W) := by
  funext i
  have h1 : (i 1).val < 512 := (i 1).isLt
  rw [val_main_v9_apply, Cert.Reference6Ideal.Read.val_main_v9_apply]
  refine congrArg W ?_
  funext a; apply Fin.ext
  match a with
  | ⟨0, _⟩ => rfl
  | ⟨1, _⟩ => show 512 + (i 1).val = (512 + (i 1).val) % 1024; omega

theorem half_bias (G : S1x1024.Idx → EReal) : val_main_v11 (F := Ideal) G = Cert.Reference6Ideal.Read.val_main_v11 (F := Ideal) (turnG G) := by
  funext i
  have h1 : (i 1).val < 512 := (i 1).isLt
  rw [val_main_v11_apply, Cert.Reference6Ideal.Read.val_main_v11_apply]
  refine congrArg G ?_
  funext a; apply Fin.ext
  match a with
  | ⟨0, _⟩ => rfl
  | ⟨1, _⟩ => show 512 + (i 1).val = (512 + (i 1).val) % 1024; omega

section
variable (Z : S32768x4608.Idx → EReal) (W : S128x1024.Idx → EReal) (G : S1x1024.Idx → EReal)

theorem gate_eq : val_main_v13 (F := Ideal) Z W G = Cert.Reference6Ideal.Read.val_main_v13 (F := Ideal) Z (turnW W) (turnG G) := by
  unfold val_main_v13 val_main_v10 val_main_v12
  rw [half_weights, half_bias]
  rfl

theorem decays_eq : val_main_v17 (F := Ideal) Z W G = Cert.Reference6Ideal.Read.val_main_v17 (F := Ideal) Z (turnW W) (turnG G) := by
  unfold val_main_v17 val_main_v16 val_main_v14 val_main_call0_v1 val_main_call0_call0_v4 val_main_call0_call0_v6 val_main_call0_call0_v11
    val_main_call0_call0_v1 val_main_call0_call0_v10 val_main_call0_call0_v9 val_main_call0_call0_v8 val_main_call0_call0_v7
    val_main_call0_call0_v3 val_main_call0_v0
  rw [gate_eq]
  rfl

theorem totals_eq : val_main_v18 (F := Ideal) Z W G = Cert.Reference6Ideal.Read.val_main_v18 (F := Ideal) Z (turnW W) (turnG G) := by
  unfold val_main_v18
  rw [decays_eq]
  rfl

end

section
variable {z w : ℕ → ℕ → ℝ} {g : ℕ → ℝ} {Z : S32768x4608.Idx → EReal} {W : S128x1024.Idx → EReal} {G : S1x1024.Idx → EReal}
variable (A : Reals z w g Z W G)
include A

theorem turned_reals : Reals z (turned w) (turnedBias g) Z (turnW W) (turnG G) where
  hz := A.hz
  hw l D := A.hw l ⟨(512 + D.val) % 1024, by omega⟩
  hg D := A.hg ⟨(512 + D.val) % 1024, by omega⟩

/-- The sum of the decays before a row. -/
theorem before_real (i : S2x16384x4x128.Idx) :
    val_main_v19 (F := Ideal) Z W G i
      = ((total (headDecay z (turned w) (turnedBias g) (i 0).val (i 2).val) (i 1).val (i 3).val : ℝ) : EReal) := by
  rw [val_main_v19_apply, totals_eq, decays_eq]
  refine (congrArg₂ (FloatOps.subf (F := Ideal) (φ := .f32)) (totals_real (turned_reals A) i) (decays_real (turned_reals A) i)).trans ?_
  rw [Ideal.subf_def, ← EReal.coe_sub]
  refine congrArg (fun q : ℝ => (q : EReal)) ?_
  unfold total
  rw [Finset.sum_range_succ, add_sub_cancel_right]

theorem weights_real {σ : ℝ} (hσ : Ideal.ofBits FTy.f32 0x3DB504F3#32 = (σ : EReal)) (i : S2x16384x16384x4.Idx) :
    val_main_v32 (F := Ideal) Z W G i
      = ((backWeight (headDecay z (turned w) (turnedBias g) (i 0).val (i 3).val) (headQuery z σ (i 0).val (i 3).val) (headKey z (i 0).val (i 3).val)
          (i 1).val (i 2).val : ℝ) : EReal) := by
  rw [val_main_v32_apply, show val_main_cst_1 (F := Ideal) (Shape.Idx.first Gen.h_S_) = (0 : EReal) from zero_const, zero_add]
  refine sum_real 128 _ _ fun d => ?_
  have hq := queries_real A hσ
  have hk := keys_real A
  rw [val_main_v31_apply, val_main_v30_apply, val_main_v28_apply, val_main_v27_apply, val_main_v26_apply, val_main_v25_apply, val_main_v24_apply,
    val_main_v23_apply, val_main_v22_apply, val_main_v21_apply, val_main_v20_apply, val_main_v29_apply, before_real A, before_real A]
  rw [show val_main_v3 (F := Ideal) Z = Cert.Reference6Ideal.Read.val_main_v3 (F := Ideal) Z from rfl,
    show val_main_v5 (F := Ideal) Z = Cert.Reference6Ideal.Read.val_main_v5 (F := Ideal) Z from rfl, hq, hk]
  rw [Ideal.mulf_def, Ideal.mulf_def, Ideal.hostUnary_exp_def, Ideal.subf_def, ← EReal.coe_sub, Ideal.exp_coe, ← EReal.coe_mul, ← EReal.coe_mul]

/-- The weights of the rows after each one; the others are zero. -/
theorem masked_real {σ : ℝ} (hσ : Ideal.ofBits FTy.f32 0x3DB504F3#32 = (σ : EReal)) (i : S2x16384x16384x4.Idx) :
    val_main_v41 (F := Ideal) Z W G i
      = (((if (i 1).val + 1 ≤ (i 2).val then
          backWeight (headDecay z (turned w) (turnedBias g) (i 0).val (i 3).val) (headQuery z σ (i 0).val (i 3).val) (headKey z (i 0).val (i 3).val)
            (i 1).val (i 2).val else 0 : ℝ)) : EReal) := by
  have h1 : (i 1).val < 16384 := (i 1).isLt
  have h2 : (i 2).val < 16384 := (i 2).isLt
  rw [val_main_v41_apply, val_main_call2_v1_apply, val_main_v40_apply, val_main_v39_apply, val_main_v37_apply, val_main_v34_apply,
    val_main_v33_apply, val_main_v38_apply, val_main_v36_apply, val_main_v35_apply, weights_real A hσ]
  have hm : IntOp.cmpi .slt (BitVec.ofNat 32 (i 1).val) (BitVec.ofNat 32 (i 2).val) = if (i 1).val + 1 ≤ (i 2).val then 1 else 0 := by
    have hi : ∀ a : ℕ, a < 16384 → (BitVec.ofNat 32 a).toInt = a := fun a ha => by
      rw [BitVec.toInt_eq_toNat_of_lt (by rw [BitVec.toNat_ofNat]; omega), BitVec.toNat_ofNat]; omega
    show BitVec.ofBool ((BitVec.ofNat 32 (i 1).val).slt (BitVec.ofNat 32 (i 2).val)) = _
    rw [BitVec.slt, hi _ h1, hi _ h2]
    by_cases h : (i 1).val < (i 2).val <;> simp [h, Nat.succ_le_iff]
  refine (congrArg (fun c => Scalar.select c _ _) hm).trans ?_
  by_cases h : (i 1).val + 1 ≤ (i 2).val
  · rw [if_pos h, if_pos h]; rfl
  · rw [if_neg h, if_neg h, EReal.coe_zero]; exact zero_const

/-- The backward sums. -/
theorem later_real {σ : ℝ} (hσ : Ideal.ofBits FTy.f32 0x3DB504F3#32 = (σ : EReal)) (i : S2x16384x4x256.Idx) :
    val_main_v43 (F := Ideal) Z W G i
      = ((headBackAttend z (turned w) (turnedBias g) σ (i 0).val (i 2).val (i 1).val (i 3).val : ℝ) : EReal) := by
  rw [val_main_v43_apply, val_main_v42_apply]
  unfold headBackAttend backAttend
  rw [← sum_from _ 16384 ((i 1).val + 1)]
  refine sum_real 16384 _ _ fun s => ?_
  have hv := values_real A
  rw [show val_main_v7 (F := Ideal) Z = Cert.Reference6Ideal.Read.val_main_v7 (F := Ideal) Z from rfl, hv, masked_real A hσ, ← EReal.coe_mul]
  refine congrArg (fun r : ℝ => (r : EReal)) ?_
  show headValue z (i 0).val (i 2).val s.val (i 3).val * (if (i 1).val + 1 ≤ s.val then _ else 0) = _
  by_cases h : (i 1).val + 1 ≤ s.val
  · rw [if_pos h, if_pos h, mul_comm]
  · rw [if_neg h, if_neg h, mul_zero]

/-- The sums of both directions: row `p` of sequence `b` is row `16384 * b + p` of the forward sums. -/
theorem both_real {σ : ℝ} (hσ : Ideal.ofBits FTy.f32 0x3DB504F3#32 = (σ : EReal)) (O : S32768x1024.Idx → EReal) (r : Fin 32768) (h : Fin 4) (d : Fin 256)
    (i : S2x16384x4x256.Idx) (e0 : (i 0).val = r.val / 16384) (e1 : (i 1).val = r.val % 16384) (e2 : (i 2).val = h.val) (e3 : (i 3).val = d.val) :
    val_main_v45 (F := Ideal) Z W G O i = later z w g σ r h d + O (ix2 r ⟨256 * h.val + d.val, by omega⟩) := by
  rw [val_main_v45_apply, val_main_v44_apply, later_real A hσ, e0, e1, e2, e3, Ideal.addf_def, add_comm]
  refine congrArg₂ (· + ·) rfl (congrArg O ?_)
  funext a; apply Fin.ext
  match a with
  | ⟨0, _⟩ => show ((((i 0).val * 16384 + (i 1).val) * 4 + (i 2).val) * 256 + (i 3).val) / 1024 = r.val; omega
  | ⟨1, _⟩ => show ((((i 0).val * 16384 + (i 1).val) * 4 + (i 2).val) * 256 + (i 3).val) % 1024 = 256 * h.val + d.val; omega

/-- The gate. -/
theorem gate_real (i : S32768x1024.Idx) :
    val_main_v61 (F := Ideal) Z i = gated ((z (i 0).val (2048 + (i 1).val) : ℝ) : EReal) := by
  have hz : val_main_v60 (F := Ideal) Z i = ((z (i 0).val (2048 + (i 1).val) : ℝ) : EReal) := by
    rw [val_main_v60_apply]; exact A.z_at _ _ _ rfl rfl
  rw [val_main_v61_apply, val_main_call3_v5_apply, val_main_call3_v4_apply, val_main_call3_v3_apply, val_main_call3_v2_apply,
    val_main_call3_v1_apply, val_main_call3_v0_apply, val_main_call3_cst_apply, val_main_call3_cst_0_apply, one_const, hz]
  rfl

/-- The rows of both directions' sums, normed and scaled. -/
theorem normed_real {σ : ℝ} (hσ : Ideal.ofBits FTy.f32 0x3DB504F3#32 = (σ : EReal)) (O : S32768x1024.Idx → EReal) (N : S256.Idx → EReal)
    (r : Fin 32768) (h : Fin 4) (e : Fin 256)
    (i : S2x16384x4x256.Idx) (e0 : (i 0).val = r.val / 16384) (e1 : (i 1).val = r.val % 16384) (e2 : (i 2).val = h.val) (e3 : (i 3).val = e.val) :
    val_main_v58 (F := Ideal) Z W G O N i
      = Cert.Layer.rmsNorm headLen (fun d : Fin 256 => later z w g σ r h d + O (ix2 r ⟨256 * h.val + d.val, by omega⟩)) (fun d => N (ix1 d)) e := by
  have hn : idx_main_v56 (idx_main_v57 i) = ix1 e := by
    funext a; apply Fin.ext
    match a with
    | ⟨0, _⟩ => exact e3
  rw [val_main_v58_apply, val_main_v55_apply, val_main_v54_apply, val_main_v53_apply, val_main_v52_apply, val_main_v51_apply, val_main_v50_apply,
    val_main_v49_apply, val_main_v48_apply, val_main_v47_apply, val_main_v57_apply, val_main_v56_apply, hn,
    both_real A hσ O r h e i e0 e1 e2 e3, val_main_cst_4_apply, val_main_cst_5_apply,
    show val_main_cst_3 (F := Ideal) (Shape.Idx.first Gen.h_S_) = (0 : EReal) from zero_const, zero_add]
  have hs (d : Fin 256) := both_real A hσ O r h d (idx_main_v47 (idx_main_v48 (idx_main_v54 i)) d) e0 e1 e2 rfl
  rw [Finset.sum_congr rfl fun d _ => (val_main_v46_apply Z W G O (idx_main_v47 (idx_main_v48 (idx_main_v54 i)) d)).trans
    (congrArg₂ (FloatOps.mulf (F := Ideal) (φ := .f32)) (hs d) (hs d))]
  rfl

theorem reference_eq {σ : ℝ} (hσ : Ideal.ofBits FTy.f32 0x3DB504F3#32 = (σ : EReal)) (O : S32768x1024.Idx → EReal) (N : S256.Idx → EReal) :
    val_main_v63 (F := Ideal) Z W G O N = result z w g σ O N := by
  funext i
  have h0 : (i 0).val < 32768 := (i 0).isLt
  have h1 : (i 1).val < 1024 := (i 1).isLt
  rw [val_main_v63_apply, val_main_v62_apply, val_main_v59_apply, gate_real A]
  have e0 : (idx_main_v59 i 0).val = (i 0).val / 16384 := show ((i 0).val * 1024 + (i 1).val) / 16777216 = _ by omega
  have e1 : (idx_main_v59 i 1).val = (i 0).val % 16384 := show ((i 0).val * 1024 + (i 1).val) / 1024 % 16384 = _ by omega
  have e2 : (idx_main_v59 i 2).val = (i 1).val / 256 := show ((i 0).val * 1024 + (i 1).val) / 256 % 4 = _ by omega
  have e3 : (idx_main_v59 i 3).val = (i 1).val % 256 := show ((i 0).val * 1024 + (i 1).val) % 256 = _ by omega
  rw [normed_real A hσ O N ⟨(i 0).val, h0⟩ ⟨(i 1).val / 256, by omega⟩ ⟨(i 1).val % 256, by omega⟩ (idx_main_v59 i) e0 e1 e2 e3]
  unfold result resultAt
  rw [show 256 * ((i 1).val / 256) + (i 1).val % 256 = (i 1).val by omega]
  rfl

end

end Cert.Reference7Ideal.Backward
-- ==== Proof.Backward.Finite.lean ====
/-
  The precondition of the backward recurrence's claim: the one of the forward recurrence, of the same arguments.
-/
module

public import proofs.«01_k».proof.Pre_finite_backward_gates
public import proofs.«01_k».proof.Proof.Recurrence.Finite

@[expose] public section

noncomputable section

open Idealize.ShloMosaic

namespace Cert.Pre_finite_backward_gates

open Cert.Kernel6Ideal.Recurrence (Reals)

/-- The side conditions that the precondition's operations state. -/
instance facts : Facts where
  bcast_S_S32768x4608 := by decide
  reducesTo_S32768x4608_S_d0_1 := by decide
  h_S_ := by decide
  bcast_S_S128x1024 := by decide
  reducesTo_S128x1024_S_d0_1 := by decide
  bcast_S_S1x1024 := by decide
  reducesTo_S1x1024_S_d0_1 := by decide

/-- Under the precondition the rows and the gate's weights are real. -/
theorem reals_of_fn (Z : FVec Ideal S32768x4608 .f32) (W : FVec Ideal S128x1024 .f32) (G : FVec Ideal S1x1024 .f32)
    (O : FVec Ideal S32768x1024 .f32) (N : FVec Ideal S256 .f32)
    (h : fn (F := Ideal) Z W G O N = constantI S_ 1 1#1) : ∃ z w g, Reals z w g Z W G :=
  Cert.Pre_finite_gates.reals_of_fn Z W G h

end Cert.Pre_finite_backward_gates
-- ==== Proof.Backward.Claims.lean ====
/-
  The claims about the backward recurrence.
-/
module

public import proofs.«01_k».proof.Defs
public import proofs.«01_k».proof.Proof.Gen.Kernel7.Frame
public import proofs.«01_k».proof.Proof.Backward.Ref
public import proofs.«01_k».proof.Proof.Backward.Finite
public import Idealize.ShloMosaic.Adequacy
public import Idealize.ShloMosaic.Init

@[expose] public section

noncomputable section

open Idealize.ShloMosaic Idealize.SL.Sem

namespace Cert.Proof.BackwardClaims

open Cert.Kernel6Ideal.Recurrence (scale_real)
open Cert.Kernel7Ideal.Backward (array_eq)
open Cert.Reference7Ideal.Backward (reference_eq)

theorem frame_p : Cert.quiescent_Kernel7 := fun m ρ _ => Cert.Kernel7.Gen.frame m ρ
theorem frame_pi : Cert.quiescent_Kernel7Ideal := fun m ρ _ => Cert.Kernel7Ideal.Gen.frame m ρ
theorem frame_pi_finite : Cert.quiescent_Kernel7Ideal_pre_finite_backward_gates := fun m ρ _ => Cert.Kernel7Ideal.Gen.frame m ρ
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)
theorem frame_ri_finite : Cert.quiescent_Reference7Ideal_pre_finite_backward_gates := fun m ρ _ => frame_ri m ρ trivial

theorem preserves : Cert.preserves_Kernel7_Kernel7Ideal := trivial

/-- THE VALUE CLAIM: with finite rows and gate weights, kernel and reference end with equal arrays of gated rows. -/
theorem algebraic : Cert.algebraic_Kernel7Ideal_Reference7Ideal_pre_finite_backward_gates := by
  intro m ρ m' ρ' hpre hagree
  refine ⟨fun c => (Cert.Kernel7Ideal.Gen.dats (F := Ideal) m 0 c).arrAt 9 Cert.Kernel7Ideal.cfg0.N, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨z, w, g, A⟩ := Cert.Pre_finite_backward_gates.reals_of_fn _ _ _ _ _ (hpre c)
  obtain ⟨σ, hσ⟩ := scale_real
  refine ⟨(h c).1.trans ?_, (h c).2⟩
  refine (Cert.Reference7Ideal.Read.val_main_v63_eq (F := Ideal) m' c).trans ?_
  rw [(hagree c).1, (hagree c).2.1, (hagree c).2.2.1, (hagree c).2.2.2.1, (hagree c).2.2.2.2]
  exact (reference_eq A hσ _ _).trans (array_eq m c A hσ).symm

end Cert.Proof.BackwardClaims
-- ==== Proof.Threshold.Select.lean ====
/-
  The cap-th largest number of a row, and the search for it bit by bit.
-/
module

public import Idealize.ShloMosaic.Lib.WordSum
public import Mathlib.Order.Interval.Finset.Fin

@[expose] public section

namespace Cert.Threshold

variable {n : ℕ} {u : Fin n → ℕ} {cap : ℕ}

/-- How many numbers of the row are at least `t`. -/
def atLeast (u : Fin n → ℕ) (t : ℕ) : ℕ := (Finset.univ.filter fun k => t ≤ u k).card

theorem atLeast_anti (u : Fin n → ℕ) {s t : ℕ} (h : s ≤ t) : atLeast u t ≤ atLeast u s :=
  Finset.card_le_card fun k hk => by
    rw [Finset.mem_filter] at hk ⊢
    exact ⟨hk.1, h.trans hk.2⟩

theorem atLeast_le (u : Fin n → ℕ) (t : ℕ) : atLeast u t ≤ n :=
  (Finset.card_filter_le _ _).trans_eq (by rw [Finset.card_univ, Fintype.card_fin])

/-- `t` is the `cap`-th largest: at least `cap` numbers are as large, fewer are larger. -/
structure IsThreshold (u : Fin n → ℕ) (cap t : ℕ) : Prop where
  enough : cap ≤ atLeast u t
  few : atLeast u (t + 1) < cap

theorem IsThreshold.unique {s t : ℕ} (h : IsThreshold u cap s) (h' : IsThreshold u cap t) : s = t := by
  rcases lt_trichotomy s t with hlt | heq | hlt
  · have := atLeast_anti u (Nat.succ_le_of_lt hlt)
    have := h.few
    have := h'.enough
    simp only [Nat.succ_eq_add_one] at *
    omega
  · exact heq
  · have := atLeast_anti u (Nat.succ_le_of_lt hlt)
    have := h'.few
    have := h.enough
    simp only [Nat.succ_eq_add_one] at *
    omega

/-- In a row put in order from the largest down, position `p` holds the `p + 1`-st largest. -/
theorem isThreshold_of_sorted (σ : Fin n → Fin n) (hσ : Function.Injective σ)
    (hdown : ∀ i j : Fin n, i < j → u (σ j) ≤ u (σ i)) (p : Fin n) : IsThreshold u (p.val + 1) (u (σ p)) where
  enough := by
    have hcard : ((Finset.Iic p).image σ).card = p.val + 1 := by
      rw [Finset.card_image_of_injective _ hσ, Fin.card_Iic]
    rw [← hcard]
    refine Finset.card_le_card fun k hk => ?_
    obtain ⟨q, hq, rfl⟩ := Finset.mem_image.1 hk
    rw [Finset.mem_filter]
    refine ⟨Finset.mem_univ _, ?_⟩
    rcases (Finset.mem_Iic.1 hq).lt_or_eq with h | h
    · exact hdown q p h
    · rw [h]
  few := by
    have hcard : ((Finset.Iio p).image σ).card = p.val := by
      rw [Finset.card_image_of_injective _ hσ, Fin.card_Iio]
    refine Nat.lt_succ_of_le ?_
    refine (Finset.card_le_card fun k hk => ?_).trans_eq hcard
    obtain ⟨q, rfl⟩ := (Finite.injective_iff_surjective.1 hσ) k
    rw [Finset.mem_filter] at hk
    refine Finset.mem_image.2 ⟨q, Finset.mem_Iio.2 ?_, rfl⟩
    by_contra hpq
    rcases (not_lt.1 hpq).lt_or_eq with h | h
    · have := hdown p q h; omega
    · subst h; omega

/-- One step of the search: bit `b` is kept when enough numbers stay at least as large. -/
def step (u : Fin n → ℕ) (cap b t : ℕ) : ℕ := if cap ≤ atLeast u (t ||| 2 ^ b) then t ||| 2 ^ b else t

/-- What the search knows when `j` low bits are left: the threshold lies in the `2 ^ j` numbers from `t`. -/
structure Found (u : Fin n → ℕ) (cap j t : ℕ) : Prop where
  aligned : 2 ^ j ∣ t
  small : t + 2 ^ j ≤ 2 ^ 31
  enough : cap ≤ atLeast u t
  few : atLeast u (t + 2 ^ j) < cap

theorem Found.start (hpos : 0 < cap) (hcap : cap ≤ n) (hu : ∀ k, u k < 2 ^ 31) : Found u cap 31 0 where
  aligned := dvd_zero _
  small := by omega
  enough := by
    have : atLeast u 0 = n := by
      unfold atLeast
      rw [Finset.filter_true_of_mem fun k _ => Nat.zero_le _, Finset.card_univ, Fintype.card_fin]
    omega
  few := by
    have : atLeast u (0 + 2 ^ 31) = 0 := by
      unfold atLeast
      rw [Finset.card_eq_zero, Finset.filter_eq_empty_iff]
      intro k _
      have := hu k
      omega
    omega

theorem or_bit {b t : ℕ} (h : 2 ^ (b + 1) ∣ t) : t ||| 2 ^ b = t + 2 ^ b := by
  obtain ⟨q, rfl⟩ := h
  exact (Nat.two_pow_add_eq_or_of_lt (Nat.pow_lt_pow_right (by omega) (by omega)) q).symm

theorem Found.next {b t : ℕ} (h : Found u cap (b + 1) t) : Found u cap b (step u cap b t) := by
  have hp : 2 ^ (b + 1) = 2 ^ b + 2 ^ b := by rw [pow_succ]; omega
  have hd : 2 ^ b ∣ t := (pow_dvd_pow 2 (by omega)).trans h.aligned
  have hs := h.small
  unfold step
  rw [or_bit h.aligned]
  split
  · exact ⟨hd.add (dvd_refl _), by omega, by assumption, by have := h.few; rwa [hp, ← add_assoc] at this⟩
  · exact ⟨hd, by omega, h.enough, by omega⟩

theorem Found.isThreshold {t : ℕ} (h : Found u cap 0 t) : IsThreshold u cap t := ⟨h.enough, h.few⟩

end Cert.Threshold
-- ==== Proof.Threshold.Count.lean ====
/-
  How the kernel counts the words of a row that pass a test.
-/
module

public import proofs.«01_k».proof.Proof.Gen.Kernel8.Skeleton
public import proofs.«01_k».proof.Proof.Threshold.Select
public import Idealize.ShloMosaic.Lib.WordSum
public import Idealize.ShloMosaic.Lib.WordCmp
public import Idealize.ShloMosaic.Lib.Pointwise

@[expose] public section

noncomputable section

open Idealize.ShloMosaic

namespace Cert.Threshold

/-- A sum of outcomes counts the tests that hold. -/
theorem toNat_sum_outcomes {n : ℕ} (hn : n < 2 ^ 32) (P : Fin n → Prop) [DecidablePred P] :
    (∑ k : Fin n, (BitVec.ofBool (decide (P k))).setWidth 32).toNat = (Finset.univ.filter P).card := by
  have one : ∀ k : Fin n, ((BitVec.ofBool (decide (P k))).setWidth 32).toNat = if P k then 1 else 0 := by
    intro k
    by_cases h : P k <;> simp [h]
  have total : ∑ k : Fin n, ((BitVec.ofBool (decide (P k))).setWidth 32).toNat = (Finset.univ.filter P).card := by
    rw [Finset.card_filter]
    exact Finset.sum_congr rfl fun k _ => one k
  rw [WordSum.toNat_sum, total]
  rw [total]
  refine lt_of_le_of_lt (Finset.card_filter_le _ _) ?_
  rwa [Finset.card_univ, Fintype.card_fin]

end Cert.Threshold

namespace Cert.Kernel8.Threshold

open Cert.Kernel8 Cert.Kernel8.Gen Cert.Threshold

/-- The outcomes of a test, summed over the rows of tokens and then over the lanes. -/
def count (p : IVec S16x256x128 1) : IVec S16x1x1 32 :=
  shapeCast S16x1x1 (multiReductionI .add [2] S16x1 (shapeCast S16x1x128
    (multiReductionI .add [1] S16x128 (extui 32 p natLt_1_32) 0#32 reduces_S16x256x128_S16x128 rfl)
    shapeCasts_S16x128_S16x1x128) 0#32 reduces_S16x1x128_S16x1 rfl) shapeCasts_S16x1_S16x1x1

/-- Where token `k` lies: its row and its lane. -/
abbrev place (e : Fin 16) (k : Fin 32768) : S16x256x128.Idx := ix3 e ⟨k.val / 128, by omega⟩ ⟨k.val % 128, by omega⟩

theorem fold_addi {n : ℕ} (f : Fin n → BitVec 32) : Finset.univ.fold IntOp.addi 0#32 f = ∑ k, f k := by
  rfl

theorem count_apply (p : IVec S16x256x128 1) (e : Fin 16) :
    count p (ix3 e 0 0) = ∑ k : Fin 32768, (p (place e k)).setWidth 32 := by
  have h1 : count p (ix3 e 0 0) = Finset.univ.fold IntOp.addi 0#32 fun l : Fin 128 =>
      Finset.univ.fold IntOp.addi 0#32 fun r : Fin 256 => (p (ix3 e r l)).setWidth 32 := by
    unfold count
    pointwise
  rw [h1]
  simp only [fold_addi]
  rw [Finset.sum_comm, ← Finset.sum_product', ← Finset.univ_product_univ.symm]
  refine Fintype.sum_equiv (finProdFinEquiv (m := 256) (n := 128)) _ _ fun x => ?_
  have h2 : ((finProdFinEquiv x : Fin (256 * 128)) : ℕ) = x.2.val + 128 * x.1.val := rfl
  have hr := x.1.isLt
  have hl := x.2.isLt
  have hd : (finProdFinEquiv x : Fin (256 * 128)).val / 128 = x.1.val := by rw [h2]; omega
  have hm : (finProdFinEquiv x : Fin (256 * 128)).val % 128 = x.2.val := by rw [h2]; omega
  show (p (ix3 e x.1 x.2)).setWidth 32 = (p (place e (finProdFinEquiv x))).setWidth 32
  rw [show place e (finProdFinEquiv x) = ix3 e x.1 x.2 from by
    unfold place
    congr 1
    · exact Fin.ext hd
    · exact Fin.ext hm]

end Cert.Kernel8.Threshold
-- ==== Proof.Threshold.Search.lean ====
/-
  The kernel's search: after its 31 steps it holds, for every expert, the capacity-th largest word.
-/
module

public import proofs.«01_k».proof.Proof.Threshold.Count
public import Idealize.ShloMosaic.Lib.Exec

@[expose] public section

noncomputable section

open Idealize.ShloMosaic

namespace Cert.Threshold

/-- What holds at the start and is carried from trip to trip holds after a fold over all trips. -/
theorem foldl_trips {σ : Type} : ∀ {n : ℕ} (g : Fin n → σ → σ) (init : σ) (P : ℕ → σ → Prop), P 0 init →
    (∀ (k : Fin n) (x : σ), P k.val x → P (k.val + 1) (g k x)) →
    P n ((List.finRange n).foldl (fun acc k => g k acc) init)
  | 0, _, _, _, h0, _ => h0
  | n + 1, g, init, P, h0, hs => by
    rw [List.finRange_succ, List.foldl_cons, List.foldl_map]
    exact foldl_trips (fun k => g k.succ) (g 0 init) (fun j => P (j + 1)) (hs 0 init h0) fun k x hx => hs k.succ x hx

end Cert.Threshold

namespace Cert.Kernel8.Threshold

open Cert.Kernel8 Cert.Kernel8.Gen Cert.Threshold

variable (x : Vec Bits S16x256x128 .f32)

/-- Token `k`'s share for expert `e`, as the number its word is. -/
def level (e : Fin 16) (k : Fin 32768) : ℕ := (k0_pay1 (F := Bits) x (place e k)).toNat

/-- The bit that trip `i` tries. -/
abbrev bit (i : Fin k0_t1_loop.trips) : BitVec 32 := Scalar.shli 1#32 (Scalar.subi 30#32 (Scf.iv 0#32 1#32 i))

theorem bit_toNat : ∀ i : Fin k0_t1_loop.trips, (bit i).toNat = 2 ^ (30 - i.val) := by
  decide +kernel

theorem trips_eq : k0_t1_loop.trips = 31 := by decide +kernel

theorem count_toNat (p : IVec S16x256x128 1) (e : Fin 16) (P : Fin 32768 → Prop) [DecidablePred P]
    (h : ∀ k, p (place e k) = BitVec.ofBool (decide (P k))) : (count p (ix3 e 0 0)).toNat = (Finset.univ.filter P).card := by
  rw [count_apply, Finset.sum_congr rfl fun k _ => congrArg (BitVec.setWidth 32) (h k)]
  exact toNat_sum_outcomes (by norm_num) P

theorem count_atLeast (hx : ∀ e k, level x e k < 2 ^ 31) (cand : IVec S16x1x1 32) (e : Fin 16) (hc : (cand (ix3 e 0 0)).toNat < 2 ^ 31) :
    (count (cmpi .sge (k0_pay1 (F := Bits) x) (broadcastTo S16x256x128 cand broadcasts_S16x1x1_S16x256x128)) (ix3 e 0 0)).toNat
      = atLeast (level x e) (cand (ix3 e 0 0)).toNat := by
  refine count_toNat _ e _ fun k => ?_
  have hb : broadcastTo S16x256x128 cand broadcasts_S16x1x1_S16x256x128 (place e k) = cand (ix3 e 0 0) := by
    unfold place
    pointwise
  show IntOp.cmpi .sge (k0_pay1 (F := Bits) x (place e k)) (broadcastTo S16x256x128 cand broadcasts_S16x1x1_S16x256x128 (place e k)) = _
  rw [hb]
  exact Idealize.ShloMosaic.WordCmp.cmpi_sge_of_lt (hx e k) hc

theorem count_above (hx : ∀ e k, level x e k < 2 ^ 31) (cand : IVec S16x1x1 32) (e : Fin 16) (hc : (cand (ix3 e 0 0)).toNat < 2 ^ 31) :
    count (cmpi .sgt (k0_pay1 (F := Bits) x) (broadcastTo S16x256x128 cand broadcasts_S16x1x1_S16x256x128)) (ix3 e 0 0)
      = ∑ k : Fin 32768, (IntOp.cmpi .sgt (k0_pay1 (F := Bits) x (place e k)) (cand (ix3 e 0 0))).setWidth 32 := by
  rw [count_apply]
  refine Finset.sum_congr rfl fun k _ => ?_
  have hb : broadcastTo S16x256x128 cand broadcasts_S16x1x1_S16x256x128 (place e k) = cand (ix3 e 0 0) := by
    unfold place
    pointwise
  show (IntOp.cmpi .sgt _ (broadcastTo S16x256x128 cand broadcasts_S16x1x1_S16x256x128 (place e k))).setWidth 32 = _
  rw [hb]

/-- One trip at an expert. -/
theorem trip_apply (i : Fin k0_t1_loop.trips) (v : IVec S16x1x1 32) (e : Fin 16) :
    k0_pay3 (F := Bits) x i v (ix3 e 0 0)
      = if IntOp.cmpi .sge (count (cmpi .sge (k0_pay1 (F := Bits) x)
          (broadcastTo S16x256x128 (ori v (broadcast S16x1x1 (bit i))) broadcasts_S16x1x1_S16x256x128)) (ix3 e 0 0)) 4096#32 = 1#1
        then v (ix3 e 0 0) ||| bit i else v (ix3 e 0 0) := by
  unfold k0_pay3 count
  rfl

/-- One trip is one step of the search at every expert. -/
theorem trip (hx : ∀ e k, level x e k < 2 ^ 31) (i : Fin k0_t1_loop.trips) (v : IVec S16x1x1 32) (e : Fin 16)
    (h : Found (level x e) 4096 (31 - i.val) (v (ix3 e 0 0)).toNat) :
    Found (level x e) 4096 (31 - (i.val + 1)) (k0_pay3 (F := Bits) x i v (ix3 e 0 0)).toNat := by
  have hi : i.val < 31 := lt_of_lt_of_eq i.isLt trips_eq
  have hj : 31 - i.val = (30 - i.val) + 1 := by omega
  have hj' : 31 - (i.val + 1) = 30 - i.val := by omega
  rw [hj] at h
  rw [hj']
  have hor : (v (ix3 e 0 0) ||| bit i).toNat = (v (ix3 e 0 0)).toNat ||| 2 ^ (30 - i.val) := by
    rw [BitVec.toNat_or, bit_toNat]
  have hlt : (v (ix3 e 0 0) ||| bit i).toNat < 2 ^ 31 := by
    have hs := h.small
    have hp : 0 < 2 ^ (30 - i.val) := by positivity
    rw [hor, or_bit h.aligned]
    rw [pow_succ] at hs
    omega
  have hcount := count_atLeast x hx (ori v (broadcast S16x1x1 (bit i))) e hlt
  have hle := atLeast_le (level x e) ((ori v (broadcast S16x1x1 (bit i))) (ix3 e 0 0)).toNat
  rw [trip_apply, Idealize.ShloMosaic.WordCmp.cmpi_sge_of_lt (by rw [hcount]; omega) (by decide), hcount]
  have hfound := h.next
  unfold step at hfound
  rw [← hor] at hfound
  change Found _ _ _ (if BitVec.ofBool (decide (4096 ≤ atLeast (level x e) (v (ix3 e 0 0) ||| bit i).toNat)) = 1#1
    then v (ix3 e 0 0) ||| bit i else v (ix3 e 0 0)).toNat
  by_cases hc : 4096 ≤ atLeast (level x e) (v (ix3 e 0 0) ||| bit i).toNat
  · rw [if_pos hc] at hfound
    rw [decide_eq_true hc, if_pos (by decide)]
    exact hfound
  · rw [if_neg hc] at hfound
    rw [decide_eq_false hc, if_neg (by decide)]
    exact hfound

/-- What the search holds after all trips. -/
def searched : IVec S16x1x1 32 := Scf.fold (k0_pay3 (F := Bits) x) k0_pay2

/-- THE SEARCH finds every expert's threshold. -/
theorem searched_isThreshold (hx : ∀ e k, level x e k < 2 ^ 31) (e : Fin 16) :
    IsThreshold (level x e) 4096 (searched x (ix3 e 0 0)).toNat ∧ (searched x (ix3 e 0 0)).toNat < 2 ^ 31 := by
  have h := foldl_trips (k0_pay3 (F := Bits) x) k0_pay2
    (fun j v => ∀ e : Fin 16, Found (level x e) 4096 (31 - j) (v (ix3 e 0 0)).toNat)
    (fun e => Found.start (by norm_num) (by norm_num) (hx e)) (fun i v hv e => trip x hx i v e (hv e)) e
  rw [show 31 - k0_t1_loop.trips = 0 by rw [trips_eq]] at h
  unfold searched
  rw [Scf.fold_eq]
  exact ⟨h.isThreshold, by have := h.small; omega⟩

theorem threshold_apply (v : IVec S16x1x1 32) (e : Fin 16) (l : Fin 128) : k0_pay4 v (ix3 e 0 l) = v (ix3 e 0 0) := by
  unfold k0_pay4
  pointwise

theorem need_apply (v : IVec S16x1x1 32) (e : Fin 16) (l : Fin 128) :
    k0_pay5 (F := Bits) x v (ix3 e 0 l) = IntOp.subi 4096#32 (count (cmpi .sgt (k0_pay1 (F := Bits) x)
      (broadcastTo S16x256x128 v broadcasts_S16x1x1_S16x256x128)) (ix3 e 0 0)) := by
  have h : k0_pay5 (F := Bits) x v (ix3 e 0 l)
      = (subi (broadcast S16x1x1 4096#32) (count (cmpi .sgt (k0_pay1 (F := Bits) x)
          (broadcastTo S16x256x128 v broadcasts_S16x1x1_S16x256x128)))) (ix3 e 0 0) := by
    unfold k0_pay5
    exact threshold_apply _ e l
  exact h

end Cert.Kernel8.Threshold
-- ==== Proof.Threshold.Array.lean ====
/-
  The kernel's two result arrays: every expert's threshold, and what is left of its capacity.
-/
module

public import proofs.«01_k».proof.Proof.Threshold.Search
public import proofs.«01_k».proof.Proof.Gen.Kernel8.Value
public import Idealize.ShloMosaic.Lib.Pipeline.Value
public import Idealize.ShloMosaic.Lib.StableHlo.Run

@[expose] public section

noncomputable section

open Idealize.ShloMosaic Idealize.ShloMosaic.TcCoe Idealize.SL.Sem
open Idealize.ShloMosaic.Pipeline (Dat)

namespace Cert.Kernel8.Threshold

open Cert.Kernel8 Cert.Kernel8.Gen Cert.Threshold

section
variable (c : Dev nD) (a0 : Memref sig .tc .vmem S16x256x128 .f32) (h0 : a0.IsWhole) (a1 : Memref sig .tc .vmem S16x1x128 .i32) (h1 : a1.IsWhole)
  (a2 : Memref sig .tc .vmem S16x1x128 .i32) (h2 : a2.IsWhole) (x : Vec Bits S16x256x128 .f32)

theorem zero3 : (![0, 0, 0] : Fin 3 → Nat) = fun _ => 0 := by
  funext a
  match a with
  | ⟨0, _⟩ => rfl
  | ⟨1, _⟩ => rfl
  | ⟨2, _⟩ => rfl

theorem out_threshold : out0_A_1 c a0 h0 a1 h1 a2 h2 x = k0_pay4 (searched x) := by
  unfold out0_A_1
  rw [View.read_writes_eq_canon _ _ _ (cover0_A_1 c a0 h0 a1 h1 a2 h2 x)]
  unfold kernelRun0_A
  dsimp only
  sl_unfold_words
  simp only [View.readAt_eq_ld, h0.read_unread, View.ld_unit_zero (S := S16x256x128) zero3]
  exact View.canon_unit_zero (S := S16x1x128) zero3 _ _

theorem out_need : out0_A_2 c a0 h0 a1 h1 a2 h2 x = k0_pay5 x (searched x) := by
  unfold out0_A_2
  rw [View.read_writes_eq_canon _ _ _ (cover0_A_2 c a0 h0 a1 h1 a2 h2 x)]
  unfold kernelRun0_A
  dsimp only
  sl_unfold_words
  simp only [View.readAt_eq_ld, h0.read_unread, View.ld_unit_zero (S := S16x256x128) zero3]
  exact View.canon_unit_zero (S := S16x1x128) zero3 _ _

end

variable (m : (ℓ : Loc nD τ sig) → Buf (Elt Bits) ℓ) (c : Dev nD)

/-- The shares that a device's launch is given. -/
abbrev argA : S16x32768.Idx → Bits .f32 := m ((c : Thread nD τ).loc main_arg0)

theorem staged_eq : V m c main_v0 = shapeCast S16x256x128 (argA m c) shapeCasts_S16x32768_S16x256x128 := by
  show StableHlo.after hostOps0 _ _ = _
  unfold hostOps0
  after_results <;> rfl

/-- The shares as the kernel finds them, 256 rows of 128 tokens per expert. -/
abbrev staged : Vec Bits S16x256x128 .f32 := shapeCast S16x256x128 (argA m c) shapeCasts_S16x32768_S16x256x128

theorem staged_apply (e : Fin 16) (k : Fin 32768) : staged m c (place e k) = argA m c (ix2 e k) := by
  have hk : k.val / 128 * 128 + k.val % 128 = k.val := by omega
  unfold staged place
  pointwise

theorem blockIndex : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0 :=
  (by decide +kernel : ∀ t : Fin grid0.N, _)

theorem block_eq (t : Fin cfg0.N) : iblk m c 0 t = staged m c := by
  obtain ⟨e0, e1, e2, -⟩ := blockIndex t
  funext y
  have he : ((cfg0.win 0).blk t).view.emb y = y := by
    funext a; apply Fin.ext
    match a with
    | ⟨0, _⟩ => show win0_0.index t (0 : Fin 3) * 16 + 1 * (y 0).val = (y 0).val; rw [e0]; omega
    | ⟨1, _⟩ => show win0_0.index t (1 : Fin 3) * 256 + 1 * (y 1).val = (y 1).val; rw [e1]; omega
    | ⟨2, _⟩ => show win0_0.index t (2 : Fin 3) * 128 + 1 * (y 2).val = (y 2).val; rw [e2]; omega
  show V m c main_v0 (((cfg0.win 0).blk t).view.emb y) = _
  rw [he, staged_eq]

/-- THE FIRST RESULT ARRAY after the run. -/
theorem thresholds_eq : (dats m 0 c).arrAt 1 cfg0.N = k0_pay4 (searched (staged m c)) := by
  refine (dats m 0 c).arrAt_eq_of_cover 1 _ (fun t hf => ?_) (fun i => ?_)
  · rw [Value.flushed1_A]
    obtain ⟨-, -, -, e0, e1, e2, -⟩ := blockIndex t
    funext y
    have he : ((cfg0.win 1).blk t).view.emb y = y := by
      funext a; apply Fin.ext
      match a with
      | ⟨0, _⟩ => show win0_1.index t (0 : Fin 3) * 16 + 1 * (y 0).val = (y 0).val; rw [e0]; omega
      | ⟨1, _⟩ => show win0_1.index t (1 : Fin 3) * 1 + 1 * (y 1).val = (y 1).val; rw [e1]; omega
      | ⟨2, _⟩ => show win0_1.index t (2 : Fin 3) * 128 + 1 * (y 2).val = (y 2).val; rw [e2]; omega
    rw [out_threshold, block_eq]
    show k0_pay4 (searched (staged m c)) y = k0_pay4 (searched (staged m c)) (((cfg0.win 1).blk t).view.emb y)
    rw [he]
  · have h0 : (i 0 : Nat) < 16 := (i 0).isLt
    have h1 : (i 1 : Nat) < 1 := (i 1).isLt
    have h2 : (i 2 : Nat) < 128 := (i 2).isLt
    let t : Fin cfg0.N := ⟨0, by decide +kernel⟩
    obtain ⟨-, -, -, e0, e1, e2, -⟩ := blockIndex t
    refine ⟨t, flush0_1 t, ?_⟩
    show i ∈ ((View.whole main_v1_0).slice (win0_1.rect t)).set
    rw [View.set_slice_whole, Rect.mem_set_unit]
    intro a
    match a with
    | ⟨0, _⟩ =>
      show win0_1.index t (0 : Fin 3) * 16 ≤ (i 0 : Nat) ∧ (i 0 : Nat) < win0_1.index t (0 : Fin 3) * 16 + 16
      rw [e0]; omega
    | ⟨1, _⟩ =>
      show win0_1.index t (1 : Fin 3) * 1 ≤ (i 1 : Nat) ∧ (i 1 : Nat) < win0_1.index t (1 : Fin 3) * 1 + 1
      rw [e1]; omega
    | ⟨2, _⟩ =>
      show win0_1.index t (2 : Fin 3) * 128 ≤ (i 2 : Nat) ∧ (i 2 : Nat) < win0_1.index t (2 : Fin 3) * 128 + 128
      rw [e2]; omega

/-- THE SECOND RESULT ARRAY after the run. -/
theorem needs_eq : (dats m 0 c).arrAt 2 cfg0.N = k0_pay5 (staged m c) (searched (staged m c)) := by
  refine (dats m 0 c).arrAt_eq_of_cover 2 _ (fun t hf => ?_) (fun i => ?_)
  · rw [Value.flushed2_A]
    obtain ⟨-, -, -, -, -, -, e0, e1, e2⟩ := blockIndex t
    funext y
    have he : ((cfg0.win 2).blk t).view.emb y = y := by
      funext a; apply Fin.ext
      match a with
      | ⟨0, _⟩ => show win0_2.index t (0 : Fin 3) * 16 + 1 * (y 0).val = (y 0).val; rw [e0]; omega
      | ⟨1, _⟩ => show win0_2.index t (1 : Fin 3) * 1 + 1 * (y 1).val = (y 1).val; rw [e1]; omega
      | ⟨2, _⟩ => show win0_2.index t (2 : Fin 3) * 128 + 1 * (y 2).val = (y 2).val; rw [e2]; omega
    rw [out_need, block_eq]
    show k0_pay5 (staged m c) (searched (staged m c)) y = k0_pay5 (staged m c) (searched (staged m c)) (((cfg0.win 2).blk t).view.emb y)
    rw [he]
  · have h0 : (i 0 : Nat) < 16 := (i 0).isLt
    have h1 : (i 1 : Nat) < 1 := (i 1).isLt
    have h2 : (i 2 : Nat) < 128 := (i 2).isLt
    let t : Fin cfg0.N := ⟨0, by decide +kernel⟩
    obtain ⟨-, -, -, -, -, -, e0, e1, e2⟩ := blockIndex t
    refine ⟨t, flush0_2 t, ?_⟩
    show i ∈ ((View.whole main_v1_1).slice (win0_2.rect t)).set
    rw [View.set_slice_whole, Rect.mem_set_unit]
    intro a
    match a with
    | ⟨0, _⟩ =>
      show win0_2.index t (0 : Fin 3) * 16 ≤ (i 0 : Nat) ∧ (i 0 : Nat) < win0_2.index t (0 : Fin 3) * 16 + 16
      rw [e0]; omega
    | ⟨1, _⟩ =>
      show win0_2.index t (1 : Fin 3) * 1 ≤ (i 1 : Nat) ∧ (i 1 : Nat) < win0_2.index t (1 : Fin 3) * 1 + 1
      rw [e1]; omega
    | ⟨2, _⟩ =>
      show win0_2.index t (2 : Fin 3) * 128 ≤ (i 2 : Nat) ∧ (i 2 : Nat) < win0_2.index t (2 : Fin 3) * 128 + 128
      rw [e2]; omega

end Cert.Kernel8.Threshold
-- ==== Proof.Threshold.Ref.lean ====
/-
  The reference's values: the last of the gates that `top_k` keeps is the expert's threshold.
-/
module

public import proofs.«01_k».proof.Proof.Gen.Reference8.Read
public import proofs.«01_k».proof.Proof.Threshold.Count
public import proofs.«01_k».proof.Proof.Threshold.Select
public import Idealize.ShloMosaic.Lib.SortFacts
public import Idealize.ShloMosaic.Lib.SortKey
public import Idealize.ShloMosaic.Lib.WordSum

@[expose] public section

noncomputable section

open Idealize.ShloMosaic

namespace Cert.Reference8.Threshold

open Cert.Reference8 Cert.Reference8.Gen Cert.Reference8.Read Cert.Threshold

variable (x : S16x32768.Idx → Bits .f32)

/-- The word of token `k`'s gate for expert `e`. -/
def word (e : Fin 16) (k : Fin 32768) : BitVec 32 := x (ix2 e k)

/-- Token `k`'s gate for expert `e` comes before token `k'`'s in `top_k`. -/
def before (e : Fin 16) (k k' : Fin 32768) : Bool := FloatOps.cmpfTotal (F := Bits) .gt (x (ix2 e k)) (x (ix2 e k')) == 1#1

/-- The word of the last gate that `top_k` keeps for expert `e`. -/
def last (e : Fin 16) : BitVec 32 := word x e (sortedFrom (before x e) ⟨4095, by omega⟩)

theorem along_eq (e : Fin 16) (k k' : Fin 32768) : (ix2 e k : S16x32768.Idx).along (1 : Fin 2) k' = ix2 e k' := by
  funext a
  match a with
  | ⟨0, _⟩ => rfl
  | ⟨1, _⟩ => rfl

/-- The gates of a row, sorted: at each place, the gate of the token whose turn it is. -/
theorem sorted_apply (y : S16x32768.Idx → BitVec 32) (i : S16x32768.Idx) (e : Fin 16) (k : Fin 32768) (hi : i = ix2 e k) :
    (Host.sort2 S16x32768 1 (fun l r : Bits .f32 × BitVec 32 => FloatOps.cmpfTotal (F := Bits) .gt l.1 r.1) x y).1 i
      = x (ix2 e (sortedFrom (before x e) k)) := by
  subst hi
  unfold Host.sort2
  rw [dif_pos (by decide : 1 < S16x32768.rank)]
  have hb : (fun k₁ k₂ : Fin 32768 => FloatOps.cmpfTotal (F := Bits) .gt (x ((ix2 e k : S16x32768.Idx).along (1 : Fin 2) k₁))
      (x ((ix2 e k : S16x32768.Idx).along (1 : Fin 2) k₂)) == 1#1) = before x e := by
    funext k₁ k₂
    rw [along_eq, along_eq]
    rfl
  have h := congrArg (fun R : Fin 32768 → Fin 32768 → Bool => x ((ix2 e k : S16x32768.Idx).along (1 : Fin 2) (sortedFrom R k))) hb
  exact Eq.trans h (congrArg x (along_eq e k _))

theorem values_apply (e : Fin 16) : val_main_values (F := Bits) x (ix2 e (⟨4095, by omega⟩ : Fin 4096)) = last x e := by
  unfold val_main_values Host.topK extractStridedSlice
  refine sorted_apply x (fun i => if hd : 1 < S16x32768.rank then iotaInDim S16x32768 32 ⟨1, hd⟩ i else 0#32) _ e ⟨4095, by omega⟩ ?_
  funext a
  match a with
  | ⟨0, _⟩ => exact Fin.ext (Nat.zero_add _)
  | ⟨1, _⟩ => exact Fin.ext (Nat.zero_add _)

theorem before_eq (e : Fin 16) (hx : ∀ k, (word x e k).toNat < 2 ^ 31) (k k' : Fin 32768) :
    before x e k k' = decide ((word x e k').toNat < (word x e k).toNat) := by
  have hm : ∀ j, sortableKey (word x e j) = word x e j := fun j =>
    sortableKey_of_msb_false _ (BitVec.msb_eq_false_iff_two_mul_lt.2 (by have := hx j; omega))
  have hc : before x e k k' = (IntOp.cmpi .sgt (sortableKey (word x e k)) (sortableKey (word x e k')) == 1#1) :=
    congrArg (· == 1#1) (cmpfTotal_f32_eq_cmpi_sortableKey .gt (x (ix2 e k)) (x (ix2 e k')))
  rw [hc, hm, hm, WordCmp.cmpi_sgt_of_lt (hx k) (hx k')]
  by_cases h : (word x e k').toNat < (word x e k).toNat
  · rw [decide_eq_true h]; decide
  · rw [decide_eq_false h]; decide

/-- The last gate kept is the threshold of the expert's row. -/
theorem last_isThreshold (e : Fin 16) (hx : ∀ k, (word x e k).toNat < 2 ^ 31) :
    IsThreshold (fun k => (word x e k).toNat) 4096 (last x e).toNat := by
  refine isThreshold_of_sorted (u := fun k => (word x e k).toNat) (sortedFrom (before x e)) (sortedFrom_injective _) (fun i j hij => ?_) ⟨4095, by omega⟩
  have h := sortedFrom_noInversion (before x e) (before x e) ?_ (fun _ _ h => h) ?_ i j hij
  · rw [before_eq x e hx] at h
    exact not_lt.1 (of_decide_eq_false h)
  · intro a b h
    rw [before_eq x e hx] at h ⊢
    have := of_decide_eq_true h
    exact decide_eq_false (by omega)
  · intro a b d h h'
    rw [before_eq x e hx] at h h' ⊢
    have := of_decide_eq_false h
    have := of_decide_eq_false h'
    exact decide_eq_false (by omega)

/-- THE FIRST RESULT of the reference. -/
theorem v1_apply (e : Fin 16) : val_main_v1 (F := Bits) x (ix2 e (0 : Fin 1)) = last x e := by
  rw [val_main_v1_apply, val_main_v0_apply, ← values_apply]
  have h : idx_main_v0 (ix2 e (0 : Fin 1)) = ix2 e (⟨4095, by omega⟩ : Fin 4096) := by
    funext a
    match a with
    | ⟨0, _⟩ => rfl
    | ⟨1, _⟩ => rfl
  rw [h]
  rfl

theorem threshold_apply (e : Fin 16) (l : Fin 128) : val_main_v11 (F := Bits) x (ix3 e (0 : Fin 1) l) = last x e := by
  rw [val_main_v11_apply, val_main_v10_apply, ← v1_apply]
  congr 1
  funext a
  match a with
  | ⟨0, _⟩ => rfl
  | ⟨1, _⟩ => rfl

theorem above_apply (e : Fin 16) (k : Fin 32768) :
    val_main_v5 (F := Bits) x (ix2 e k) = (IntOp.cmpi .sgt (word x e k) (last x e)).setWidth 32 := by
  rw [val_main_v5_apply, val_main_v4_apply, val_main_v2_apply, val_main_v3_apply, ← v1_apply]
  have h : idx_main_v3 (ix2 e k) = ix2 e (0 : Fin 1) := by
    funext a
    match a with
    | ⟨0, _⟩ => rfl
    | ⟨1, _⟩ => rfl
  rw [h]
  rfl

theorem count_apply (e : Fin 16) :
    val_main_v6 (F := Bits) x (ix1 e) = ∑ k : Fin 32768, (IntOp.cmpi .sgt (word x e k) (last x e)).setWidth 32 := by
  have h : val_main_v6 (F := Bits) x (ix1 e) = Finset.univ.fold IntOp.addi (0#32) fun k : Fin 32768 => val_main_v5 (F := Bits) x (ix2 e k) := by
    unfold val_main_v6
    pointwise
    rw [val_main_c_apply]
  rw [h, Cert.Kernel8.Threshold.fold_addi]
  exact Finset.sum_congr rfl fun k _ => above_apply x e k

/-- THE SECOND RESULT of the reference. -/
theorem need_apply (e : Fin 16) (l : Fin 128) : val_main_v13 (F := Bits) x (ix3 e (0 : Fin 1) l)
    = IntOp.subi 4096#32 (∑ k : Fin 32768, (IntOp.cmpi .sgt (word x e k) (last x e)).setWidth 32) := by
  have h : idx_main_v7 (idx_main_v12 (idx_main_v13 (ix3 e (0 : Fin 1) l))) = ix1 e := by
    funext a
    match a with
    | ⟨0, _⟩ => rfl
  rw [val_main_v13_apply, val_main_v12_apply, val_main_v9_apply, val_main_v7_apply, val_main_v8_apply, val_main_c_0_apply, h, count_apply]

end Cert.Reference8.Threshold
-- ==== Proof.Threshold.NoSign.lean ====
/-
  What the precondition of the threshold claim says of the gates: no word has its sign bit set.
-/
module

public import proofs.«01_k».proof.Pre_no_sign
public import Idealize.ShloMosaic.PureOps.BitExact
public import Idealize.ShloMosaic.Lib.ReduceAll
public import Idealize.ShloMosaic.Lib.WordCmp
public import Idealize.ShloMosaic.Lib.Affine

@[expose] public section

noncomputable section

open Idealize.ShloMosaic

namespace Cert.Pre_no_sign

/-- The side conditions that the precondition's operations state. -/
instance facts : Facts where
  bcast_S_S16x32768 := by decide
  reducesTo_S16x32768_S_d0_1 := by decide
  h_S_ := by decide

instance : Subsingleton S_.Idx := ⟨fun a b => funext fun d => d.elim0⟩

/-- Under the precondition every gate's word is below `2 ^ 31`. -/
theorem small_of_fn (x : S16x32768.Idx → Bits .f32) (h : fn (F := Bits) x = fun _ => 1#1) (i : S16x32768.Idx) :
    BitVec.toNat (w := 32) (x i) < 2 ^ 31 := by
  have h1 : IntOp.cmpi .sge (x i : BitVec 32) 0#32 = 1#1 :=
    Host.reduce_andi_all _ _ _ _ _ (congrFun h (Shape.Idx.first facts.h_S_)) i
  replace h1 := (WordCmp.cmpi_sge_zero (w := 32) (x i)).symm.trans h1
  by_contra hn
  rw [show decide (BitVec.toNat (w := 32) (x i) < 2 ^ (32 - 1)) = false from decide_eq_false hn] at h1
  exact absurd h1 (by decide)

end Cert.Pre_no_sign
-- ==== Proof.Threshold.Claims.lean ====
/-
  The claims about the threshold call.
-/
module

public import proofs.«01_k».proof.Defs
public import proofs.«01_k».proof.Proof.Gen.Kernel8.Frame
public import proofs.«01_k».proof.Proof.Gen.Reference8.Run
public import proofs.«01_k».proof.Proof.Threshold.Array
public import proofs.«01_k».proof.Proof.Threshold.Ref
public import proofs.«01_k».proof.Proof.Threshold.NoSign
public import Idealize.ShloMosaic.Adequacy
public import Idealize.ShloMosaic.Init

@[expose] public section

noncomputable section

open Idealize.ShloMosaic Idealize.ShloMosaic.TcCoe Idealize.SL.Sem

namespace Cert.Proof.ThresholdClaims

open Cert.Kernel8.Threshold Cert.Threshold
open Cert.Reference8.Threshold (word last last_isThreshold)

theorem frame_p : Cert.quiescent_Kernel8 := fun m ρ _ => Cert.Kernel8.Gen.frame m ρ
theorem frame_p_nonneg : Cert.quiescent_Kernel8_pre_no_sign := fun m ρ _ => Cert.Kernel8.Gen.frame m ρ
theorem frame_r : Cert.quiescent_Reference8 := fun m ρ _ =>
  (θ_run Cert.Reference8.defs _ _).mono (fun r h => ⟨fun c => (h c).2.2, Idealize.ShloMosaic.sem_eq_zero_of_no_sems (by decide) r.2⟩)
    (Cert.Reference8.Value.run (F := Bits) m ρ)
theorem frame_r_nonneg : Cert.quiescent_Reference8_pre_no_sign := fun m ρ _ => frame_r m ρ trivial

section
variable (m : (ℓ : Loc Cert.Kernel8.nD Cert.Kernel8.τ Cert.Kernel8.sig) → Buf (Elt Bits) ℓ) (c : Dev Cert.Kernel8.nD)

/-- The kernel's view of a gate is the gate's word. -/
theorem pay1_apply (e : Fin 16) (k : Fin 32768) :
    Cert.Kernel8.Gen.k0_pay1 (F := Bits) (staged m c) (place e k) = word (argA m c) e k := by
  have h : Cert.Kernel8.Gen.k0_pay1 (F := Bits) (staged m c) (place e k) = staged m c (place e k) := by
    unfold Cert.Kernel8.Gen.k0_pay1
    rw [shapeCast_self]
    rfl
  rw [h, staged_apply]
  rfl

variable (hx : ∀ i, BitVec.toNat (w := 32) (argA m c i) < 2 ^ 31)
include hx

/-- The word that the kernel finds for an expert is the word of the last gate that `top_k` keeps. -/
theorem searched_eq (e : Fin 16) : searched (staged m c) (ix3 e 0 0) = last (argA m c) e := by
  have hlevel : ∀ e, level (staged m c) e = fun k => (word (argA m c) e k).toNat := fun e =>
    funext fun k => congrArg BitVec.toNat (pay1_apply m c e k)
  have hs := (searched_isThreshold (staged m c) (fun e k => by rw [hlevel]; exact hx _) e).1
  rw [hlevel] at hs
  exact BitVec.eq_of_toNat_eq (hs.unique (last_isThreshold (argA m c) e fun k => hx _))

/-- THE FIRST RESULTS agree. -/
theorem thresholds_agree :
    Cert.Reference8.Read.val_main_v11 (F := Bits) (argA m c) = (Cert.Kernel8.Gen.dats m 0 c).arrAt 1 Cert.Kernel8.cfg0.N := by
  rw [thresholds_eq]
  funext i
  have hi : i = ix3 (i 0) (0 : Fin 1) (i 2) := by
    funext a
    match a with
    | ⟨0, _⟩ => rfl
    | ⟨1, _⟩ => exact Subsingleton.elim (α := Fin 1) _ _
    | ⟨2, _⟩ => rfl
  rw [hi]
  exact (Cert.Reference8.Threshold.threshold_apply (argA m c) (i 0) (i 2)).trans
    ((searched_eq m c hx (i 0)).symm.trans (threshold_apply (searched (staged m c)) (i 0) (i 2)).symm)

/-- THE SECOND RESULTS agree. -/
theorem needs_agree :
    Cert.Reference8.Read.val_main_v13 (F := Bits) (argA m c) = (Cert.Kernel8.Gen.dats m 0 c).arrAt 2 Cert.Kernel8.cfg0.N := by
  rw [needs_eq]
  funext i
  have hi : i = ix3 (i 0) (0 : Fin 1) (i 2) := by
    funext a
    match a with
    | ⟨0, _⟩ => rfl
    | ⟨1, _⟩ => exact Subsingleton.elim (α := Fin 1) _ _
    | ⟨2, _⟩ => rfl
  rw [hi]
  refine (Cert.Reference8.Threshold.need_apply (argA m c) (i 0) (i 2)).trans
    (Eq.trans ?_ (need_apply (staged m c) (searched (staged m c)) (i 0) (i 2)).symm)
  have hlevel : ∀ e k, level (staged m c) e k < 2 ^ 31 := fun e k => by
    unfold level
    rw [pay1_apply]
    exact hx _
  rw [count_above (staged m c) hlevel (searched (staged m c)) (i 0) (searched_isThreshold (staged m c) hlevel (i 0)).2,
    searched_eq m c hx (i 0)]
  exact congrArg (IntOp.subi 4096#32) (Finset.sum_congr rfl fun k _ =>
    congrArg (fun w : BitVec 32 => (IntOp.cmpi .sgt w (last (argA m c) (i 0))).setWidth 32) (pay1_apply m c (i 0) k).symm)

end

/-- THE VALUE CLAIM: with no gate's sign bit set, kernel and reference end with equal words of both results. -/
theorem bitexact : Cert.bitexact_Kernel8_Reference8_pre_no_sign := by
  intro m ρ m' ρ' hpre hagree
  refine ⟨fun c => (Cert.Kernel8.Gen.dats m 0 c).arrAt 1 Cert.Kernel8.cfg0.N, fun c => (Cert.Kernel8.Gen.dats m 0 c).arrAt 2 Cert.Kernel8.cfg0.N,
    Cert.Kernel8.Value.run_blocks (F := Bits) m ρ, ?_⟩
  refine (θ_run Cert.Reference8.defs _ _).mono (fun _ h c => ?_) (Cert.Reference8.Value.run (F := Bits) m' ρ')
  have hx := Cert.Pre_no_sign.small_of_fn _ (hpre c)
  refine ⟨(h c).1.trans ?_, (h c).2.1.trans ?_, (h c).2.2⟩
  · refine (Cert.Reference8.Read.val_main_v11_eq (F := Bits) _).trans ?_
    rw [hagree c]
    exact thresholds_agree m c hx
  · refine (Cert.Reference8.Read.val_main_v13_eq (F := Bits) _).trans ?_
    rw [hagree c]
    exact needs_agree m c hx

end Cert.Proof.ThresholdClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8.Value
public import proofs.«01_k».proof.Proof.Gen.Reference8.Run
public import proofs.«01_k».proof.Proof.Gen.Reference8.Read
public import proofs.«01_k».proof.Proof.Flash.Claims
public import proofs.«01_k».proof.Proof.InProj.Claims
public import proofs.«01_k».proof.Proof.OutProj.Claims
public import proofs.«01_k».proof.Proof.MlaProj.Claims
public import proofs.«01_k».proof.Proof.LayerNorm.Claims
public import proofs.«01_k».proof.Proof.Recurrence.Claims
public import proofs.«01_k».proof.Proof.Backward.Claims
public import proofs.«01_k».proof.Proof.Threshold.Claims
public import Idealize.ShloMosaic.Adequacy
public import Idealize.ShloMosaic.Init

@[expose] public section

noncomputable section

-- Every frame claim also says that the semaphore counters end at zero.

namespace Cert.Proof

open Idealize.ShloMosaic Idealize.SL.Sem

/-- Every claim about the eight calls. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Reference8.Gen.facts,
    Cert.Pre_finite_queries_and_keys.facts, Cert.Pre_finite_layer.facts, Cert.Pre_finite_gates.facts,
    Cert.Pre_finite_backward_gates.facts, Cert.Pre_no_sign.facts,
    FlashClaims.frame_p, FlashClaims.frame_pi, FlashClaims.frame_pi_finite, FlashClaims.frame_ri, FlashClaims.frame_ri_finite,
    InProjClaims.frame_p, InProjClaims.frame_pi, InProjClaims.frame_ri,
    OutProjClaims.frame_p, OutProjClaims.frame_pi, OutProjClaims.frame_pi_finite, OutProjClaims.frame_ri, OutProjClaims.frame_ri_finite,
    MlaProjClaims.frame_p, MlaProjClaims.frame_pi, MlaProjClaims.frame_ri,
    LayerNormClaims.frame_p, LayerNormClaims.frame_pi, LayerNormClaims.frame_ri,
    RecurrenceClaims.frame_p, RecurrenceClaims.frame_pi, RecurrenceClaims.frame_pi_finite, RecurrenceClaims.frame_ri, RecurrenceClaims.frame_ri_finite,
    BackwardClaims.frame_p, BackwardClaims.frame_pi, BackwardClaims.frame_pi_finite, BackwardClaims.frame_ri, BackwardClaims.frame_ri_finite,
    ThresholdClaims.frame_p, ThresholdClaims.frame_p_nonneg, ThresholdClaims.frame_r, ThresholdClaims.frame_r_nonneg,
    FlashClaims.preserves, FlashClaims.algebraic,
    InProjClaims.preserves, InProjClaims.algebraic,
    OutProjClaims.preserves, OutProjClaims.algebraic,
    MlaProjClaims.preserves, MlaProjClaims.algebraic,
    LayerNormClaims.preserves, LayerNormClaims.algebraic,
    RecurrenceClaims.preserves, RecurrenceClaims.algebraic,
    BackwardClaims.preserves, BackwardClaims.algebraic,
    ThresholdClaims.bitexact⟩

end Cert.Proof

end
